-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x1024x1024 : Shape := ⟨4, ![2, 16, 1024, 1024]⟩
abbrev S1024x8x1024 : Shape := ⟨3, ![1024, 8, 1024]⟩
abbrev S8x1024 : Shape := ⟨2, ![8, 1024]⟩
abbrev S32x1024x1024 : Shape := ⟨3, ![32, 1024, 1024]⟩
abbrev S8x1x1 : Shape := ⟨3, ![8, 1, 1]⟩
abbrev S16x128x1024 : Shape := ⟨3, ![16, 128, 1024]⟩
abbrev S8x128 : Shape := ⟨2, ![8, 128]⟩
abbrev S1x1x1 : Shape := ⟨3, ![1, 1, 1]⟩
abbrev S2x8x128x1024 : Shape := ⟨4, ![2, 8, 128, 1024]⟩
abbrev S2 : Shape := ⟨1, ![2]⟩
abbrev S1 : Shape := ⟨1, ![1]⟩
abbrev S_ : Shape := ⟨0, ![]⟩
abbrev S1x1x128x1024 : Shape := ⟨4, ![1, 1, 128, 1024]⟩
abbrev S128x1024 : Shape := ⟨2, ![128, 1024]⟩
abbrev S128x1x1024 : Shape := ⟨3, ![128, 1, 1024]⟩
abbrev S1x128x1024 : Shape := ⟨3, ![1, 128, 1024]⟩
abbrev S128 : Shape := ⟨1, ![128]⟩
abbrev S1x128 : Shape := ⟨2, ![1, 128]⟩
abbrev S1x8x128 : Shape := ⟨3, ![1, 8, 128]⟩
abbrev S128x8 : Shape := ⟨2, ![128, 8]⟩
abbrev S128x1 : Shape := ⟨2, ![128, 1]⟩
abbrev S1x1 : Shape := ⟨2, ![1, 1]⟩
abbrev S1x8x1024 : Shape := ⟨3, ![1, 8, 1024]⟩

abbrev nBuf : Space → Nat
  | .hbm => 11
  | .vmem => 9
  | .smem => 4
  | _ => 0

abbrev bufTy : (tb : Table) → Fin (tcTables nBuf tb) → BufTy
  | .hbm, ⟨0, _⟩ => ⟨S2x16x1024x1024, .f32⟩
  | .hbm, ⟨1, _⟩ => ⟨S1024x8x1024, .f32⟩
  | .hbm, ⟨2, _⟩ => ⟨S8x1024, .f32⟩
  | .hbm, ⟨3, _⟩ => ⟨S8x1024, .f32⟩
  | .hbm, ⟨4, _⟩ => ⟨S32x1024x1024, .f32⟩
  | .hbm, ⟨5, _⟩ => ⟨S32x1024x1024, .f32⟩
  | .hbm, ⟨6, _⟩ => ⟨S8x1024, .f32⟩
  | .hbm, ⟨7, _⟩ => ⟨S8x1x1, .f32⟩
  | .hbm, ⟨8, _⟩ => ⟨S1x1, .f32⟩
  | .hbm, ⟨9, _⟩ => ⟨S2x16x1024x1024, .f32⟩
  | .hbm, ⟨10, _⟩ => ⟨S_, .f32⟩
  | .local _ .vmem, ⟨0, _⟩ => ⟨S16x128x1024, .f32⟩
  | .local _ .vmem, ⟨1, _⟩ => ⟨S16x128x1024, .f32⟩
  | .local _ .vmem, ⟨2, _⟩ => ⟨S8x1024, .f32⟩
  | .local _ .vmem, ⟨3, _⟩ => ⟨S16x128x1024, .f32⟩
  | .local _ .vmem, ⟨4, _⟩ => ⟨S16x128x1024, .f32⟩
  | .local _ .vmem, ⟨5, _⟩ => ⟨S8x128, .f32⟩
  | .local _ .vmem, ⟨6, _⟩ => ⟨S8x128, .f32⟩
  | .local _ .vmem, ⟨7, _⟩ => ⟨S2x8x128x1024, .f32⟩
  | .local _ .vmem, ⟨8, _⟩ => ⟨S8x1024, .f32⟩
  | .local _ .smem, ⟨0, _⟩ => ⟨S1x1x1, .f32⟩
  | .local _ .smem, ⟨1, _⟩ => ⟨S1x1x1, .f32⟩
  | .local _ .smem, ⟨2, _⟩ => ⟨S8x1x1, .f32⟩
  | .local _ .smem, ⟨3, _⟩ => ⟨S1x1, .f32⟩
  | _, _ => ⟨S2x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc0_stg4_0 : Ref sig .tc := ⟨.smem, 0, rfl⟩
abbrev cc0_stg4_1 : Ref sig .tc := ⟨.smem, 1, rfl⟩
abbrev cc1_stg1_0 : Ref sig .tc := ⟨.smem, 2, rfl⟩
abbrev cc1_stg2_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 11
abbrev cc1_sem1_0 : DmaSem sig := 12
abbrev cc1_sem2_0 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_2 : BitVec 32 := 0#32
  let v6 : BitVec 1 := Scalar.cmpi .ne v5 c0_i32_2
  v6

def k0_cond2 (i : grid0.Coords) : BitVec 1 :=
  let arg0 : BitVec 32 := BitVec.ofNat 32 (i 0).val
  let c0_i32_1102 : BitVec 32 := 0#32
  let v4081 : BitVec 1 := Scalar.cmpi .eq arg0 c0_i32_1102
  let v4082 : BitVec 32 := Scalar.extui v4081
  let c0_i32_1103 : BitVec 32 := 0#32
  let v4083 : BitVec 1 := Scalar.cmpi .ne v4082 c0_i32_1103
  v4083

def k0_off1 (i : grid0.Coords) : Fin 1 → Nat :=
  let arg0 : BitVec 32 := BitVec.ofNat 32 (i 0).val
  let c2_i32 : BitVec 32 := 2#32
  let v1 : BitVec 32 := Scalar.remsi arg0 c2_i32
  ![v1.toNat]
def k0_off2 (i : grid0.Coords) : Fin 4 → Nat :=
  let arg0 : BitVec 32 := BitVec.ofNat 32 (i 0).val
  let c2_i32 : BitVec 32 := 2#32
  let v1 : BitVec 32 := Scalar.remsi arg0 c2_i32
  let c0_i32_1156 : BitVec 32 := 0#32
  let c0_i32_1157 : BitVec 32 := 0#32
  let c0_i32_1158 : BitVec 32 := 0#32
  ![v1.toNat, 0, 0, 0]
def k0_off3 (i : grid0.Coords) : Fin 3 → Nat :=
  let arg0 : BitVec 32 := BitVec.ofNat 32 (i 0).val
  let c128_i32_1154 : BitVec 32 := 128#32
  let v4144 : BitVec 32 := Scalar.muli arg0 c128_i32_1154
  let c0_i32_1155 : BitVec 32 := 0#32
  let c0_i32_1159 : BitVec 32 := 0#32
  ![v4144.toNat, 0, 0]
def k0_off4 (i : grid0.Coords) : Fin 4 → Nat :=
  let arg0 : BitVec 32 := BitVec.ofNat 32 (i 0).val
  let c2_i32 : BitVec 32 := 2#32
  let v1 : BitVec 32 := Scalar.remsi arg0 c2_i32
  let c1_i32_1162 : BitVec 32 := 1#32
  let c0_i32_1163 : BitVec 32 := 0#32
  let c0_i32_1164 : BitVec 32 := 0#32
  ![v1.toNat, 1, 0, 0]
def k0_off5 (i : grid0.Coords) : Fin 3 → Nat :=
  let arg0 : BitVec 32 := BitVec.ofNat 32 (i 0).val
  let c128_i32_1160 : BitVec 32 := 128#32
  let v4151 : BitVec 32 := Scalar.muli arg0 c128_i32_1160
  let c1_i32_1161 : BitVec 32 := 1#32
  let c0_i32_1165 : BitVec 32 := 0#32
  ![v4151.toNat, 1, 0]
def k0_off6 (i : grid0.Coords) : Fin 4 → Nat :=
  let arg0 : BitVec 32 := BitVec.ofNat 32 (i 0).val
  let c2_i32 : BitVec 32 := 2#32
  let v1 : BitVec 32 := Scalar.remsi arg0 c2_i32
  let c2_i32_1168 : BitVec 32 := 2#32
  let c0_i32_1169 : BitVec 32 := 0#32
  let c0_i32_1170 : BitVec 32 := 0#32
  ![v1.toNat, 2, 0, 0]
def k0_off7 (i : grid0.Coords) : Fin 3 → Nat :=
  let arg0 : BitVec 32 := BitVec.ofNat 32 (i 0).val
  let c128_i32_1166 : BitVec 32 := 128#32
  let v4158 : BitVec 32 := Scalar.muli arg0 c128_i32_1166
  let c2_i32_1167 : BitVec 32 := 2#32
  let c0_i32_1171 : BitVec 32 := 0#32
  ![v4158.toNat, 2, 0]
def k0_off8 (i : grid0.Coords) : Fin 4 → Nat :=
  let arg0 : BitVec 32 := BitVec.ofNat 32 (i 0).val
  let c2_i32 : BitVec 32 := 2#32
  let v1 : BitVec 32 := Scalar.remsi arg0 c2_i32
  let c3_i32_1174 : BitVec 32 := 3#32
  let c0_i32_1175 : BitVec 32 := 0#32
  let c0_i32_1176 : BitVec 32 := 0#32
  ![v1.toNat, 3, 0, 0]
def k0_off9 (i : grid0.Coords) : Fin 3 → Nat :=
  let arg0 : BitVec 32 := BitVec.ofNat 32 (i 0).val
  let c128_i32_1172 : BitVec 32 := 128#32
  let v4165 : BitVec 32 := Scalar.muli arg0 c128_i32_1172
  let c3_i32_1173 : BitVec 32 := 3#32
  let c0_i32_1177 : BitVec 32 := 0#32
  ![v4165.toNat, 3, 0]
def k0_off10 (i : grid0.Coords) : Fin 4 → Nat :=
  let arg0 : BitVec 32 := BitVec.ofNat 32 (i 0).val
  let c2_i32 : BitVec 32 := 2#32
  let v1 : BitVec 32 := Scalar.remsi arg0 c2_i32
  let c4_i32_1180 : BitVec 32 := 4#32
  let c0_i32_1181 : BitVec 32 := 0#32
  let c0_i32_1182 : BitVec 32 := 0#32
  ![v1.toNat, 4, 0, 0]
def k0_off11 (i : grid0.Coords) : Fin 3 → Nat :=
  let arg0 : BitVec 32 := BitVec.ofNat 32 (i 0).val
  let c128_i32_1178 : BitVec 32 := 128#32
  let v4172 : BitVec 32 := Scalar.muli arg0 c128_i32_1178
  let c4_i32_1179 : BitVec 32 := 4#32
  let c0_i32_1183 : BitVec 32 := 0#32
  ![v4172.toNat, 4, 0]
def k0_off12 (i : grid0.Coords) : Fin 4 → Nat :=
  let arg0 : BitVec 32 := BitVec.ofNat 32 (i 0).val
  let c2_i32 : BitVec 32 := 2#32
  let v1 : BitVec 32 := Scalar.remsi arg0 c2_i32
  let c5_i32_1186 : BitVec 32 := 5#32
  let c0_i32_1187 : BitVec 32 := 0#32
  let c0_i32_1188 : BitVec 32 := 0#32
  ![v1.toNat, 5, 0, 0]
def k0_off13 (i : grid0.Coords) : Fin 3 → Nat :=
  let arg0 : BitVec 32 := BitVec.ofNat 32 (i 0).val
  let c128_i32_1184 : BitVec 32 := 128#32
  let v4179 : BitVec 32 := Scalar.muli arg0 c128_i32_1184
  let c5_i32_1185 : BitVec 32 := 5#32
  let c0_i32_1189 : BitVec 32 := 0#32
  ![v4179.toNat, 5, 0]
def k0_off14 (i : grid0.Coords) : Fin 4 → Nat :=
  let arg0 : BitVec 32 := BitVec.ofNat 32 (i 0).val
  let c2_i32 : BitVec 32 := 2#32
  let v1 : BitVec 32 := Scalar.remsi arg0 c2_i32
  let c6_i32_1192 : BitVec 32 := 6#32
  let c0_i32_1193 : BitVec 32 := 0#32
  let c0_i32_1194 : BitVec 32 := 0#32
  ![v1.toNat, 6, 0, 0]
def k0_off15 (i : grid0.Coords) : Fin 3 → Nat :=
  let arg0 : BitVec 32 := BitVec.ofNat 32 (i 0).val
  let c128_i32_1190 : BitVec 32 := 128#32
  let v4186 : BitVec 32 := Scalar.muli arg0 c128_i32_1190
  let c6_i32_1191 : BitVec 32 := 6#32
  let c0_i32_1195 : BitVec 32 := 0#32
  ![v4186.toNat, 6, 0]
def k0_off16 (i : grid0.Coords) : Fin 4 → Nat :=
  let arg0 : BitVec 32 := BitVec.ofNat 32 (i 0).val
  let c2_i32 : BitVec 32 := 2#32
  let v1 : BitVec 32 := Scalar.remsi arg0 c2_i32
  let c7_i32_1198 : BitVec 32 := 7#32
  let c0_i32_1199 : BitVec 32 := 0#32
  let c0_i32_1200 : BitVec 32 := 0#32
  ![v1.toNat, 7, 0, 0]
def k0_off17 (i : grid0.Coords) : Fin 3 → Nat :=
  let arg0 : BitVec 32 := BitVec.ofNat 32 (i 0).val
  let c128_i32_1196 : BitVec 32 := 128#32
  let v4193 : BitVec 32 := Scalar.muli arg0 c128_i32_1196
  let c7_i32_1197 : BitVec 32 := 7#32
  let c0_i32_1201 : BitVec 32 := 0#32
  ![v4193.toNat, 7, 0]
def k0_off18 (i : grid0.Coords) : Fin 1 → Nat :=
  let arg0 : BitVec 32 := BitVec.ofNat 32 (i 0).val
  let c2_i32 : BitVec 32 := 2#32
  let v1 : BitVec 32 := Scalar.remsi arg0 c2_i32
  ![v1.toNat]
def k0_off19 (i : grid0.Coords) : Fin 4 → Nat :=
  let arg0 : BitVec 32 := BitVec.ofNat 32 (i 0).val
  let c2_i32 : BitVec 32 := 2#32
  let v1 : BitVec 32 := Scalar.remsi arg0 c2_i32
  let c0_i32_1106 : BitVec 32 := 0#32
  let c0_i32_1107 : BitVec 32 := 0#32
  let c0_i32_1108 : BitVec 32 := 0#32
  ![v1.toNat, 0, 0, 0]
def k0_off20 (i : grid0.Coords) : Fin 3 → Nat :=
  let arg0 : BitVec 32 := BitVec.ofNat 32 (i 0).val
  let c128_i32_1104 : BitVec 32 := 128#32
  let v4084 : BitVec 32 := Scalar.muli arg0 c128_i32_1104
  let c0_i32_1105 : BitVec 32 := 0#32
  let c0_i32_1109 : BitVec 32 := 0#32
  ![v4084.toNat, 0, 0]
def k0_off21 (i : grid0.Coords) : Fin 4 → Nat :=
  let arg0 : BitVec 32 := BitVec.ofNat 32 (i 0).val
  let c2_i32 : BitVec 32 := 2#32
  let v1 : BitVec 32 := Scalar.remsi arg0 c2_i32
  let c1_i32_1112 : BitVec 32 := 1#32
  let c0_i32_1113 : BitVec 32 := 0#32
  let c0_i32_1114 : BitVec 32 := 0#32
  ![v1.toNat, 1, 0, 0]
def k0_off22 (i : grid0.Coords) : Fin 3 → Nat :=
  let arg0 : BitVec 32 := BitVec.ofNat 32 (i 0).val
  let c128_i32_1110 : BitVec 32 := 128#32
  let v4091 : BitVec 32 := Scalar.muli arg0 c128_i32_1110
  let c1_i32_1111 : BitVec 32 := 1#32
  let c0_i32_1115 : BitVec 32 := 0#32
  ![v4091.toNat, 1, 0]
def k0_off23 (i : grid0.Coords) : Fin 4 → Nat :=
  let arg0 : BitVec 32 := BitVec.ofNat 32 (i 0).val
  let c2_i32 : BitVec 32 := 2#32
  let v1 : BitVec 32 := Scalar.remsi arg0 c2_i32
  let c2_i32_1118 : BitVec 32 := 2#32
  let c0_i32_1119 : BitVec 32 := 0#32
  let c0_i32_1120 : BitVec 32 := 0#32
  ![v1.toNat, 2, 0, 0]
def k0_off24 (i : grid0.Coords) : Fin 3 → Nat :=
  let arg0 : BitVec 32 := BitVec.ofNat 32 (i 0).val
  let c128_i32_1116 : BitVec 32 := 128#32
  let v4098 : BitVec 32 := Scalar.muli arg0 c128_i32_1116
  let c2_i32_1117 : BitVec 32 := 2#32
  let c0_i32_1121 : BitVec 32 := 0#32
  ![v4098.toNat, 2, 0]
def k0_off25 (i : grid0.Coords) : Fin 4 → Nat :=
  let arg0 : BitVec 32 := BitVec.ofNat 32 (i 0).val
  let c2_i32 : BitVec 32 := 2#32
  let v1 : BitVec 32 := Scalar.remsi arg0 c2_i32
  let c3_i32_1124 : BitVec 32 := 3#32
  let c0_i32_1125 : BitVec 32 := 0#32
  let c0_i32_1126 : BitVec 32 := 0#32
  ![v1.toNat, 3, 0, 0]
def k0_off26 (i : grid0.Coords) : Fin 3 → Nat :=
  let arg0 : BitVec 32 := BitVec.ofNat 32 (i 0).val
  let c128_i32_1122 : BitVec 32 := 128#32
  let v4105 : BitVec 32 := Scalar.muli arg0 c128_i32_1122
  let c3_i32_1123 : BitVec 32 := 3#32
  let c0_i32_1127 : BitVec 32 := 0#32
  ![v4105.toNat, 3, 0]
def k0_off27 (i : grid0.Coords) : Fin 4 → Nat :=
  let arg0 : BitVec 32 := BitVec.ofNat 32 (i 0).val
  let c2_i32 : BitVec 32 := 2#32
  let v1 : BitVec 32 := Scalar.remsi arg0 c2_i32
  let c4_i32_1130 : BitVec 32 := 4#32
  let c0_i32_1131 : BitVec 32 := 0#32
  let c0_i32_1132 : BitVec 32 := 0#32
  ![v1.toNat, 4, 0, 0]
def k0_off28 (i : grid0.Coords) : Fin 3 → Nat :=
  let arg0 : BitVec 32 := BitVec.ofNat 32 (i 0).val
  let c128_i32_1128 : BitVec 32 := 128#32
  let v4112 : BitVec 32 := Scalar.muli arg0 c128_i32_1128
  let c4_i32_1129 : BitVec 32 := 4#32
  let c0_i32_1133 : BitVec 32 := 0#32
  ![v4112.toNat, 4, 0]
def k0_off29 (i : grid0.Coords) : Fin 4 → Nat :=
  let arg0 : BitVec 32 := BitVec.ofNat 32 (i 0).val
  let c2_i32 : BitVec 32 := 2#32
  let v1 : BitVec 32 := Scalar.remsi arg0 c2_i32
  let c5_i32_1136 : BitVec 32 := 5#32
  let c0_i32_1137 : BitVec 32 := 0#32
  let c0_i32_1138 : BitVec 32 := 0#32
  ![v1.toNat, 5, 0, 0]
def k0_off30 (i : grid0.Coords) : Fin 3 → Nat :=
  let arg0 : BitVec 32 := BitVec.ofNat 32 (i 0).val
  let c128_i32_1134 : BitVec 32 := 128#32
  let v4119 : BitVec 32 := Scalar.muli arg0 c128_i32_1134
  let c5_i32_1135 : BitVec 32 := 5#32
  let c0_i32_1139 : BitVec 32 := 0#32
  ![v4119.toNat, 5, 0]
def k0_off31 (i : grid0.Coords) : Fin 4 → Nat :=
  let arg0 : BitVec 32 := BitVec.ofNat 32 (i 0).val
  let c2_i32 : BitVec 32 := 2#32
  let v1 : BitVec 32 := Scalar.remsi arg0 c2_i32
  let c6_i32_1142 : BitVec 32 := 6#32
  let c0_i32_1143 : BitVec 32 := 0#32
  let c0_i32_1144 : BitVec 32 := 0#32
  ![v1.toNat, 6, 0, 0]
def k0_off32 (i : grid0.Coords) : Fin 3 → Nat :=
  let arg0 : BitVec 32 := BitVec.ofNat 32 (i 0).val
  let c128_i32_1140 : BitVec 32 := 128#32
  let v4126 : BitVec 32 := Scalar.muli arg0 c128_i32_1140
  let c6_i32_1141 : BitVec 32 := 6#32
  let c0_i32_1145 : BitVec 32 := 0#32
  ![v4126.toNat, 6, 0]
def k0_off33 (i : grid0.Coords) : Fin 4 → Nat :=
  let arg0 : BitVec 32 := BitVec.ofNat 32 (i 0).val
  let c2_i32 : BitVec 32 := 2#32
  let v1 : BitVec 32 := Scalar.remsi arg0 c2_i32
  let c7_i32_1148 : BitVec 32 := 7#32
  let c0_i32_1149 : BitVec 32 := 0#32
  let c0_i32_1150 : BitVec 32 := 0#32
  ![v1.toNat, 7, 0, 0]
def k0_off34 (i : grid0.Coords) : Fin 3 → Nat :=
  let arg0 : BitVec 32 := BitVec.ofNat 32 (i 0).val
  let c128_i32_1146 : BitVec 32 := 128#32
  let v4133 : BitVec 32 := Scalar.muli arg0 c128_i32_1146
  let c7_i32_1147 : BitVec 32 := 7#32
  let c0_i32_1151 : BitVec 32 := 0#32
  ![v4133.toNat, 7, 0]
def k0_cond3 (i : grid0.Coords) : BitVec 1 :=
  let arg0 : BitVec 32 := BitVec.ofNat 32 (i 0).val
  let c1_i32_1152 : BitVec 32 := 1#32
  let v4140 : BitVec 32 := Scalar.addi arg0 c1_i32_1152
  let c8_i32 : BitVec 32 := 8#32
  let v4141 : BitVec 1 := Scalar.cmpi .slt v4140 c8_i32
  let v4142 : BitVec 32 := Scalar.extui v4141
  let c0_i32_1153 : BitVec 32 := 0#32
  let v4143 : BitVec 1 := Scalar.cmpi .ne v4142 c0_i32_1153
  v4143

def k0_off35 (i : grid0.Coords) : Fin 1 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  ![v3.toNat]
def k0_off36 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c0_i32_1157 : BitVec 32 := 0#32
  let c0_i32_1158 : BitVec 32 := 0#32
  let c0_i32_1159 : BitVec 32 := 0#32
  ![v3.toNat, 0, 0, 0]
def k0_off37 (i : grid0.Coords) : Fin 3 → Nat :=
  let arg0 : BitVec 32 := BitVec.ofNat 32 (i 0).val
  let c1_i32_1154 : BitVec 32 := 1#32
  let v4144 : BitVec 32 := Scalar.addi arg0 c1_i32_1154
  let c128_i32_1155 : BitVec 32 := 128#32
  let v4145 : BitVec 32 := Scalar.muli v4144 c128_i32_1155
  let c0_i32_1156 : BitVec 32 := 0#32
  let c0_i32_1160 : BitVec 32 := 0#32
  ![v4145.toNat, 0, 0]
def k0_off38 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c1_i32_1164 : BitVec 32 := 1#32
  let c0_i32_1165 : BitVec 32 := 0#32
  let c0_i32_1166 : BitVec 32 := 0#32
  ![v3.toNat, 1, 0, 0]
def k0_off39 (i : grid0.Coords) : Fin 3 → Nat :=
  let arg0 : BitVec 32 := BitVec.ofNat 32 (i 0).val
  let c1_i32_1161 : BitVec 32 := 1#32
  let v4152 : BitVec 32 := Scalar.addi arg0 c1_i32_1161
  let c128_i32_1162 : BitVec 32 := 128#32
  let v4153 : BitVec 32 := Scalar.muli v4152 c128_i32_1162
  let c1_i32_1163 : BitVec 32 := 1#32
  let c0_i32_1167 : BitVec 32 := 0#32
  ![v4153.toNat, 1, 0]
def k0_off40 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c2_i32_1171 : BitVec 32 := 2#32
  let c0_i32_1172 : BitVec 32 := 0#32
  let c0_i32_1173 : BitVec 32 := 0#32
  ![v3.toNat, 2, 0, 0]
def k0_off41 (i : grid0.Coords) : Fin 3 → Nat :=
  let arg0 : BitVec 32 := BitVec.ofNat 32 (i 0).val
  let c1_i32_1168 : BitVec 32 := 1#32
  let v4160 : BitVec 32 := Scalar.addi arg0 c1_i32_1168
  let c128_i32_1169 : BitVec 32 := 128#32
  let v4161 : BitVec 32 := Scalar.muli v4160 c128_i32_1169
  let c2_i32_1170 : BitVec 32 := 2#32
  let c0_i32_1174 : BitVec 32 := 0#32
  ![v4161.toNat, 2, 0]
def k0_off42 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c3_i32_1178 : BitVec 32 := 3#32
  let c0_i32_1179 : BitVec 32 := 0#32
  let c0_i32_1180 : BitVec 32 := 0#32
  ![v3.toNat, 3, 0, 0]
def k0_off43 (i : grid0.Coords) : Fin 3 → Nat :=
  let arg0 : BitVec 32 := BitVec.ofNat 32 (i 0).val
  let c1_i32_1175 : BitVec 32 := 1#32
  let v4168 : BitVec 32 := Scalar.addi arg0 c1_i32_1175
  let c128_i32_1176 : BitVec 32 := 128#32
  let v4169 : BitVec 32 := Scalar.muli v4168 c128_i32_1176
  let c3_i32_1177 : BitVec 32 := 3#32
  let c0_i32_1181 : BitVec 32 := 0#32
  ![v4169.toNat, 3, 0]
def k0_off44 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c4_i32_1185 : BitVec 32 := 4#32
  let c0_i32_1186 : BitVec 32 := 0#32
  let c0_i32_1187 : BitVec 32 := 0#32
  ![v3.toNat, 4, 0, 0]
def k0_off45 (i : grid0.Coords) : Fin 3 → Nat :=
  let arg0 : BitVec 32 := BitVec.ofNat 32 (i 0).val
  let c1_i32_1182 : BitVec 32 := 1#32
  let v4176 : BitVec 32 := Scalar.addi arg0 c1_i32_1182
  let c128_i32_1183 : BitVec 32 := 128#32
  let v4177 : BitVec 32 := Scalar.muli v4176 c128_i32_1183
  let c4_i32_1184 : BitVec 32 := 4#32
  let c0_i32_1188 : BitVec 32 := 0#32
  ![v4177.toNat, 4, 0]
def k0_off46 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c5_i32_1192 : BitVec 32 := 5#32
  let c0_i32_1193 : BitVec 32 := 0#32
  let c0_i32_1194 : BitVec 32 := 0#32
  ![v3.toNat, 5, 0, 0]
def k0_off47 (i : grid0.Coords) : Fin 3 → Nat :=
  let arg0 : BitVec 32 := BitVec.ofNat 32 (i 0).val
  let c1_i32_1189 : BitVec 32 := 1#32
  let v4184 : BitVec 32 := Scalar.addi arg0 c1_i32_1189
  let c128_i32_1190 : BitVec 32 := 128#32
  let v4185 : BitVec 32 := Scalar.muli v4184 c128_i32_1190
  let c5_i32_1191 : BitVec 32 := 5#32
  let c0_i32_1195 : BitVec 32 := 0#32
  ![v4185.toNat, 5, 0]
def k0_off48 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c6_i32_1199 : BitVec 32 := 6#32
  let c0_i32_1200 : BitVec 32 := 0#32
  let c0_i32_1201 : BitVec 32 := 0#32
  ![v3.toNat, 6, 0, 0]
def k0_off49 (i : grid0.Coords) : Fin 3 → Nat :=
  let arg0 : BitVec 32 := BitVec.ofNat 32 (i 0).val
  let c1_i32_1196 : BitVec 32 := 1#32
  let v4192 : BitVec 32 := Scalar.addi arg0 c1_i32_1196
  let c128_i32_1197 : BitVec 32 := 128#32
  let v4193 : BitVec 32 := Scalar.muli v4192 c128_i32_1197
  let c6_i32_1198 : BitVec 32 := 6#32
  let c0_i32_1202 : BitVec 32 := 0#32
  ![v4193.toNat, 6, 0]
def k0_off50 (i : grid0.Coords) : Fin 4 → Nat :=
  let arg0 : BitVec 32 := BitVec.ofNat 32 (i 0).val
  let c1_i32 : BitVec 32 := 1#32
  let v2 : BitVec 32 := Scalar.addi arg0 c1_i32
  let c2_i32_1 : BitVec 32 := 2#32
  let v3 : BitVec 32 := Scalar.remsi v2 c2_i32_1
  let c7_i32_1206 : BitVec 32 := 7#32
  let c0_i32_1207 : BitVec 32 := 0#32
  let c0_i32_1208 : BitVec 32 := 0#32
  ![v3.toNat, 7, 0, 0]
def k0_off51 (i : grid0.Coords) : Fin 3 → Nat :=
  let arg0 : BitVec 32 := BitVec.ofNat 32 (i 0).val
  let c1_i32_1203 : BitVec 32 := 1#32
  let v4200 : BitVec 32 := Scalar.addi arg0 c1_i32_1203
  let c128_i32_1204 : BitVec 32 := 128#32
  let v4201 : BitVec 32 := Scalar.muli v4200 c128_i32_1204
  let c7_i32_1205 : BitVec 32 := 7#32
  let c0_i32_1209 : BitVec 32 := 0#32
  ![v4201.toNat, 7, 0]
def k0_off52 (i : grid0.Coords) : Fin 4 → Nat :=
  let arg0 : BitVec 32 := BitVec.ofNat 32 (i 0).val
  let c2_i32 : BitVec 32 := 2#32
  let v1 : BitVec 32 := Scalar.remsi arg0 c2_i32
  let v3489 : Index := Scalar.indexCast v1
  let c0_1030 : Index := 0#32
  let c0_1031 : Index := 0#32
  let c0_1032 : Index := 0#32
  ![v3489.toNat, 0, 0, 0]
def k0_off53 (i : grid0.Coords) : Fin 4 → Nat :=
  let arg0 : BitVec 32 := BitVec.ofNat 32 (i 0).val
  let c2_i32 : BitVec 32 := 2#32
  let v1 : BitVec 32 := Scalar.remsi arg0 c2_i32
  let v3540 : Index := Scalar.indexCast v1
  let c1_1033 : Index := 1#32
  let c0_1034 : Index := 0#32
  let c0_1035 : Index := 0#32
  ![v3540.toNat, 1, 0, 0]
def k0_off54 (i : grid0.Coords) : Fin 4 → Nat :=
  let arg0 : BitVec 32 := BitVec.ofNat 32 (i 0).val
  let c2_i32 : BitVec 32 := 2#32
  let v1 : BitVec 32 := Scalar.remsi arg0 c2_i32
  let v3607 : Index := Scalar.indexCast v1
  let c2_1036 : Index := 2#32
  let c0_1037 : Index := 0#32
  let c0_1038 : Index := 0#32
  ![v3607.toNat, 2, 0, 0]
def k0_off55 (i : grid0.Coords) : Fin 4 → Nat :=
  let arg0 : BitVec 32 := BitVec.ofNat 32 (i 0).val
  let c2_i32 : BitVec 32 := 2#32
  let v1 : BitVec 32 := Scalar.remsi arg0 c2_i32
  let v3674 : Index := Scalar.indexCast v1
  let c3_1039 : Index := 3#32
  let c0_1040 : Index := 0#32
  let c0_1041 : Index := 0#32
  ![v3674.toNat, 3, 0, 0]
def k0_off56 (i : grid0.Coords) : Fin 4 → Nat :=
  let arg0 : BitVec 32 := BitVec.ofNat 32 (i 0).val
  let c2_i32 : BitVec 32 := 2#32
  let v1 : BitVec 32 := Scalar.remsi arg0 c2_i32
  let v3741 : Index := Scalar.indexCast v1
  let c4_1042 : Index := 4#32
  let c0_1043 : Index := 0#32
  let c0_1044 : Index := 0#32
  ![v3741.toNat, 4, 0, 0]
def k0_off57 (i : grid0.Coords) : Fin 4 → Nat :=
  let arg0 : BitVec 32 := BitVec.ofNat 32 (i 0).val
  let c2_i32 : BitVec 32 := 2#32
  let v1 : BitVec 32 := Scalar.remsi arg0 c2_i32
  let v3808 : Index := Scalar.indexCast v1
  let c5_1045 : Index := 5#32
  let c0_1046 : Index := 0#32
  let c0_1047 : Index := 0#32
  ![v3808.toNat, 5, 0, 0]
def k0_off58 (i : grid0.Coords) : Fin 4 → Nat :=
  let arg0 : BitVec 32 := BitVec.ofNat 32 (i 0).val
  let c2_i32 : BitVec 32 := 2#32
  let v1 : BitVec 32 := Scalar.remsi arg0 c2_i32
  let v3875 : Index := Scalar.indexCast v1
  let c6_1048 : Index := 6#32
  let c0_1049 : Index := 0#32
  let c0_1050 : Index := 0#32
  ![v3875.toNat, 6, 0, 0]
def k0_off59 (i : grid0.Coords) : Fin 4 → Nat :=
  let arg0 : BitVec 32 := BitVec.ofNat 32 (i 0).val
  let c2_i32 : BitVec 32 := 2#32
  let v1 : BitVec 32 := Scalar.remsi arg0 c2_i32
  let v3942 : Index := Scalar.indexCast v1
  let c7_1051 : Index := 7#32
  let c0_1052 : Index := 0#32
  let c0_1053 : Index := 0#32
  ![v3942.toNat, 7, 0, 0]
def k0_cond4 (i : grid0.Coords) : BitVec 1 :=
  let arg1 : BitVec 32 := BitVec.ofNat 32 (i 1).val
  let c0_i32_1022 : BitVec 32 := 0#32
  let v3461 : BitVec 1 := Scalar.cmpi .eq arg1 c0_i32_1022
  let v3462 : BitVec 32 := Scalar.extui v3461
  let c0_i32_1023 : BitVec 32 := 0#32
  let v3463 : BitVec 1 := Scalar.cmpi .ne v3462 c0_i32_1023
  v3463

def k0_cond5 (i : grid0.Coords) : BitVec 1 :=
  let arg1 : BitVec 32 := BitVec.ofNat 32 (i 1).val
  let c0_i32_1024 : BitVec 32 := 0#32
  let v3464 : BitVec 1 := Scalar.cmpi .sgt arg1 c0_i32_1024
  let v3465 : BitVec 32 := Scalar.extui v3464
  let c0_i32_1025 : BitVec 32 := 0#32
  let v3466 : BitVec 1 := Scalar.cmpi .ne v3465 c0_i32_1025
  v3466

def k0_cond6 (i : grid0.Coords) : BitVec 1 :=
  let arg1 : BitVec 32 := BitVec.ofNat 32 (i 1).val
  let c0_i32_1026 : BitVec 32 := 0#32
  let v3467 : BitVec 1 := Scalar.cmpi .eq arg1 c0_i32_1026
  let v3468 : BitVec 32 := Scalar.extui v3467
  let c0_i32_1027 : BitVec 32 := 0#32
  let v3469 : BitVec 1 := Scalar.cmpi .ne v3468 c0_i32_1027
  v3469

def k0_cond7 (i : grid0.Coords) : BitVec 1 :=
  let arg1 : BitVec 32 := BitVec.ofNat 32 (i 1).val
  let c0_i32_1028 : BitVec 32 := 0#32
  let v3470 : BitVec 1 := Scalar.cmpi .sgt arg1 c0_i32_1028
  let v3471 : BitVec 32 := Scalar.extui v3470
  let c0_i32_1029 : BitVec 32 := 0#32
  let v3472 : BitVec 1 := Scalar.cmpi .ne v3471 c0_i32_1029
  v3472

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .smem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := .none

abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S8x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S2x16x1024x1024 : Shape := ⟨4, ![2, 16, 1024, 1024]⟩
abbrev S1024x8x1024 : Shape := ⟨3, ![1024, 8, 1024]⟩
abbrev S8x1024 : Shape := ⟨2, ![8, 1024]⟩
abbrev S1024x1024 : Shape := ⟨2, ![1024, 1024]⟩
abbrev S_ : Shape := ⟨0, ![]⟩
abbrev S1x1x1024x1024 : Shape := ⟨4, ![1, 1, 1024, 1024]⟩
abbrev S32x1024x1024 : Shape := ⟨3, ![32, 1024, 1024]⟩
abbrev S1024x8 : Shape := ⟨2, ![1024, 8]⟩
abbrev S32x1024x8 : Shape := ⟨3, ![32, 1024, 8]⟩
abbrev S32x1024 : Shape := ⟨2, ![32, 1024]⟩
abbrev S32x1024x1 : Shape := ⟨3, ![32, 1024, 1]⟩
abbrev S32x8 : Shape := ⟨2, ![32, 8]⟩
abbrev S32x1024x8x1 : Shape := ⟨4, ![32, 1024, 8, 1]⟩
abbrev S1 : Shape := ⟨1, ![1]⟩
abbrev S1x1x1x1 : Shape := ⟨4, ![1, 1, 1, 1]⟩
abbrev S1x1x8 : Shape := ⟨3, ![1, 1, 8]⟩
abbrev S1x1 : Shape := ⟨2, ![1, 1]⟩
abbrev S2x16x1024x8 : Shape := ⟨4, ![2, 16, 1024, 8]⟩
abbrev S1024x1024x2x16 : Shape := ⟨4, ![1024, 1024, 2, 16]⟩

abbrev nBuf : Space → Nat
  | .hbm => 156
  | .vmem => 0
  | .smem => 0
  | _ => 0

abbrev hbmTy0_0 (i : Nat) : BufTy := match i % 128 with
  | 0 => ⟨S2x16x1024x1024, .f32⟩
  | 1 => ⟨S1024x8x1024, .f32⟩
  | 2 => ⟨S8x1024, .f32⟩
  | 3 => ⟨S8x1024, .f32⟩
  | 4 => ⟨S1024x1024, .i32⟩
  | 5 => ⟨S1024x1024, .i32⟩
  | 6 => ⟨S_, .i32⟩
  | 7 => ⟨S1024x1024, .i32⟩
  | 8 => ⟨S1024x1024, .i32⟩
  | 9 => ⟨S1024x1024, .i1⟩
  | 10 => ⟨S1024x1024, .f32⟩
  | 11 => ⟨S1x1x1024x1024, .f32⟩
  | 12 => ⟨S32x1024x1024, .f32⟩
  | 13 => ⟨S1024x8, .f32⟩
  | 14 => ⟨S32x1024x8, .f32⟩
  | 15 => ⟨S_, .f32⟩
  | 16 => ⟨S32x1024, .f32⟩
  | 17 => ⟨S_, .f32⟩
  | 18 => ⟨S32x1024, .f32⟩
  | 19 => ⟨S32x1024, .f32⟩
  | 20 => ⟨S32x1024x1, .f32⟩
  | 21 => ⟨S32x1024x8, .f32⟩
  | 22 => ⟨S32x1024x8, .f32⟩
  | 23 => ⟨S32x1024x8, .f32⟩
  | 24 => ⟨S_, .f32⟩
  | 25 => ⟨S32x1024, .f32⟩
  | 26 => ⟨S32x1024x1, .f32⟩
  | 27 => ⟨S32x1024x8, .f32⟩
  | 28 => ⟨S32x1024x8, .f32⟩
  | 29 => ⟨S_, .f32⟩
  | 30 => ⟨S32x1024x8, .f32⟩
  | 31 => ⟨S32x1024x8, .f32⟩
  | 32 => ⟨S32x1024x8, .f32⟩
  | 33 => ⟨S32x1024x8, .f32⟩
  | 34 => ⟨S_, .f32⟩
  | 35 => ⟨S32x8, .f32⟩
  | 36 => ⟨S_, .f32⟩
  | 37 => ⟨S_, .f32⟩
  | 38 => ⟨S_, .f32⟩
  | 39 => ⟨S_, .f32⟩
  | 40 => ⟨S_, .f32⟩
  | 41 => ⟨S32x1024x8, .f32⟩
  | 42 => ⟨S32x1024x8, .i32⟩
  | 43 => ⟨S32x1024x8, .f32⟩
  | 44 => ⟨S32x1024x8, .i32⟩
  | 45 => ⟨S_, .i32⟩
  | 46 => ⟨S32x1024x8, .i32⟩
  | 47 => ⟨S32x1024x8, .i1⟩
  | 48 => ⟨S_, .i32⟩
  | 49 => ⟨S32x1024x8, .i32⟩
  | 50 => ⟨S32x1024x8, .i32⟩
  | 51 => ⟨S32x1024x8, .i32⟩
  | 52 => ⟨S32x1024x8x1, .i32⟩
  | 53 => ⟨S1, .i32⟩
  | 54 => ⟨S_, .i32⟩
  | 55 => ⟨S32x1024x8x1, .i32⟩
  | 56 => ⟨S32x1024x8x1, .i1⟩
  | 57 => ⟨S1x1x1x1, .i32⟩
  | 58 => ⟨S32x1024x8x1, .i32⟩
  | 59 => ⟨S32x1024x8x1, .i1⟩
  | 60 => ⟨S32x1024x8x1, .i1⟩
  | 61 => ⟨S_, .i1⟩
  | 62 => ⟨S32x1024x8, .i1⟩
  | 63 => ⟨S32x1024x8, .f32⟩
  | 64 => ⟨S_, .f32⟩
  | 65 => ⟨S32x1024x8, .f32⟩
  | 66 => ⟨S32x1024x8, .f32⟩
  | 67 => ⟨S_, .f32⟩
  | 68 => ⟨S_, .f32⟩
  | 69 => ⟨S32x1024x8, .f32⟩
  | 70 => ⟨S_, .f32⟩
  | 71 => ⟨S32x1024x8, .f32⟩
  | 72 => ⟨S32x1024x8, .i1⟩
  | 73 => ⟨S32x1024x8, .i32⟩
  | 74 => ⟨S32x1024x8, .i32⟩
  | 75 => ⟨S_, .i32⟩
  | 76 => ⟨S_, .i32⟩
  | 77 => ⟨S32x1024, .i32⟩
  | 78 => ⟨S32x1024, .i32⟩
  | 79 => ⟨S32x1024x1, .i32⟩
  | 80 => ⟨S1x1x8, .i32⟩
  | 81 => ⟨S32x1024x8, .i32⟩
  | 82 => ⟨S32x1024x8, .i32⟩
  | 83 => ⟨S32x1024x8, .i1⟩
  | 84 => ⟨S32x1024x8, .i1⟩
  | 85 => ⟨S32x1024x8, .i1⟩
  | 86 => ⟨S32x1024x8, .i1⟩
  | 87 => ⟨S32x1024x8, .i32⟩
  | 88 => ⟨S32x1024x8, .i32⟩
  | 89 => ⟨S32x1024x8, .i32⟩
  | 90 => ⟨S_, .i32⟩
  | 91 => ⟨S32x1024x8, .i32⟩
  | 92 => ⟨S32x1024x8, .i1⟩
  | 93 => ⟨S_, .i32⟩
  | 94 => ⟨S32x1024x8, .i32⟩
  | 95 => ⟨S32x1024x8, .i32⟩
  | 96 => ⟨S32x1024x8, .i32⟩
  | 97 => ⟨S32x1024x8x1, .i32⟩
  | 98 => ⟨S1, .i32⟩
  | 99 => ⟨S_, .i32⟩
  | 100 => ⟨S32x1024x8x1, .i32⟩
  | 101 => ⟨S32x1024x8x1, .i1⟩
  | 102 => ⟨S1x1x1x1, .i32⟩
  | 103 => ⟨S32x1024x8x1, .i32⟩
  | 104 => ⟨S32x1024x8x1, .i1⟩
  | 105 => ⟨S32x1024x8x1, .i1⟩
  | 106 => ⟨S_, .i1⟩
  | 107 => ⟨S32x1024x8, .i1⟩
  | 108 => ⟨S32x1024x8, .i1⟩
  | 109 => ⟨S_, .i1⟩
  | 110 => ⟨S32x1024x8, .i1⟩
  | 111 => ⟨S32x1024x8, .i1⟩
  | 112 => ⟨S_, .f32⟩
  | 113 => ⟨S_, .f32⟩
  | 114 => ⟨S32x1024x8, .f32⟩
  | 115 => ⟨S32x1024x8, .f32⟩
  | 116 => ⟨S_, .f32⟩
  | 117 => ⟨S1024x8, .f32⟩
  | 118 => ⟨S_, .i32⟩
  | 119 => ⟨S_, .f32⟩
  | 120 => ⟨S_, .f32⟩
  | 121 => ⟨S1x1, .f32⟩
  | 122 => ⟨S_, .f32⟩
  | 123 => ⟨S1x1, .f32⟩
  | 124 => ⟨S1x1, .f32⟩
  | 125 => ⟨S1024x8, .f32⟩
  | 126 => ⟨S1024x8, .f32⟩
  | 127 => ⟨S1024x8, .f32⟩
  | _ => ⟨S2x16x1024x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .i1⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S2x16x1024x8, .i1⟩
  | 23 => ⟨S2x16x1024x8, .f32⟩
  | 24 => ⟨S1024x1024x2x16, .f32⟩
  | 25 => ⟨S2x16x1024x1024, .f32⟩
  | 26 => ⟨S2x16x1024x1024, .f32⟩
  | 27 => ⟨S2x16x1024x1024, .f32⟩
  | _ => ⟨S2x16x1024x1024, .f32⟩

abbrev hbmTy (i : Nat) : BufTy := match i / 128 with
  | 0 => hbmTy0_0 i
  | 1 => hbmTy0_1 i
  | _ => ⟨S2x16x1024x1024, .f32⟩

abbrev bufTy : (tb : Table) → Fin (tcTables nBuf tb) → BufTy
  | .hbm, ⟨i, _⟩ => hbmTy i
  | _, _ => ⟨S2x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1_0 : Ref sig .tc := ⟨.hbm, 43, rfl⟩
abbrev main_v30 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v31 : Ref sig .tc := ⟨.hbm, 66, rfl⟩
abbrev main_call2_call0_cst : Ref sig .tc := ⟨.hbm, 67, rfl⟩
abbrev main_call2_call0_v0 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_call3_c : Ref sig .tc := ⟨.hbm, 75, rfl⟩
abbrev main_call3_c_0 : Ref sig .tc := ⟨.hbm, 76, rfl⟩
abbrev main_call3_v1_0 : Ref sig .tc := ⟨.hbm, 77, rfl⟩
abbrev main_v36 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_call5_v0 : Ref sig .tc := ⟨.hbm, 87, rfl⟩
abbrev main_call5_v1_0 : Ref sig .tc := ⟨.hbm, 88, rfl⟩
abbrev main_v41 : Ref sig .tc := ⟨.hbm, 89, rfl⟩
abbrev main_call6_c : Ref sig .tc := ⟨.hbm, 90, rfl⟩
abbrev main_call6_v0 : Ref sig .tc := ⟨.hbm, 91, rfl⟩
abbrev main_call6_v1 : Ref sig .tc := ⟨.hbm, 92, rfl⟩
abbrev main_call6_c_0 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_v5 : Ref sig .tc := ⟨.hbm, 97, rfl⟩
abbrev main_call6_c_1 : Ref sig .tc := ⟨.hbm, 98, rfl⟩
abbrev main_call6_c_2 : Ref sig .tc := ⟨.hbm, 99, rfl⟩
abbrev main_call6_v6 : Ref sig .tc := ⟨.hbm, 100, rfl⟩
abbrev main_call6_v7 : Ref sig .tc := ⟨.hbm, 101, rfl⟩
abbrev main_call6_v8 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_c_3 : Ref sig .tc := ⟨.hbm, 106, rfl⟩
abbrev main_call6_v12 : Ref sig .tc := ⟨.hbm, 107, rfl⟩
abbrev main_call6_v13 : Ref sig .tc := ⟨.hbm, 108, rfl⟩
abbrev main_call6_c_4 : Ref sig .tc := ⟨.hbm, 109, rfl⟩
abbrev main_call6_v14 : Ref sig .tc := ⟨.hbm, 110, rfl⟩
abbrev main_v42 : Ref sig .tc := ⟨.hbm, 111, rfl⟩
abbrev main_cst_7 : Ref sig .tc := ⟨.hbm, 112, rfl⟩
abbrev main_call7_v0 : Ref sig .tc := ⟨.hbm, 113, rfl⟩
abbrev main_call7_v1 : Ref sig .tc := ⟨.hbm, 114, rfl⟩
abbrev main_v43 : Ref sig .tc := ⟨.hbm, 115, rfl⟩
abbrev main_cst_8 : Ref sig .tc := ⟨.hbm, 116, rfl⟩
abbrev main_v44 : Ref sig .tc := ⟨.hbm, 117, rfl⟩
abbrev main_c_9 : Ref sig .tc := ⟨.hbm, 118, rfl⟩
abbrev main_call8_cst : Ref sig .tc := ⟨.hbm, 119, rfl⟩
abbrev main_call8_v0 : Ref sig .tc := ⟨.hbm, 120, rfl⟩
abbrev main_call8_v1 : Ref sig .tc := ⟨.hbm, 121, rfl⟩
abbrev main_call8_cst_0 : Ref sig .tc := ⟨.hbm, 122, rfl⟩
abbrev main_call8_v2 : Ref sig .tc := ⟨.hbm, 123, rfl⟩
abbrev main_call8_v3 : Ref sig .tc := ⟨.hbm, 124, rfl⟩
abbrev main_call8_v4 : Ref sig .tc := ⟨.hbm, 125, rfl⟩
abbrev main_call8_v5 : Ref sig .tc := ⟨.hbm, 126, rfl⟩
abbrev main_call8_v6 : Ref sig .tc := ⟨.hbm, 127, rfl⟩
abbrev main_call8_v7 : Ref sig .tc := ⟨.hbm, 128, rfl⟩
abbrev main_call8_cst_1 : Ref sig .tc := ⟨.hbm, 129, rfl⟩
abbrev main_call8_v8 : Ref sig .tc := ⟨.hbm, 130, rfl⟩
abbrev main_call8_cst_2 : Ref sig .tc := ⟨.hbm, 131, rfl⟩
abbrev main_call8_v9 : Ref sig .tc := ⟨.hbm, 132, rfl⟩
abbrev main_call8_v10 : Ref sig .tc := ⟨.hbm, 133, rfl⟩
abbrev main_call8_cst_3 : Ref sig .tc := ⟨.hbm, 134, rfl⟩
abbrev main_call8_v11 : Ref sig .tc := ⟨.hbm, 135, rfl⟩
abbrev main_call8_cst_4 : Ref sig .tc := ⟨.hbm, 136, rfl⟩
abbrev main_call8_call0_v0 : Ref sig .tc := ⟨.hbm, 137, rfl⟩
abbrev main_v45 : Ref sig .tc := ⟨.hbm, 138, rfl⟩
abbrev main_cst_10 : Ref sig .tc := ⟨.hbm, 139, rfl⟩
abbrev main_v46 : Ref sig .tc := ⟨.hbm, 140, rfl⟩
abbrev main_cst_11 : Ref sig .tc := ⟨.hbm, 141, rfl⟩
abbrev main_v47 : Ref sig .tc := ⟨.hbm, 142, rfl⟩
abbrev main_v48 : Ref sig .tc := ⟨.hbm, 143, rfl⟩
abbrev main_cst_12 : Ref sig .tc := ⟨.hbm, 144, rfl⟩
abbrev main_v49 : Ref sig .tc := ⟨.hbm, 145, rfl⟩
abbrev main_v50 : Ref sig .tc := ⟨.hbm, 146, rfl⟩
abbrev main_cst_13 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩

abbrev nD : Nat := 1
abbrev τ : Topo := Topo.v7x

variable {F : FTy → Type} [FloatOps F]
-- ==== Proof.KernelIdeal.Slots.lean ====
/- The two slots of the mask scratch: their parts, their cells, what is held of each between grid points, and how the launch's
   buffers become the slots and back. Also the body's branch conditions and its slices at grid point `t`, in closed form. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## Branch conditions at grid point `t` -/

theorem cond1_iff : ∀ t : Fin grid0.N, k0_cond1 (grid0.coords t) = 1#1 ↔ t.val % 2 = 0 := by decide +kernel
theorem cond2_iff : ∀ t : Fin grid0.N, k0_cond2 (grid0.coords t) = 1#1 ↔ t.val < 2 := by decide +kernel
theorem cond3_iff : ∀ t : Fin grid0.N, k0_cond3 (grid0.coords t) = 1#1 ↔ t.val < 14 := by decide +kernel
theorem cond4_iff : ∀ t : Fin grid0.N, k0_cond4 (grid0.coords t) = 1#1 ↔ t.val % 2 = 0 := by decide +kernel
theorem cond5_iff : ∀ t : Fin grid0.N, k0_cond5 (grid0.coords t) = 1#1 ↔ t.val % 2 = 1 := by decide +kernel
theorem cond6_iff : ∀ t : Fin grid0.N, k0_cond6 (grid0.coords t) = 1#1 ↔ t.val % 2 = 0 := by decide +kernel
theorem cond7_iff : ∀ t : Fin grid0.N, k0_cond7 (grid0.coords t) = 1#1 ↔ t.val % 2 = 1 := by decide +kernel

/-! ## Slots, blocks, parts, cells -/

/-- The slot step `n` uses. -/
def slotOf (n : ℕ) : Fin 2 := ⟨n % 2, Nat.mod_lt _ (by decide)⟩
/-- The block of masks step `n` uses (rows `128 n …`). -/
def blkOf (n : ℕ) : Fin 8 := ⟨n % 8, Nat.mod_lt _ (by decide)⟩

/-- The mask scratch, and the masks in HBM, whole. -/
abbrev scrM : Memref sig .tc .vmem S2x8x128x1024 .f32 := Memref.whole cc0_scratch0
abbrev mskM : Memref sig .tc .hbm S1024x8x1024 .f32 := Memref.whole main_arg1

theorem part_inb (s : Fin 2) (w : Fin 8) : ∀ a, (![s.val, w.val, 0, 0] : Fin 4 → Nat) a + S1x1x128x1024.size a ≤ S2x8x128x1024.size a := by
  have := s.isLt; have := w.isLt; intro a; fin_cases a <;> simp <;> omega
theorem src_inb (b : Fin 8) (w : Fin 8) : ∀ a, (![128 * b.val, w.val, 0] : Fin 3 → Nat) a + S128x1x1024.size a ≤ S1024x8x1024.size a := by
  have := b.isLt; have := w.isLt; intro a; fin_cases a <;> simp <;> omega
theorem cell_inb (s : Fin 2) : ∀ a, (![s.val] : Fin 1 → Nat) a + S1.size a ≤ S2.size a := by
  have := s.isLt; intro a; fin_cases a <;> simp <;> omega

/-- Part `w` of slot `s`: where expert `w`'s rows land. -/
def part (s : Fin 2) (w : Fin 8) : Memref sig .tc .vmem S128x1024 .f32 :=
  (scrM.slice (Rect.unit (s := S2x8x128x1024) ![s.val, w.val, 0, 0] S1x1x128x1024.size (part_inb s w)) (fun _ => rfl)).squeeze S128x1024 squeezes_S1x1x128x1024_S128x1024
/-- Expert `w`'s rows of block `b` of the masks. -/
def srcOf (b : Fin 8) (w : Fin 8) : Memref sig .tc .hbm S128x1024 .f32 :=
  (mskM.slice (Rect.unit (s := S1024x8x1024) ![128 * b.val, w.val, 0] S128x1x1024.size (src_inb b w)) (fun _ => rfl)).squeeze S128x1024 squeezes_S128x1x1024_S128x1024
/-- Slot `s`'s cell. -/
def cellM (s : Fin 2) : DmaSems sig S_ := (cc0_scratch1.slice (Rect.unit (s := S2) ![s.val] S1.size (cell_inb s))).squeeze S_ squeezes_S1_S_
abbrev cellL (s : Fin 2) : SemLoc sig := SemLoc.dma (cellM s).sem
theorem cellL_0 : cellL 0 = SemLoc.dma 9 := by decide
theorem cellL_1 : cellL 1 = SemLoc.dma 10 := by decide

/-- The full share halved `n` times down a spine, and the half split off at step `n`. -/
def tailS : ℕ → PosShare TreeShare
  | 0 => fullShare
  | n + 1 => (tailS n).right
def copyS (n : ℕ) : PosShare TreeShare := (tailS n).left

abbrev BufAt (c : Dev nD) {sp : Space} {S : Shape} {e : EltTy} (M : Memref sig .tc sp S e) : Type := Buf (Elt F) (M.view.loc (c : Thread nD τ))

section Families
variable (c : Dev nD) (W0 : BufAt (F := F) c mskM)

/-- Part `w` of slot `s` held at `e`. -/
abbrev partP (s : Fin 2) (w : Fin 8) (e : BufAt (F := F) c scrM) : sProp 𝕄 := (part s w).view.loc (c : Thread nD τ) ↦[(part s w).view.set]{fullShare} e
/-- Slot `s`'s cell at zero. -/
abbrev cellP (s : Fin 2) : sProp 𝕄 := semVal ((c : Thread nD τ), cellL s) 0
/-- The share of the masks part `w` of slot `s` reads from. -/
abbrev shareOf (s : Fin 2) (w : Fin 8) : PosShare TreeShare := copyS (8 * s.val + w.val)
/-- Block `b`'s rows for expert `w` at that share; the rest of the masks at it; the masks whole at it. -/
abbrev srcP (s : Fin 2) (w : Fin 8) (b : Fin 8) : sProp 𝕄 := (srcOf b w).view.loc (c : Thread nD τ) ↦[(srcOf b w).view.set]{shareOf s w} W0
def restP (s : Fin 2) (w : Fin 8) (b : Fin 8) : sProp 𝕄 := ((c : Thread nD τ).loc main_arg1) ↦[Finset.univ \ (srcOf b w).view.set]{shareOf s w} W0
abbrev wholeP (s : Fin 2) (w : Fin 8) : sProp 𝕄 := ((c : Thread nD τ).loc main_arg1) ↦[Finset.univ]{shareOf s w} W0
/-- The scratch's contents once block `b`'s rows for expert `w` have landed in part `w` of slot `s`. -/
abbrev landed (s : Fin 2) (w : Fin 8) (b : Fin 8) : BufAt (F := F) c scrM :=
  (part s w).view.writes (Elt F) (part s w).view.junk [⟨Rect.whole S128x1024, ReadAs.same.apply ((srcOf b w).view.read (Elt F) W0)⟩]
/-- What the transfer into part `w` delivers. -/
abbrev delivP (s : Fin 2) (b : Fin 8) : Fin 8 → sProp 𝕄 :=
  ![iprop(partP c s 0 (landed c W0 s 0 b) ∗ srcP c W0 s 0 b), iprop(partP c s 1 (landed c W0 s 1 b) ∗ srcP c W0 s 1 b), iprop(partP c s 2 (landed c W0 s 2 b) ∗ srcP c W0 s 2 b), iprop(partP c s 3 (landed c W0 s 3 b) ∗ srcP c W0 s 3 b), iprop(partP c s 4 (landed c W0 s 4 b) ∗ srcP c W0 s 4 b), iprop(partP c s 5 (landed c W0 s 5 b) ∗ srcP c W0 s 5 b), iprop(partP c s 6 (landed c W0 s 6 b) ∗ srcP c W0 s 6 b), iprop(partP c s 7 (landed c W0 s 7 b) ∗ srcP c W0 s 7 b)]
/-- One transfer's amount on its cell. -/
abbrev amt : ℕ := (part 0 0).view.amount (cellL 0)
/-- Block `b` on its way into slot `s`: the eight transfers, all started, none waited for. -/
abbrev flightP (s : Fin 2) (b : Fin 8) : sProp 𝕄 :=
  Transfers.Batch countersEmb (c : Thread nD τ) (cellL s) default amt (delivP c W0 s b) 8 0

theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem storable_deliv (s : Fin 2) (b : Fin 8) : ∀ w, Storable (upEmb : UEmb _ 𝕄) (delivP (F := F) c W0 s b w) := by
  intro w; fin_cases w <;> exact @Storable.sep _ _ _ _ _ _ _ _ (storable_pt _ _ _ _) (storable_pt _ _ _ _)

/-- The masks whole, at each of slot `s`'s eight shares. -/
abbrev copiesP (s : Fin 2) : sProp 𝕄 := iprop(wholeP c W0 s 0 ∗ wholeP c W0 s 1 ∗ wholeP c W0 s 2 ∗ wholeP c W0 s 3 ∗ wholeP c W0 s 4 ∗ wholeP c W0 s 5 ∗ wholeP c W0 s 6 ∗ wholeP c W0 s 7)
/-- The rests of those, block `b`'s rows out. -/
abbrev restsP (s : Fin 2) (b : Fin 8) : sProp 𝕄 := iprop(restP c W0 s 0 b ∗ restP c W0 s 1 b ∗ restP c W0 s 2 b ∗ restP c W0 s 3 b ∗ restP c W0 s 4 b ∗ restP c W0 s 5 b ∗ restP c W0 s 6 b ∗ restP c W0 s 7 b)
/-- Slot `s`'s parts, each at its own contents. -/
abbrev partsP (s : Fin 2) (f : Fin 8 → BufAt (F := F) c scrM) : sProp 𝕄 := iprop(partP c s 0 (f 0) ∗ partP c s 1 (f 1) ∗ partP c s 2 (f 2) ∗ partP c s 3 (f 3) ∗ partP c s 4 (f 4) ∗ partP c s 5 (f 5) ∗ partP c s 6 (f 6) ∗ partP c s 7 (f 7))
/-- Slot `s` idle, its contents unknown. -/
abbrev freeP (s : Fin 2) : sProp 𝕄 := iprop(cellP c s ∗ (∃ f : Fin 8 → BufAt (F := F) c scrM, partsP c s f) ∗ copiesP c W0 s)
/-- Slot `s` idle, holding block `b`. -/
abbrev keptP (s : Fin 2) (b : Fin 8) : sProp 𝕄 := iprop(cellP c s ∗ (partP c s 0 (landed c W0 s 0 b) ∗ partP c s 1 (landed c W0 s 1 b) ∗ partP c s 2 (landed c W0 s 2 b) ∗ partP c s 3 (landed c W0 s 3 b) ∗ partP c s 4 (landed c W0 s 4 b) ∗ partP c s 5 (landed c W0 s 5 b) ∗ partP c s 6 (landed c W0 s 6 b) ∗ partP c s 7 (landed c W0 s 7 b)) ∗ copiesP c W0 s)
/-- Block `b` on its way into slot `s`, beside the rests of the masks' shares. -/
abbrev comingP (s : Fin 2) (b : Fin 8) : sProp 𝕄 := iprop(flightP c W0 s b ∗ restsP c W0 s b)

theorem parts_tuple (s : Fin 2) (a0 a1 a2 a3 a4 a5 a6 a7 : BufAt (F := F) c scrM) :
    partsP (F := F) c s ![a0, a1, a2, a3, a4, a5, a6, a7] = iprop(partP c s 0 a0 ∗ partP c s 1 a1 ∗ partP c s 2 a2 ∗ partP c s 3 a3 ∗ partP c s 4 a4 ∗ partP c s 5 a5 ∗ partP c s 6 a6 ∗ partP c s 7 a7) := rfl

theorem kept_free (s : Fin 2) (b : Fin 8) : keptP c W0 s b ⊢ freeP (F := F) c W0 s := by
  iintro ⟨Hc, Hp, Hw⟩
  isplitl [Hc]; · iexact Hc
  isplitl [Hp]
  · iexists ![landed c W0 s 0 b, landed c W0 s 1 b, landed c W0 s 2 b, landed c W0 s 3 b, landed c W0 s 4 b, landed c W0 s 5 b, landed c W0 s 6 b, landed c W0 s 7 b]
    iapply (Entails.of_eq (parts_tuple c s (landed c W0 s 0 b) (landed c W0 s 1 b) (landed c W0 s 2 b) (landed c W0 s 3 b) (landed c W0 s 4 b) (landed c W0 s 5 b) (landed c W0 s 6 b) (landed c W0 s 7 b)).symm)
    iexact Hp
  iexact Hw

theorem src_split (s : Fin 2) (w : Fin 8) (b : Fin 8) : wholeP (F := F) c W0 s w ⊣⊢ iprop(srcP c W0 s w b ∗ restP c W0 s w b) := by
  unfold restP; exact pointsTo_split_subset (Finset.subset_univ _)

/-- What is held before step `n` of the grid: nothing in use at first; then the block of the step before, and the next one coming
    (as long as there is one). -/
def held (n : ℕ) : sProp 𝕄 :=
  if n = 0 then iprop(freeP c W0 0 ∗ freeP c W0 1)
  else iprop(keptP c W0 (slotOf ((n - 1) / 2)) (blkOf ((n - 1) / 2))
    ∗ (if (n - 1) / 2 + 1 < 8 then comingP c W0 (slotOf ((n - 1) / 2 + 1)) (blkOf ((n - 1) / 2 + 1)) else freeP c W0 (slotOf ((n - 1) / 2 + 1))))
end Families

/-! ## The parts tile the scratch -/

abbrev partOff (i : Fin 2 × Fin 8) : Fin 4 → Nat := ![i.1.val, i.2.val, 0, 0]
theorem partOff_inb (i : Fin 2 × Fin 8) : ∀ a, partOff i a + S1x1x128x1024.size a ≤ S2x8x128x1024.size a := part_inb i.1 i.2
abbrev partSet (i : Fin 2 × Fin 8) : Finset S2x8x128x1024.Idx := (Rect.unit (s := S2x8x128x1024) (partOff i) S1x1x128x1024.size (partOff_inb i)).set
theorem partSet_eq (s : Fin 2) (w : Fin 8) : (part s w).view.set = partSet (s, w) := by
  simp only [part, Memref.view_squeeze, View.set_reshape]; exact View.set_slice_whole _ _
def partIx (i : Fin 2 × Fin 8) : Fin 4 → ℕ := ![i.1.val, i.2.val, 0, 0]
def partUn (v : Fin 4 → ℕ) : Fin 2 × Fin 8 := (Fin.ofNat 2 (v 0), Fin.ofNat 8 (v 1))
theorem partUn_left : ∀ i : Fin 2 × Fin 8, partUn (partIx i) = i := by decide +kernel
theorem parts_disjoint (i i' : Fin 2 × Fin 8) (h : i ≠ i') : Disjoint (partSet i) (partSet i') :=
  Ring.boxes_disjoint (s := S2x8x128x1024) S1x1x128x1024.size partOff partOff_inb partIx
    (fun i a => by fin_cases a <;> simp [partOff, partIx] <;> omega) partUn partUn_left i i' h
/-- What of the scratch lies in no part (nothing, in fact): carried along. -/
abbrev spareP (c : Dev nD) : sProp 𝕄 := iprop(∃ f : Buf (Elt F) ((c : Thread nD τ).loc cc0_scratch0), ((c : Thread nD τ).loc cc0_scratch0) ↦[Finset.univ \ Finset.univ.biUnion partSet]{fullShare} f)

section Launch
variable (c : Dev nD) (W0 : BufAt (F := F) c mskM)

theorem partP_eq (i : Fin 2 × Fin 8) (e : BufAt (F := F) c scrM) : partP (F := F) c i.1 i.2 e = (((c : Thread nD τ).loc cc0_scratch0) ↦[partSet i]{fullShare} e : sProp 𝕄) := by
  obtain ⟨s, w⟩ := i
  show partP (F := F) c s w e = _; unfold partP; rw [partSet_eq]; rfl
theorem parts_eq : (bigSep Finset.univ (fun i : Fin 2 × Fin 8 => iprop(∃ e, partP (F := F) c i.1 i.2 e)) : sProp 𝕄) = iprop((∃ f, partsP (F := F) c 0 f) ∗ (∃ f, partsP (F := F) c 1 f)) := by
  rw [BI.bigSep_univ_prod, Ring.bigSep_fin2]
  have e : ∀ j : Fin 2, (bigSep Finset.univ (fun w : Fin 8 => iprop(∃ e, partP (F := F) c j w e)) : sProp 𝕄) = iprop(∃ f, partsP (F := F) c j f) := fun j => by
    rw [← Ring.bigSep_exists_pi_eq (P := fun (w : Fin 8) (e : BufAt (F := F) c scrM) => partP (F := F) c j w e)]; unfold partsP
    refine congrArg _ (funext fun f => ?_)
    rw [BI.bigSep_eq_bigSepL_of_eq [0, 1, 2, 3, 4, 5, 6, 7] (by decide) (by decide)]; rfl
  rw [e 0, e 1]
theorem scratch_split : iprop(∃ d, owns (c : Thread nD τ) scrM fullShare d) ⊢ (iprop(((∃ f, partsP (F := F) c 0 f) ∗ (∃ f, partsP (F := F) c 1 f)) ∗ spareP c) : sProp 𝕄) := by
  simp only [scrM, owns_whole]
  rw [← parts_eq c]
  exact Ring.pieces_split_spare (U := Pipeline.UD sig nD τ) (ℓ := (c : Thread nD τ).loc cc0_scratch0) (q := fullShare) partSet parts_disjoint
    (fun (i : Fin 2 × Fin 8) (e : BufAt (F := F) c scrM) => partP (F := F) c i.1 i.2 e) (partP_eq c)
theorem scratch_join : (iprop(((∃ f, partsP (F := F) c 0 f) ∗ (∃ f, partsP (F := F) c 1 f)) ∗ spareP c) : sProp 𝕄) ⊢ iprop(∃ d, owns (c : Thread nD τ) scrM fullShare d) := by
  simp only [scrM, owns_whole]
  rw [← parts_eq c]
  exact Ring.pieces_join_spare (U := Pipeline.UD sig nD τ) (ℓ := (c : Thread nD τ).loc cc0_scratch0) (q := fullShare) partSet parts_disjoint
    (fun (i : Fin 2 × Fin 8) (e : BufAt (F := F) c scrM) => partP (F := F) c i.1 i.2 e) (partP_eq c)

/-- The masks held at the share left after `n` halvings. -/
abbrev tailP (n : ℕ) : sProp 𝕄 := ((c : Thread nD τ).loc main_arg1) ↦[Finset.univ]{tailS n} W0
theorem tail_split (n : ℕ) : tailP (F := F) c W0 n ⊣⊢ iprop((((c : Thread nD τ).loc main_arg1) ↦[Finset.univ]{copyS n} W0) ∗ tailP c W0 (n + 1)) :=
  pointsTo_share (PosShare.mem_left_op_right (tailS n))
theorem masks_split : tailP (F := F) c W0 0 ⊣⊢ iprop(copiesP c W0 0 ∗ copiesP c W0 1 ∗ tailP c W0 16) := by
  constructor
  · iintro R0
    ihave G0 := (tail_split c W0 0).1 $$ R0
    icases G0 with ⟨H0, R1⟩
    ihave G1 := (tail_split c W0 1).1 $$ R1
    icases G1 with ⟨H1, R2⟩
    ihave G2 := (tail_split c W0 2).1 $$ R2
    icases G2 with ⟨H2, R3⟩
    ihave G3 := (tail_split c W0 3).1 $$ R3
    icases G3 with ⟨H3, R4⟩
    ihave G4 := (tail_split c W0 4).1 $$ R4
    icases G4 with ⟨H4, R5⟩
    ihave G5 := (tail_split c W0 5).1 $$ R5
    icases G5 with ⟨H5, R6⟩
    ihave G6 := (tail_split c W0 6).1 $$ R6
    icases G6 with ⟨H6, R7⟩
    ihave G7 := (tail_split c W0 7).1 $$ R7
    icases G7 with ⟨H7, R8⟩
    ihave G8 := (tail_split c W0 8).1 $$ R8
    icases G8 with ⟨H8, R9⟩
    ihave G9 := (tail_split c W0 9).1 $$ R9
    icases G9 with ⟨H9, R10⟩
    ihave G10 := (tail_split c W0 10).1 $$ R10
    icases G10 with ⟨H10, R11⟩
    ihave G11 := (tail_split c W0 11).1 $$ R11
    icases G11 with ⟨H11, R12⟩
    ihave G12 := (tail_split c W0 12).1 $$ R12
    icases G12 with ⟨H12, R13⟩
    ihave G13 := (tail_split c W0 13).1 $$ R13
    icases G13 with ⟨H13, R14⟩
    ihave G14 := (tail_split c W0 14).1 $$ R14
    icases G14 with ⟨H14, R15⟩
    ihave G15 := (tail_split c W0 15).1 $$ R15
    icases G15 with ⟨H15, R16⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14 H15]
    · isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact R16
  · iintro ⟨⟨H0, H1, H2, H3, H4, H5, H6, H7⟩, ⟨H8, H9, H10, H11, H12, H13, H14, H15⟩, R16⟩
    iapply (tail_split c W0 0).2
    isplitl [H0]; · iexact H0
    iapply (tail_split c W0 1).2
    isplitl [H1]; · iexact H1
    iapply (tail_split c W0 2).2
    isplitl [H2]; · iexact H2
    iapply (tail_split c W0 3).2
    isplitl [H3]; · iexact H3
    iapply (tail_split c W0 4).2
    isplitl [H4]; · iexact H4
    iapply (tail_split c W0 5).2
    isplitl [H5]; · iexact H5
    iapply (tail_split c W0 6).2
    isplitl [H6]; · iexact H6
    iapply (tail_split c W0 7).2
    isplitl [H7]; · iexact H7
    iapply (tail_split c W0 8).2
    isplitl [H8]; · iexact H8
    iapply (tail_split c W0 9).2
    isplitl [H9]; · iexact H9
    iapply (tail_split c W0 10).2
    isplitl [H10]; · iexact H10
    iapply (tail_split c W0 11).2
    isplitl [H11]; · iexact H11
    iapply (tail_split c W0 12).2
    isplitl [H12]; · iexact H12
    iapply (tail_split c W0 13).2
    isplitl [H13]; · iexact H13
    iapply (tail_split c W0 14).2
    isplitl [H14]; · iexact H14
    iapply (tail_split c W0 15).2
    isplitl [H15]; · iexact H15
    iexact R16

omit [FloatOps F] in
theorem cellP_0 : cellP (F := F) c 0 = semVal ((c : Thread nD τ), SemLoc.dma 9) 0 := congrArg (fun x => (semVal ((c : Thread nD τ), x) 0 : sProp 𝕄)) cellL_0
omit [FloatOps F] in
theorem cellP_1 : cellP (F := F) c 1 = semVal ((c : Thread nD τ), SemLoc.dma 10) 0 := congrArg (fun x => (semVal ((c : Thread nD τ), x) 0 : sProp 𝕄)) cellL_1

/-- The launch's scratch, cells and masks are the slots before the first step, beside what no step uses. -/
theorem held_in :
    iprop((∃ d, owns (c : Thread nD τ) scrM fullShare d) ∗ (semVal ((c : Thread nD τ), SemLoc.dma 9) 0 ∗ semVal ((c : Thread nD τ), SemLoc.dma 10) 0) ∗ tailP c W0 0)
      ⊢ iprop(held (F := F) c W0 0 ∗ spareP c ∗ tailP c W0 16) := by
  unfold held; rw [if_pos rfl]
  simp only [← cellP_0, ← cellP_1]
  iintro ⟨HS, ⟨H0, H1⟩, HR⟩
  ihave HS' := (scratch_split (F := F) c) $$ HS
  icases HS' with ⟨⟨HS0, HS1⟩, HSp⟩
  ihave HR' := (masks_split (F := F) c W0).1 $$ HR
  icases HR' with ⟨HW0, HW1, HT⟩
  isplitl [H0 HS0 HW0 H1 HS1 HW1]
  · isplitl [H0 HS0 HW0]
    · isplitl [H0]; · iexact H0
      isplitl [HS0]; · iexact HS0
      iexact HW0
    · isplitl [H1]; · iexact H1
      isplitl [HS1]; · iexact HS1
      iexact HW1
  isplitl [HSp]; · iexact HSp
  iexact HT
/-- And back after the last step. -/
theorem held_out :
    iprop(held (F := F) c W0 16 ∗ spareP c ∗ tailP c W0 16)
      ⊢ iprop((∃ d, owns (c : Thread nD τ) scrM fullShare d) ∗ (semVal ((c : Thread nD τ), SemLoc.dma 9) 0 ∗ semVal ((c : Thread nD τ), SemLoc.dma 10) 0) ∗ tailP c W0 0) := by
  unfold held; rw [if_neg (by decide), if_neg (by decide)]
  rw [show slotOf ((16 - 1) / 2) = 1 from rfl, show slotOf ((16 - 1) / 2 + 1) = 0 from rfl]
  simp only [← cellP_0, ← cellP_1]
  iintro ⟨⟨HK, ⟨H0, HS0, HW0⟩⟩, HSp, HT⟩
  ihave HK' := (kept_free (F := F) c W0 1 _) $$ HK
  icases HK' with ⟨H1, HS1, HW1⟩
  isplitl [HS0 HS1 HSp]
  · iapply (scratch_join (F := F) c)
    isplitl [HS0 HS1]
    · isplitl [HS0]; · iexact HS0
      iexact HS1
    iexact HSp
  isplitl [H0 H1]
  · isplitl [H0]; · iexact H0
    iexact H1
  iapply (masks_split (F := F) c W0).2
  isplitl [HW0]; · iexact HW0
  isplitl [HW1]; · iexact HW1
  iexact HT
end Launch

/-! ## The body's slices at grid point `t` -/

section Slices
omit [FloatOps F]
set_option synthInstance.maxSize 4096
theorem off1 : ∀ t : Fin grid0.N, k0_cond1 (grid0.coords t) = 1#1 → k0_cond2 (grid0.coords t) = 1#1 → k0_off1 (grid0.coords t) = ![(slotOf (t.val / 2)).val] := by decide +kernel
@[sl_canon] theorem canon1 (t : Fin grid0.N) (h1 : k0_cond1 (grid0.coords t) = 1#1) (h2 : k0_cond2 (grid0.coords t) = 1#1) :
    (cc0_scratch1.slice (Rect.unit (s := S2) (k0_off1 (grid0.coords t)) S1.size (k0_off1_inb (grid0.coords t) h1 h2))).squeeze S_ squeezes_S1_S_ = cellM (slotOf (t.val / 2)) :=
  congrArg (fun A : DmaSems sig S1 => A.squeeze S_ squeezes_S1_S_) (SemArray.slice_unit_congr _ (off1 t h1 h2) _ _)
@[sl_canon] theorem canon1' (t : Fin grid0.N) (h1 : k0_cond1 (grid0.coords t) = 1#1) (h2 : k0_cond2 (grid0.coords t) = 1#1) :
    (cc0_scratch1.slice (Rect.unit (s := S2) (k0_off1 (grid0.coords t)) ![1] (k0_off1_inb (grid0.coords t) h1 h2))).squeeze S_ squeezes_S1_S_ = cellM (slotOf (t.val / 2)) :=
  canon1 t h1 h2
theorem off2 : ∀ t : Fin grid0.N, k0_cond1 (grid0.coords t) = 1#1 → k0_cond2 (grid0.coords t) = 1#1 → k0_off2 (grid0.coords t) = ![(slotOf (t.val / 2)).val, 0, 0, 0] := by decide +kernel
@[sl_canon] theorem canon2 (t : Fin grid0.N) (h1 : k0_cond1 (grid0.coords t) = 1#1) (h2 : k0_cond2 (grid0.coords t) = 1#1) :
    (scrM.slice (Rect.unit (s := S2x8x128x1024) (k0_off2 (grid0.coords t)) S1x1x128x1024.size (k0_off2_inb (grid0.coords t) h1 h2)) (fun _ => rfl)).squeeze S128x1024 squeezes_S1x1x128x1024_S128x1024 = part (slotOf (t.val / 2)) 0 :=
  congrArg (fun M : Memref sig .tc .vmem S1x1x128x1024 .f32 => M.squeeze S128x1024 squeezes_S1x1x128x1024_S128x1024) (Memref.slice_unit_congr _ (off2 t h1 h2) _ _ (fun _ => rfl) (fun _ => rfl))
@[sl_canon] theorem canon2' (t : Fin grid0.N) (h1 : k0_cond1 (grid0.coords t) = 1#1) (h2 : k0_cond2 (grid0.coords t) = 1#1) :
    (scrM.slice (Rect.unit (s := S2x8x128x1024) (k0_off2 (grid0.coords t)) ![1, 1, 128, 1024] (k0_off2_inb (grid0.coords t) h1 h2)) (fun _ => rfl)).squeeze S128x1024 squeezes_S1x1x128x1024_S128x1024 = part (slotOf (t.val / 2)) 0 :=
  canon2 t h1 h2
theorem off3 : ∀ t : Fin grid0.N, k0_cond1 (grid0.coords t) = 1#1 → k0_cond2 (grid0.coords t) = 1#1 → k0_off3 (grid0.coords t) = ![128 * (blkOf (t.val / 2)).val, 0, 0] := by decide +kernel
@[sl_canon] theorem canon3 (t : Fin grid0.N) (h1 : k0_cond1 (grid0.coords t) = 1#1) (h2 : k0_cond2 (grid0.coords t) = 1#1) :
    (mskM.slice (Rect.unit (s := S1024x8x1024) (k0_off3 (grid0.coords t)) S128x1x1024.size (k0_off3_inb (grid0.coords t) h1 h2)) (fun _ => rfl)).squeeze S128x1024 squeezes_S128x1x1024_S128x1024 = srcOf (blkOf (t.val / 2)) 0 :=
  congrArg (fun M : Memref sig .tc .hbm S128x1x1024 .f32 => M.squeeze S128x1024 squeezes_S128x1x1024_S128x1024) (Memref.slice_unit_congr _ (off3 t h1 h2) _ _ (fun _ => rfl) (fun _ => rfl))
@[sl_canon] theorem canon3' (t : Fin grid0.N) (h1 : k0_cond1 (grid0.coords t) = 1#1) (h2 : k0_cond2 (grid0.coords t) = 1#1) :
    (mskM.slice (Rect.unit (s := S1024x8x1024) (k0_off3 (grid0.coords t)) ![128, 1, 1024] (k0_off3_inb (grid0.coords t) h1 h2)) (fun _ => rfl)).squeeze S128x1024 squeezes_S128x1x1024_S128x1024 = srcOf (blkOf (t.val / 2)) 0 :=
  canon3 t h1 h2
theorem off4 : ∀ t : Fin grid0.N, k0_cond1 (grid0.coords t) = 1#1 → k0_cond2 (grid0.coords t) = 1#1 → k0_off4 (grid0.coords t) = ![(slotOf (t.val / 2)).val, 1, 0, 0] := by decide +kernel
@[sl_canon] theorem canon4 (t : Fin grid0.N) (h1 : k0_cond1 (grid0.coords t) = 1#1) (h2 : k0_cond2 (grid0.coords t) = 1#1) :
    (scrM.slice (Rect.unit (s := S2x8x128x1024) (k0_off4 (grid0.coords t)) S1x1x128x1024.size (k0_off4_inb (grid0.coords t) h1 h2)) (fun _ => rfl)).squeeze S128x1024 squeezes_S1x1x128x1024_S128x1024 = part (slotOf (t.val / 2)) 1 :=
  congrArg (fun M : Memref sig .tc .vmem S1x1x128x1024 .f32 => M.squeeze S128x1024 squeezes_S1x1x128x1024_S128x1024) (Memref.slice_unit_congr _ (off4 t h1 h2) _ _ (fun _ => rfl) (fun _ => rfl))
@[sl_canon] theorem canon4' (t : Fin grid0.N) (h1 : k0_cond1 (grid0.coords t) = 1#1) (h2 : k0_cond2 (grid0.coords t) = 1#1) :
    (scrM.slice (Rect.unit (s := S2x8x128x1024) (k0_off4 (grid0.coords t)) ![1, 1, 128, 1024] (k0_off4_inb (grid0.coords t) h1 h2)) (fun _ => rfl)).squeeze S128x1024 squeezes_S1x1x128x1024_S128x1024 = part (slotOf (t.val / 2)) 1 :=
  canon4 t h1 h2
theorem off5 : ∀ t : Fin grid0.N, k0_cond1 (grid0.coords t) = 1#1 → k0_cond2 (grid0.coords t) = 1#1 → k0_off5 (grid0.coords t) = ![128 * (blkOf (t.val / 2)).val, 1, 0] := by decide +kernel
@[sl_canon] theorem canon5 (t : Fin grid0.N) (h1 : k0_cond1 (grid0.coords t) = 1#1) (h2 : k0_cond2 (grid0.coords t) = 1#1) :
    (mskM.slice (Rect.unit (s := S1024x8x1024) (k0_off5 (grid0.coords t)) S128x1x1024.size (k0_off5_inb (grid0.coords t) h1 h2)) (fun _ => rfl)).squeeze S128x1024 squeezes_S128x1x1024_S128x1024 = srcOf (blkOf (t.val / 2)) 1 :=
  congrArg (fun M : Memref sig .tc .hbm S128x1x1024 .f32 => M.squeeze S128x1024 squeezes_S128x1x1024_S128x1024) (Memref.slice_unit_congr _ (off5 t h1 h2) _ _ (fun _ => rfl) (fun _ => rfl))
@[sl_canon] theorem canon5' (t : Fin grid0.N) (h1 : k0_cond1 (grid0.coords t) = 1#1) (h2 : k0_cond2 (grid0.coords t) = 1#1) :
    (mskM.slice (Rect.unit (s := S1024x8x1024) (k0_off5 (grid0.coords t)) ![128, 1, 1024] (k0_off5_inb (grid0.coords t) h1 h2)) (fun _ => rfl)).squeeze S128x1024 squeezes_S128x1x1024_S128x1024 = srcOf (blkOf (t.val / 2)) 1 :=
  canon5 t h1 h2
theorem off6 : ∀ t : Fin grid0.N, k0_cond1 (grid0.coords t) = 1#1 → k0_cond2 (grid0.coords t) = 1#1 → k0_off6 (grid0.coords t) = ![(slotOf (t.val / 2)).val, 2, 0, 0] := by decide +kernel
@[sl_canon] theorem canon6 (t : Fin grid0.N) (h1 : k0_cond1 (grid0.coords t) = 1#1) (h2 : k0_cond2 (grid0.coords t) = 1#1) :
    (scrM.slice (Rect.unit (s := S2x8x128x1024) (k0_off6 (grid0.coords t)) S1x1x128x1024.size (k0_off6_inb (grid0.coords t) h1 h2)) (fun _ => rfl)).squeeze S128x1024 squeezes_S1x1x128x1024_S128x1024 = part (slotOf (t.val / 2)) 2 :=
  congrArg (fun M : Memref sig .tc .vmem S1x1x128x1024 .f32 => M.squeeze S128x1024 squeezes_S1x1x128x1024_S128x1024) (Memref.slice_unit_congr _ (off6 t h1 h2) _ _ (fun _ => rfl) (fun _ => rfl))
@[sl_canon] theorem canon6' (t : Fin grid0.N) (h1 : k0_cond1 (grid0.coords t) = 1#1) (h2 : k0_cond2 (grid0.coords t) = 1#1) :
    (scrM.slice (Rect.unit (s := S2x8x128x1024) (k0_off6 (grid0.coords t)) ![1, 1, 128, 1024] (k0_off6_inb (grid0.coords t) h1 h2)) (fun _ => rfl)).squeeze S128x1024 squeezes_S1x1x128x1024_S128x1024 = part (slotOf (t.val / 2)) 2 :=
  canon6 t h1 h2
theorem off7 : ∀ t : Fin grid0.N, k0_cond1 (grid0.coords t) = 1#1 → k0_cond2 (grid0.coords t) = 1#1 → k0_off7 (grid0.coords t) = ![128 * (blkOf (t.val / 2)).val, 2, 0] := by decide +kernel
@[sl_canon] theorem canon7 (t : Fin grid0.N) (h1 : k0_cond1 (grid0.coords t) = 1#1) (h2 : k0_cond2 (grid0.coords t) = 1#1) :
    (mskM.slice (Rect.unit (s := S1024x8x1024) (k0_off7 (grid0.coords t)) S128x1x1024.size (k0_off7_inb (grid0.coords t) h1 h2)) (fun _ => rfl)).squeeze S128x1024 squeezes_S128x1x1024_S128x1024 = srcOf (blkOf (t.val / 2)) 2 :=
  congrArg (fun M : Memref sig .tc .hbm S128x1x1024 .f32 => M.squeeze S128x1024 squeezes_S128x1x1024_S128x1024) (Memref.slice_unit_congr _ (off7 t h1 h2) _ _ (fun _ => rfl) (fun _ => rfl))
@[sl_canon] theorem canon7' (t : Fin grid0.N) (h1 : k0_cond1 (grid0.coords t) = 1#1) (h2 : k0_cond2 (grid0.coords t) = 1#1) :
    (mskM.slice (Rect.unit (s := S1024x8x1024) (k0_off7 (grid0.coords t)) ![128, 1, 1024] (k0_off7_inb (grid0.coords t) h1 h2)) (fun _ => rfl)).squeeze S128x1024 squeezes_S128x1x1024_S128x1024 = srcOf (blkOf (t.val / 2)) 2 :=
  canon7 t h1 h2
theorem off8 : ∀ t : Fin grid0.N, k0_cond1 (grid0.coords t) = 1#1 → k0_cond2 (grid0.coords t) = 1#1 → k0_off8 (grid0.coords t) = ![(slotOf (t.val / 2)).val, 3, 0, 0] := by decide +kernel
@[sl_canon] theorem canon8 (t : Fin grid0.N) (h1 : k0_cond1 (grid0.coords t) = 1#1) (h2 : k0_cond2 (grid0.coords t) = 1#1) :
    (scrM.slice (Rect.unit (s := S2x8x128x1024) (k0_off8 (grid0.coords t)) S1x1x128x1024.size (k0_off8_inb (grid0.coords t) h1 h2)) (fun _ => rfl)).squeeze S128x1024 squeezes_S1x1x128x1024_S128x1024 = part (slotOf (t.val / 2)) 3 :=
  congrArg (fun M : Memref sig .tc .vmem S1x1x128x1024 .f32 => M.squeeze S128x1024 squeezes_S1x1x128x1024_S128x1024) (Memref.slice_unit_congr _ (off8 t h1 h2) _ _ (fun _ => rfl) (fun _ => rfl))
@[sl_canon] theorem canon8' (t : Fin grid0.N) (h1 : k0_cond1 (grid0.coords t) = 1#1) (h2 : k0_cond2 (grid0.coords t) = 1#1) :
    (scrM.slice (Rect.unit (s := S2x8x128x1024) (k0_off8 (grid0.coords t)) ![1, 1, 128, 1024] (k0_off8_inb (grid0.coords t) h1 h2)) (fun _ => rfl)).squeeze S128x1024 squeezes_S1x1x128x1024_S128x1024 = part (slotOf (t.val / 2)) 3 :=
  canon8 t h1 h2
theorem off9 : ∀ t : Fin grid0.N, k0_cond1 (grid0.coords t) = 1#1 → k0_cond2 (grid0.coords t) = 1#1 → k0_off9 (grid0.coords t) = ![128 * (blkOf (t.val / 2)).val, 3, 0] := by decide +kernel
@[sl_canon] theorem canon9 (t : Fin grid0.N) (h1 : k0_cond1 (grid0.coords t) = 1#1) (h2 : k0_cond2 (grid0.coords t) = 1#1) :
    (mskM.slice (Rect.unit (s := S1024x8x1024) (k0_off9 (grid0.coords t)) S128x1x1024.size (k0_off9_inb (grid0.coords t) h1 h2)) (fun _ => rfl)).squeeze S128x1024 squeezes_S128x1x1024_S128x1024 = srcOf (blkOf (t.val / 2)) 3 :=
  congrArg (fun M : Memref sig .tc .hbm S128x1x1024 .f32 => M.squeeze S128x1024 squeezes_S128x1x1024_S128x1024) (Memref.slice_unit_congr _ (off9 t h1 h2) _ _ (fun _ => rfl) (fun _ => rfl))
@[sl_canon] theorem canon9' (t : Fin grid0.N) (h1 : k0_cond1 (grid0.coords t) = 1#1) (h2 : k0_cond2 (grid0.coords t) = 1#1) :
    (mskM.slice (Rect.unit (s := S1024x8x1024) (k0_off9 (grid0.coords t)) ![128, 1, 1024] (k0_off9_inb (grid0.coords t) h1 h2)) (fun _ => rfl)).squeeze S128x1024 squeezes_S128x1x1024_S128x1024 = srcOf (blkOf (t.val / 2)) 3 :=
  canon9 t h1 h2
theorem off10 : ∀ t : Fin grid0.N, k0_cond1 (grid0.coords t) = 1#1 → k0_cond2 (grid0.coords t) = 1#1 → k0_off10 (grid0.coords t) = ![(slotOf (t.val / 2)).val, 4, 0, 0] := by decide +kernel
@[sl_canon] theorem canon10 (t : Fin grid0.N) (h1 : k0_cond1 (grid0.coords t) = 1#1) (h2 : k0_cond2 (grid0.coords t) = 1#1) :
    (scrM.slice (Rect.unit (s := S2x8x128x1024) (k0_off10 (grid0.coords t)) S1x1x128x1024.size (k0_off10_inb (grid0.coords t) h1 h2)) (fun _ => rfl)).squeeze S128x1024 squeezes_S1x1x128x1024_S128x1024 = part (slotOf (t.val / 2)) 4 :=
  congrArg (fun M : Memref sig .tc .vmem S1x1x128x1024 .f32 => M.squeeze S128x1024 squeezes_S1x1x128x1024_S128x1024) (Memref.slice_unit_congr _ (off10 t h1 h2) _ _ (fun _ => rfl) (fun _ => rfl))
@[sl_canon] theorem canon10' (t : Fin grid0.N) (h1 : k0_cond1 (grid0.coords t) = 1#1) (h2 : k0_cond2 (grid0.coords t) = 1#1) :
    (scrM.slice (Rect.unit (s := S2x8x128x1024) (k0_off10 (grid0.coords t)) ![1, 1, 128, 1024] (k0_off10_inb (grid0.coords t) h1 h2)) (fun _ => rfl)).squeeze S128x1024 squeezes_S1x1x128x1024_S128x1024 = part (slotOf (t.val / 2)) 4 :=
  canon10 t h1 h2
theorem off11 : ∀ t : Fin grid0.N, k0_cond1 (grid0.coords t) = 1#1 → k0_cond2 (grid0.coords t) = 1#1 → k0_off11 (grid0.coords t) = ![128 * (blkOf (t.val / 2)).val, 4, 0] := by decide +kernel
@[sl_canon] theorem canon11 (t : Fin grid0.N) (h1 : k0_cond1 (grid0.coords t) = 1#1) (h2 : k0_cond2 (grid0.coords t) = 1#1) :
    (mskM.slice (Rect.unit (s := S1024x8x1024) (k0_off11 (grid0.coords t)) S128x1x1024.size (k0_off11_inb (grid0.coords t) h1 h2)) (fun _ => rfl)).squeeze S128x1024 squeezes_S128x1x1024_S128x1024 = srcOf (blkOf (t.val / 2)) 4 :=
  congrArg (fun M : Memref sig .tc .hbm S128x1x1024 .f32 => M.squeeze S128x1024 squeezes_S128x1x1024_S128x1024) (Memref.slice_unit_congr _ (off11 t h1 h2) _ _ (fun _ => rfl) (fun _ => rfl))
@[sl_canon] theorem canon11' (t : Fin grid0.N) (h1 : k0_cond1 (grid0.coords t) = 1#1) (h2 : k0_cond2 (grid0.coords t) = 1#1) :
    (mskM.slice (Rect.unit (s := S1024x8x1024) (k0_off11 (grid0.coords t)) ![128, 1, 1024] (k0_off11_inb (grid0.coords t) h1 h2)) (fun _ => rfl)).squeeze S128x1024 squeezes_S128x1x1024_S128x1024 = srcOf (blkOf (t.val / 2)) 4 :=
  canon11 t h1 h2
theorem off12 : ∀ t : Fin grid0.N, k0_cond1 (grid0.coords t) = 1#1 → k0_cond2 (grid0.coords t) = 1#1 → k0_off12 (grid0.coords t) = ![(slotOf (t.val / 2)).val, 5, 0, 0] := by decide +kernel
@[sl_canon] theorem canon12 (t : Fin grid0.N) (h1 : k0_cond1 (grid0.coords t) = 1#1) (h2 : k0_cond2 (grid0.coords t) = 1#1) :
    (scrM.slice (Rect.unit (s := S2x8x128x1024) (k0_off12 (grid0.coords t)) S1x1x128x1024.size (k0_off12_inb (grid0.coords t) h1 h2)) (fun _ => rfl)).squeeze S128x1024 squeezes_S1x1x128x1024_S128x1024 = part (slotOf (t.val / 2)) 5 :=
  congrArg (fun M : Memref sig .tc .vmem S1x1x128x1024 .f32 => M.squeeze S128x1024 squeezes_S1x1x128x1024_S128x1024) (Memref.slice_unit_congr _ (off12 t h1 h2) _ _ (fun _ => rfl) (fun _ => rfl))
@[sl_canon] theorem canon12' (t : Fin grid0.N) (h1 : k0_cond1 (grid0.coords t) = 1#1) (h2 : k0_cond2 (grid0.coords t) = 1#1) :
    (scrM.slice (Rect.unit (s := S2x8x128x1024) (k0_off12 (grid0.coords t)) ![1, 1, 128, 1024] (k0_off12_inb (grid0.coords t) h1 h2)) (fun _ => rfl)).squeeze S128x1024 squeezes_S1x1x128x1024_S128x1024 = part (slotOf (t.val / 2)) 5 :=
  canon12 t h1 h2
theorem off13 : ∀ t : Fin grid0.N, k0_cond1 (grid0.coords t) = 1#1 → k0_cond2 (grid0.coords t) = 1#1 → k0_off13 (grid0.coords t) = ![128 * (blkOf (t.val / 2)).val, 5, 0] := by decide +kernel
@[sl_canon] theorem canon13 (t : Fin grid0.N) (h1 : k0_cond1 (grid0.coords t) = 1#1) (h2 : k0_cond2 (grid0.coords t) = 1#1) :
    (mskM.slice (Rect.unit (s := S1024x8x1024) (k0_off13 (grid0.coords t)) S128x1x1024.size (k0_off13_inb (grid0.coords t) h1 h2)) (fun _ => rfl)).squeeze S128x1024 squeezes_S128x1x1024_S128x1024 = srcOf (blkOf (t.val / 2)) 5 :=
  congrArg (fun M : Memref sig .tc .hbm S128x1x1024 .f32 => M.squeeze S128x1024 squeezes_S128x1x1024_S128x1024) (Memref.slice_unit_congr _ (off13 t h1 h2) _ _ (fun _ => rfl) (fun _ => rfl))
@[sl_canon] theorem canon13' (t : Fin grid0.N) (h1 : k0_cond1 (grid0.coords t) = 1#1) (h2 : k0_cond2 (grid0.coords t) = 1#1) :
    (mskM.slice (Rect.unit (s := S1024x8x1024) (k0_off13 (grid0.coords t)) ![128, 1, 1024] (k0_off13_inb (grid0.coords t) h1 h2)) (fun _ => rfl)).squeeze S128x1024 squeezes_S128x1x1024_S128x1024 = srcOf (blkOf (t.val / 2)) 5 :=
  canon13 t h1 h2
theorem off14 : ∀ t : Fin grid0.N, k0_cond1 (grid0.coords t) = 1#1 → k0_cond2 (grid0.coords t) = 1#1 → k0_off14 (grid0.coords t) = ![(slotOf (t.val / 2)).val, 6, 0, 0] := by decide +kernel
@[sl_canon] theorem canon14 (t : Fin grid0.N) (h1 : k0_cond1 (grid0.coords t) = 1#1) (h2 : k0_cond2 (grid0.coords t) = 1#1) :
    (scrM.slice (Rect.unit (s := S2x8x128x1024) (k0_off14 (grid0.coords t)) S1x1x128x1024.size (k0_off14_inb (grid0.coords t) h1 h2)) (fun _ => rfl)).squeeze S128x1024 squeezes_S1x1x128x1024_S128x1024 = part (slotOf (t.val / 2)) 6 :=
  congrArg (fun M : Memref sig .tc .vmem S1x1x128x1024 .f32 => M.squeeze S128x1024 squeezes_S1x1x128x1024_S128x1024) (Memref.slice_unit_congr _ (off14 t h1 h2) _ _ (fun _ => rfl) (fun _ => rfl))
@[sl_canon] theorem canon14' (t : Fin grid0.N) (h1 : k0_cond1 (grid0.coords t) = 1#1) (h2 : k0_cond2 (grid0.coords t) = 1#1) :
    (scrM.slice (Rect.unit (s := S2x8x128x1024) (k0_off14 (grid0.coords t)) ![1, 1, 128, 1024] (k0_off14_inb (grid0.coords t) h1 h2)) (fun _ => rfl)).squeeze S128x1024 squeezes_S1x1x128x1024_S128x1024 = part (slotOf (t.val / 2)) 6 :=
  canon14 t h1 h2
theorem off15 : ∀ t : Fin grid0.N, k0_cond1 (grid0.coords t) = 1#1 → k0_cond2 (grid0.coords t) = 1#1 → k0_off15 (grid0.coords t) = ![128 * (blkOf (t.val / 2)).val, 6, 0] := by decide +kernel
@[sl_canon] theorem canon15 (t : Fin grid0.N) (h1 : k0_cond1 (grid0.coords t) = 1#1) (h2 : k0_cond2 (grid0.coords t) = 1#1) :
    (mskM.slice (Rect.unit (s := S1024x8x1024) (k0_off15 (grid0.coords t)) S128x1x1024.size (k0_off15_inb (grid0.coords t) h1 h2)) (fun _ => rfl)).squeeze S128x1024 squeezes_S128x1x1024_S128x1024 = srcOf (blkOf (t.val / 2)) 6 :=
  congrArg (fun M : Memref sig .tc .hbm S128x1x1024 .f32 => M.squeeze S128x1024 squeezes_S128x1x1024_S128x1024) (Memref.slice_unit_congr _ (off15 t h1 h2) _ _ (fun _ => rfl) (fun _ => rfl))
@[sl_canon] theorem canon15' (t : Fin grid0.N) (h1 : k0_cond1 (grid0.coords t) = 1#1) (h2 : k0_cond2 (grid0.coords t) = 1#1) :
    (mskM.slice (Rect.unit (s := S1024x8x1024) (k0_off15 (grid0.coords t)) ![128, 1, 1024] (k0_off15_inb (grid0.coords t) h1 h2)) (fun _ => rfl)).squeeze S128x1024 squeezes_S128x1x1024_S128x1024 = srcOf (blkOf (t.val / 2)) 6 :=
  canon15 t h1 h2
theorem off16 : ∀ t : Fin grid0.N, k0_cond1 (grid0.coords t) = 1#1 → k0_cond2 (grid0.coords t) = 1#1 → k0_off16 (grid0.coords t) = ![(slotOf (t.val / 2)).val, 7, 0, 0] := by decide +kernel
@[sl_canon] theorem canon16 (t : Fin grid0.N) (h1 : k0_cond1 (grid0.coords t) = 1#1) (h2 : k0_cond2 (grid0.coords t) = 1#1) :
    (scrM.slice (Rect.unit (s := S2x8x128x1024) (k0_off16 (grid0.coords t)) S1x1x128x1024.size (k0_off16_inb (grid0.coords t) h1 h2)) (fun _ => rfl)).squeeze S128x1024 squeezes_S1x1x128x1024_S128x1024 = part (slotOf (t.val / 2)) 7 :=
  congrArg (fun M : Memref sig .tc .vmem S1x1x128x1024 .f32 => M.squeeze S128x1024 squeezes_S1x1x128x1024_S128x1024) (Memref.slice_unit_congr _ (off16 t h1 h2) _ _ (fun _ => rfl) (fun _ => rfl))
@[sl_canon] theorem canon16' (t : Fin grid0.N) (h1 : k0_cond1 (grid0.coords t) = 1#1) (h2 : k0_cond2 (grid0.coords t) = 1#1) :
    (scrM.slice (Rect.unit (s := S2x8x128x1024) (k0_off16 (grid0.coords t)) ![1, 1, 128, 1024] (k0_off16_inb (grid0.coords t) h1 h2)) (fun _ => rfl)).squeeze S128x1024 squeezes_S1x1x128x1024_S128x1024 = part (slotOf (t.val / 2)) 7 :=
  canon16 t h1 h2
theorem off17 : ∀ t : Fin grid0.N, k0_cond1 (grid0.coords t) = 1#1 → k0_cond2 (grid0.coords t) = 1#1 → k0_off17 (grid0.coords t) = ![128 * (blkOf (t.val / 2)).val, 7, 0] := by decide +kernel
@[sl_canon] theorem canon17 (t : Fin grid0.N) (h1 : k0_cond1 (grid0.coords t) = 1#1) (h2 : k0_cond2 (grid0.coords t) = 1#1) :
    (mskM.slice (Rect.unit (s := S1024x8x1024) (k0_off17 (grid0.coords t)) S128x1x1024.size (k0_off17_inb (grid0.coords t) h1 h2)) (fun _ => rfl)).squeeze S128x1024 squeezes_S128x1x1024_S128x1024 = srcOf (blkOf (t.val / 2)) 7 :=
  congrArg (fun M : Memref sig .tc .hbm S128x1x1024 .f32 => M.squeeze S128x1024 squeezes_S128x1x1024_S128x1024) (Memref.slice_unit_congr _ (off17 t h1 h2) _ _ (fun _ => rfl) (fun _ => rfl))
@[sl_canon] theorem canon17' (t : Fin grid0.N) (h1 : k0_cond1 (grid0.coords t) = 1#1) (h2 : k0_cond2 (grid0.coords t) = 1#1) :
    (mskM.slice (Rect.unit (s := S1024x8x1024) (k0_off17 (grid0.coords t)) ![128, 1, 1024] (k0_off17_inb (grid0.coords t) h1 h2)) (fun _ => rfl)).squeeze S128x1024 squeezes_S128x1x1024_S128x1024 = srcOf (blkOf (t.val / 2)) 7 :=
  canon17 t h1 h2
theorem off18 : ∀ t : Fin grid0.N, k0_cond1 (grid0.coords t) = 1#1 → k0_off18 (grid0.coords t) = ![(slotOf (t.val / 2)).val] := by decide +kernel
@[sl_canon] theorem canon18 (t : Fin grid0.N) (h1 : k0_cond1 (grid0.coords t) = 1#1) :
    (cc0_scratch1.slice (Rect.unit (s := S2) (k0_off18 (grid0.coords t)) S1.size (k0_off18_inb (grid0.coords t) h1))).squeeze S_ squeezes_S1_S_ = cellM (slotOf (t.val / 2)) :=
  congrArg (fun A : DmaSems sig S1 => A.squeeze S_ squeezes_S1_S_) (SemArray.slice_unit_congr _ (off18 t h1) _ _)
@[sl_canon] theorem canon18' (t : Fin grid0.N) (h1 : k0_cond1 (grid0.coords t) = 1#1) :
    (cc0_scratch1.slice (Rect.unit (s := S2) (k0_off18 (grid0.coords t)) ![1] (k0_off18_inb (grid0.coords t) h1))).squeeze S_ squeezes_S1_S_ = cellM (slotOf (t.val / 2)) :=
  canon18 t h1
theorem off19 : ∀ t : Fin grid0.N, k0_cond1 (grid0.coords t) = 1#1 → k0_off19 (grid0.coords t) = ![(slotOf (t.val / 2)).val, 0, 0, 0] := by decide +kernel
@[sl_canon] theorem canon19 (t : Fin grid0.N) (h1 : k0_cond1 (grid0.coords t) = 1#1) :
    (scrM.slice (Rect.unit (s := S2x8x128x1024) (k0_off19 (grid0.coords t)) S1x1x128x1024.size (k0_off19_inb (grid0.coords t) h1)) (fun _ => rfl)).squeeze S128x1024 squeezes_S1x1x128x1024_S128x1024 = part (slotOf (t.val / 2)) 0 :=
  congrArg (fun M : Memref sig .tc .vmem S1x1x128x1024 .f32 => M.squeeze S128x1024 squeezes_S1x1x128x1024_S128x1024) (Memref.slice_unit_congr _ (off19 t h1) _ _ (fun _ => rfl) (fun _ => rfl))
@[sl_canon] theorem canon19' (t : Fin grid0.N) (h1 : k0_cond1 (grid0.coords t) = 1#1) :
    (scrM.slice (Rect.unit (s := S2x8x128x1024) (k0_off19 (grid0.coords t)) ![1, 1, 128, 1024] (k0_off19_inb (grid0.coords t) h1)) (fun _ => rfl)).squeeze S128x1024 squeezes_S1x1x128x1024_S128x1024 = part (slotOf (t.val / 2)) 0 :=
  canon19 t h1
theorem off20 : ∀ t : Fin grid0.N, k0_cond1 (grid0.coords t) = 1#1 → k0_off20 (grid0.coords t) = ![128 * (blkOf (t.val / 2)).val, 0, 0] := by decide +kernel
@[sl_canon] theorem canon20 (t : Fin grid0.N) (h1 : k0_cond1 (grid0.coords t) = 1#1) :
    (mskM.slice (Rect.unit (s := S1024x8x1024) (k0_off20 (grid0.coords t)) S128x1x1024.size (k0_off20_inb (grid0.coords t) h1)) (fun _ => rfl)).squeeze S128x1024 squeezes_S128x1x1024_S128x1024 = srcOf (blkOf (t.val / 2)) 0 :=
  congrArg (fun M : Memref sig .tc .hbm S128x1x1024 .f32 => M.squeeze S128x1024 squeezes_S128x1x1024_S128x1024) (Memref.slice_unit_congr _ (off20 t h1) _ _ (fun _ => rfl) (fun _ => rfl))
@[sl_canon] theorem canon20' (t : Fin grid0.N) (h1 : k0_cond1 (grid0.coords t) = 1#1) :
    (mskM.slice (Rect.unit (s := S1024x8x1024) (k0_off20 (grid0.coords t)) ![128, 1, 1024] (k0_off20_inb (grid0.coords t) h1)) (fun _ => rfl)).squeeze S128x1024 squeezes_S128x1x1024_S128x1024 = srcOf (blkOf (t.val / 2)) 0 :=
  canon20 t h1
theorem off21 : ∀ t : Fin grid0.N, k0_cond1 (grid0.coords t) = 1#1 → k0_off21 (grid0.coords t) = ![(slotOf (t.val / 2)).val, 1, 0, 0] := by decide +kernel
@[sl_canon] theorem canon21 (t : Fin grid0.N) (h1 : k0_cond1 (grid0.coords t) = 1#1) :
    (scrM.slice (Rect.unit (s := S2x8x128x1024) (k0_off21 (grid0.coords t)) S1x1x128x1024.size (k0_off21_inb (grid0.coords t) h1)) (fun _ => rfl)).squeeze S128x1024 squeezes_S1x1x128x1024_S128x1024 = part (slotOf (t.val / 2)) 1 :=
  congrArg (fun M : Memref sig .tc .vmem S1x1x128x1024 .f32 => M.squeeze S128x1024 squeezes_S1x1x128x1024_S128x1024) (Memref.slice_unit_congr _ (off21 t h1) _ _ (fun _ => rfl) (fun _ => rfl))
@[sl_canon] theorem canon21' (t : Fin grid0.N) (h1 : k0_cond1 (grid0.coords t) = 1#1) :
    (scrM.slice (Rect.unit (s := S2x8x128x1024) (k0_off21 (grid0.coords t)) ![1, 1, 128, 1024] (k0_off21_inb (grid0.coords t) h1)) (fun _ => rfl)).squeeze S128x1024 squeezes_S1x1x128x1024_S128x1024 = part (slotOf (t.val / 2)) 1 :=
  canon21 t h1
theorem off22 : ∀ t : Fin grid0.N, k0_cond1 (grid0.coords t) = 1#1 → k0_off22 (grid0.coords t) = ![128 * (blkOf (t.val / 2)).val, 1, 0] := by decide +kernel
@[sl_canon] theorem canon22 (t : Fin grid0.N) (h1 : k0_cond1 (grid0.coords t) = 1#1) :
    (mskM.slice (Rect.unit (s := S1024x8x1024) (k0_off22 (grid0.coords t)) S128x1x1024.size (k0_off22_inb (grid0.coords t) h1)) (fun _ => rfl)).squeeze S128x1024 squeezes_S128x1x1024_S128x1024 = srcOf (blkOf (t.val / 2)) 1 :=
  congrArg (fun M : Memref sig .tc .hbm S128x1x1024 .f32 => M.squeeze S128x1024 squeezes_S128x1x1024_S128x1024) (Memref.slice_unit_congr _ (off22 t h1) _ _ (fun _ => rfl) (fun _ => rfl))
@[sl_canon] theorem canon22' (t : Fin grid0.N) (h1 : k0_cond1 (grid0.coords t) = 1#1) :
    (mskM.slice (Rect.unit (s := S1024x8x1024) (k0_off22 (grid0.coords t)) ![128, 1, 1024] (k0_off22_inb (grid0.coords t) h1)) (fun _ => rfl)).squeeze S128x1024 squeezes_S128x1x1024_S128x1024 = srcOf (blkOf (t.val / 2)) 1 :=
  canon22 t h1
theorem off23 : ∀ t : Fin grid0.N, k0_cond1 (grid0.coords t) = 1#1 → k0_off23 (grid0.coords t) = ![(slotOf (t.val / 2)).val, 2, 0, 0] := by decide +kernel
@[sl_canon] theorem canon23 (t : Fin grid0.N) (h1 : k0_cond1 (grid0.coords t) = 1#1) :
    (scrM.slice (Rect.unit (s := S2x8x128x1024) (k0_off23 (grid0.coords t)) S1x1x128x1024.size (k0_off23_inb (grid0.coords t) h1)) (fun _ => rfl)).squeeze S128x1024 squeezes_S1x1x128x1024_S128x1024 = part (slotOf (t.val / 2)) 2 :=
  congrArg (fun M : Memref sig .tc .vmem S1x1x128x1024 .f32 => M.squeeze S128x1024 squeezes_S1x1x128x1024_S128x1024) (Memref.slice_unit_congr _ (off23 t h1) _ _ (fun _ => rfl) (fun _ => rfl))
@[sl_canon] theorem canon23' (t : Fin grid0.N) (h1 : k0_cond1 (grid0.coords t) = 1#1) :
    (scrM.slice (Rect.unit (s := S2x8x128x1024) (k0_off23 (grid0.coords t)) ![1, 1, 128, 1024] (k0_off23_inb (grid0.coords t) h1)) (fun _ => rfl)).squeeze S128x1024 squeezes_S1x1x128x1024_S128x1024 = part (slotOf (t.val / 2)) 2 :=
  canon23 t h1
theorem off24 : ∀ t : Fin grid0.N, k0_cond1 (grid0.coords t) = 1#1 → k0_off24 (grid0.coords t) = ![128 * (blkOf (t.val / 2)).val, 2, 0] := by decide +kernel
@[sl_canon] theorem canon24 (t : Fin grid0.N) (h1 : k0_cond1 (grid0.coords t) = 1#1) :
    (mskM.slice (Rect.unit (s := S1024x8x1024) (k0_off24 (grid0.coords t)) S128x1x1024.size (k0_off24_inb (grid0.coords t) h1)) (fun _ => rfl)).squeeze S128x1024 squeezes_S128x1x1024_S128x1024 = srcOf (blkOf (t.val / 2)) 2 :=
  congrArg (fun M : Memref sig .tc .hbm S128x1x1024 .f32 => M.squeeze S128x1024 squeezes_S128x1x1024_S128x1024) (Memref.slice_unit_congr _ (off24 t h1) _ _ (fun _ => rfl) (fun _ => rfl))
@[sl_canon] theorem canon24' (t : Fin grid0.N) (h1 : k0_cond1 (grid0.coords t) = 1#1) :
    (mskM.slice (Rect.unit (s := S1024x8x1024) (k0_off24 (grid0.coords t)) ![128, 1, 1024] (k0_off24_inb (grid0.coords t) h1)) (fun _ => rfl)).squeeze S128x1024 squeezes_S128x1x1024_S128x1024 = srcOf (blkOf (t.val / 2)) 2 :=
  canon24 t h1
theorem off25 : ∀ t : Fin grid0.N, k0_cond1 (grid0.coords t) = 1#1 → k0_off25 (grid0.coords t) = ![(slotOf (t.val / 2)).val, 3, 0, 0] := by decide +kernel
@[sl_canon] theorem canon25 (t : Fin grid0.N) (h1 : k0_cond1 (grid0.coords t) = 1#1) :
    (scrM.slice (Rect.unit (s := S2x8x128x1024) (k0_off25 (grid0.coords t)) S1x1x128x1024.size (k0_off25_inb (grid0.coords t) h1)) (fun _ => rfl)).squeeze S128x1024 squeezes_S1x1x128x1024_S128x1024 = part (slotOf (t.val / 2)) 3 :=
  congrArg (fun M : Memref sig .tc .vmem S1x1x128x1024 .f32 => M.squeeze S128x1024 squeezes_S1x1x128x1024_S128x1024) (Memref.slice_unit_congr _ (off25 t h1) _ _ (fun _ => rfl) (fun _ => rfl))
@[sl_canon] theorem canon25' (t : Fin grid0.N) (h1 : k0_cond1 (grid0.coords t) = 1#1) :
    (scrM.slice (Rect.unit (s := S2x8x128x1024) (k0_off25 (grid0.coords t)) ![1, 1, 128, 1024] (k0_off25_inb (grid0.coords t) h1)) (fun _ => rfl)).squeeze S128x1024 squeezes_S1x1x128x1024_S128x1024 = part (slotOf (t.val / 2)) 3 :=
  canon25 t h1
theorem off26 : ∀ t : Fin grid0.N, k0_cond1 (grid0.coords t) = 1#1 → k0_off26 (grid0.coords t) = ![128 * (blkOf (t.val / 2)).val, 3, 0] := by decide +kernel
@[sl_canon] theorem canon26 (t : Fin grid0.N) (h1 : k0_cond1 (grid0.coords t) = 1#1) :
    (mskM.slice (Rect.unit (s := S1024x8x1024) (k0_off26 (grid0.coords t)) S128x1x1024.size (k0_off26_inb (grid0.coords t) h1)) (fun _ => rfl)).squeeze S128x1024 squeezes_S128x1x1024_S128x1024 = srcOf (blkOf (t.val / 2)) 3 :=
  congrArg (fun M : Memref sig .tc .hbm S128x1x1024 .f32 => M.squeeze S128x1024 squeezes_S128x1x1024_S128x1024) (Memref.slice_unit_congr _ (off26 t h1) _ _ (fun _ => rfl) (fun _ => rfl))
@[sl_canon] theorem canon26' (t : Fin grid0.N) (h1 : k0_cond1 (grid0.coords t) = 1#1) :
    (mskM.slice (Rect.unit (s := S1024x8x1024) (k0_off26 (grid0.coords t)) ![128, 1, 1024] (k0_off26_inb (grid0.coords t) h1)) (fun _ => rfl)).squeeze S128x1024 squeezes_S128x1x1024_S128x1024 = srcOf (blkOf (t.val / 2)) 3 :=
  canon26 t h1
theorem off27 : ∀ t : Fin grid0.N, k0_cond1 (grid0.coords t) = 1#1 → k0_off27 (grid0.coords t) = ![(slotOf (t.val / 2)).val, 4, 0, 0] := by decide +kernel
@[sl_canon] theorem canon27 (t : Fin grid0.N) (h1 : k0_cond1 (grid0.coords t) = 1#1) :
    (scrM.slice (Rect.unit (s := S2x8x128x1024) (k0_off27 (grid0.coords t)) S1x1x128x1024.size (k0_off27_inb (grid0.coords t) h1)) (fun _ => rfl)).squeeze S128x1024 squeezes_S1x1x128x1024_S128x1024 = part (slotOf (t.val / 2)) 4 :=
  congrArg (fun M : Memref sig .tc .vmem S1x1x128x1024 .f32 => M.squeeze S128x1024 squeezes_S1x1x128x1024_S128x1024) (Memref.slice_unit_congr _ (off27 t h1) _ _ (fun _ => rfl) (fun _ => rfl))
@[sl_canon] theorem canon27' (t : Fin grid0.N) (h1 : k0_cond1 (grid0.coords t) = 1#1) :
    (scrM.slice (Rect.unit (s := S2x8x128x1024) (k0_off27 (grid0.coords t)) ![1, 1, 128, 1024] (k0_off27_inb (grid0.coords t) h1)) (fun _ => rfl)).squeeze S128x1024 squeezes_S1x1x128x1024_S128x1024 = part (slotOf (t.val / 2)) 4 :=
  canon27 t h1
theorem off28 : ∀ t : Fin grid0.N, k0_cond1 (grid0.coords t) = 1#1 → k0_off28 (grid0.coords t) = ![128 * (blkOf (t.val / 2)).val, 4, 0] := by decide +kernel
@[sl_canon] theorem canon28 (t : Fin grid0.N) (h1 : k0_cond1 (grid0.coords t) = 1#1) :
    (mskM.slice (Rect.unit (s := S1024x8x1024) (k0_off28 (grid0.coords t)) S128x1x1024.size (k0_off28_inb (grid0.coords t) h1)) (fun _ => rfl)).squeeze S128x1024 squeezes_S128x1x1024_S128x1024 = srcOf (blkOf (t.val / 2)) 4 :=
  congrArg (fun M : Memref sig .tc .hbm S128x1x1024 .f32 => M.squeeze S128x1024 squeezes_S128x1x1024_S128x1024) (Memref.slice_unit_congr _ (off28 t h1) _ _ (fun _ => rfl) (fun _ => rfl))
@[sl_canon] theorem canon28' (t : Fin grid0.N) (h1 : k0_cond1 (grid0.coords t) = 1#1) :
    (mskM.slice (Rect.unit (s := S1024x8x1024) (k0_off28 (grid0.coords t)) ![128, 1, 1024] (k0_off28_inb (grid0.coords t) h1)) (fun _ => rfl)).squeeze S128x1024 squeezes_S128x1x1024_S128x1024 = srcOf (blkOf (t.val / 2)) 4 :=
  canon28 t h1
theorem off29 : ∀ t : Fin grid0.N, k0_cond1 (grid0.coords t) = 1#1 → k0_off29 (grid0.coords t) = ![(slotOf (t.val / 2)).val, 5, 0, 0] := by decide +kernel
@[sl_canon] theorem canon29 (t : Fin grid0.N) (h1 : k0_cond1 (grid0.coords t) = 1#1) :
    (scrM.slice (Rect.unit (s := S2x8x128x1024) (k0_off29 (grid0.coords t)) S1x1x128x1024.size (k0_off29_inb (grid0.coords t) h1)) (fun _ => rfl)).squeeze S128x1024 squeezes_S1x1x128x1024_S128x1024 = part (slotOf (t.val / 2)) 5 :=
  congrArg (fun M : Memref sig .tc .vmem S1x1x128x1024 .f32 => M.squeeze S128x1024 squeezes_S1x1x128x1024_S128x1024) (Memref.slice_unit_congr _ (off29 t h1) _ _ (fun _ => rfl) (fun _ => rfl))
@[sl_canon] theorem canon29' (t : Fin grid0.N) (h1 : k0_cond1 (grid0.coords t) = 1#1) :
    (scrM.slice (Rect.unit (s := S2x8x128x1024) (k0_off29 (grid0.coords t)) ![1, 1, 128, 1024] (k0_off29_inb (grid0.coords t) h1)) (fun _ => rfl)).squeeze S128x1024 squeezes_S1x1x128x1024_S128x1024 = part (slotOf (t.val / 2)) 5 :=
  canon29 t h1
theorem off30 : ∀ t : Fin grid0.N, k0_cond1 (grid0.coords t) = 1#1 → k0_off30 (grid0.coords t) = ![128 * (blkOf (t.val / 2)).val, 5, 0] := by decide +kernel
@[sl_canon] theorem canon30 (t : Fin grid0.N) (h1 : k0_cond1 (grid0.coords t) = 1#1) :
    (mskM.slice (Rect.unit (s := S1024x8x1024) (k0_off30 (grid0.coords t)) S128x1x1024.size (k0_off30_inb (grid0.coords t) h1)) (fun _ => rfl)).squeeze S128x1024 squeezes_S128x1x1024_S128x1024 = srcOf (blkOf (t.val / 2)) 5 :=
  congrArg (fun M : Memref sig .tc .hbm S128x1x1024 .f32 => M.squeeze S128x1024 squeezes_S128x1x1024_S128x1024) (Memref.slice_unit_congr _ (off30 t h1) _ _ (fun _ => rfl) (fun _ => rfl))
@[sl_canon] theorem canon30' (t : Fin grid0.N) (h1 : k0_cond1 (grid0.coords t) = 1#1) :
    (mskM.slice (Rect.unit (s := S1024x8x1024) (k0_off30 (grid0.coords t)) ![128, 1, 1024] (k0_off30_inb (grid0.coords t) h1)) (fun _ => rfl)).squeeze S128x1024 squeezes_S128x1x1024_S128x1024 = srcOf (blkOf (t.val / 2)) 5 :=
  canon30 t h1
theorem off31 : ∀ t : Fin grid0.N, k0_cond1 (grid0.coords t) = 1#1 → k0_off31 (grid0.coords t) = ![(slotOf (t.val / 2)).val, 6, 0, 0] := by decide +kernel
@[sl_canon] theorem canon31 (t : Fin grid0.N) (h1 : k0_cond1 (grid0.coords t) = 1#1) :
    (scrM.slice (Rect.unit (s := S2x8x128x1024) (k0_off31 (grid0.coords t)) S1x1x128x1024.size (k0_off31_inb (grid0.coords t) h1)) (fun _ => rfl)).squeeze S128x1024 squeezes_S1x1x128x1024_S128x1024 = part (slotOf (t.val / 2)) 6 :=
  congrArg (fun M : Memref sig .tc .vmem S1x1x128x1024 .f32 => M.squeeze S128x1024 squeezes_S1x1x128x1024_S128x1024) (Memref.slice_unit_congr _ (off31 t h1) _ _ (fun _ => rfl) (fun _ => rfl))
@[sl_canon] theorem canon31' (t : Fin grid0.N) (h1 : k0_cond1 (grid0.coords t) = 1#1) :
    (scrM.slice (Rect.unit (s := S2x8x128x1024) (k0_off31 (grid0.coords t)) ![1, 1, 128, 1024] (k0_off31_inb (grid0.coords t) h1)) (fun _ => rfl)).squeeze S128x1024 squeezes_S1x1x128x1024_S128x1024 = part (slotOf (t.val / 2)) 6 :=
  canon31 t h1
theorem off32 : ∀ t : Fin grid0.N, k0_cond1 (grid0.coords t) = 1#1 → k0_off32 (grid0.coords t) = ![128 * (blkOf (t.val / 2)).val, 6, 0] := by decide +kernel
@[sl_canon] theorem canon32 (t : Fin grid0.N) (h1 : k0_cond1 (grid0.coords t) = 1#1) :
    (mskM.slice (Rect.unit (s := S1024x8x1024) (k0_off32 (grid0.coords t)) S128x1x1024.size (k0_off32_inb (grid0.coords t) h1)) (fun _ => rfl)).squeeze S128x1024 squeezes_S128x1x1024_S128x1024 = srcOf (blkOf (t.val / 2)) 6 :=
  congrArg (fun M : Memref sig .tc .hbm S128x1x1024 .f32 => M.squeeze S128x1024 squeezes_S128x1x1024_S128x1024) (Memref.slice_unit_congr _ (off32 t h1) _ _ (fun _ => rfl) (fun _ => rfl))
@[sl_canon] theorem canon32' (t : Fin grid0.N) (h1 : k0_cond1 (grid0.coords t) = 1#1) :
    (mskM.slice (Rect.unit (s := S1024x8x1024) (k0_off32 (grid0.coords t)) ![128, 1, 1024] (k0_off32_inb (grid0.coords t) h1)) (fun _ => rfl)).squeeze S128x1024 squeezes_S128x1x1024_S128x1024 = srcOf (blkOf (t.val / 2)) 6 :=
  canon32 t h1
theorem off33 : ∀ t : Fin grid0.N, k0_cond1 (grid0.coords t) = 1#1 → k0_off33 (grid0.coords t) = ![(slotOf (t.val / 2)).val, 7, 0, 0] := by decide +kernel
@[sl_canon] theorem canon33 (t : Fin grid0.N) (h1 : k0_cond1 (grid0.coords t) = 1#1) :
    (scrM.slice (Rect.unit (s := S2x8x128x1024) (k0_off33 (grid0.coords t)) S1x1x128x1024.size (k0_off33_inb (grid0.coords t) h1)) (fun _ => rfl)).squeeze S128x1024 squeezes_S1x1x128x1024_S128x1024 = part (slotOf (t.val / 2)) 7 :=
  congrArg (fun M : Memref sig .tc .vmem S1x1x128x1024 .f32 => M.squeeze S128x1024 squeezes_S1x1x128x1024_S128x1024) (Memref.slice_unit_congr _ (off33 t h1) _ _ (fun _ => rfl) (fun _ => rfl))
@[sl_canon] theorem canon33' (t : Fin grid0.N) (h1 : k0_cond1 (grid0.coords t) = 1#1) :
    (scrM.slice (Rect.unit (s := S2x8x128x1024) (k0_off33 (grid0.coords t)) ![1, 1, 128, 1024] (k0_off33_inb (grid0.coords t) h1)) (fun _ => rfl)).squeeze S128x1024 squeezes_S1x1x128x1024_S128x1024 = part (slotOf (t.val / 2)) 7 :=
  canon33 t h1
theorem off34 : ∀ t : Fin grid0.N, k0_cond1 (grid0.coords t) = 1#1 → k0_off34 (grid0.coords t) = ![128 * (blkOf (t.val / 2)).val, 7, 0] := by decide +kernel
@[sl_canon] theorem canon34 (t : Fin grid0.N) (h1 : k0_cond1 (grid0.coords t) = 1#1) :
    (mskM.slice (Rect.unit (s := S1024x8x1024) (k0_off34 (grid0.coords t)) S128x1x1024.size (k0_off34_inb (grid0.coords t) h1)) (fun _ => rfl)).squeeze S128x1024 squeezes_S128x1x1024_S128x1024 = srcOf (blkOf (t.val / 2)) 7 :=
  congrArg (fun M : Memref sig .tc .hbm S128x1x1024 .f32 => M.squeeze S128x1024 squeezes_S128x1x1024_S128x1024) (Memref.slice_unit_congr _ (off34 t h1) _ _ (fun _ => rfl) (fun _ => rfl))
@[sl_canon] theorem canon34' (t : Fin grid0.N) (h1 : k0_cond1 (grid0.coords t) = 1#1) :
    (mskM.slice (Rect.unit (s := S1024x8x1024) (k0_off34 (grid0.coords t)) ![128, 1, 1024] (k0_off34_inb (grid0.coords t) h1)) (fun _ => rfl)).squeeze S128x1024 squeezes_S128x1x1024_S128x1024 = srcOf (blkOf (t.val / 2)) 7 :=
  canon34 t h1
theorem off35 : ∀ t : Fin grid0.N, k0_cond1 (grid0.coords t) = 1#1 → k0_cond3 (grid0.coords t) = 1#1 → k0_off35 (grid0.coords t) = ![(slotOf (t.val / 2 + 1)).val] := by decide +kernel
@[sl_canon] theorem canon35 (t : Fin grid0.N) (h1 : k0_cond1 (grid0.coords t) = 1#1) (h3 : k0_cond3 (grid0.coords t) = 1#1) :
    (cc0_scratch1.slice (Rect.unit (s := S2) (k0_off35 (grid0.coords t)) S1.size (k0_off35_inb (grid0.coords t) h1 h3))).squeeze S_ squeezes_S1_S_ = cellM (slotOf (t.val / 2 + 1)) :=
  congrArg (fun A : DmaSems sig S1 => A.squeeze S_ squeezes_S1_S_) (SemArray.slice_unit_congr _ (off35 t h1 h3) _ _)
@[sl_canon] theorem canon35' (t : Fin grid0.N) (h1 : k0_cond1 (grid0.coords t) = 1#1) (h3 : k0_cond3 (grid0.coords t) = 1#1) :
    (cc0_scratch1.slice (Rect.unit (s := S2) (k0_off35 (grid0.coords t)) ![1] (k0_off35_inb (grid0.coords t) h1 h3))).squeeze S_ squeezes_S1_S_ = cellM (slotOf (t.val / 2 + 1)) :=
  canon35 t h1 h3
theorem off36 : ∀ t : Fin grid0.N, k0_cond1 (grid0.coords t) = 1#1 → k0_cond3 (grid0.coords t) = 1#1 → k0_off36 (grid0.coords t) = ![(slotOf (t.val / 2 + 1)).val, 0, 0, 0] := by decide +kernel
@[sl_canon] theorem canon36 (t : Fin grid0.N) (h1 : k0_cond1 (grid0.coords t) = 1#1) (h3 : k0_cond3 (grid0.coords t) = 1#1) :
    (scrM.slice (Rect.unit (s := S2x8x128x1024) (k0_off36 (grid0.coords t)) S1x1x128x1024.size (k0_off36_inb (grid0.coords t) h1 h3)) (fun _ => rfl)).squeeze S128x1024 squeezes_S1x1x128x1024_S128x1024 = part (slotOf (t.val / 2 + 1)) 0 :=
  congrArg (fun M : Memref sig .tc .vmem S1x1x128x1024 .f32 => M.squeeze S128x1024 squeezes_S1x1x128x1024_S128x1024) (Memref.slice_unit_congr _ (off36 t h1 h3) _ _ (fun _ => rfl) (fun _ => rfl))
@[sl_canon] theorem canon36' (t : Fin grid0.N) (h1 : k0_cond1 (grid0.coords t) = 1#1) (h3 : k0_cond3 (grid0.coords t) = 1#1) :
    (scrM.slice (Rect.unit (s := S2x8x128x1024) (k0_off36 (grid0.coords t)) ![1, 1, 128, 1024] (k0_off36_inb (grid0.coords t) h1 h3)) (fun _ => rfl)).squeeze S128x1024 squeezes_S1x1x128x1024_S128x1024 = part (slotOf (t.val / 2 + 1)) 0 :=
  canon36 t h1 h3
theorem off37 : ∀ t : Fin grid0.N, k0_cond1 (grid0.coords t) = 1#1 → k0_cond3 (grid0.coords t) = 1#1 → k0_off37 (grid0.coords t) = ![128 * (blkOf (t.val / 2 + 1)).val, 0, 0] := by decide +kernel
@[sl_canon] theorem canon37 (t : Fin grid0.N) (h1 : k0_cond1 (grid0.coords t) = 1#1) (h3 : k0_cond3 (grid0.coords t) = 1#1) :
    (mskM.slice (Rect.unit (s := S1024x8x1024) (k0_off37 (grid0.coords t)) S128x1x1024.size (k0_off37_inb (grid0.coords t) h1 h3)) (fun _ => rfl)).squeeze S128x1024 squeezes_S128x1x1024_S128x1024 = srcOf (blkOf (t.val / 2 + 1)) 0 :=
  congrArg (fun M : Memref sig .tc .hbm S128x1x1024 .f32 => M.squeeze S128x1024 squeezes_S128x1x1024_S128x1024) (Memref.slice_unit_congr _ (off37 t h1 h3) _ _ (fun _ => rfl) (fun _ => rfl))
@[sl_canon] theorem canon37' (t : Fin grid0.N) (h1 : k0_cond1 (grid0.coords t) = 1#1) (h3 : k0_cond3 (grid0.coords t) = 1#1) :
    (mskM.slice (Rect.unit (s := S1024x8x1024) (k0_off37 (grid0.coords t)) ![128, 1, 1024] (k0_off37_inb (grid0.coords t) h1 h3)) (fun _ => rfl)).squeeze S128x1024 squeezes_S128x1x1024_S128x1024 = srcOf (blkOf (t.val / 2 + 1)) 0 :=
  canon37 t h1 h3
theorem off38 : ∀ t : Fin grid0.N, k0_cond1 (grid0.coords t) = 1#1 → k0_cond3 (grid0.coords t) = 1#1 → k0_off38 (grid0.coords t) = ![(slotOf (t.val / 2 + 1)).val, 1, 0, 0] := by decide +kernel
@[sl_canon] theorem canon38 (t : Fin grid0.N) (h1 : k0_cond1 (grid0.coords t) = 1#1) (h3 : k0_cond3 (grid0.coords t) = 1#1) :
    (scrM.slice (Rect.unit (s := S2x8x128x1024) (k0_off38 (grid0.coords t)) S1x1x128x1024.size (k0_off38_inb (grid0.coords t) h1 h3)) (fun _ => rfl)).squeeze S128x1024 squeezes_S1x1x128x1024_S128x1024 = part (slotOf (t.val / 2 + 1)) 1 :=
  congrArg (fun M : Memref sig .tc .vmem S1x1x128x1024 .f32 => M.squeeze S128x1024 squeezes_S1x1x128x1024_S128x1024) (Memref.slice_unit_congr _ (off38 t h1 h3) _ _ (fun _ => rfl) (fun _ => rfl))
@[sl_canon] theorem canon38' (t : Fin grid0.N) (h1 : k0_cond1 (grid0.coords t) = 1#1) (h3 : k0_cond3 (grid0.coords t) = 1#1) :
    (scrM.slice (Rect.unit (s := S2x8x128x1024) (k0_off38 (grid0.coords t)) ![1, 1, 128, 1024] (k0_off38_inb (grid0.coords t) h1 h3)) (fun _ => rfl)).squeeze S128x1024 squeezes_S1x1x128x1024_S128x1024 = part (slotOf (t.val / 2 + 1)) 1 :=
  canon38 t h1 h3
theorem off39 : ∀ t : Fin grid0.N, k0_cond1 (grid0.coords t) = 1#1 → k0_cond3 (grid0.coords t) = 1#1 → k0_off39 (grid0.coords t) = ![128 * (blkOf (t.val / 2 + 1)).val, 1, 0] := by decide +kernel
@[sl_canon] theorem canon39 (t : Fin grid0.N) (h1 : k0_cond1 (grid0.coords t) = 1#1) (h3 : k0_cond3 (grid0.coords t) = 1#1) :
    (mskM.slice (Rect.unit (s := S1024x8x1024) (k0_off39 (grid0.coords t)) S128x1x1024.size (k0_off39_inb (grid0.coords t) h1 h3)) (fun _ => rfl)).squeeze S128x1024 squeezes_S128x1x1024_S128x1024 = srcOf (blkOf (t.val / 2 + 1)) 1 :=
  congrArg (fun M : Memref sig .tc .hbm S128x1x1024 .f32 => M.squeeze S128x1024 squeezes_S128x1x1024_S128x1024) (Memref.slice_unit_congr _ (off39 t h1 h3) _ _ (fun _ => rfl) (fun _ => rfl))
@[sl_canon] theorem canon39' (t : Fin grid0.N) (h1 : k0_cond1 (grid0.coords t) = 1#1) (h3 : k0_cond3 (grid0.coords t) = 1#1) :
    (mskM.slice (Rect.unit (s := S1024x8x1024) (k0_off39 (grid0.coords t)) ![128, 1, 1024] (k0_off39_inb (grid0.coords t) h1 h3)) (fun _ => rfl)).squeeze S128x1024 squeezes_S128x1x1024_S128x1024 = srcOf (blkOf (t.val / 2 + 1)) 1 :=
  canon39 t h1 h3
theorem off40 : ∀ t : Fin grid0.N, k0_cond1 (grid0.coords t) = 1#1 → k0_cond3 (grid0.coords t) = 1#1 → k0_off40 (grid0.coords t) = ![(slotOf (t.val / 2 + 1)).val, 2, 0, 0] := by decide +kernel
@[sl_canon] theorem canon40 (t : Fin grid0.N) (h1 : k0_cond1 (grid0.coords t) = 1#1) (h3 : k0_cond3 (grid0.coords t) = 1#1) :
    (scrM.slice (Rect.unit (s := S2x8x128x1024) (k0_off40 (grid0.coords t)) S1x1x128x1024.size (k0_off40_inb (grid0.coords t) h1 h3)) (fun _ => rfl)).squeeze S128x1024 squeezes_S1x1x128x1024_S128x1024 = part (slotOf (t.val / 2 + 1)) 2 :=
  congrArg (fun M : Memref sig .tc .vmem S1x1x128x1024 .f32 => M.squeeze S128x1024 squeezes_S1x1x128x1024_S128x1024) (Memref.slice_unit_congr _ (off40 t h1 h3) _ _ (fun _ => rfl) (fun _ => rfl))
@[sl_canon] theorem canon40' (t : Fin grid0.N) (h1 : k0_cond1 (grid0.coords t) = 1#1) (h3 : k0_cond3 (grid0.coords t) = 1#1) :
    (scrM.slice (Rect.unit (s := S2x8x128x1024) (k0_off40 (grid0.coords t)) ![1, 1, 128, 1024] (k0_off40_inb (grid0.coords t) h1 h3)) (fun _ => rfl)).squeeze S128x1024 squeezes_S1x1x128x1024_S128x1024 = part (slotOf (t.val / 2 + 1)) 2 :=
  canon40 t h1 h3
theorem off41 : ∀ t : Fin grid0.N, k0_cond1 (grid0.coords t) = 1#1 → k0_cond3 (grid0.coords t) = 1#1 → k0_off41 (grid0.coords t) = ![128 * (blkOf (t.val / 2 + 1)).val, 2, 0] := by decide +kernel
@[sl_canon] theorem canon41 (t : Fin grid0.N) (h1 : k0_cond1 (grid0.coords t) = 1#1) (h3 : k0_cond3 (grid0.coords t) = 1#1) :
    (mskM.slice (Rect.unit (s := S1024x8x1024) (k0_off41 (grid0.coords t)) S128x1x1024.size (k0_off41_inb (grid0.coords t) h1 h3)) (fun _ => rfl)).squeeze S128x1024 squeezes_S128x1x1024_S128x1024 = srcOf (blkOf (t.val / 2 + 1)) 2 :=
  congrArg (fun M : Memref sig .tc .hbm S128x1x1024 .f32 => M.squeeze S128x1024 squeezes_S128x1x1024_S128x1024) (Memref.slice_unit_congr _ (off41 t h1 h3) _ _ (fun _ => rfl) (fun _ => rfl))
@[sl_canon] theorem canon41' (t : Fin grid0.N) (h1 : k0_cond1 (grid0.coords t) = 1#1) (h3 : k0_cond3 (grid0.coords t) = 1#1) :
    (mskM.slice (Rect.unit (s := S1024x8x1024) (k0_off41 (grid0.coords t)) ![128, 1, 1024] (k0_off41_inb (grid0.coords t) h1 h3)) (fun _ => rfl)).squeeze S128x1024 squeezes_S128x1x1024_S128x1024 = srcOf (blkOf (t.val / 2 + 1)) 2 :=
  canon41 t h1 h3
theorem off42 : ∀ t : Fin grid0.N, k0_cond1 (grid0.coords t) = 1#1 → k0_cond3 (grid0.coords t) = 1#1 → k0_off42 (grid0.coords t) = ![(slotOf (t.val / 2 + 1)).val, 3, 0, 0] := by decide +kernel
@[sl_canon] theorem canon42 (t : Fin grid0.N) (h1 : k0_cond1 (grid0.coords t) = 1#1) (h3 : k0_cond3 (grid0.coords t) = 1#1) :
    (scrM.slice (Rect.unit (s := S2x8x128x1024) (k0_off42 (grid0.coords t)) S1x1x128x1024.size (k0_off42_inb (grid0.coords t) h1 h3)) (fun _ => rfl)).squeeze S128x1024 squeezes_S1x1x128x1024_S128x1024 = part (slotOf (t.val / 2 + 1)) 3 :=
  congrArg (fun M : Memref sig .tc .vmem S1x1x128x1024 .f32 => M.squeeze S128x1024 squeezes_S1x1x128x1024_S128x1024) (Memref.slice_unit_congr _ (off42 t h1 h3) _ _ (fun _ => rfl) (fun _ => rfl))
@[sl_canon] theorem canon42' (t : Fin grid0.N) (h1 : k0_cond1 (grid0.coords t) = 1#1) (h3 : k0_cond3 (grid0.coords t) = 1#1) :
    (scrM.slice (Rect.unit (s := S2x8x128x1024) (k0_off42 (grid0.coords t)) ![1, 1, 128, 1024] (k0_off42_inb (grid0.coords t) h1 h3)) (fun _ => rfl)).squeeze S128x1024 squeezes_S1x1x128x1024_S128x1024 = part (slotOf (t.val / 2 + 1)) 3 :=
  canon42 t h1 h3
theorem off43 : ∀ t : Fin grid0.N, k0_cond1 (grid0.coords t) = 1#1 → k0_cond3 (grid0.coords t) = 1#1 → k0_off43 (grid0.coords t) = ![128 * (blkOf (t.val / 2 + 1)).val, 3, 0] := by decide +kernel
@[sl_canon] theorem canon43 (t : Fin grid0.N) (h1 : k0_cond1 (grid0.coords t) = 1#1) (h3 : k0_cond3 (grid0.coords t) = 1#1) :
    (mskM.slice (Rect.unit (s := S1024x8x1024) (k0_off43 (grid0.coords t)) S128x1x1024.size (k0_off43_inb (grid0.coords t) h1 h3)) (fun _ => rfl)).squeeze S128x1024 squeezes_S128x1x1024_S128x1024 = srcOf (blkOf (t.val / 2 + 1)) 3 :=
  congrArg (fun M : Memref sig .tc .hbm S128x1x1024 .f32 => M.squeeze S128x1024 squeezes_S128x1x1024_S128x1024) (Memref.slice_unit_congr _ (off43 t h1 h3) _ _ (fun _ => rfl) (fun _ => rfl))
@[sl_canon] theorem canon43' (t : Fin grid0.N) (h1 : k0_cond1 (grid0.coords t) = 1#1) (h3 : k0_cond3 (grid0.coords t) = 1#1) :
    (mskM.slice (Rect.unit (s := S1024x8x1024) (k0_off43 (grid0.coords t)) ![128, 1, 1024] (k0_off43_inb (grid0.coords t) h1 h3)) (fun _ => rfl)).squeeze S128x1024 squeezes_S128x1x1024_S128x1024 = srcOf (blkOf (t.val / 2 + 1)) 3 :=
  canon43 t h1 h3
theorem off44 : ∀ t : Fin grid0.N, k0_cond1 (grid0.coords t) = 1#1 → k0_cond3 (grid0.coords t) = 1#1 → k0_off44 (grid0.coords t) = ![(slotOf (t.val / 2 + 1)).val, 4, 0, 0] := by decide +kernel
@[sl_canon] theorem canon44 (t : Fin grid0.N) (h1 : k0_cond1 (grid0.coords t) = 1#1) (h3 : k0_cond3 (grid0.coords t) = 1#1) :
    (scrM.slice (Rect.unit (s := S2x8x128x1024) (k0_off44 (grid0.coords t)) S1x1x128x1024.size (k0_off44_inb (grid0.coords t) h1 h3)) (fun _ => rfl)).squeeze S128x1024 squeezes_S1x1x128x1024_S128x1024 = part (slotOf (t.val / 2 + 1)) 4 :=
  congrArg (fun M : Memref sig .tc .vmem S1x1x128x1024 .f32 => M.squeeze S128x1024 squeezes_S1x1x128x1024_S128x1024) (Memref.slice_unit_congr _ (off44 t h1 h3) _ _ (fun _ => rfl) (fun _ => rfl))
@[sl_canon] theorem canon44' (t : Fin grid0.N) (h1 : k0_cond1 (grid0.coords t) = 1#1) (h3 : k0_cond3 (grid0.coords t) = 1#1) :
    (scrM.slice (Rect.unit (s := S2x8x128x1024) (k0_off44 (grid0.coords t)) ![1, 1, 128, 1024] (k0_off44_inb (grid0.coords t) h1 h3)) (fun _ => rfl)).squeeze S128x1024 squeezes_S1x1x128x1024_S128x1024 = part (slotOf (t.val / 2 + 1)) 4 :=
  canon44 t h1 h3
theorem off45 : ∀ t : Fin grid0.N, k0_cond1 (grid0.coords t) = 1#1 → k0_cond3 (grid0.coords t) = 1#1 → k0_off45 (grid0.coords t) = ![128 * (blkOf (t.val / 2 + 1)).val, 4, 0] := by decide +kernel
@[sl_canon] theorem canon45 (t : Fin grid0.N) (h1 : k0_cond1 (grid0.coords t) = 1#1) (h3 : k0_cond3 (grid0.coords t) = 1#1) :
    (mskM.slice (Rect.unit (s := S1024x8x1024) (k0_off45 (grid0.coords t)) S128x1x1024.size (k0_off45_inb (grid0.coords t) h1 h3)) (fun _ => rfl)).squeeze S128x1024 squeezes_S128x1x1024_S128x1024 = srcOf (blkOf (t.val / 2 + 1)) 4 :=
  congrArg (fun M : Memref sig .tc .hbm S128x1x1024 .f32 => M.squeeze S128x1024 squeezes_S128x1x1024_S128x1024) (Memref.slice_unit_congr _ (off45 t h1 h3) _ _ (fun _ => rfl) (fun _ => rfl))
@[sl_canon] theorem canon45' (t : Fin grid0.N) (h1 : k0_cond1 (grid0.coords t) = 1#1) (h3 : k0_cond3 (grid0.coords t) = 1#1) :
    (mskM.slice (Rect.unit (s := S1024x8x1024) (k0_off45 (grid0.coords t)) ![128, 1, 1024] (k0_off45_inb (grid0.coords t) h1 h3)) (fun _ => rfl)).squeeze S128x1024 squeezes_S128x1x1024_S128x1024 = srcOf (blkOf (t.val / 2 + 1)) 4 :=
  canon45 t h1 h3
theorem off46 : ∀ t : Fin grid0.N, k0_cond1 (grid0.coords t) = 1#1 → k0_cond3 (grid0.coords t) = 1#1 → k0_off46 (grid0.coords t) = ![(slotOf (t.val / 2 + 1)).val, 5, 0, 0] := by decide +kernel
@[sl_canon] theorem canon46 (t : Fin grid0.N) (h1 : k0_cond1 (grid0.coords t) = 1#1) (h3 : k0_cond3 (grid0.coords t) = 1#1) :
    (scrM.slice (Rect.unit (s := S2x8x128x1024) (k0_off46 (grid0.coords t)) S1x1x128x1024.size (k0_off46_inb (grid0.coords t) h1 h3)) (fun _ => rfl)).squeeze S128x1024 squeezes_S1x1x128x1024_S128x1024 = part (slotOf (t.val / 2 + 1)) 5 :=
  congrArg (fun M : Memref sig .tc .vmem S1x1x128x1024 .f32 => M.squeeze S128x1024 squeezes_S1x1x128x1024_S128x1024) (Memref.slice_unit_congr _ (off46 t h1 h3) _ _ (fun _ => rfl) (fun _ => rfl))
@[sl_canon] theorem canon46' (t : Fin grid0.N) (h1 : k0_cond1 (grid0.coords t) = 1#1) (h3 : k0_cond3 (grid0.coords t) = 1#1) :
    (scrM.slice (Rect.unit (s := S2x8x128x1024) (k0_off46 (grid0.coords t)) ![1, 1, 128, 1024] (k0_off46_inb (grid0.coords t) h1 h3)) (fun _ => rfl)).squeeze S128x1024 squeezes_S1x1x128x1024_S128x1024 = part (slotOf (t.val / 2 + 1)) 5 :=
  canon46 t h1 h3
theorem off47 : ∀ t : Fin grid0.N, k0_cond1 (grid0.coords t) = 1#1 → k0_cond3 (grid0.coords t) = 1#1 → k0_off47 (grid0.coords t) = ![128 * (blkOf (t.val / 2 + 1)).val, 5, 0] := by decide +kernel
@[sl_canon] theorem canon47 (t : Fin grid0.N) (h1 : k0_cond1 (grid0.coords t) = 1#1) (h3 : k0_cond3 (grid0.coords t) = 1#1) :
    (mskM.slice (Rect.unit (s := S1024x8x1024) (k0_off47 (grid0.coords t)) S128x1x1024.size (k0_off47_inb (grid0.coords t) h1 h3)) (fun _ => rfl)).squeeze S128x1024 squeezes_S128x1x1024_S128x1024 = srcOf (blkOf (t.val / 2 + 1)) 5 :=
  congrArg (fun M : Memref sig .tc .hbm S128x1x1024 .f32 => M.squeeze S128x1024 squeezes_S128x1x1024_S128x1024) (Memref.slice_unit_congr _ (off47 t h1 h3) _ _ (fun _ => rfl) (fun _ => rfl))
@[sl_canon] theorem canon47' (t : Fin grid0.N) (h1 : k0_cond1 (grid0.coords t) = 1#1) (h3 : k0_cond3 (grid0.coords t) = 1#1) :
    (mskM.slice (Rect.unit (s := S1024x8x1024) (k0_off47 (grid0.coords t)) ![128, 1, 1024] (k0_off47_inb (grid0.coords t) h1 h3)) (fun _ => rfl)).squeeze S128x1024 squeezes_S128x1x1024_S128x1024 = srcOf (blkOf (t.val / 2 + 1)) 5 :=
  canon47 t h1 h3
theorem off48 : ∀ t : Fin grid0.N, k0_cond1 (grid0.coords t) = 1#1 → k0_cond3 (grid0.coords t) = 1#1 → k0_off48 (grid0.coords t) = ![(slotOf (t.val / 2 + 1)).val, 6, 0, 0] := by decide +kernel
@[sl_canon] theorem canon48 (t : Fin grid0.N) (h1 : k0_cond1 (grid0.coords t) = 1#1) (h3 : k0_cond3 (grid0.coords t) = 1#1) :
    (scrM.slice (Rect.unit (s := S2x8x128x1024) (k0_off48 (grid0.coords t)) S1x1x128x1024.size (k0_off48_inb (grid0.coords t) h1 h3)) (fun _ => rfl)).squeeze S128x1024 squeezes_S1x1x128x1024_S128x1024 = part (slotOf (t.val / 2 + 1)) 6 :=
  congrArg (fun M : Memref sig .tc .vmem S1x1x128x1024 .f32 => M.squeeze S128x1024 squeezes_S1x1x128x1024_S128x1024) (Memref.slice_unit_congr _ (off48 t h1 h3) _ _ (fun _ => rfl) (fun _ => rfl))
@[sl_canon] theorem canon48' (t : Fin grid0.N) (h1 : k0_cond1 (grid0.coords t) = 1#1) (h3 : k0_cond3 (grid0.coords t) = 1#1) :
    (scrM.slice (Rect.unit (s := S2x8x128x1024) (k0_off48 (grid0.coords t)) ![1, 1, 128, 1024] (k0_off48_inb (grid0.coords t) h1 h3)) (fun _ => rfl)).squeeze S128x1024 squeezes_S1x1x128x1024_S128x1024 = part (slotOf (t.val / 2 + 1)) 6 :=
  canon48 t h1 h3
theorem off49 : ∀ t : Fin grid0.N, k0_cond1 (grid0.coords t) = 1#1 → k0_cond3 (grid0.coords t) = 1#1 → k0_off49 (grid0.coords t) = ![128 * (blkOf (t.val / 2 + 1)).val, 6, 0] := by decide +kernel
@[sl_canon] theorem canon49 (t : Fin grid0.N) (h1 : k0_cond1 (grid0.coords t) = 1#1) (h3 : k0_cond3 (grid0.coords t) = 1#1) :
    (mskM.slice (Rect.unit (s := S1024x8x1024) (k0_off49 (grid0.coords t)) S128x1x1024.size (k0_off49_inb (grid0.coords t) h1 h3)) (fun _ => rfl)).squeeze S128x1024 squeezes_S128x1x1024_S128x1024 = srcOf (blkOf (t.val / 2 + 1)) 6 :=
  congrArg (fun M : Memref sig .tc .hbm S128x1x1024 .f32 => M.squeeze S128x1024 squeezes_S128x1x1024_S128x1024) (Memref.slice_unit_congr _ (off49 t h1 h3) _ _ (fun _ => rfl) (fun _ => rfl))
@[sl_canon] theorem canon49' (t : Fin grid0.N) (h1 : k0_cond1 (grid0.coords t) = 1#1) (h3 : k0_cond3 (grid0.coords t) = 1#1) :
    (mskM.slice (Rect.unit (s := S1024x8x1024) (k0_off49 (grid0.coords t)) ![128, 1, 1024] (k0_off49_inb (grid0.coords t) h1 h3)) (fun _ => rfl)).squeeze S128x1024 squeezes_S128x1x1024_S128x1024 = srcOf (blkOf (t.val / 2 + 1)) 6 :=
  canon49 t h1 h3
theorem off50 : ∀ t : Fin grid0.N, k0_cond1 (grid0.coords t) = 1#1 → k0_cond3 (grid0.coords t) = 1#1 → k0_off50 (grid0.coords t) = ![(slotOf (t.val / 2 + 1)).val, 7, 0, 0] := by decide +kernel
@[sl_canon] theorem canon50 (t : Fin grid0.N) (h1 : k0_cond1 (grid0.coords t) = 1#1) (h3 : k0_cond3 (grid0.coords t) = 1#1) :
    (scrM.slice (Rect.unit (s := S2x8x128x1024) (k0_off50 (grid0.coords t)) S1x1x128x1024.size (k0_off50_inb (grid0.coords t) h1 h3)) (fun _ => rfl)).squeeze S128x1024 squeezes_S1x1x128x1024_S128x1024 = part (slotOf (t.val / 2 + 1)) 7 :=
  congrArg (fun M : Memref sig .tc .vmem S1x1x128x1024 .f32 => M.squeeze S128x1024 squeezes_S1x1x128x1024_S128x1024) (Memref.slice_unit_congr _ (off50 t h1 h3) _ _ (fun _ => rfl) (fun _ => rfl))
@[sl_canon] theorem canon50' (t : Fin grid0.N) (h1 : k0_cond1 (grid0.coords t) = 1#1) (h3 : k0_cond3 (grid0.coords t) = 1#1) :
    (scrM.slice (Rect.unit (s := S2x8x128x1024) (k0_off50 (grid0.coords t)) ![1, 1, 128, 1024] (k0_off50_inb (grid0.coords t) h1 h3)) (fun _ => rfl)).squeeze S128x1024 squeezes_S1x1x128x1024_S128x1024 = part (slotOf (t.val / 2 + 1)) 7 :=
  canon50 t h1 h3
theorem off51 : ∀ t : Fin grid0.N, k0_cond1 (grid0.coords t) = 1#1 → k0_cond3 (grid0.coords t) = 1#1 → k0_off51 (grid0.coords t) = ![128 * (blkOf (t.val / 2 + 1)).val, 7, 0] := by decide +kernel
@[sl_canon] theorem canon51 (t : Fin grid0.N) (h1 : k0_cond1 (grid0.coords t) = 1#1) (h3 : k0_cond3 (grid0.coords t) = 1#1) :
    (mskM.slice (Rect.unit (s := S1024x8x1024) (k0_off51 (grid0.coords t)) S128x1x1024.size (k0_off51_inb (grid0.coords t) h1 h3)) (fun _ => rfl)).squeeze S128x1024 squeezes_S128x1x1024_S128x1024 = srcOf (blkOf (t.val / 2 + 1)) 7 :=
  congrArg (fun M : Memref sig .tc .hbm S128x1x1024 .f32 => M.squeeze S128x1024 squeezes_S128x1x1024_S128x1024) (Memref.slice_unit_congr _ (off51 t h1 h3) _ _ (fun _ => rfl) (fun _ => rfl))
@[sl_canon] theorem canon51' (t : Fin grid0.N) (h1 : k0_cond1 (grid0.coords t) = 1#1) (h3 : k0_cond3 (grid0.coords t) = 1#1) :
    (mskM.slice (Rect.unit (s := S1024x8x1024) (k0_off51 (grid0.coords t)) ![128, 1, 1024] (k0_off51_inb (grid0.coords t) h1 h3)) (fun _ => rfl)).squeeze S128x1024 squeezes_S128x1x1024_S128x1024 = srcOf (blkOf (t.val / 2 + 1)) 7 :=
  canon51 t h1 h3
theorem off52 : ∀ t : Fin grid0.N, k0_off52 (grid0.coords t) = ![(slotOf (t.val / 2)).val, 0, 0, 0] := by decide +kernel
instance (priority := high) closed52 (t : Fin grid0.N) : ClosedOff (k0_off52 (grid0.coords t)) := ⟨![(slotOf (t.val / 2)).val, 0, 0, 0], off52 t⟩
theorem off53 : ∀ t : Fin grid0.N, k0_off53 (grid0.coords t) = ![(slotOf (t.val / 2)).val, 1, 0, 0] := by decide +kernel
instance (priority := high) closed53 (t : Fin grid0.N) : ClosedOff (k0_off53 (grid0.coords t)) := ⟨![(slotOf (t.val / 2)).val, 1, 0, 0], off53 t⟩
theorem off54 : ∀ t : Fin grid0.N, k0_off54 (grid0.coords t) = ![(slotOf (t.val / 2)).val, 2, 0, 0] := by decide +kernel
instance (priority := high) closed54 (t : Fin grid0.N) : ClosedOff (k0_off54 (grid0.coords t)) := ⟨![(slotOf (t.val / 2)).val, 2, 0, 0], off54 t⟩
theorem off55 : ∀ t : Fin grid0.N, k0_off55 (grid0.coords t) = ![(slotOf (t.val / 2)).val, 3, 0, 0] := by decide +kernel
instance (priority := high) closed55 (t : Fin grid0.N) : ClosedOff (k0_off55 (grid0.coords t)) := ⟨![(slotOf (t.val / 2)).val, 3, 0, 0], off55 t⟩
theorem off56 : ∀ t : Fin grid0.N, k0_off56 (grid0.coords t) = ![(slotOf (t.val / 2)).val, 4, 0, 0] := by decide +kernel
instance (priority := high) closed56 (t : Fin grid0.N) : ClosedOff (k0_off56 (grid0.coords t)) := ⟨![(slotOf (t.val / 2)).val, 4, 0, 0], off56 t⟩
theorem off57 : ∀ t : Fin grid0.N, k0_off57 (grid0.coords t) = ![(slotOf (t.val / 2)).val, 5, 0, 0] := by decide +kernel
instance (priority := high) closed57 (t : Fin grid0.N) : ClosedOff (k0_off57 (grid0.coords t)) := ⟨![(slotOf (t.val / 2)).val, 5, 0, 0], off57 t⟩
theorem off58 : ∀ t : Fin grid0.N, k0_off58 (grid0.coords t) = ![(slotOf (t.val / 2)).val, 6, 0, 0] := by decide +kernel
instance (priority := high) closed58 (t : Fin grid0.N) : ClosedOff (k0_off58 (grid0.coords t)) := ⟨![(slotOf (t.val / 2)).val, 6, 0, 0], off58 t⟩
theorem off59 : ∀ t : Fin grid0.N, k0_off59 (grid0.coords t) = ![(slotOf (t.val / 2)).val, 7, 0, 0] := by decide +kernel
instance (priority := high) closed59 (t : Fin grid0.N) : ClosedOff (k0_off59 (grid0.coords t)) := ⟨![(slotOf (t.val / 2)).val, 7, 0, 0], off59 t⟩
end Slices

end Cert.KernelIdeal.Hand

end
-- ==== Proof.KernelIdeal.RunA.lean ====
/- One run of the main call's body, at the first point: the block's transfers are started and waited for, and the next block's are started. -/
module

public import proofs.«01_k».proof.Proof.KernelIdeal.Slots

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 8000000 in
/-- The body there, run from the buffers it is given: what it leaves in the three outputs, as the list of its stores into each. -/
def runA (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : (k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    Σ' (L2 : List (View.Piece (Elt F) S16x128x1024 .f32)), Σ' (L3 : List (View.Piece (Elt F) S8x128 .f32)), { L4 : List (View.Piece (Elt F) S1x1x1 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ freeP c W0 (slotOf (t.val / 2)) ∗ freeP c W0 (slotOf (t.val / 2 + 1)) ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ keptP c W0 (slotOf (t.val / 2)) (blkOf (t.val / 2)) ∗ comingP c W0 (slotOf (t.val / 2 + 1)) (blkOf (t.val / 2 + 1)) ∗ (∃ W', owes (c : Thread nD τ) 0 W')) -∗ K ⟨⟩))
          ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K } := by
  refine ⟨?_, ?_, ?_, fun W K => ?run⟩
  case run =>
    haveI : Fact ((k0_cond1 (grid0.coords t) = 1#1)) := ⟨hc1⟩
    haveI : Fact ((k0_cond2 (grid0.coords t) = 1#1)) := ⟨hc2⟩
    haveI : Fact ((k0_cond3 (grid0.coords t) = 1#1)) := ⟨hc3⟩
    haveI : Fact ((k0_cond4 (grid0.coords t) = 1#1)) := ⟨hc4⟩
    haveI : Fact (¬(k0_cond5 (grid0.coords t) = 1#1)) := ⟨hc5⟩
    haveI : Fact ((k0_cond6 (grid0.coords t) = 1#1)) := ⟨hc6⟩
    haveI : Fact (¬(k0_cond7 (grid0.coords t) = 1#1)) := ⟨hc7⟩
    simp only [cc0__main_body_eq_skeleton]; unfold cc0__main_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨Hc0, ⟨%fs0, Hs0_0, Hs0_1, Hs0_2, Hs0_3, Hs0_4, Hs0_5, Hs0_6, Hs0_7⟩, Hw0_0, Hw0_1, Hw0_2, Hw0_3, Hw0_4, Hw0_5, Hw0_6, Hw0_7⟩, ⟨Hc1, ⟨%fs1, Hs1_0, Hs1_1, Hs1_2, Hs1_3, Hs1_4, Hs1_5, Hs1_6, Hs1_7⟩, Hw1_0, Hw1_1, Hw1_2, Hw1_3, Hw1_4, Hw1_5, Hw1_6, Hw1_7⟩, HW, Hk⟩
    ihave Hp0_0 := (src_split c W0 (slotOf (t.val / 2)) 0 (blkOf (t.val / 2))).1 $$ Hw0_0
    icases Hp0_0 with ⟨Hh0_0, Hr0_0⟩
    ihave Hp0_1 := (src_split c W0 (slotOf (t.val / 2)) 1 (blkOf (t.val / 2))).1 $$ Hw0_1
    icases Hp0_1 with ⟨Hh0_1, Hr0_1⟩
    ihave Hp0_2 := (src_split c W0 (slotOf (t.val / 2)) 2 (blkOf (t.val / 2))).1 $$ Hw0_2
    icases Hp0_2 with ⟨Hh0_2, Hr0_2⟩
    ihave Hp0_3 := (src_split c W0 (slotOf (t.val / 2)) 3 (blkOf (t.val / 2))).1 $$ Hw0_3
    icases Hp0_3 with ⟨Hh0_3, Hr0_3⟩
    ihave Hp0_4 := (src_split c W0 (slotOf (t.val / 2)) 4 (blkOf (t.val / 2))).1 $$ Hw0_4
    icases Hp0_4 with ⟨Hh0_4, Hr0_4⟩
    ihave Hp0_5 := (src_split c W0 (slotOf (t.val / 2)) 5 (blkOf (t.val / 2))).1 $$ Hw0_5
    icases Hp0_5 with ⟨Hh0_5, Hr0_5⟩
    ihave Hp0_6 := (src_split c W0 (slotOf (t.val / 2)) 6 (blkOf (t.val / 2))).1 $$ Hw0_6
    icases Hp0_6 with ⟨Hh0_6, Hr0_6⟩
    ihave Hp0_7 := (src_split c W0 (slotOf (t.val / 2)) 7 (blkOf (t.val / 2))).1 $$ Hw0_7
    icases Hp0_7 with ⟨Hh0_7, Hr0_7⟩
    have hD0 := storable_deliv (F := F) c W0 (slotOf (t.val / 2)) (blkOf (t.val / 2))
    imod (Transfers.batch_alloc' (Lvl := ℕ) countersEmb (c : Thread nD τ) default amt (delivP c W0 (slotOf (t.val / 2)) (blkOf (t.val / 2))) (sm := cellL (slotOf (t.val / 2))) (E := Set.univ)) $$ Hc0 with HB0
    clear hD0
    ihave Hp1_0 := (src_split c W0 (slotOf (t.val / 2 + 1)) 0 (blkOf (t.val / 2 + 1))).1 $$ Hw1_0
    icases Hp1_0 with ⟨Hh1_0, Hr1_0⟩
    ihave Hp1_1 := (src_split c W0 (slotOf (t.val / 2 + 1)) 1 (blkOf (t.val / 2 + 1))).1 $$ Hw1_1
    icases Hp1_1 with ⟨Hh1_1, Hr1_1⟩
    ihave Hp1_2 := (src_split c W0 (slotOf (t.val / 2 + 1)) 2 (blkOf (t.val / 2 + 1))).1 $$ Hw1_2
    icases Hp1_2 with ⟨Hh1_2, Hr1_2⟩
    ihave Hp1_3 := (src_split c W0 (slotOf (t.val / 2 + 1)) 3 (blkOf (t.val / 2 + 1))).1 $$ Hw1_3
    icases Hp1_3 with ⟨Hh1_3, Hr1_3⟩
    ihave Hp1_4 := (src_split c W0 (slotOf (t.val / 2 + 1)) 4 (blkOf (t.val / 2 + 1))).1 $$ Hw1_4
    icases Hp1_4 with ⟨Hh1_4, Hr1_4⟩
    ihave Hp1_5 := (src_split c W0 (slotOf (t.val / 2 + 1)) 5 (blkOf (t.val / 2 + 1))).1 $$ Hw1_5
    icases Hp1_5 with ⟨Hh1_5, Hr1_5⟩
    ihave Hp1_6 := (src_split c W0 (slotOf (t.val / 2 + 1)) 6 (blkOf (t.val / 2 + 1))).1 $$ Hw1_6
    icases Hp1_6 with ⟨Hh1_6, Hr1_6⟩
    ihave Hp1_7 := (src_split c W0 (slotOf (t.val / 2 + 1)) 7 (blkOf (t.val / 2 + 1))).1 $$ Hw1_7
    icases Hp1_7 with ⟨Hh1_7, Hr1_7⟩
    have hD1 := storable_deliv (F := F) c W0 (slotOf (t.val / 2 + 1)) (blkOf (t.val / 2 + 1))
    imod (Transfers.batch_alloc' (Lvl := ℕ) countersEmb (c : Thread nD τ) default amt (delivP c W0 (slotOf (t.val / 2 + 1)) (blkOf (t.val / 2 + 1))) (sm := cellL (slotOf (t.val / 2 + 1))) (E := Set.univ)) $$ Hc1 with HB1
    clear hD1
    obtain rfl := harg2.eq_unread hf0; obtain rfl := harg3.eq_unread hf1
    sl_exec (disch := first | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HB0 HB0_dst0 HB0_src0 Hr0_0 HB0_dst1 HB0_src1 Hr0_1 HB0_dst2 HB0_src2 Hr0_2 HB0_dst3 HB0_src3 Hr0_3 HB0_dst4 HB0_src4 Hr0_4 HB0_dst5 HB0_src5 Hr0_5 HB0_dst6 HB0_src6 Hr0_6 HB0_dst7 HB0_src7 Hr0_7]
    · isplitl [HB0]; · iexact HB0
      isplitl [HB0_dst0 HB0_dst1 HB0_dst2 HB0_dst3 HB0_dst4 HB0_dst5 HB0_dst6 HB0_dst7]
      · isplitl [HB0_dst0]; · iexact HB0_dst0
        isplitl [HB0_dst1]; · iexact HB0_dst1
        isplitl [HB0_dst2]; · iexact HB0_dst2
        isplitl [HB0_dst3]; · iexact HB0_dst3
        isplitl [HB0_dst4]; · iexact HB0_dst4
        isplitl [HB0_dst5]; · iexact HB0_dst5
        isplitl [HB0_dst6]; · iexact HB0_dst6
        iexact HB0_dst7
      isplitl [HB0_src0 Hr0_0]
      · iapply (src_split c W0 (slotOf (t.val / 2)) 0 (blkOf (t.val / 2))).2; isplitl [HB0_src0]; · iexact HB0_src0
        iexact Hr0_0
      isplitl [HB0_src1 Hr0_1]
      · iapply (src_split c W0 (slotOf (t.val / 2)) 1 (blkOf (t.val / 2))).2; isplitl [HB0_src1]; · iexact HB0_src1
        iexact Hr0_1
      isplitl [HB0_src2 Hr0_2]
      · iapply (src_split c W0 (slotOf (t.val / 2)) 2 (blkOf (t.val / 2))).2; isplitl [HB0_src2]; · iexact HB0_src2
        iexact Hr0_2
      isplitl [HB0_src3 Hr0_3]
      · iapply (src_split c W0 (slotOf (t.val / 2)) 3 (blkOf (t.val / 2))).2; isplitl [HB0_src3]; · iexact HB0_src3
        iexact Hr0_3
      isplitl [HB0_src4 Hr0_4]
      · iapply (src_split c W0 (slotOf (t.val / 2)) 4 (blkOf (t.val / 2))).2; isplitl [HB0_src4]; · iexact HB0_src4
        iexact Hr0_4
      isplitl [HB0_src5 Hr0_5]
      · iapply (src_split c W0 (slotOf (t.val / 2)) 5 (blkOf (t.val / 2))).2; isplitl [HB0_src5]; · iexact HB0_src5
        iexact Hr0_5
      isplitl [HB0_src6 Hr0_6]
      · iapply (src_split c W0 (slotOf (t.val / 2)) 6 (blkOf (t.val / 2))).2; isplitl [HB0_src6]; · iexact HB0_src6
        iexact Hr0_6
      iapply (src_split c W0 (slotOf (t.val / 2)) 7 (blkOf (t.val / 2))).2; isplitl [HB0_src7]; · iexact HB0_src7
      iexact Hr0_7
    isplitl [HB1 Hr1_0 Hr1_1 Hr1_2 Hr1_3 Hr1_4 Hr1_5 Hr1_6 Hr1_7]
    · isplitl [HB1]; · iexact HB1
      isplitl [Hr1_0]; · iexact Hr1_0
      isplitl [Hr1_1]; · iexact Hr1_1
      isplitl [Hr1_2]; · iexact Hr1_2
      isplitl [Hr1_3]; · iexact Hr1_3
      isplitl [Hr1_4]; · iexact Hr1_4
      isplitl [Hr1_5]; · iexact Hr1_5
      isplitl [Hr1_6]; · iexact Hr1_6
      iexact Hr1_7
    iexists _; iexact HW

end Cert.KernelIdeal.Hand

end
-- ==== Proof.KernelIdeal.RunB.lean ====
/- One run of the main call's body, at the second point of a step: the block held is read again, the step's sums are added to. -/
module

public import proofs.«01_k».proof.Proof.KernelIdeal.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 8000000 in
/-- The body there, run from the buffers it is given: what it leaves in the three outputs, as the list of its stores into each. -/
def runB (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : ¬(k0_cond1 (grid0.coords t) = 1#1)) (hc4 : ¬(k0_cond4 (grid0.coords t) = 1#1)) (hc5 : (k0_cond5 (grid0.coords t) = 1#1)) (hc6 : ¬(k0_cond6 (grid0.coords t) = 1#1)) (hc7 : (k0_cond7 (grid0.coords t) = 1#1))
    (x0 : Vec F S16x128x1024 .f32) (x1 : Vec F S8x1024 .f32) (xo3 : Vec F S8x128 .f32) (xo4 : Vec F S1x1x1 .f32) (W0 : BufAt (F := F) c mskM) :
    Σ' (L2 : List (View.Piece (Elt F) S16x128x1024 .f32)), Σ' (L3 : List (View.Piece (Elt F) S8x128 .f32)), { L4 : List (View.Piece (Elt F) S1x1x1 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ owns (c : Thread nD τ) arg6 fullShare xo3 ∗ owns (c : Thread nD τ) arg7 fullShare xo4 ∗ keptP c W0 (slotOf (t.val / 2)) (blkOf (t.val / 2)) ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ keptP c W0 (slotOf (t.val / 2)) (blkOf (t.val / 2)) ∗ (∃ W', owes (c : Thread nD τ) 0 W')) -∗ K ⟨⟩))
          ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K } := by
  refine ⟨?_, ?_, ?_, fun W K => ?run⟩
  case run =>
    haveI : Fact (¬(k0_cond1 (grid0.coords t) = 1#1)) := ⟨hc1⟩
    haveI : Fact (¬(k0_cond4 (grid0.coords t) = 1#1)) := ⟨hc4⟩
    haveI : Fact ((k0_cond5 (grid0.coords t) = 1#1)) := ⟨hc5⟩
    haveI : Fact (¬(k0_cond6 (grid0.coords t) = 1#1)) := ⟨hc6⟩
    haveI : Fact ((k0_cond7 (grid0.coords t) = 1#1)) := ⟨hc7⟩
    simp only [cc0__main_body_eq_skeleton]; unfold cc0__main_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%d2, %f2, -, H2⟩, ⟨%f3, %hf3, H3⟩, ⟨%f4, %hf4, H4⟩, ⟨Hc0, ⟨Hs0_0, Hs0_1, Hs0_2, Hs0_3, Hs0_4, Hs0_5, Hs0_6, Hs0_7⟩, Hw0⟩, HW, Hk⟩
    obtain rfl := harg2.eq_unread hf0; obtain rfl := harg3.eq_unread hf1; obtain rfl := harg6.eq_unread hf3; obtain rfl := harg7.eq_unread hf4
    sl_exec (disch := first | sl_exact hc1 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [Hc0 Hs0_0 Hs0_1 Hs0_2 Hs0_3 Hs0_4 Hs0_5 Hs0_6 Hs0_7 Hw0]
    · isplitl [Hc0]; · iexact Hc0
      isplitl [Hs0_0 Hs0_1 Hs0_2 Hs0_3 Hs0_4 Hs0_5 Hs0_6 Hs0_7]
      · isplitl [Hs0_0]; · iexact Hs0_0
        isplitl [Hs0_1]; · iexact Hs0_1
        isplitl [Hs0_2]; · iexact Hs0_2
        isplitl [Hs0_3]; · iexact Hs0_3
        isplitl [Hs0_4]; · iexact Hs0_4
        isplitl [Hs0_5]; · iexact Hs0_5
        isplitl [Hs0_6]; · iexact Hs0_6
        iexact Hs0_7
      iexact Hw0
    iexists _; iexact HW

end Cert.KernelIdeal.Hand

end
-- ==== Proof.KernelIdeal.RunC.lean ====
/- One run of the main call's body, at the first point of a middle step: the block on its way is waited for, and the next block's transfers are started. -/
module

public import proofs.«01_k».proof.Proof.KernelIdeal.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 8000000 in
/-- The body there, run from the buffers it is given: what it leaves in the three outputs, as the list of its stores into each. -/
def runC (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    Σ' (L2 : List (View.Piece (Elt F) S16x128x1024 .f32)), Σ' (L3 : List (View.Piece (Elt F) S8x128 .f32)), { L4 : List (View.Piece (Elt F) S1x1x1 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ comingP c W0 (slotOf (t.val / 2)) (blkOf (t.val / 2)) ∗ freeP c W0 (slotOf (t.val / 2 + 1)) ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ keptP c W0 (slotOf (t.val / 2)) (blkOf (t.val / 2)) ∗ comingP c W0 (slotOf (t.val / 2 + 1)) (blkOf (t.val / 2 + 1)) ∗ (∃ W', owes (c : Thread nD τ) 0 W')) -∗ K ⟨⟩))
          ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K } := by
  refine ⟨?_, ?_, ?_, fun W K => ?run⟩
  case run =>
    haveI : Fact ((k0_cond1 (grid0.coords t) = 1#1)) := ⟨hc1⟩
    haveI : Fact (¬(k0_cond2 (grid0.coords t) = 1#1)) := ⟨hc2⟩
    haveI : Fact ((k0_cond3 (grid0.coords t) = 1#1)) := ⟨hc3⟩
    haveI : Fact ((k0_cond4 (grid0.coords t) = 1#1)) := ⟨hc4⟩
    haveI : Fact (¬(k0_cond5 (grid0.coords t) = 1#1)) := ⟨hc5⟩
    haveI : Fact ((k0_cond6 (grid0.coords t) = 1#1)) := ⟨hc6⟩
    haveI : Fact (¬(k0_cond7 (grid0.coords t) = 1#1)) := ⟨hc7⟩
    simp only [cc0__main_body_eq_skeleton]; unfold cc0__main_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨HB0, Hr0_0, Hr0_1, Hr0_2, Hr0_3, Hr0_4, Hr0_5, Hr0_6, Hr0_7⟩, ⟨Hc1, ⟨%fs1, Hs1_0, Hs1_1, Hs1_2, Hs1_3, Hs1_4, Hs1_5, Hs1_6, Hs1_7⟩, Hw1_0, Hw1_1, Hw1_2, Hw1_3, Hw1_4, Hw1_5, Hw1_6, Hw1_7⟩, HW, Hk⟩
    ihave Hp1_0 := (src_split c W0 (slotOf (t.val / 2 + 1)) 0 (blkOf (t.val / 2 + 1))).1 $$ Hw1_0
    icases Hp1_0 with ⟨Hh1_0, Hr1_0⟩
    ihave Hp1_1 := (src_split c W0 (slotOf (t.val / 2 + 1)) 1 (blkOf (t.val / 2 + 1))).1 $$ Hw1_1
    icases Hp1_1 with ⟨Hh1_1, Hr1_1⟩
    ihave Hp1_2 := (src_split c W0 (slotOf (t.val / 2 + 1)) 2 (blkOf (t.val / 2 + 1))).1 $$ Hw1_2
    icases Hp1_2 with ⟨Hh1_2, Hr1_2⟩
    ihave Hp1_3 := (src_split c W0 (slotOf (t.val / 2 + 1)) 3 (blkOf (t.val / 2 + 1))).1 $$ Hw1_3
    icases Hp1_3 with ⟨Hh1_3, Hr1_3⟩
    ihave Hp1_4 := (src_split c W0 (slotOf (t.val / 2 + 1)) 4 (blkOf (t.val / 2 + 1))).1 $$ Hw1_4
    icases Hp1_4 with ⟨Hh1_4, Hr1_4⟩
    ihave Hp1_5 := (src_split c W0 (slotOf (t.val / 2 + 1)) 5 (blkOf (t.val / 2 + 1))).1 $$ Hw1_5
    icases Hp1_5 with ⟨Hh1_5, Hr1_5⟩
    ihave Hp1_6 := (src_split c W0 (slotOf (t.val / 2 + 1)) 6 (blkOf (t.val / 2 + 1))).1 $$ Hw1_6
    icases Hp1_6 with ⟨Hh1_6, Hr1_6⟩
    ihave Hp1_7 := (src_split c W0 (slotOf (t.val / 2 + 1)) 7 (blkOf (t.val / 2 + 1))).1 $$ Hw1_7
    icases Hp1_7 with ⟨Hh1_7, Hr1_7⟩
    have hD1 := storable_deliv (F := F) c W0 (slotOf (t.val / 2 + 1)) (blkOf (t.val / 2 + 1))
    imod (Transfers.batch_alloc' (Lvl := ℕ) countersEmb (c : Thread nD τ) default amt (delivP c W0 (slotOf (t.val / 2 + 1)) (blkOf (t.val / 2 + 1))) (sm := cellL (slotOf (t.val / 2 + 1))) (E := Set.univ)) $$ Hc1 with HB1
    clear hD1
    obtain rfl := harg2.eq_unread hf0; obtain rfl := harg3.eq_unread hf1
    sl_exec (disch := first | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HB0 HB0_dst0 HB0_src0 Hr0_0 HB0_dst1 HB0_src1 Hr0_1 HB0_dst2 HB0_src2 Hr0_2 HB0_dst3 HB0_src3 Hr0_3 HB0_dst4 HB0_src4 Hr0_4 HB0_dst5 HB0_src5 Hr0_5 HB0_dst6 HB0_src6 Hr0_6 HB0_dst7 HB0_src7 Hr0_7]
    · isplitl [HB0]; · iexact HB0
      isplitl [HB0_dst0 HB0_dst1 HB0_dst2 HB0_dst3 HB0_dst4 HB0_dst5 HB0_dst6 HB0_dst7]
      · isplitl [HB0_dst0]; · iexact HB0_dst0
        isplitl [HB0_dst1]; · iexact HB0_dst1
        isplitl [HB0_dst2]; · iexact HB0_dst2
        isplitl [HB0_dst3]; · iexact HB0_dst3
        isplitl [HB0_dst4]; · iexact HB0_dst4
        isplitl [HB0_dst5]; · iexact HB0_dst5
        isplitl [HB0_dst6]; · iexact HB0_dst6
        iexact HB0_dst7
      isplitl [HB0_src0 Hr0_0]
      · iapply (src_split c W0 (slotOf (t.val / 2)) 0 (blkOf (t.val / 2))).2; isplitl [HB0_src0]; · iexact HB0_src0
        iexact Hr0_0
      isplitl [HB0_src1 Hr0_1]
      · iapply (src_split c W0 (slotOf (t.val / 2)) 1 (blkOf (t.val / 2))).2; isplitl [HB0_src1]; · iexact HB0_src1
        iexact Hr0_1
      isplitl [HB0_src2 Hr0_2]
      · iapply (src_split c W0 (slotOf (t.val / 2)) 2 (blkOf (t.val / 2))).2; isplitl [HB0_src2]; · iexact HB0_src2
        iexact Hr0_2
      isplitl [HB0_src3 Hr0_3]
      · iapply (src_split c W0 (slotOf (t.val / 2)) 3 (blkOf (t.val / 2))).2; isplitl [HB0_src3]; · iexact HB0_src3
        iexact Hr0_3
      isplitl [HB0_src4 Hr0_4]
      · iapply (src_split c W0 (slotOf (t.val / 2)) 4 (blkOf (t.val / 2))).2; isplitl [HB0_src4]; · iexact HB0_src4
        iexact Hr0_4
      isplitl [HB0_src5 Hr0_5]
      · iapply (src_split c W0 (slotOf (t.val / 2)) 5 (blkOf (t.val / 2))).2; isplitl [HB0_src5]; · iexact HB0_src5
        iexact Hr0_5
      isplitl [HB0_src6 Hr0_6]
      · iapply (src_split c W0 (slotOf (t.val / 2)) 6 (blkOf (t.val / 2))).2; isplitl [HB0_src6]; · iexact HB0_src6
        iexact Hr0_6
      iapply (src_split c W0 (slotOf (t.val / 2)) 7 (blkOf (t.val / 2))).2; isplitl [HB0_src7]; · iexact HB0_src7
      iexact Hr0_7
    isplitl [HB1 Hr1_0 Hr1_1 Hr1_2 Hr1_3 Hr1_4 Hr1_5 Hr1_6 Hr1_7]
    · isplitl [HB1]; · iexact HB1
      isplitl [Hr1_0]; · iexact Hr1_0
      isplitl [Hr1_1]; · iexact Hr1_1
      isplitl [Hr1_2]; · iexact Hr1_2
      isplitl [Hr1_3]; · iexact Hr1_3
      isplitl [Hr1_4]; · iexact Hr1_4
      isplitl [Hr1_5]; · iexact Hr1_5
      isplitl [Hr1_6]; · iexact Hr1_6
      iexact Hr1_7
    iexists _; iexact HW

end Cert.KernelIdeal.Hand

end
-- ==== Proof.KernelIdeal.RunD.lean ====
/- One run of the main call's body, at the first point of the last step: the block on its way is waited for. -/
module

public import proofs.«01_k».proof.Proof.KernelIdeal.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 8000000 in
/-- The body there, run from the buffers it is given: what it leaves in the three outputs, as the list of its stores into each. -/
def runD (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : ¬(k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    Σ' (L2 : List (View.Piece (Elt F) S16x128x1024 .f32)), Σ' (L3 : List (View.Piece (Elt F) S8x128 .f32)), { L4 : List (View.Piece (Elt F) S1x1x1 .f32) //
      ∀ (W : Waits sig Unit) (K : PUnit → sProp 𝕄),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ comingP c W0 (slotOf (t.val / 2)) (blkOf (t.val / 2)) ∗ owes (c : Thread nD τ) 0 W
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ keptP c W0 (slotOf (t.val / 2)) (blkOf (t.val / 2)) ∗ (∃ W', owes (c : Thread nD τ) 0 W')) -∗ K ⟨⟩))
          ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K } := by
  refine ⟨?_, ?_, ?_, fun W K => ?run⟩
  case run =>
    haveI : Fact ((k0_cond1 (grid0.coords t) = 1#1)) := ⟨hc1⟩
    haveI : Fact (¬(k0_cond2 (grid0.coords t) = 1#1)) := ⟨hc2⟩
    haveI : Fact (¬(k0_cond3 (grid0.coords t) = 1#1)) := ⟨hc3⟩
    haveI : Fact ((k0_cond4 (grid0.coords t) = 1#1)) := ⟨hc4⟩
    haveI : Fact (¬(k0_cond5 (grid0.coords t) = 1#1)) := ⟨hc5⟩
    haveI : Fact ((k0_cond6 (grid0.coords t) = 1#1)) := ⟨hc6⟩
    haveI : Fact (¬(k0_cond7 (grid0.coords t) = 1#1)) := ⟨hc7⟩
    simp only [cc0__main_body_eq_skeleton]; unfold cc0__main_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨HB0, Hr0_0, Hr0_1, Hr0_2, Hr0_3, Hr0_4, Hr0_5, Hr0_6, Hr0_7⟩, HW, Hk⟩
    obtain rfl := harg2.eq_unread hf0; obtain rfl := harg3.eq_unread hf1
    sl_exec (disch := first | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HB0 HB0_dst0 HB0_src0 Hr0_0 HB0_dst1 HB0_src1 Hr0_1 HB0_dst2 HB0_src2 Hr0_2 HB0_dst3 HB0_src3 Hr0_3 HB0_dst4 HB0_src4 Hr0_4 HB0_dst5 HB0_src5 Hr0_5 HB0_dst6 HB0_src6 Hr0_6 HB0_dst7 HB0_src7 Hr0_7]
    · isplitl [HB0]; · iexact HB0
      isplitl [HB0_dst0 HB0_dst1 HB0_dst2 HB0_dst3 HB0_dst4 HB0_dst5 HB0_dst6 HB0_dst7]
      · isplitl [HB0_dst0]; · iexact HB0_dst0
        isplitl [HB0_dst1]; · iexact HB0_dst1
        isplitl [HB0_dst2]; · iexact HB0_dst2
        isplitl [HB0_dst3]; · iexact HB0_dst3
        isplitl [HB0_dst4]; · iexact HB0_dst4
        isplitl [HB0_dst5]; · iexact HB0_dst5
        isplitl [HB0_dst6]; · iexact HB0_dst6
        iexact HB0_dst7
      isplitl [HB0_src0 Hr0_0]
      · iapply (src_split c W0 (slotOf (t.val / 2)) 0 (blkOf (t.val / 2))).2; isplitl [HB0_src0]; · iexact HB0_src0
        iexact Hr0_0
      isplitl [HB0_src1 Hr0_1]
      · iapply (src_split c W0 (slotOf (t.val / 2)) 1 (blkOf (t.val / 2))).2; isplitl [HB0_src1]; · iexact HB0_src1
        iexact Hr0_1
      isplitl [HB0_src2 Hr0_2]
      · iapply (src_split c W0 (slotOf (t.val / 2)) 2 (blkOf (t.val / 2))).2; isplitl [HB0_src2]; · iexact HB0_src2
        iexact Hr0_2
      isplitl [HB0_src3 Hr0_3]
      · iapply (src_split c W0 (slotOf (t.val / 2)) 3 (blkOf (t.val / 2))).2; isplitl [HB0_src3]; · iexact HB0_src3
        iexact Hr0_3
      isplitl [HB0_src4 Hr0_4]
      · iapply (src_split c W0 (slotOf (t.val / 2)) 4 (blkOf (t.val / 2))).2; isplitl [HB0_src4]; · iexact HB0_src4
        iexact Hr0_4
      isplitl [HB0_src5 Hr0_5]
      · iapply (src_split c W0 (slotOf (t.val / 2)) 5 (blkOf (t.val / 2))).2; isplitl [HB0_src5]; · iexact HB0_src5
        iexact Hr0_5
      isplitl [HB0_src6 Hr0_6]
      · iapply (src_split c W0 (slotOf (t.val / 2)) 6 (blkOf (t.val / 2))).2; isplitl [HB0_src6]; · iexact HB0_src6
        iexact Hr0_6
      iapply (src_split c W0 (slotOf (t.val / 2)) 7 (blkOf (t.val / 2))).2; isplitl [HB0_src7]; · iexact HB0_src7
      iexact Hr0_7
    iexists _; iexact HW

end Cert.KernelIdeal.Hand

end
-- ==== Proof.KernelIdeal.Values.lean ====
/- What the main call's body computes, as plain functions of the blocks it reads: the gates of one head, that head's share of the two statistics, and the rows of the output. -/
module

public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The logits of one head's block of rows, one column per row. -/
def logitsOf (w : Vec F S8x1024 .f32) (xb : Vec F S1x128x1024 .f32) : FVec F S8x128 .f32 :=
  matmul dot_S8x1024_S128x1024_S8x128_1_1_0_0_n_n none w (shapeCast S128x1024 xb shapeCasts_S1x128x1024_S128x1024) (constant S8x128 .f32 0x00000000#32)

/-- A row spread over the eight experts. -/
def spread (r : FVec F S128 .f32) : FVec F S8x128 .f32 :=
  broadcastTo S8x128 (shapeCast S1x128 r shapeCasts_S128_S1x128) broadcasts_S1x128_S8x128

/-- The exponentials of the logits less their column's maximum. -/
def expsOf (l : FVec F S8x128 .f32) : FVec F S8x128 .f32 :=
  exp (subf l (spread (multiReduction .maximumf [0] S128 l 0xFF800000#32 reduces_S8x128_S128 (.inl rfl) rfl)))

/-- The sum of each column. -/
def colSum (x : FVec F S8x128 .f32) : FVec F S128 .f32 :=
  multiReduction .add [0] S128 x 0x00000000#32 reduces_S8x128_S128 (.inl rfl) rfl

/-- The sum of each column, as a row. -/
def rowSum (x : FVec F S8x128 .f32) : FVec F S1x128 .f32 :=
  shapeCast S1x128 (colSum x) shapeCasts_S128_S1x128

/-- The softmax over the experts. -/
def probsOf (w : Vec F S8x1024 .f32) (xb : Vec F S1x128x1024 .f32) : FVec F S8x128 .f32 :=
  divf (expsOf (logitsOf w xb)) (spread (colSum (expsOf (logitsOf w xb))))

/-- The entropy of one head's block, summed over its rows. -/
def entOf (p : FVec F S8x128 .f32) : F .f32 :=
  Scalar.subf (Scalar.ofBits .f32 0x00000000#32)
    (extractAt ![0, 0, 0] (shapeCast S1x1x1 (multiReduction .add [1, 2] S1
      (shapeCast S1x8x128 (mulf p (log (addf p (broadcast S8x128 (Scalar.ofBits .f32 0x2EDBE6FF#32))))) shapeCasts_S8x128_S1x8x128)
      0x00000000#32 reduces_S1x8x128_S1 (.inl rfl) rfl) shapeCasts_S1_S1x1x1) inpos_S1x1x1_p0_0_0)

/-- One expert's row spread over the eight experts. -/
def expertRow (p : FVec F S8x128 .f32) (o : Fin 2 → Nat) (h : S8x128.Slices o S1x128) : FVec F S8x128 .f32 :=
  broadcastTo S8x128 (extractStridedSlice S1x128 o p h) broadcasts_S1x128_S8x128

/-- The experts ahead of the first one. -/
def aheadFirst (p : FVec F S8x128 .f32) : IVec S8x128 1 :=
  cmpf .ogt p (expertRow p ![0, 0] slices_S8x128_o0_0_S1x128)

/-- The experts ahead of another one: the more probable, and the equally probable before it. -/
def aheadOf (p : FVec F S8x128 .f32) (o : Fin 2 → Nat) (h : S8x128.Slices o S1x128) (k : BitVec 32) : IVec S8x128 1 :=
  ori (cmpf .ogt p (expertRow p o h))
    (andi (cmpf .oeq p (expertRow p o h)) (cmpi .slt (iota .tc S8x128 32 [0] iota_S8x128_d0_w32) (broadcast S8x128 k)))

/-- The probability of the experts marked, by column. -/
def massOf (p : FVec F S8x128 .f32) (a : IVec S8x128 1) : FVec F S1x128 .f32 :=
  rowSum (select a p (broadcast S8x128 (Scalar.ofBits .f32 0x00000000#32)))

/-- The number of the experts marked, by column. -/
def countOf (a : IVec S8x128 1) : FVec F S1x128 .f32 :=
  rowSum (sitofp .f32 (extui 32 a natLt_1_32))

/-- Eight rows, one under the other. -/
def stack (a b c d e f g h : FVec F S1x128 .f32) : FVec F S8x128 .f32 :=
  concatenate S8x128 0 [⟨S1x128, a⟩, ⟨S1x128, b⟩, ⟨S1x128, c⟩, ⟨S1x128, d⟩, ⟨S1x128, e⟩, ⟨S1x128, f⟩, ⟨S1x128, g⟩, ⟨S1x128, h⟩] concatenates_S1x128_S1x128_S1x128_S1x128_S1x128_S1x128_S1x128_S1x128_S8x128_d0

/-- The probability ahead of each expert. -/
def massAhead (p : FVec F S8x128 .f32) : FVec F S8x128 .f32 :=
  stack (massOf p (aheadFirst p))
    (massOf p (aheadOf p ![1, 0] slices_S8x128_o1_0_S1x128 1#32))
    (massOf p (aheadOf p ![2, 0] slices_S8x128_o2_0_S1x128 2#32))
    (massOf p (aheadOf p ![3, 0] slices_S8x128_o3_0_S1x128 3#32))
    (massOf p (aheadOf p ![4, 0] slices_S8x128_o4_0_S1x128 4#32))
    (massOf p (aheadOf p ![5, 0] slices_S8x128_o5_0_S1x128 5#32))
    (massOf p (aheadOf p ![6, 0] slices_S8x128_o6_0_S1x128 6#32))
    (massOf p (aheadOf p ![7, 0] slices_S8x128_o7_0_S1x128 7#32))

/-- The number of experts ahead of each. -/
def rankOf (p : FVec F S8x128 .f32) : FVec F S8x128 .f32 :=
  stack (countOf (aheadFirst p))
    (countOf (aheadOf p ![1, 0] slices_S8x128_o1_0_S1x128 1#32))
    (countOf (aheadOf p ![2, 0] slices_S8x128_o2_0_S1x128 2#32))
    (countOf (aheadOf p ![3, 0] slices_S8x128_o3_0_S1x128 3#32))
    (countOf (aheadOf p ![4, 0] slices_S8x128_o4_0_S1x128 4#32))
    (countOf (aheadOf p ![5, 0] slices_S8x128_o5_0_S1x128 5#32))
    (countOf (aheadOf p ![6, 0] slices_S8x128_o6_0_S1x128 6#32))
    (countOf (aheadOf p ![7, 0] slices_S8x128_o7_0_S1x128 7#32))

/-- The gates: an expert is kept when the probability ahead of it is at most a half. -/
def gatesOf (p : FVec F S8x128 .f32) : FVec F S8x128 .f32 :=
  sitofp .f32 (extui 32 (cmpf .ole (massAhead p) (broadcast S8x128 (Scalar.ofBits .f32 0x3F000000#32))) natLt_1_32)

/-- The probability kept at one rank. -/
def keptAt (rk pg : FVec F S8x128 .f32) (k : BitVec 32) : FVec F S1x128 .f32 :=
  rowSum (select (cmpf .oeq rk (broadcast S8x128 (Scalar.ofBits .f32 k))) pg (broadcast S8x128 (Scalar.ofBits .f32 0x00000000#32)))

/-- The probabilities kept, by rank. -/
def vcOf (p : FVec F S8x128 .f32) : FVec F S8x128 .f32 :=
  stack (keptAt (rankOf p) (mulf p (gatesOf p)) 0x00000000#32)
    (keptAt (rankOf p) (mulf p (gatesOf p)) 0x3F800000#32)
    (keptAt (rankOf p) (mulf p (gatesOf p)) 0x40000000#32)
    (keptAt (rankOf p) (mulf p (gatesOf p)) 0x40400000#32)
    (keptAt (rankOf p) (mulf p (gatesOf p)) 0x40800000#32)
    (keptAt (rankOf p) (mulf p (gatesOf p)) 0x40A00000#32)
    (keptAt (rankOf p) (mulf p (gatesOf p)) 0x40C00000#32)
    (keptAt (rankOf p) (mulf p (gatesOf p)) 0x40E00000#32)

/-- The probabilities kept by the sixteen heads of a point, added in order. -/
def vcSum (p : Fin 16 → FVec F S8x128 .f32) : FVec F S8x128 .f32 :=
  addf (addf (addf (addf (addf (addf (addf (addf (addf (addf (addf (addf (addf (addf (addf (vcOf (p 0)) (vcOf (p 1))) (vcOf (p 2))) (vcOf (p 3))) (vcOf (p 4))) (vcOf (p 5))) (vcOf (p 6))) (vcOf (p 7))) (vcOf (p 8))) (vcOf (p 9))) (vcOf (p 10))) (vcOf (p 11))) (vcOf (p 12))) (vcOf (p 13))) (vcOf (p 14))) (vcOf (p 15))

/-- The entropies of the sixteen heads of a point, added in order. -/
def entSum (p : Fin 16 → FVec F S8x128 .f32) : F .f32 :=
  Scalar.addf (Scalar.addf (Scalar.addf (Scalar.addf (Scalar.addf (Scalar.addf (Scalar.addf (Scalar.addf (Scalar.addf (Scalar.addf (Scalar.addf (Scalar.addf (Scalar.addf (Scalar.addf (Scalar.addf (entOf (p 0)) (entOf (p 1))) (entOf (p 2))) (entOf (p 3))) (entOf (p 4))) (entOf (p 5))) (entOf (p 6))) (entOf (p 7))) (entOf (p 8))) (entOf (p 9))) (entOf (p 10))) (entOf (p 11))) (entOf (p 12))) (entOf (p 13))) (entOf (p 14))) (entOf (p 15))

/-- One expert's gate on its block of masks. -/
def gated (g : FVec F S128x8 .f32) (o : Fin 2 → Nat) (h : S128x8.Slices o S128x1) (m : FVec F S128x1024 .f32) : FVec F S128x1024 .f32 :=
  mulf (broadcastTo S128x1024 (extractStridedSlice S128x1 o g h) broadcasts_S128x1_S128x1024) m

/-- The block of the identity at a step's rows. -/
def eyeOf (k : BitVec 32) : FVec F S128x1024 .f32 :=
  sitofp .f32 (extui 32 (cmpi .eq (addi (broadcast S128x1024 (Scalar.muli k 128#32)) (iota .tc S128x1024 32 [0] iota_S128x1024_d0_w32)) (iota .tc S128x1024 32 [1] iota_S128x1024_d1_w32)) natLt_1_32)

/-- The gated masks added up over the experts. -/
def blend (g : FVec F S128x8 .f32) (m : Fin 8 → FVec F S128x1024 .f32) : FVec F S128x1024 .f32 :=
  addf (addf (addf (addf (addf (addf (addf (gated g ![0, 0] slices_S128x8_o0_0_S128x1 (m 0)) (gated g ![0, 1] slices_S128x8_o0_1_S128x1 (m 1))) (gated g ![0, 2] slices_S128x8_o0_2_S128x1 (m 2))) (gated g ![0, 3] slices_S128x8_o0_3_S128x1 (m 3))) (gated g ![0, 4] slices_S128x8_o0_4_S128x1 (m 4))) (gated g ![0, 5] slices_S128x8_o0_5_S128x1 (m 5))) (gated g ![0, 6] slices_S128x8_o0_6_S128x1 (m 6))) (gated g ![0, 7] slices_S128x8_o0_7_S128x1 (m 7))

/-- One head's rows of the output. -/
def rowsOf (k : BitVec 32) (p : FVec F S8x128 .f32) (m : Fin 8 → FVec F S128x1024 .f32) : FVec F S1x128x1024 .f32 :=
  shapeCast S1x128x1024 (addf (blend (transpose S128x8 [1, 0] (gatesOf p) transposes_S8x128_p1_0_S128x8) m) (eyeOf k)) shapeCasts_S128x1024_S1x128x1024

end Cert.KernelIdeal.Hand

end
-- ==== Proof.KernelIdeal.Pieces.lean ====
/- What each run of the body stores, as the plain functions of the blocks it read. -/
module

public import proofs.«01_k».proof.Proof.KernelIdeal.RunD
public import proofs.«01_k».proof.Proof.KernelIdeal.Values

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem row_inb (h : Fin 16) : ∀ a, (![h.val, 0, 0] : Fin 3 → Nat) a + S1x128x1024.size a ≤ S16x128x1024.size a := by
  revert h; decide

/-- The weights as the body reads them. -/
def wRead (c : Dev nD) (arg3 : Memref sig .tc .vmem S8x1024 .f32) (harg3 : arg3.IsWhole) (x1 : Vec F S8x1024 .f32) : Vec F S8x1024 .f32 :=
  View.readAt (Elt F) arg3.view (Rect.unit (s := S8x1024) ![0, 0] S8x1024.size inb_S8x1024_S8x1024_0_0).toLoadRect (harg3.unread x1)
/-- One head's block as the body reads it. -/
def xRead (c : Dev nD) (arg2 : Memref sig .tc .vmem S16x128x1024 .f32) (harg2 : arg2.IsWhole) (x0 : Vec F S16x128x1024 .f32) (h : Fin 16) : Vec F S1x128x1024 .f32 :=
  View.readAt (Elt F) arg2.view (Rect.unit (s := S16x128x1024) ![h.val, 0, 0] S1x128x1024.size (row_inb h)).toLoadRect (harg2.unread x0)
/-- The softmax of one head at the blocks the body reads. -/
def pRead (c : Dev nD) (arg2 : Memref sig .tc .vmem S16x128x1024 .f32) (harg2 : arg2.IsWhole) (arg3 : Memref sig .tc .vmem S8x1024 .f32) (harg3 : arg3.IsWhole) (x0 : Vec F S16x128x1024 .f32) (x1 : Vec F S8x1024 .f32) (h : Fin 16) : FVec F S8x128 .f32 :=
  probsOf (wRead c arg3 harg3 x1) (xRead c arg2 harg2 x0 h)
/-- Expert 0's block of masks as the body reads it from its slot. -/
def mRead0 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off52 (grid0.coords t)) S1x1x128x1024.size (k0_off52_inb (grid0.coords t))).toLoadRect
    ((part (slotOf (t.val / 2)) 0).view.writes (Elt F) (part (slotOf (t.val / 2)) 0).view.junk
      [⟨Rect.whole S128x1024, ReadAs.same.apply (View.read (Elt F) (srcOf (blkOf (t.val / 2)) 0).view W0)⟩])) shapeCasts_S1x1x128x1024_S128x1024
/-- Expert 1's block of masks as the body reads it from its slot. -/
def mRead1 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off53 (grid0.coords t)) S1x1x128x1024.size (k0_off53_inb (grid0.coords t))).toLoadRect
    ((part (slotOf (t.val / 2)) 1).view.writes (Elt F) (part (slotOf (t.val / 2)) 1).view.junk
      [⟨Rect.whole S128x1024, ReadAs.same.apply (View.read (Elt F) (srcOf (blkOf (t.val / 2)) 1).view W0)⟩])) shapeCasts_S1x1x128x1024_S128x1024
/-- Expert 2's block of masks as the body reads it from its slot. -/
def mRead2 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off54 (grid0.coords t)) S1x1x128x1024.size (k0_off54_inb (grid0.coords t))).toLoadRect
    ((part (slotOf (t.val / 2)) 2).view.writes (Elt F) (part (slotOf (t.val / 2)) 2).view.junk
      [⟨Rect.whole S128x1024, ReadAs.same.apply (View.read (Elt F) (srcOf (blkOf (t.val / 2)) 2).view W0)⟩])) shapeCasts_S1x1x128x1024_S128x1024
/-- Expert 3's block of masks as the body reads it from its slot. -/
def mRead3 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off55 (grid0.coords t)) S1x1x128x1024.size (k0_off55_inb (grid0.coords t))).toLoadRect
    ((part (slotOf (t.val / 2)) 3).view.writes (Elt F) (part (slotOf (t.val / 2)) 3).view.junk
      [⟨Rect.whole S128x1024, ReadAs.same.apply (View.read (Elt F) (srcOf (blkOf (t.val / 2)) 3).view W0)⟩])) shapeCasts_S1x1x128x1024_S128x1024
/-- Expert 4's block of masks as the body reads it from its slot. -/
def mRead4 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off56 (grid0.coords t)) S1x1x128x1024.size (k0_off56_inb (grid0.coords t))).toLoadRect
    ((part (slotOf (t.val / 2)) 4).view.writes (Elt F) (part (slotOf (t.val / 2)) 4).view.junk
      [⟨Rect.whole S128x1024, ReadAs.same.apply (View.read (Elt F) (srcOf (blkOf (t.val / 2)) 4).view W0)⟩])) shapeCasts_S1x1x128x1024_S128x1024
/-- Expert 5's block of masks as the body reads it from its slot. -/
def mRead5 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off57 (grid0.coords t)) S1x1x128x1024.size (k0_off57_inb (grid0.coords t))).toLoadRect
    ((part (slotOf (t.val / 2)) 5).view.writes (Elt F) (part (slotOf (t.val / 2)) 5).view.junk
      [⟨Rect.whole S128x1024, ReadAs.same.apply (View.read (Elt F) (srcOf (blkOf (t.val / 2)) 5).view W0)⟩])) shapeCasts_S1x1x128x1024_S128x1024
/-- Expert 6's block of masks as the body reads it from its slot. -/
def mRead6 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off58 (grid0.coords t)) S1x1x128x1024.size (k0_off58_inb (grid0.coords t))).toLoadRect
    ((part (slotOf (t.val / 2)) 6).view.writes (Elt F) (part (slotOf (t.val / 2)) 6).view.junk
      [⟨Rect.whole S128x1024, ReadAs.same.apply (View.read (Elt F) (srcOf (blkOf (t.val / 2)) 6).view W0)⟩])) shapeCasts_S1x1x128x1024_S128x1024
/-- Expert 7's block of masks as the body reads it from its slot. -/
def mRead7 (c : Dev nD) (t : Fin grid0.N) (W0 : BufAt (F := F) c mskM) : FVec F S128x1024 .f32 :=
  shapeCast S128x1024 (show Vec F S1x1x128x1024 .f32 from View.readAt (Elt F) scrM.view (Rect.unit (s := S2x8x128x1024) (k0_off59 (grid0.coords t)) S1x1x128x1024.size (k0_off59_inb (grid0.coords t))).toLoadRect
    ((part (slotOf (t.val / 2)) 7).view.writes (Elt F) (part (slotOf (t.val / 2)) 7).view.junk
      [⟨Rect.whole S128x1024, ReadAs.same.apply (View.read (Elt F) (srcOf (blkOf (t.val / 2)) 7).view W0)⟩])) shapeCasts_S1x1x128x1024_S128x1024
/-- The eight blocks of masks as the body reads them. -/
def mRead (c : Dev nD) (t : Fin grid0.N) (W0 : BufAt (F := F) c mskM) (i : Fin 8) : FVec F S128x1024 .f32 :=
  match i with
  | 0 => mRead0 c t W0
  | 1 => mRead1 c t W0
  | 2 => mRead2 c t W0
  | 3 => mRead3 c t W0
  | 4 => mRead4 c t W0
  | 5 => mRead5 c t W0
  | 6 => mRead6 c t W0
  | 7 => mRead7 c t W0

/-- The stores into the output's block: one head's rows each. -/
def outPieces (k : BitVec 32) (p : Fin 16 → FVec F S8x128 .f32) (m : Fin 8 → FVec F S128x1024 .f32) : List (View.Piece (Elt F) S16x128x1024 .f32) :=
  [⟨Rect.unit (s := S16x128x1024) ![15, 0, 0] S1x128x1024.size inb_S16x128x1024_S1x128x1024_15_0_0, rowsOf k (p 15) m⟩,
   ⟨Rect.unit (s := S16x128x1024) ![14, 0, 0] S1x128x1024.size inb_S16x128x1024_S1x128x1024_14_0_0, rowsOf k (p 14) m⟩,
   ⟨Rect.unit (s := S16x128x1024) ![13, 0, 0] S1x128x1024.size inb_S16x128x1024_S1x128x1024_13_0_0, rowsOf k (p 13) m⟩,
   ⟨Rect.unit (s := S16x128x1024) ![12, 0, 0] S1x128x1024.size inb_S16x128x1024_S1x128x1024_12_0_0, rowsOf k (p 12) m⟩,
   ⟨Rect.unit (s := S16x128x1024) ![11, 0, 0] S1x128x1024.size inb_S16x128x1024_S1x128x1024_11_0_0, rowsOf k (p 11) m⟩,
   ⟨Rect.unit (s := S16x128x1024) ![10, 0, 0] S1x128x1024.size inb_S16x128x1024_S1x128x1024_10_0_0, rowsOf k (p 10) m⟩,
   ⟨Rect.unit (s := S16x128x1024) ![9, 0, 0] S1x128x1024.size inb_S16x128x1024_S1x128x1024_9_0_0, rowsOf k (p 9) m⟩,
   ⟨Rect.unit (s := S16x128x1024) ![8, 0, 0] S1x128x1024.size inb_S16x128x1024_S1x128x1024_8_0_0, rowsOf k (p 8) m⟩,
   ⟨Rect.unit (s := S16x128x1024) ![7, 0, 0] S1x128x1024.size inb_S16x128x1024_S1x128x1024_7_0_0, rowsOf k (p 7) m⟩,
   ⟨Rect.unit (s := S16x128x1024) ![6, 0, 0] S1x128x1024.size inb_S16x128x1024_S1x128x1024_6_0_0, rowsOf k (p 6) m⟩,
   ⟨Rect.unit (s := S16x128x1024) ![5, 0, 0] S1x128x1024.size inb_S16x128x1024_S1x128x1024_5_0_0, rowsOf k (p 5) m⟩,
   ⟨Rect.unit (s := S16x128x1024) ![4, 0, 0] S1x128x1024.size inb_S16x128x1024_S1x128x1024_4_0_0, rowsOf k (p 4) m⟩,
   ⟨Rect.unit (s := S16x128x1024) ![3, 0, 0] S1x128x1024.size inb_S16x128x1024_S1x128x1024_3_0_0, rowsOf k (p 3) m⟩,
   ⟨Rect.unit (s := S16x128x1024) ![2, 0, 0] S1x128x1024.size inb_S16x128x1024_S1x128x1024_2_0_0, rowsOf k (p 2) m⟩,
   ⟨Rect.unit (s := S16x128x1024) ![1, 0, 0] S1x128x1024.size inb_S16x128x1024_S1x128x1024_1_0_0, rowsOf k (p 1) m⟩,
   ⟨Rect.unit (s := S16x128x1024) ![0, 0, 0] S1x128x1024.size inb_S16x128x1024_S1x128x1024_0_0_0, rowsOf k (p 0) m⟩]

set_option maxHeartbeats 8000000 in
theorem runA_stat (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : (k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runA c t arg2 harg2 arg3 harg3 arg5 harg5 arg6 harg6 arg7 harg7 hc1 hc2 hc3 hc4 hc5 hc6 hc7 x0 x1 W0).2.1 = [⟨Rect.unit (s := S8x128) ![0, 0] S8x128.size inb_S8x128_S8x128_0_0, vcSum (pRead c arg2 harg2 arg3 harg3 x0 x1)⟩] := by
  sl_kernel_rfl

set_option maxHeartbeats 8000000 in
theorem runA_ent (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : (k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runA c t arg2 harg2 arg3 harg3 arg5 harg5 arg6 harg6 arg7 harg7 hc1 hc2 hc3 hc4 hc5 hc6 hc7 x0 x1 W0).2.2.1 = [⟨Rect.unit (s := S1x1x1) ![0, 0, 0] S1x1x1.size inb_S1x1x1_S1x1x1_0_0_0, fun _ => entSum (pRead c arg2 harg2 arg3 harg3 x0 x1)⟩] := by
  sl_kernel_rfl

set_option maxHeartbeats 8000000 in
theorem runA_out (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : (k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runA c t arg2 harg2 arg3 harg3 arg5 harg5 arg6 harg6 arg7 harg7 hc1 hc2 hc3 hc4 hc5 hc6 hc7 x0 x1 W0).1 = outPieces (BitVec.ofNat 32 (grid0.coords t 0)) (pRead c arg2 harg2 arg3 harg3 x0 x1) (mRead c t W0) := by
  sl_kernel_rfl

set_option maxHeartbeats 8000000 in
theorem runB_stat (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : ¬(k0_cond1 (grid0.coords t) = 1#1)) (hc4 : ¬(k0_cond4 (grid0.coords t) = 1#1)) (hc5 : (k0_cond5 (grid0.coords t) = 1#1)) (hc6 : ¬(k0_cond6 (grid0.coords t) = 1#1)) (hc7 : (k0_cond7 (grid0.coords t) = 1#1))
    (x0 : Vec F S16x128x1024 .f32) (x1 : Vec F S8x1024 .f32) (xo3 : Vec F S8x128 .f32) (xo4 : Vec F S1x1x1 .f32) (W0 : BufAt (F := F) c mskM) :
    (runB c t arg2 harg2 arg3 harg3 arg5 harg5 arg6 harg6 arg7 harg7 hc1 hc4 hc5 hc6 hc7 x0 x1 xo3 xo4 W0).2.1 = [⟨Rect.unit (s := S8x128) ![0, 0] S8x128.size inb_S8x128_S8x128_0_0, addf (shapeCast S8x128 (View.readAt (Elt F) arg6.view (Rect.unit (s := S8x128) ![0, 0] S8x128.size inb_S8x128_S8x128_0_0).toLoadRect (harg6.unread xo3)) shapeCasts_S8x128_S8x128) (vcSum (pRead c arg2 harg2 arg3 harg3 x0 x1))⟩] := by
  sl_kernel_rfl

set_option maxHeartbeats 8000000 in
theorem runB_ent (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : ¬(k0_cond1 (grid0.coords t) = 1#1)) (hc4 : ¬(k0_cond4 (grid0.coords t) = 1#1)) (hc5 : (k0_cond5 (grid0.coords t) = 1#1)) (hc6 : ¬(k0_cond6 (grid0.coords t) = 1#1)) (hc7 : (k0_cond7 (grid0.coords t) = 1#1))
    (x0 : Vec F S16x128x1024 .f32) (x1 : Vec F S8x1024 .f32) (xo3 : Vec F S8x128 .f32) (xo4 : Vec F S1x1x1 .f32) (W0 : BufAt (F := F) c mskM) :
    (runB c t arg2 harg2 arg3 harg3 arg5 harg5 arg6 harg6 arg7 harg7 hc1 hc4 hc5 hc6 hc7 x0 x1 xo3 xo4 W0).2.2.1 = [⟨Rect.unit (s := S1x1x1) ![0, 0, 0] S1x1x1.size inb_S1x1x1_S1x1x1_0_0_0, fun _ => Scalar.addf (View.readAt (Elt F) arg7.view (Rect.unit (s := S1x1x1) ![0, 0, 0] S1x1x1.size inb_S1x1x1_S1x1x1_0_0_0).toLoadRect (harg7.unread xo4) (Shape.Idx.first (s := S1x1x1) (by decide))) (entSum (pRead c arg2 harg2 arg3 harg3 x0 x1))⟩] := by
  sl_kernel_rfl

set_option maxHeartbeats 8000000 in
theorem runB_out (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : ¬(k0_cond1 (grid0.coords t) = 1#1)) (hc4 : ¬(k0_cond4 (grid0.coords t) = 1#1)) (hc5 : (k0_cond5 (grid0.coords t) = 1#1)) (hc6 : ¬(k0_cond6 (grid0.coords t) = 1#1)) (hc7 : (k0_cond7 (grid0.coords t) = 1#1))
    (x0 : Vec F S16x128x1024 .f32) (x1 : Vec F S8x1024 .f32) (xo3 : Vec F S8x128 .f32) (xo4 : Vec F S1x1x1 .f32) (W0 : BufAt (F := F) c mskM) :
    (runB c t arg2 harg2 arg3 harg3 arg5 harg5 arg6 harg6 arg7 harg7 hc1 hc4 hc5 hc6 hc7 x0 x1 xo3 xo4 W0).1 = outPieces (BitVec.ofNat 32 (grid0.coords t 0)) (pRead c arg2 harg2 arg3 harg3 x0 x1) (mRead c t W0) := by
  sl_kernel_rfl

set_option maxHeartbeats 8000000 in
theorem runC_stat (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runC c t arg2 harg2 arg3 harg3 arg5 harg5 arg6 harg6 arg7 harg7 hc1 hc2 hc3 hc4 hc5 hc6 hc7 x0 x1 W0).2.1 = [⟨Rect.unit (s := S8x128) ![0, 0] S8x128.size inb_S8x128_S8x128_0_0, vcSum (pRead c arg2 harg2 arg3 harg3 x0 x1)⟩] := by
  sl_kernel_rfl

set_option maxHeartbeats 8000000 in
theorem runC_ent (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runC c t arg2 harg2 arg3 harg3 arg5 harg5 arg6 harg6 arg7 harg7 hc1 hc2 hc3 hc4 hc5 hc6 hc7 x0 x1 W0).2.2.1 = [⟨Rect.unit (s := S1x1x1) ![0, 0, 0] S1x1x1.size inb_S1x1x1_S1x1x1_0_0_0, fun _ => entSum (pRead c arg2 harg2 arg3 harg3 x0 x1)⟩] := by
  sl_kernel_rfl

set_option maxHeartbeats 8000000 in
theorem runC_out (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : (k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runC c t arg2 harg2 arg3 harg3 arg5 harg5 arg6 harg6 arg7 harg7 hc1 hc2 hc3 hc4 hc5 hc6 hc7 x0 x1 W0).1 = outPieces (BitVec.ofNat 32 (grid0.coords t 0)) (pRead c arg2 harg2 arg3 harg3 x0 x1) (mRead c t W0) := by
  sl_kernel_rfl

set_option maxHeartbeats 8000000 in
theorem runD_stat (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : ¬(k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runD c t arg2 harg2 arg3 harg3 arg5 harg5 arg6 harg6 arg7 harg7 hc1 hc2 hc3 hc4 hc5 hc6 hc7 x0 x1 W0).2.1 = [⟨Rect.unit (s := S8x128) ![0, 0] S8x128.size inb_S8x128_S8x128_0_0, vcSum (pRead c arg2 harg2 arg3 harg3 x0 x1)⟩] := by
  sl_kernel_rfl

set_option maxHeartbeats 8000000 in
theorem runD_ent (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : ¬(k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runD c t arg2 harg2 arg3 harg3 arg5 harg5 arg6 harg6 arg7 harg7 hc1 hc2 hc3 hc4 hc5 hc6 hc7 x0 x1 W0).2.2.1 = [⟨Rect.unit (s := S1x1x1) ![0, 0, 0] S1x1x1.size inb_S1x1x1_S1x1x1_0_0_0, fun _ => entSum (pRead c arg2 harg2 arg3 harg3 x0 x1)⟩] := by
  sl_kernel_rfl

set_option maxHeartbeats 8000000 in
theorem runD_out (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (hc1 : (k0_cond1 (grid0.coords t) = 1#1)) (hc2 : ¬(k0_cond2 (grid0.coords t) = 1#1)) (hc3 : ¬(k0_cond3 (grid0.coords t) = 1#1)) (hc4 : (k0_cond4 (grid0.coords t) = 1#1)) (hc5 : ¬(k0_cond5 (grid0.coords t) = 1#1)) (hc6 : (k0_cond6 (grid0.coords t) = 1#1)) (hc7 : ¬(k0_cond7 (grid0.coords t) = 1#1))
    (x0 : Vec F S16x128x1024 .f32) (x1 : Vec F S8x1024 .f32) (W0 : BufAt (F := F) c mskM) :
    (runD c t arg2 harg2 arg3 harg3 arg5 harg5 arg6 harg6 arg7 harg7 hc1 hc2 hc3 hc4 hc5 hc6 hc7 x0 x1 W0).1 = outPieces (BitVec.ofNat 32 (grid0.coords t 0)) (pRead c arg2 harg2 arg3 harg3 x0 x1) (mRead c t W0) := by
  sl_kernel_rfl

end Cert.KernelIdeal.Hand

end
-- ==== Proof.KernelIdeal.Reads.lean ====
/- One point of the main call: what the body leaves in the output blocks, and how it hands on the blocks of masks. -/
module

public import proofs.«01_k».proof.Proof.KernelIdeal.Pieces
public import Idealize.ShloMosaic.Lib.VecWindow
public import Idealize.ShloMosaic.Lib.WholeRead
public import Idealize.ShloMosaic.Lib.Writes

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- One head's block of a window of sixteen. -/
def headOf (x0 : Vec F S16x128x1024 .f32) (h : Fin 16) : Vec F S1x128x1024 .f32 :=
  View.ld (Val := Elt F) x0 (Rect.unit (s := S16x128x1024) ![h.val, 0, 0] S1x128x1024.size (row_inb h))
/-- The softmax of the sixteen heads of a point. -/
def psOf (x0 : Vec F S16x128x1024 .f32) (x1 : Vec F S8x1024 .f32) (h : Fin 16) : FVec F S8x128 .f32 := probsOf x1 (headOf x0 h)
/-- One expert's rows of a block of the masks. -/
def maskOf (c : Dev nD) (W0 : BufAt (F := F) c mskM) (b i : Fin 8) : FVec F S128x1024 .f32 := View.read (Elt F) (srcOf b i).view W0
/-- The index of one element of a head's rows. -/
def rowIx (j : S16x128x1024.Idx) : S1x128x1024.Idx := fun a => match a with
  | ⟨0, _⟩ => (⟨0, Nat.one_pos⟩ : Fin 1)
  | ⟨1, _⟩ => j 1
  | ⟨2, _⟩ => j 2
/-- The block of the output. -/
def outBlk (k : BitVec 32) (p : Fin 16 → FVec F S8x128 .f32) (m : Fin 8 → FVec F S128x1024 .f32) : Vec F S16x128x1024 .f32 :=
  fun j => rowsOf k (p (j 0)) m (rowIx j)

theorem wRead_eq (c : Dev nD) (arg3 : Memref sig .tc .vmem S8x1024 .f32) (harg3 : arg3.IsWhole) (x1 : Vec F S8x1024 .f32) : wRead c arg3 harg3 x1 = x1 := by
  unfold wRead; rw [View.readAt_full]; exact harg3.read_unread x1
theorem xRead_eq (c : Dev nD) (arg2 : Memref sig .tc .vmem S16x128x1024 .f32) (harg2 : arg2.IsWhole) (x0 : Vec F S16x128x1024 .f32) (h : Fin 16) : xRead c arg2 harg2 x0 h = headOf x0 h :=
  by
  unfold xRead headOf; rw [View.readAt_eq_ld, harg2.read_unread]
theorem pRead_eq (c : Dev nD) (arg2 : Memref sig .tc .vmem S16x128x1024 .f32) (harg2 : arg2.IsWhole) (arg3 : Memref sig .tc .vmem S8x1024 .f32) (harg3 : arg3.IsWhole) (x0 : Vec F S16x128x1024 .f32) (x1 : Vec F S8x1024 .f32) :
    pRead c arg2 harg2 arg3 harg3 x0 x1 = psOf x0 x1 := by
  funext h; unfold pRead psOf; rw [wRead_eq, xRead_eq]

theorem slot_read (s : Fin 2) (w : Fin 8) (f) (v : FVec F S128x1024 .f32)
    (off : Fin 4 → Nat) (hoff : off = ![s.val, w.val, 0, 0]) (inb : ∀ a, off a + S1x1x128x1024.size a ≤ S2x8x128x1024.size a) :
    shapeCast S128x1024 (show Vec F S1x1x128x1024 .f32 from View.readAt (Elt F) scrM.view (Rect.unit (s := S2x8x128x1024) off S1x1x128x1024.size inb).toLoadRect
      ((part s w).view.writes (Elt F) f [⟨Rect.whole S128x1024, v⟩])) shapeCasts_S1x1x128x1024_S128x1024 = v := by
  subst hoff
  exact (part s w).view.read_writes_whole f v

theorem mRead0_eq (c : Dev nD) (t : Fin grid0.N) (W0 : BufAt (F := F) c mskM) : mRead0 c t W0 = maskOf c W0 (blkOf (t.val / 2)) 0 :=
  slot_read (slotOf (t.val / 2)) 0 _ _ _ (off52 t) _
theorem mRead1_eq (c : Dev nD) (t : Fin grid0.N) (W0 : BufAt (F := F) c mskM) : mRead1 c t W0 = maskOf c W0 (blkOf (t.val / 2)) 1 :=
  slot_read (slotOf (t.val / 2)) 1 _ _ _ (off53 t) _
theorem mRead2_eq (c : Dev nD) (t : Fin grid0.N) (W0 : BufAt (F := F) c mskM) : mRead2 c t W0 = maskOf c W0 (blkOf (t.val / 2)) 2 :=
  slot_read (slotOf (t.val / 2)) 2 _ _ _ (off54 t) _
theorem mRead3_eq (c : Dev nD) (t : Fin grid0.N) (W0 : BufAt (F := F) c mskM) : mRead3 c t W0 = maskOf c W0 (blkOf (t.val / 2)) 3 :=
  slot_read (slotOf (t.val / 2)) 3 _ _ _ (off55 t) _
theorem mRead4_eq (c : Dev nD) (t : Fin grid0.N) (W0 : BufAt (F := F) c mskM) : mRead4 c t W0 = maskOf c W0 (blkOf (t.val / 2)) 4 :=
  slot_read (slotOf (t.val / 2)) 4 _ _ _ (off56 t) _
theorem mRead5_eq (c : Dev nD) (t : Fin grid0.N) (W0 : BufAt (F := F) c mskM) : mRead5 c t W0 = maskOf c W0 (blkOf (t.val / 2)) 5 :=
  slot_read (slotOf (t.val / 2)) 5 _ _ _ (off57 t) _
theorem mRead6_eq (c : Dev nD) (t : Fin grid0.N) (W0 : BufAt (F := F) c mskM) : mRead6 c t W0 = maskOf c W0 (blkOf (t.val / 2)) 6 :=
  slot_read (slotOf (t.val / 2)) 6 _ _ _ (off58 t) _
theorem mRead7_eq (c : Dev nD) (t : Fin grid0.N) (W0 : BufAt (F := F) c mskM) : mRead7 c t W0 = maskOf c W0 (blkOf (t.val / 2)) 7 :=
  slot_read (slotOf (t.val / 2)) 7 _ _ _ (off59 t) _
theorem mRead_eq (c : Dev nD) (t : Fin grid0.N) (W0 : BufAt (F := F) c mskM) : mRead c t W0 = maskOf c W0 (blkOf (t.val / 2)) := by
  funext i
  match i with
  | 0 => exact mRead0_eq c t W0
  | 1 => exact mRead1_eq c t W0
  | 2 => exact mRead2_eq c t W0
  | 3 => exact mRead3_eq c t W0
  | 4 => exact mRead4_eq c t W0
  | 5 => exact mRead5_eq c t W0
  | 6 => exact mRead6_eq c t W0
  | 7 => exact mRead7_eq c t W0

theorem out_piece (k : BitVec 32) (p : Fin 16 → FVec F S8x128 .f32) (m : Fin 8 → FVec F S128x1024 .f32) (h : Fin 16) (off : Fin 3 → Nat) (hoff : off = ![h.val, 0, 0])
    (inb : ∀ a, off a + S1x128x1024.size a ≤ S16x128x1024.size a) (x : S1x128x1024.Idx) :
    rowsOf k (p h) m x = outBlk k p m ((Rect.unit (s := S16x128x1024) off S1x128x1024.size inb).emb x) := by
  subst hoff
  unfold outBlk
  have e0 : ((Rect.unit (s := S16x128x1024) ![h.val, 0, 0] S1x128x1024.size inb).emb x) 0 = h := Fin.ext (by
    have := (x 0).isLt
    have h1 : (x 0).val < 1 := this
    show h.val + 1 * (x 0).val = h.val
    omega)
  have e1 : rowIx ((Rect.unit (s := S16x128x1024) ![h.val, 0, 0] S1x128x1024.size inb).emb x) = x := funext fun a => Fin.ext (by
    match a with
    | ⟨0, _⟩ =>
      have h1 : (x 0).val < 1 := (x 0).isLt
      show 0 = (x 0).val
      omega
    | ⟨1, _⟩ =>
      show 0 + 1 * (x 1).val = (x 1).val
      omega
    | ⟨2, _⟩ =>
      show 0 + 1 * (x 2).val = (x 2).val
      omega)
  rw [e0, e1]

theorem out_read (v : View sig .tc .vmem S16x128x1024 .f32) (f) (k : BitVec 32) (p : Fin 16 → FVec F S8x128 .f32) (m : Fin 8 → FVec F S128x1024 .f32) :
    v.read (Elt F) (v.writes (Elt F) f (outPieces k p m)) = outBlk k p m := by
  funext y
  refine View.read_writes_apply_of_pieces v f (outBlk k p m) _ ?_ y ?_
  · intro q hq
    simp only [outPieces, List.mem_cons, List.not_mem_nil, or_false] at hq
    rcases hq with rfl | rfl | rfl | rfl | rfl | rfl | rfl | rfl | rfl | rfl | rfl | rfl | rfl | rfl | rfl | rfl
    · exact out_piece k p m 15 _ rfl inb_S16x128x1024_S1x128x1024_15_0_0
    · exact out_piece k p m 14 _ rfl inb_S16x128x1024_S1x128x1024_14_0_0
    · exact out_piece k p m 13 _ rfl inb_S16x128x1024_S1x128x1024_13_0_0
    · exact out_piece k p m 12 _ rfl inb_S16x128x1024_S1x128x1024_12_0_0
    · exact out_piece k p m 11 _ rfl inb_S16x128x1024_S1x128x1024_11_0_0
    · exact out_piece k p m 10 _ rfl inb_S16x128x1024_S1x128x1024_10_0_0
    · exact out_piece k p m 9 _ rfl inb_S16x128x1024_S1x128x1024_9_0_0
    · exact out_piece k p m 8 _ rfl inb_S16x128x1024_S1x128x1024_8_0_0
    · exact out_piece k p m 7 _ rfl inb_S16x128x1024_S1x128x1024_7_0_0
    · exact out_piece k p m 6 _ rfl inb_S16x128x1024_S1x128x1024_6_0_0
    · exact out_piece k p m 5 _ rfl inb_S16x128x1024_S1x128x1024_5_0_0
    · exact out_piece k p m 4 _ rfl inb_S16x128x1024_S1x128x1024_4_0_0
    · exact out_piece k p m 3 _ rfl inb_S16x128x1024_S1x128x1024_3_0_0
    · exact out_piece k p m 2 _ rfl inb_S16x128x1024_S1x128x1024_2_0_0
    · exact out_piece k p m 1 _ rfl inb_S16x128x1024_S1x128x1024_1_0_0
    · exact out_piece k p m 0 _ rfl inb_S16x128x1024_S1x128x1024_0_0_0
  · exact View.cover_of_tiledL (outPieces k p m) S1x128x1024.size (by sl_kernel_rfl) y

theorem stat_read (v : View sig .tc .vmem S8x128 .f32) (f) (x : FVec F S8x128 .f32) :
    v.read (Elt F) (v.writes (Elt F) f [⟨Rect.unit (s := S8x128) ![0, 0] S8x128.size inb_S8x128_S8x128_0_0, x⟩]) = x :=
  View.read_writes_full v f _ x []
theorem ent_read (v : View sig .tc .smem S1x1x1 .f32) (f) (x : Vec F S1x1x1 .f32) :
    v.read (Elt F) (v.writes (Elt F) f [⟨Rect.unit (s := S1x1x1) ![0, 0, 0] S1x1x1.size inb_S1x1x1_S1x1x1_0_0_0, x⟩]) = x :=
  View.read_writes_full v f _ x []

/-- The statistics after a point: set at the first point of a step, added to at the second. -/
def statNext (n : ℕ) (x v : FVec F S8x128 .f32) : FVec F S8x128 .f32 := if n % 2 = 0 then v else addf (shapeCast S8x128 x shapeCasts_S8x128_S8x128) v
/-- The entropy after a point. -/
def entNext (n : ℕ) (x : Vec F S1x1x1 .f32) (e : F .f32) : Vec F S1x1x1 .f32 := fun _ => if n % 2 = 0 then e else Scalar.addf (x (Shape.Idx.first (s := S1x1x1) (by decide))) e

theorem pieces_as {α β γ : Type _} {P : α → β → γ → Prop} (R : Σ' a : α, Σ' b : β, { g : γ // P a b g }) {a : α} {b : β} {g : γ}
    (h1 : R.1 = a) (h2 : R.2.1 = b) (h3 : R.2.2.1 = g) : P a b g := by
  subst h1 h2 h3; exact R.2.2.2

theorem held_odd (c : Dev nD) (W0 : BufAt (F := F) c mskM) (n : ℕ) (h : n % 2 = 1) : held c W0 (n + 1) = held c W0 n := by
  unfold held
  rw [show (n + 1 - 1) / 2 = (n - 1) / 2 by omega, if_neg (by omega : ¬ n + 1 = 0), if_neg (by omega : ¬ n = 0)]
theorem held_kept (c : Dev nD) (W0 : BufAt (F := F) c mskM) (n : ℕ) (h : n % 2 = 1) :
    held c W0 n = iprop(keptP c W0 (slotOf (n / 2)) (blkOf (n / 2))
      ∗ (if n / 2 + 1 < 8 then comingP c W0 (slotOf (n / 2 + 1)) (blkOf (n / 2 + 1)) else freeP c W0 (slotOf (n / 2 + 1)))) := by
  unfold held
  rw [if_neg (by omega), show (n - 1) / 2 = n / 2 by omega]
theorem held_even (c : Dev nD) (W0 : BufAt (F := F) c mskM) (n : ℕ) (h : n % 2 = 0) :
    held c W0 (n + 1) = iprop(keptP c W0 (slotOf (n / 2)) (blkOf (n / 2))
      ∗ (if n / 2 + 1 < 8 then comingP c W0 (slotOf (n / 2 + 1)) (blkOf (n / 2 + 1)) else freeP c W0 (slotOf (n / 2 + 1)))) := by
  unfold held
  rw [if_neg (by omega), show (n + 1 - 1) / 2 = n / 2 by omega]
theorem held_zero (c : Dev nD) (W0 : BufAt (F := F) c mskM) : held c W0 0 = iprop(freeP c W0 0 ∗ freeP c W0 1) := by
  unfold held; rw [if_pos rfl]
theorem held_mid (c : Dev nD) (W0 : BufAt (F := F) c mskM) (n : ℕ) (h : n % 2 = 0) (h0 : 0 < n) (h8 : n < 16) :
    held c W0 n ⊢ iprop(comingP c W0 (slotOf (n / 2)) (blkOf (n / 2)) ∗ freeP (F := F) c W0 (slotOf (n / 2 + 1))) := by
  unfold held
  rw [if_neg (by omega), if_pos (by omega), show (n - 1) / 2 + 1 = n / 2 by omega]
  have es : slotOf ((n - 1) / 2) = slotOf (n / 2 + 1) := Fin.ext (by simp only [slotOf]; omega)
  rw [es]
  iintro ⟨HK, HC⟩
  isplitl [HC]; · iexact HC
  iapply (kept_free c W0 _ _); iexact HK

set_option maxHeartbeats 1000000 in
theorem stepA (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (h0 : t.val = 0) (x0 : Vec F S16x128x1024 .f32) (x1 : Vec F S8x1024 .f32) (xo3 : Vec F S8x128 .f32) (xo4 : Vec F S1x1x1 .f32) (W0 : BufAt (F := F) c mskM) (W : Waits sig Unit) (K : PUnit → sProp 𝕄) :
    iprop(owns (c : Thread nD τ) arg2 fullShare x0 ∗ owns (c : Thread nD τ) arg3 fullShare x1 ∗ (∃ d, owns (c : Thread nD τ) arg5 fullShare d) ∗ owns (c : Thread nD τ) arg6 fullShare xo3 ∗ owns (c : Thread nD τ) arg7 fullShare xo4 ∗ held c W0 t.val ∗ owes (c : Thread nD τ) 0 W
      ∗ (iprop(owns (c : Thread nD τ) arg2 fullShare x0 ∗ owns (c : Thread nD τ) arg3 fullShare x1
          ∗ owns (c : Thread nD τ) arg5 fullShare (outBlk (BitVec.ofNat 32 (grid0.coords t 0)) (psOf x0 x1) (maskOf c W0 (blkOf (t.val / 2))))
          ∗ owns (c : Thread nD τ) arg6 fullShare (statNext t.val xo3 (vcSum (psOf x0 x1))) ∗ owns (c : Thread nD τ) arg7 fullShare (entNext t.val xo4 (entSum (psOf x0 x1)))
          ∗ held c W0 (t.val + 1) ∗ (∃ W', owes (c : Thread nD τ) 0 W')) -∗ K ⟨⟩))
      ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K := by
  have hc1 : (k0_cond1 (grid0.coords t) = 1#1) := by rw [cond1_iff]; omega
  have hc2 : (k0_cond2 (grid0.coords t) = 1#1) := by rw [cond2_iff]; omega
  have hc3 : (k0_cond3 (grid0.coords t) = 1#1) := by rw [cond3_iff]; omega
  have hc4 : (k0_cond4 (grid0.coords t) = 1#1) := by rw [cond4_iff]; omega
  have hc5 : ¬(k0_cond5 (grid0.coords t) = 1#1) := by rw [cond5_iff]; omega
  have hc6 : (k0_cond6 (grid0.coords t) = 1#1) := by rw [cond6_iff]; omega
  have hc7 : ¬(k0_cond7 (grid0.coords t) = 1#1) := by rw [cond7_iff]; omega
  have R := pieces_as _ (runA_out c t arg2 harg2 arg3 harg3 arg5 harg5 arg6 harg6 arg7 harg7 hc1 hc2 hc3 hc4 hc5 hc6 hc7 x0 x1 W0) (runA_stat c t arg2 harg2 arg3 harg3 arg5 harg5 arg6 harg6 arg7 harg7 hc1 hc2 hc3 hc4 hc5 hc6 hc7 x0 x1 W0) (runA_ent c t arg2 harg2 arg3 harg3 arg5 harg5 arg6 harg6 arg7 harg7 hc1 hc2 hc3 hc4 hc5 hc6 hc7 x0 x1 W0) W K
  rw [pRead_eq, mRead_eq] at R
  rw [held_even c W0 t.val (by omega), if_pos (by omega : t.val / 2 + 1 < 8)]
  have eh : held c W0 t.val = iprop(freeP c W0 (slotOf (t.val / 2)) ∗ freeP c W0 (slotOf (t.val / 2 + 1))) := by rw [h0]; exact held_zero c W0
  rw [eh]
  iintro ⟨H0, H1, H2, H3, H4, ⟨HA, HB⟩, HW, Hk⟩
  iapply R
  isplitl [H0]; · iexact H0
  isplitl [H1]; · iexact H1
  isplitl [H2]; · iexact H2
  isplitl [H3]; · iexists _; iexact H3
  isplitl [H4]; · iexists _; iexact H4
  isplitl [HA]; · iexact HA
  isplitl [HB]; · iexact HB
  isplitl [HW]; · iexact HW
  iintro ⟨H0, H1, ⟨%f2, H2⟩, ⟨%f3, H3⟩, ⟨%f4, H4⟩, HA, HB, HW⟩
  iapply Hk
  isplitl [H0]; · iexact H0
  isplitl [H1]; · iexact H1
  isplitl [H2]
  · unfold owns; iexists _; isplitr; swap; · iexact H2
    ipureintro; exact out_read _ _ _ _ _
  isplitl [H3]
  · unfold owns; iexists _; isplitr; swap; · iexact H3
    ipureintro; rw [stat_read]; unfold statNext; rw [if_pos (by omega)]
  isplitl [H4]
  · unfold owns; iexists _; isplitr; swap; · iexact H4
    ipureintro; rw [ent_read]; unfold entNext; rw [if_pos (by omega)]; rfl
  isplitl [HA HB]
  · isplitl [HA]; · iexact HA
    iexact HB
  iexact HW

set_option maxHeartbeats 1000000 in
theorem stepB (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (h0 : t.val % 2 = 1) (x0 : Vec F S16x128x1024 .f32) (x1 : Vec F S8x1024 .f32) (xo3 : Vec F S8x128 .f32) (xo4 : Vec F S1x1x1 .f32) (W0 : BufAt (F := F) c mskM) (W : Waits sig Unit) (K : PUnit → sProp 𝕄) :
    iprop(owns (c : Thread nD τ) arg2 fullShare x0 ∗ owns (c : Thread nD τ) arg3 fullShare x1 ∗ (∃ d, owns (c : Thread nD τ) arg5 fullShare d) ∗ owns (c : Thread nD τ) arg6 fullShare xo3 ∗ owns (c : Thread nD τ) arg7 fullShare xo4 ∗ held c W0 t.val ∗ owes (c : Thread nD τ) 0 W
      ∗ (iprop(owns (c : Thread nD τ) arg2 fullShare x0 ∗ owns (c : Thread nD τ) arg3 fullShare x1
          ∗ owns (c : Thread nD τ) arg5 fullShare (outBlk (BitVec.ofNat 32 (grid0.coords t 0)) (psOf x0 x1) (maskOf c W0 (blkOf (t.val / 2))))
          ∗ owns (c : Thread nD τ) arg6 fullShare (statNext t.val xo3 (vcSum (psOf x0 x1))) ∗ owns (c : Thread nD τ) arg7 fullShare (entNext t.val xo4 (entSum (psOf x0 x1)))
          ∗ held c W0 (t.val + 1) ∗ (∃ W', owes (c : Thread nD τ) 0 W')) -∗ K ⟨⟩))
      ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K := by
  have hc1 : ¬(k0_cond1 (grid0.coords t) = 1#1) := by rw [cond1_iff]; omega
  have hc4 : ¬(k0_cond4 (grid0.coords t) = 1#1) := by rw [cond4_iff]; omega
  have hc5 : (k0_cond5 (grid0.coords t) = 1#1) := by rw [cond5_iff]; omega
  have hc6 : ¬(k0_cond6 (grid0.coords t) = 1#1) := by rw [cond6_iff]; omega
  have hc7 : (k0_cond7 (grid0.coords t) = 1#1) := by rw [cond7_iff]; omega
  have R := pieces_as _ (runB_out c t arg2 harg2 arg3 harg3 arg5 harg5 arg6 harg6 arg7 harg7 hc1 hc4 hc5 hc6 hc7 x0 x1 xo3 xo4 W0) (runB_stat c t arg2 harg2 arg3 harg3 arg5 harg5 arg6 harg6 arg7 harg7 hc1 hc4 hc5 hc6 hc7 x0 x1 xo3 xo4 W0) (runB_ent c t arg2 harg2 arg3 harg3 arg5 harg5 arg6 harg6 arg7 harg7 hc1 hc4 hc5 hc6 hc7 x0 x1 xo3 xo4 W0) W K
  rw [pRead_eq, mRead_eq] at R
  rw [held_odd c W0 t.val h0, held_kept c W0 t.val h0]
  iintro ⟨H0, H1, H2, H3, H4, ⟨HA, HB⟩, HW, Hk⟩
  iapply R
  isplitl [H0]; · iexact H0
  isplitl [H1]; · iexact H1
  isplitl [H2]; · iexact H2
  isplitl [H3]; · iexact H3
  isplitl [H4]; · iexact H4
  isplitl [HA]; · iexact HA
  isplitl [HW]; · iexact HW
  iintro ⟨H0, H1, ⟨%f2, H2⟩, ⟨%f3, H3⟩, ⟨%f4, H4⟩, HA, HW⟩
  iapply Hk
  isplitl [H0]; · iexact H0
  isplitl [H1]; · iexact H1
  isplitl [H2]
  · unfold owns; iexists _; isplitr; swap; · iexact H2
    ipureintro; exact out_read _ _ _ _ _
  isplitl [H3]
  · unfold owns; iexists _; isplitr; swap; · iexact H3
    ipureintro; rw [stat_read]; unfold statNext; rw [if_neg (by omega), View.readAt_full]; rw [harg6.read_unread]
  isplitl [H4]
  · unfold owns; iexists _; isplitr; swap; · iexact H4
    ipureintro; rw [ent_read]; unfold entNext; rw [if_neg (by omega), View.readAt_full]; rw [harg7.read_unread]; rfl
  isplitl [HA HB]
  · isplitl [HA]; · iexact HA
    iexact HB
  iexact HW

set_option maxHeartbeats 1000000 in
theorem stepC (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (h0 : t.val % 2 = 0) (h1 : 0 < t.val) (h2 : t.val < 14) (x0 : Vec F S16x128x1024 .f32) (x1 : Vec F S8x1024 .f32) (xo3 : Vec F S8x128 .f32) (xo4 : Vec F S1x1x1 .f32) (W0 : BufAt (F := F) c mskM) (W : Waits sig Unit) (K : PUnit → sProp 𝕄) :
    iprop(owns (c : Thread nD τ) arg2 fullShare x0 ∗ owns (c : Thread nD τ) arg3 fullShare x1 ∗ (∃ d, owns (c : Thread nD τ) arg5 fullShare d) ∗ owns (c : Thread nD τ) arg6 fullShare xo3 ∗ owns (c : Thread nD τ) arg7 fullShare xo4 ∗ held c W0 t.val ∗ owes (c : Thread nD τ) 0 W
      ∗ (iprop(owns (c : Thread nD τ) arg2 fullShare x0 ∗ owns (c : Thread nD τ) arg3 fullShare x1
          ∗ owns (c : Thread nD τ) arg5 fullShare (outBlk (BitVec.ofNat 32 (grid0.coords t 0)) (psOf x0 x1) (maskOf c W0 (blkOf (t.val / 2))))
          ∗ owns (c : Thread nD τ) arg6 fullShare (statNext t.val xo3 (vcSum (psOf x0 x1))) ∗ owns (c : Thread nD τ) arg7 fullShare (entNext t.val xo4 (entSum (psOf x0 x1)))
          ∗ held c W0 (t.val + 1) ∗ (∃ W', owes (c : Thread nD τ) 0 W')) -∗ K ⟨⟩))
      ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K := by
  have hc1 : (k0_cond1 (grid0.coords t) = 1#1) := by rw [cond1_iff]; omega
  have hc2 : ¬(k0_cond2 (grid0.coords t) = 1#1) := by rw [cond2_iff]; omega
  have hc3 : (k0_cond3 (grid0.coords t) = 1#1) := by rw [cond3_iff]; omega
  have hc4 : (k0_cond4 (grid0.coords t) = 1#1) := by rw [cond4_iff]; omega
  have hc5 : ¬(k0_cond5 (grid0.coords t) = 1#1) := by rw [cond5_iff]; omega
  have hc6 : (k0_cond6 (grid0.coords t) = 1#1) := by rw [cond6_iff]; omega
  have hc7 : ¬(k0_cond7 (grid0.coords t) = 1#1) := by rw [cond7_iff]; omega
  have R := pieces_as _ (runC_out c t arg2 harg2 arg3 harg3 arg5 harg5 arg6 harg6 arg7 harg7 hc1 hc2 hc3 hc4 hc5 hc6 hc7 x0 x1 W0) (runC_stat c t arg2 harg2 arg3 harg3 arg5 harg5 arg6 harg6 arg7 harg7 hc1 hc2 hc3 hc4 hc5 hc6 hc7 x0 x1 W0) (runC_ent c t arg2 harg2 arg3 harg3 arg5 harg5 arg6 harg6 arg7 harg7 hc1 hc2 hc3 hc4 hc5 hc6 hc7 x0 x1 W0) W K
  rw [pRead_eq, mRead_eq] at R
  rw [held_even c W0 t.val (by omega), if_pos (by omega : t.val / 2 + 1 < 8)]
  iintro ⟨H0, H1, H2, H3, H4, HH, HW, Hk⟩
  ihave HH' := (held_mid c W0 t.val (by omega) (by omega) (by omega)) $$ HH
  icases HH' with ⟨HA, HB⟩
  iapply R
  isplitl [H0]; · iexact H0
  isplitl [H1]; · iexact H1
  isplitl [H2]; · iexact H2
  isplitl [H3]; · iexists _; iexact H3
  isplitl [H4]; · iexists _; iexact H4
  isplitl [HA]; · iexact HA
  isplitl [HB]; · iexact HB
  isplitl [HW]; · iexact HW
  iintro ⟨H0, H1, ⟨%f2, H2⟩, ⟨%f3, H3⟩, ⟨%f4, H4⟩, HA, HB, HW⟩
  iapply Hk
  isplitl [H0]; · iexact H0
  isplitl [H1]; · iexact H1
  isplitl [H2]
  · unfold owns; iexists _; isplitr; swap; · iexact H2
    ipureintro; exact out_read _ _ _ _ _
  isplitl [H3]
  · unfold owns; iexists _; isplitr; swap; · iexact H3
    ipureintro; rw [stat_read]; unfold statNext; rw [if_pos (by omega)]
  isplitl [H4]
  · unfold owns; iexists _; isplitr; swap; · iexact H4
    ipureintro; rw [ent_read]; unfold entNext; rw [if_pos (by omega)]; rfl
  isplitl [HA HB]
  · isplitl [HA]; · iexact HA
    iexact HB
  iexact HW

set_option maxHeartbeats 1000000 in
theorem stepD (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (h0 : t.val = 14) (x0 : Vec F S16x128x1024 .f32) (x1 : Vec F S8x1024 .f32) (xo3 : Vec F S8x128 .f32) (xo4 : Vec F S1x1x1 .f32) (W0 : BufAt (F := F) c mskM) (W : Waits sig Unit) (K : PUnit → sProp 𝕄) :
    iprop(owns (c : Thread nD τ) arg2 fullShare x0 ∗ owns (c : Thread nD τ) arg3 fullShare x1 ∗ (∃ d, owns (c : Thread nD τ) arg5 fullShare d) ∗ owns (c : Thread nD τ) arg6 fullShare xo3 ∗ owns (c : Thread nD τ) arg7 fullShare xo4 ∗ held c W0 t.val ∗ owes (c : Thread nD τ) 0 W
      ∗ (iprop(owns (c : Thread nD τ) arg2 fullShare x0 ∗ owns (c : Thread nD τ) arg3 fullShare x1
          ∗ owns (c : Thread nD τ) arg5 fullShare (outBlk (BitVec.ofNat 32 (grid0.coords t 0)) (psOf x0 x1) (maskOf c W0 (blkOf (t.val / 2))))
          ∗ owns (c : Thread nD τ) arg6 fullShare (statNext t.val xo3 (vcSum (psOf x0 x1))) ∗ owns (c : Thread nD τ) arg7 fullShare (entNext t.val xo4 (entSum (psOf x0 x1)))
          ∗ held c W0 (t.val + 1) ∗ (∃ W', owes (c : Thread nD τ) 0 W')) -∗ K ⟨⟩))
      ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K := by
  have hc1 : (k0_cond1 (grid0.coords t) = 1#1) := by rw [cond1_iff]; omega
  have hc2 : ¬(k0_cond2 (grid0.coords t) = 1#1) := by rw [cond2_iff]; omega
  have hc3 : ¬(k0_cond3 (grid0.coords t) = 1#1) := by rw [cond3_iff]; omega
  have hc4 : (k0_cond4 (grid0.coords t) = 1#1) := by rw [cond4_iff]; omega
  have hc5 : ¬(k0_cond5 (grid0.coords t) = 1#1) := by rw [cond5_iff]; omega
  have hc6 : (k0_cond6 (grid0.coords t) = 1#1) := by rw [cond6_iff]; omega
  have hc7 : ¬(k0_cond7 (grid0.coords t) = 1#1) := by rw [cond7_iff]; omega
  have R := pieces_as _ (runD_out c t arg2 harg2 arg3 harg3 arg5 harg5 arg6 harg6 arg7 harg7 hc1 hc2 hc3 hc4 hc5 hc6 hc7 x0 x1 W0) (runD_stat c t arg2 harg2 arg3 harg3 arg5 harg5 arg6 harg6 arg7 harg7 hc1 hc2 hc3 hc4 hc5 hc6 hc7 x0 x1 W0) (runD_ent c t arg2 harg2 arg3 harg3 arg5 harg5 arg6 harg6 arg7 harg7 hc1 hc2 hc3 hc4 hc5 hc6 hc7 x0 x1 W0) W K
  rw [pRead_eq, mRead_eq] at R
  rw [held_even c W0 t.val (by omega), if_neg (by omega : ¬ t.val / 2 + 1 < 8)]
  iintro ⟨H0, H1, H2, H3, H4, HH, HW, Hk⟩
  ihave HH' := (held_mid c W0 t.val (by omega) (by omega) (by omega)) $$ HH
  icases HH' with ⟨HA, HB⟩
  iapply R
  isplitl [H0]; · iexact H0
  isplitl [H1]; · iexact H1
  isplitl [H2]; · iexact H2
  isplitl [H3]; · iexists _; iexact H3
  isplitl [H4]; · iexists _; iexact H4
  isplitl [HA]; · iexact HA
  isplitl [HW]; · iexact HW
  iintro ⟨H0, H1, ⟨%f2, H2⟩, ⟨%f3, H3⟩, ⟨%f4, H4⟩, HA, HW⟩
  iapply Hk
  isplitl [H0]; · iexact H0
  isplitl [H1]; · iexact H1
  isplitl [H2]
  · unfold owns; iexists _; isplitr; swap; · iexact H2
    ipureintro; exact out_read _ _ _ _ _
  isplitl [H3]
  · unfold owns; iexists _; isplitr; swap; · iexact H3
    ipureintro; rw [stat_read]; unfold statNext; rw [if_pos (by omega)]
  isplitl [H4]
  · unfold owns; iexists _; isplitr; swap; · iexact H4
    ipureintro; rw [ent_read]; unfold entNext; rw [if_pos (by omega)]; rfl
  isplitl [HA HB]
  · isplitl [HA]; · iexact HA
    iexact HB
  iexact HW

/-- One point of the main call, whichever it is. -/
theorem step (c : Dev nD) (t : Fin grid0.N) (arg2 : Memref sig .tc .vmem S16x128x1024 .f32) (harg2 : arg2.IsWhole) (arg3 : Memref sig .tc .vmem S8x1024 .f32) (harg3 : arg3.IsWhole) (arg5 : Memref sig .tc .vmem S16x128x1024 .f32) (harg5 : arg5.IsWhole) (arg6 : Memref sig .tc .vmem S8x128 .f32) (harg6 : arg6.IsWhole) (arg7 : Memref sig .tc .smem S1x1x1 .f32) (harg7 : arg7.IsWhole)
    (x0 : Vec F S16x128x1024 .f32) (x1 : Vec F S8x1024 .f32) (xo3 : Vec F S8x128 .f32) (xo4 : Vec F S1x1x1 .f32) (W0 : BufAt (F := F) c mskM) (W : Waits sig Unit) (K : PUnit → sProp 𝕄) :
    iprop(owns (c : Thread nD τ) arg2 fullShare x0 ∗ owns (c : Thread nD τ) arg3 fullShare x1 ∗ (∃ d, owns (c : Thread nD τ) arg5 fullShare d) ∗ owns (c : Thread nD τ) arg6 fullShare xo3 ∗ owns (c : Thread nD τ) arg7 fullShare xo4 ∗ held c W0 t.val ∗ owes (c : Thread nD τ) 0 W
      ∗ (iprop(owns (c : Thread nD τ) arg2 fullShare x0 ∗ owns (c : Thread nD τ) arg3 fullShare x1
          ∗ owns (c : Thread nD τ) arg5 fullShare (outBlk (BitVec.ofNat 32 (grid0.coords t 0)) (psOf x0 x1) (maskOf c W0 (blkOf (t.val / 2))))
          ∗ owns (c : Thread nD τ) arg6 fullShare (statNext t.val xo3 (vcSum (psOf x0 x1))) ∗ owns (c : Thread nD τ) arg7 fullShare (entNext t.val xo4 (entSum (psOf x0 x1)))
          ∗ held c W0 (t.val + 1) ∗ (∃ W', owes (c : Thread nD τ) 0 W')) -∗ K ⟨⟩))
      ⊢ wp frame (wpE (defs₀ (F := F)) Variants.none c none) Set.univ (cc0__main_body (grid0.coords t) arg2 harg2 arg3 harg3 (Memref.whole main_arg1) (Memref.isWhole_whole _) arg5 harg5 arg6 harg6 arg7 harg7 scrM (Memref.isWhole_whole _) cc0_scratch1) K := by
  have hN : t.val < 16 := lt_of_lt_of_eq t.isLt N_0
  by_cases ho : t.val % 2 = 1
  · exact stepB c t arg2 harg2 arg3 harg3 arg5 harg5 arg6 harg6 arg7 harg7 ho x0 x1 xo3 xo4 W0 W K
  by_cases h0 : t.val = 0
  · exact stepA c t arg2 harg2 arg3 harg3 arg5 harg5 arg6 harg6 arg7 harg7 h0 x0 x1 xo3 xo4 W0 W K
  by_cases h14 : t.val = 14
  · exact stepD c t arg2 harg2 arg3 harg3 arg5 harg5 arg6 harg6 arg7 harg7 h14 x0 x1 xo3 xo4 W0 W K
  exact stepC c t arg2 harg2 arg3 harg3 arg5 harg5 arg6 harg6 arg7 harg7 (by omega) (by omega) (by omega) x0 x1 xo3 xo4 W0 W K

end Cert.KernelIdeal.Hand

end
-- ==== Proof.KernelIdeal.Main.lean ====
/- The main call as a pipeline: what its buffers hold at each point, and that the body meets it. -/
module

public import proofs.«01_k».proof.Proof.KernelIdeal.Reads
public import Idealize.ShloMosaic.Lib.Pipeline.FrameBody
public import Idealize.ShloMosaic.Lib.Pipeline.TableIdle
public import Idealize.ShloMosaic.Lib.Pipeline.RegionArraysD

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The buffer of window 0 that the body works on at a point. -/
abbrev cur0 (t : Fin cfg0.N) := win0_0.stage (cfg0.slots t 0)
theorem live0 : ∀ t : Fin cfg0.N, cfg0.idle 0 (grid0.coords t) = false := by decide +kernel
/-- The buffer of window 1 that the body works on at a point. -/
abbrev cur1 (t : Fin cfg0.N) := win0_1.stage (cfg0.slots t 1)
theorem live1 : ∀ t : Fin cfg0.N, cfg0.idle 1 (grid0.coords t) = false := by decide +kernel
/-- The buffer of window 2 that the body works on at a point. -/
abbrev cur2 (t : Fin cfg0.N) := win0_2.stage (cfg0.slots t 2)
theorem live2 : ∀ t : Fin cfg0.N, cfg0.idle 2 (grid0.coords t) = false := by decide +kernel
/-- The buffer of window 3 that the body works on at a point. -/
abbrev cur3 (t : Fin cfg0.N) := win0_3.stage (cfg0.slots t 3)
theorem live3 : ∀ t : Fin cfg0.N, cfg0.idle 3 (grid0.coords t) = false := by decide +kernel
/-- The buffer of window 4 that the body works on at a point. -/
abbrev cur4 (t : Fin cfg0.N) := win0_4.stage (cfg0.slots t 4)
theorem live4 : ∀ t : Fin cfg0.N, cfg0.idle 4 (grid0.coords t) = false := by decide +kernel
/-- Output 3 is new at even points and kept over at odd ones. -/
def newAt3 : ℕ → Bool
  | 0 => true
  | n + 1 => n % 2 == 1
theorem newAt3_step : ∀ t : Fin cfg0.N,
    newAt3 (t.val + 1) = ((cfg0.win 3).flush t || (cfg0.idle 3 (cfg0.grid.coords t) && newAt3 t.val)) := by decide +kernel
theorem fresh3 (t : Fin cfg0.N) (h : t.val % 2 = 1) : cfg0.fresh 3 t.val = false := by
  rw [Pipeline.Cfg.fresh_tab cfg0 3 newAt3 rfl newAt3_step t.val (Nat.le_of_lt t.isLt)]
  obtain ⟨n, hn⟩ := t
  cases n with
  | zero => simp at h
  | succ n => simp only [newAt3, beq_eq_false_iff_ne]; simp only at h; omega
/-- Output 4 is new at even points and kept over at odd ones. -/
def newAt4 : ℕ → Bool
  | 0 => true
  | n + 1 => n % 2 == 1
theorem newAt4_step : ∀ t : Fin cfg0.N,
    newAt4 (t.val + 1) = ((cfg0.win 4).flush t || (cfg0.idle 4 (cfg0.grid.coords t) && newAt4 t.val)) := by decide +kernel
theorem fresh4 (t : Fin cfg0.N) (h : t.val % 2 = 1) : cfg0.fresh 4 t.val = false := by
  rw [Pipeline.Cfg.fresh_tab cfg0 4 newAt4 rfl newAt4_step t.val (Nat.le_of_lt t.isLt)]
  obtain ⟨n, hn⟩ := t
  cases n with
  | zero => simp at h
  | succ n => simp only [newAt4, beq_eq_false_iff_ne]; simp only at h; omega

variable (E : Dev nD → Valuation τ sig (Elt F))

/-- The block of a window at a point, read off its array as the call finds it. -/
def blkAt (c : Dev nD) (w : Fin cfg0.W) (t : Fin cfg0.N) : ((cfg0.win w).xblock (cfg0.grid.coords t)).Idx → Elt F (cfg0.win w).elt :=
  ((cfg0.win w).blk t).view.read (Elt F) (E c (Proc.devRef .tc (Pipeline.arrRef spec0 w)))
/-- The sixteen softmaxes of a point. -/
def psAt (c : Dev nD) (t : Fin cfg0.N) : Fin 16 → FVec F S8x128 .f32 := psOf (blkAt E c 0 t) (blkAt E c 1 t)
/-- The masks as the call finds them. -/
def masks (c : Dev nD) : BufAt (F := F) c mskM := E c (Proc.devRef .tc main_arg1)
def prev (t : Fin cfg0.N) : Fin cfg0.N := ⟨t.val - 1, Nat.lt_of_le_of_lt (Nat.sub_le _ _) t.isLt⟩

def outAt (c : Dev nD) (t : Fin cfg0.N) : Vec F S16x128x1024 .f32 :=
  outBlk (BitVec.ofNat 32 (grid0.coords t 0)) (psAt E c t) (maskOf c (masks E c) (blkOf (t.val / 2)))
def statAt (c : Dev nD) (t : Fin cfg0.N) : FVec F S8x128 .f32 := statNext t.val (vcSum (psAt E c (prev t))) (vcSum (psAt E c t))
/-- The entropy of a point alone, as the loss's scalar block holds it. -/
def entOne (c : Dev nD) (t : Fin cfg0.N) : Vec F S1x1x1 .f32 := fun _ => entSum (psAt E c t)
def entAt (c : Dev nD) (t : Fin cfg0.N) : Vec F S1x1x1 .f32 := entNext t.val (entOne E c (prev t)) (entSum (psAt E c t))

/-- What goes along with the point's windows: the generator's register, the masks' blocks under way, and the loss's buffers. -/
def along (c : Dev nD) (n : ℕ) : sProp 𝕄 :=
  iprop((∃ r, prngReg c r) ∗ held c (masks E c) n ∗ spareP c ∗ tailP c (masks E c) 16
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The main call's data: what each window's buffer holds after the body at each point. -/
def dats0 (c : Dev nD) : Dat τ (Elt F) Unit ℕ (Pipeline.UD sig nD τ) ℕ cfg0 c where
  A w := E c (Proc.devRef .tc (Pipeline.arrRef spec0 w))
  after w t := match w with
    | ⟨0, _⟩ => blkAt E c 0 t
    | ⟨1, _⟩ => blkAt E c 1 t
    | ⟨2, _⟩ => outAt E c t
    | ⟨3, _⟩ => statAt E c t
    | ⟨4, _⟩ => entAt E c t
  Φ t := along E c t.val
  q _ := fullShare
  owed _ := 0

theorem A0_eq (c : Dev nD) (w : Fin cfg0.W) : (dats0 E c).A w = E c (Proc.devRef .tc (Pipeline.arrRef spec0 w)) := by dsimp only [dats0]
theorem Φ0_eq (c : Dev nD) (t : Fin (cfg0.N + 1)) : (dats0 E c).Φ t = along E c t.val := by dsimp only [dats0]
theorem after0_0 (c : Dev nD) (t : Fin cfg0.N) : (dats0 E c).after 0 t = blkAt E c 0 t := by dsimp only [dats0]
theorem after0_1 (c : Dev nD) (t : Fin cfg0.N) : (dats0 E c).after 1 t = blkAt E c 1 t := by dsimp only [dats0]
theorem after0_2 (c : Dev nD) (t : Fin cfg0.N) : (dats0 E c).after 2 t = outAt E c t := by dsimp only [dats0]
theorem after0_3 (c : Dev nD) (t : Fin cfg0.N) : (dats0 E c).after 3 t = statAt E c t := by dsimp only [dats0]
theorem after0_4 (c : Dev nD) (t : Fin cfg0.N) : (dats0 E c).after 4 t = entAt E c t := by dsimp only [dats0]
theorem before0_0 (c : Dev nD) (t : Fin cfg0.N) (d) : (dats0 E c).before 0 t d = blkAt E c 0 t :=
  ((dats0 E c).before_in_eq_fetched 0 rfl (fun _ => rfl) (fun _ _ _ => rfl)
    (fun t => by rw [after0_0]; unfold Dat.blockOf blkAt; rw [A0_eq]; try rfl) t d).trans
    (by unfold Dat.fetched Dat.blockOf blkAt; rw [A0_eq]; try rfl)
theorem before0_1 (c : Dev nD) (t : Fin cfg0.N) (d) : (dats0 E c).before 1 t d = blkAt E c 1 t :=
  ((dats0 E c).before_in_eq_fetched 1 rfl (fun _ => rfl) (fun _ _ _ => rfl)
    (fun t => by rw [after0_1]; unfold Dat.blockOf blkAt; rw [A0_eq]; try rfl) t d).trans
    (by unfold Dat.fetched Dat.blockOf blkAt; rw [A0_eq]; try rfl)

theorem statNext_even {n : ℕ} (h : n % 2 = 0) (x v : FVec F S8x128 .f32) : statNext n x v = v := by unfold statNext; rw [if_pos h]
theorem entNext_even {n : ℕ} (h : n % 2 = 0) (x : Vec F S1x1x1 .f32) (e : F .f32) : entNext n x e = fun _ => e := by unfold entNext; simp only [if_pos h]
theorem prev_even {t : Fin cfg0.N} (h : t.val % 2 = 1) : (prev t).val % 2 = 0 := by show (t.val - 1) % 2 = 0; omega
theorem before0_3 (c : Dev nD) (t : Fin cfg0.N) (h : t.val % 2 = 1) (d) : (dats0 E c).before 3 t d = vcSum (psAt E c (prev t)) := by
  rw [Dat.before_out_traj _ 3 rfl (fun _ _ => rfl) (fun t _ hi _ => by rw [live3 t] at hi; exact absurd hi Bool.false_ne_true) t.val t rfl d,
    if_neg (by rw [fresh3 t h]; exact Bool.false_ne_true)]
  show (dats0 E c).after 3 (prev t) = _
  rw [after0_3]; unfold statAt; rw [statNext_even (prev_even h)]; try rfl
theorem stat_step (c : Dev nD) (t : Fin cfg0.N) (d) :
    statNext t.val ((dats0 E c).before 3 t d) (vcSum (psAt E c t)) = statAt E c t := by
  unfold statAt
  by_cases h : t.val % 2 = 1
  · rw [before0_3 E c t h d]
  · rw [statNext_even (by omega), statNext_even (by omega)]
theorem before0_4 (c : Dev nD) (t : Fin cfg0.N) (h : t.val % 2 = 1) (d) : (dats0 E c).before 4 t d = entOne E c (prev t) := by
  rw [Dat.before_out_traj _ 4 rfl (fun _ _ => rfl) (fun t _ hi _ => by rw [live4 t] at hi; exact absurd hi Bool.false_ne_true) t.val t rfl d,
    if_neg (by rw [fresh4 t h]; exact Bool.false_ne_true)]
  show (dats0 E c).after 4 (prev t) = _
  rw [after0_4]; unfold entAt; rw [entNext_even (prev_even h)]; try rfl
theorem ent_step (c : Dev nD) (t : Fin cfg0.N) (d) :
    entNext t.val ((dats0 E c).before 4 t d) (entSum (psAt E c t)) = entAt E c t := by
  unfold entAt
  by_cases h : t.val % 2 = 1
  · rw [before0_4 E c t h d]
  · rw [entNext_even (by omega), entNext_even (by omega)]

def before0 (c : Dev nD) (t : Fin cfg0.N) : sProp 𝕄 :=
  iprop((dats0 E c).Φ t.castSucc ∗ (dats0 E c).owesAt () t.castSucc ∗ (∃ d, owns (c : Thread nD τ) (cur0 t) fullShare ((dats0 E c).before 0 t d)) ∗ (∃ d, owns (c : Thread nD τ) (cur1 t) fullShare ((dats0 E c).before 1 t d)) ∗ (∃ d, owns (c : Thread nD τ) (cur2 t) fullShare ((dats0 E c).before 2 t d)) ∗ (∃ d, owns (c : Thread nD τ) (cur3 t) fullShare ((dats0 E c).before 3 t d)) ∗ (∃ d, owns (c : Thread nD τ) (cur4 t) fullShare ((dats0 E c).before 4 t d)))
def after0 (c : Dev nD) (t : Fin cfg0.N) : sProp 𝕄 :=
  iprop((dats0 E c).Φ t.succ ∗ (dats0 E c).owesAt () t.succ ∗ (dats0 E c).leavesExact 0 t ∗ (dats0 E c).leavesExact 1 t ∗ (dats0 E c).leavesExact 2 t ∗ (dats0 E c).leavesExact 3 t ∗ (dats0 E c).leavesExact 4 t)

/-- The body at any point takes what the pipeline hands it to what the data says. -/
theorem sound0 (c : Dev nD) (t : Fin cfg0.N) :
    before0 E c t ⊢ wp frame (wpE (defs₀ (F := F)) Variants.none c none) Set.univ (bodyAt0 t) (fun _ => after0 E c t) := by
  unfold before0 after0 bodyAt0
  simp only [before0_0, before0_1]
  rw [show (dats0 E c).leavesExact 0 t = owns (c : Thread nD τ) (cur0 t) fullShare ((dats0 E c).after 0 t) from by
    unfold Dat.leavesExact; rw [live0 t], after0_0]
  rw [show (dats0 E c).leavesExact 1 t = owns (c : Thread nD τ) (cur1 t) fullShare ((dats0 E c).after 1 t) from by
    unfold Dat.leavesExact; rw [live1 t], after0_1]
  rw [show (dats0 E c).leavesExact 2 t = owns (c : Thread nD τ) (cur2 t) fullShare ((dats0 E c).after 2 t) from by
    unfold Dat.leavesExact; rw [live2 t], after0_2]
  rw [show (dats0 E c).leavesExact 3 t = owns (c : Thread nD τ) (cur3 t) fullShare ((dats0 E c).after 3 t) from by
    unfold Dat.leavesExact; rw [live3 t], after0_3]
  rw [show (dats0 E c).leavesExact 4 t = owns (c : Thread nD τ) (cur4 t) fullShare ((dats0 E c).after 4 t) from by
    unfold Dat.leavesExact; rw [live4 t], after0_4]
  rw [Φ0_eq, Φ0_eq, Fin.val_castSucc, Fin.val_succ]
  unfold along Dat.owesAt Pipeline.owesWithin
  rw [show (dats0 E c).owed t.castSucc = 0 from rfl, show (dats0 E c).owed t.succ = 0 from rfl]
  iintro ⟨⟨Hg, HA, HB, HT, HX, HY, HZ⟩, ⟨%W, %hW, HW⟩, ⟨%d0, H0⟩, ⟨%d1, H1⟩, ⟨%d2, H2⟩, ⟨%d3, H3⟩, ⟨%d4, H4⟩⟩
  iapply (step c t (cur0 t) (hstage0_0 ((cfg0.slots t 0).cast nbuf0_0)) (cur1 t) (hstage0_1 ((cfg0.slots t 1).cast nbuf0_1)) (cur2 t) (hstage0_2 ((cfg0.slots t 2).cast nbuf0_2)) (cur3 t) (hstage0_3 ((cfg0.slots t 3).cast nbuf0_3)) (cur4 t) (hstage0_4 ((cfg0.slots t 4).cast nbuf0_4))
    (blkAt E c 0 t) (blkAt E c 1 t) ((dats0 E c).before 3 t d3) ((dats0 E c).before 4 t d4) (masks E c) W _)
  isplitl [H0]; · iexact H0
  isplitl [H1]; · iexact H1
  isplitl [H2]; · iexists _; iexact H2
  isplitl [H3]; · iexact H3
  isplitl [H4]; · iexact H4
  isplitl [HA]; · iexact HA
  isplitl [HW]; · iexact HW
  rw [show psOf (blkAt E c 0 t) (blkAt E c 1 t) = psAt E c t from rfl, stat_step E c t d3, ent_step E c t d4]
  iintro ⟨H0, H1, H2, H3, H4, HA, ⟨%W', HW⟩⟩
  isplitl [Hg HA HB HT HX HY HZ]
  · isplitl [Hg]; · iexact Hg
    isplitl [HA]; · iexact HA
    isplitl [HB]; · iexact HB
    isplitl [HT]; · iexact HT
    isplitl [HX]; · iexact HX
    isplitl [HY]; · iexact HY
    iexact HZ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dats0 (F := F) E c) (defs₀ (F := F)) Variants.none () Set.univ := fun t => by
  rw [bigSep_W0, bigSep_W0, row0]
  exact triple_restated (sound0 E c t) rfl .rfl fun _ => .rfl

/-! ## The call's two ends -/

/-- The two counters of the body's own transfers. -/
abbrev ownCells : Fin 2 → SemLoc sig := fun j => (![SemLoc.dma 9, SemLoc.dma 10] : Fin 2 → SemLoc sig) j
theorem ownCells_ok : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 9) 0 ∗ semVal ((c : Thread nD τ), SemLoc.dma 10) 0) := by
  rw [Pipeline.ownSems0_eq_of_list c ownCells [0, 1] (by decide) (by decide)]; rfl
/-- The array the body's own transfers read. -/
def readRefs : Finset (Ref sig .tc) := {main_arg1}
theorem readRefs_eq (c : Dev nD) :
    (bigSep readRefs (fun b => ((c : Thread nD τ).loc b) ↦{fullShare} E c (Proc.devRef .tc b)) : sProp 𝕄) = tailP c (masks E c) 0 := by
  rw [BI.bigSep_eq_bigSepL_of_eq [main_arg1] (by decide) (by decide)]; rfl

theorem enter0 (c : Dev nD) :
    iprop(Pipeline.scopedRest (Ix := Unit) (Name := ℕ) (U := Pipeline.UD sig nD τ) (Lvl := ℕ) (Val := Elt F) spec0 c ∗ (∃ r, prngReg c r) ∗ Pipeline.ownSems0 ownCells c
        ∗ (bigSep readRefs fun b => ((c : Thread nD τ).loc b) ↦{fullShare} E c (Proc.devRef .tc b)) ∗ Transfers.MayWaits (c : Thread nD τ) () 0) ⊢ (dats0 E c).Φ 0 := by
  rw [scopedRest0_eq, ownCells_eq, readRefs_eq, Φ0_eq]
  unfold along
  iintro ⟨⟨HS, HX, HY, HZ⟩, Hg, Hq, HT, -⟩
  isplitl [Hg]; · iexact Hg
  ihave H := (held_in (F := F) c (masks E c)) $$ [HS Hq HT]
  · isplitl [HS]
    · simp only [scrM, owns_whole]; iexact HS
    isplitl [Hq]; · iexact Hq
    iexact HT
  icases H with ⟨HA, HB, HT⟩
  isplitl [HA]; · iexact HA
  isplitl [HB]; · iexact HB
  isplitl [HT]; · iexact HT
  isplitl [HX]; · iexact HX
  isplitl [HY]; · iexact HY
  iexact HZ

theorem leave0 (c : Dev nD) :
    (dats0 E c).Φ (Fin.last cfg0.N) ⊢ iprop(Pipeline.scopedRest (Ix := Unit) (Name := ℕ) (U := Pipeline.UD sig nD τ) (Lvl := ℕ) (Val := Elt F) spec0 c ∗ (∃ r, prngReg c r) ∗ Pipeline.ownSems0 ownCells c
        ∗ (bigSep readRefs fun b => ((c : Thread nD τ).loc b) ↦{fullShare} E c (Proc.devRef .tc b))) := by
  rw [scopedRest0_eq, ownCells_eq, readRefs_eq, Φ0_eq, Fin.val_last, show cfg0.N = 16 from N_0]
  unfold along
  iintro ⟨Hg, HA, HB, HT, HX, HY, HZ⟩
  ihave H := (held_out (F := F) c (masks E c)) $$ [HA HB HT]
  · isplitl [HA]; · iexact HA
    isplitl [HB]; · iexact HB
    iexact HT
  icases H with ⟨HS, Hq, HT⟩
  isplitl [HS HX HY HZ]
  · isplitl [HS]
    · simp only [scrM, owns_whole]; iexact HS
    isplitl [HX]; · iexact HX
    isplitl [HY]; · iexact HY
    iexact HZ
  isplitl [Hg]; · iexact Hg
  isplitl [Hq]; · iexact Hq
  iexact HT

end Cert.KernelIdeal.Hand

end
-- ==== Proof.Value.Order.lean ====
/-
  The order of the experts, without arrays: the stable sort of finitely many keys puts at place `r` the one element that has
  exactly `r` elements ahead of it. With it, what the running sum of the sorted probabilities keeps is what the probability
  ahead of each expert keeps.
-/
module

public import Idealize.ShloMosaic.Lib.SortFacts
public import Mathlib.Data.EReal.Operations
public import Mathlib.Algebra.BigOperators.Fin
public import Mathlib.Algebra.Order.BigOperators.Group.Finset
public import Mathlib.Order.Interval.Finset.Fin

@[expose] public section

noncomputable section

namespace Cert.Value

open Idealize.ShloMosaic

/-! ## The stable sort -/

section Sorting

variable {K : Type} [LinearOrder K] {n : Nat}

/-- `k` comes before `e` in the stable ascending order of the keys. -/
def Before (f : Fin n → K) (k e : Fin n) : Prop := f k < f e ∨ (f k = f e ∧ k < e)

instance (f : Fin n → K) (k e : Fin n) : Decidable (Before f k e) := by unfold Before; infer_instance

/-- The comparison of two keys, as a sort's comparator. -/
def keyLt (f : Fin n → K) (k e : Fin n) : Bool := decide (f k < f e)

theorem Before.trans {f : Fin n → K} {a b c : Fin n} (h : Before f a b) (h' : Before f b c) : Before f a c := by
  rcases h with h | ⟨h, i⟩ <;> rcases h' with h' | ⟨h', i'⟩
  · exact .inl (h.trans h')
  · exact .inl (h' ▸ h)
  · exact .inl (h ▸ h')
  · exact .inr ⟨h.trans h', i.trans i'⟩

theorem Before.irrefl {f : Fin n → K} {a : Fin n} (h : Before f a a) : False := by
  rcases h with h | ⟨-, h⟩ <;> exact lt_irrefl _ h

theorem insert_pairwise (f : Fin n → K) (a : Fin n) (l : List (Fin n)) (hl : l.Pairwise (Before f)) (ha : ∀ b ∈ l, a < b) :
    (insertBefore (keyLt f) a l).Pairwise (Before f) := by
  induction l with
  | nil => simp [insertBefore]
  | cons b l ih =>
    have hb := List.pairwise_cons.mp hl
    unfold insertBefore
    split
    · rename_i h
      refine List.pairwise_cons.mpr ⟨fun c hc => ?_, ih hb.2 fun c hc => ha c (List.mem_cons_of_mem _ hc)⟩
      rcases List.mem_cons.mp ((perm_insertBefore _ _ _).mem_iff.mp hc) with rfl | hc
      · exact .inl (of_decide_eq_true h)
      · exact hb.1 c hc
    · rename_i h
      have hab : Before f a b := by
        rcases lt_or_eq_of_le (not_lt.mp (fun hlt => h (decide_eq_true hlt)) : f a ≤ f b) with hlt | he
        · exact .inl hlt
        · exact .inr ⟨he, ha b (List.mem_cons_self)⟩
      refine List.pairwise_cons.mpr ⟨fun c hc => ?_, hl⟩
      rcases List.mem_cons.mp hc with rfl | hc
      · exact hab
      · exact hab.trans (hb.1 c hc)

theorem sort_pairwise (f : Fin n → K) (l : List (Fin n)) (hl : l.Pairwise (· < ·)) :
    (stableSort (keyLt f) l).Pairwise (Before f) := by
  induction l with
  | nil => simp [stableSort]
  | cons a l ih =>
    have ha := List.pairwise_cons.mp hl
    exact insert_pairwise f a _ (ih ha.2) fun b hb => ha.1 b ((perm_stableSort _ _).mem_iff.mp hb)

/-- The element at an earlier place comes before the one at a later place. -/
theorem sorted_before (f : Fin n → K) {r r' : Fin n} (h : r < r') :
    Before f (sortedFrom (keyLt f) r) (sortedFrom (keyLt f) r') := by
  have hp := List.pairwise_iff_get.mp (sort_pairwise f (List.finRange n) (List.pairwise_lt_finRange n))
  exact hp _ _ h

theorem sorted_before_iff (f : Fin n → K) (r r' : Fin n) :
    Before f (sortedFrom (keyLt f) r) (sortedFrom (keyLt f) r') ↔ r < r' := by
  refine ⟨fun h => ?_, sorted_before f⟩
  rcases lt_trichotomy r r' with hr | hr | hr
  · exact hr
  · subst hr; exact h.irrefl.elim
  · exact (h.trans (sorted_before f hr)).irrefl.elim

/-- The stable order as a permutation: place to element. -/
def orderPerm (f : Fin n → K) : Equiv.Perm (Fin n) :=
  Equiv.ofBijective (sortedFrom (keyLt f)) ⟨sortedFrom_injective _, sortedFrom_surjective _⟩

theorem orderPerm_apply (f : Fin n → K) (r : Fin n) : orderPerm f r = sortedFrom (keyLt f) r := rfl

/-- A sum over what comes before the element at place `r` is a sum over the earlier places. -/
theorem sum_before {M : Type} [AddCommMonoid M] (f : Fin n → K) (g : Fin n → M) (r : Fin n) :
    (∑ k, if Before f k (orderPerm f r) then g k else 0) = ∑ r', if r' < r then g (orderPerm f r') else 0 := by
  rw [← Equiv.sum_comp (orderPerm f)]
  exact Finset.sum_congr rfl fun r' _ => if_congr (sorted_before_iff f r' r) rfl rfl

/-- A permutation sorted by its own values is undone. -/
theorem sorted_perm (σ : Equiv.Perm (Fin n)) (r : Fin n) : sortedFrom (keyLt σ) r = σ.symm r := by
  have hm : StrictMono fun r => σ (orderPerm (fun k => σ k) r) := by
    intro r r' hr
    rcases sorted_before (fun k => σ k) hr with h | ⟨h, -⟩
    · exact h
    · exact absurd (sortedFrom_injective _ (σ.injective h)) hr.ne
  have h := congrFun ((StrictMono.range_inj hm strictMono_id).mp (by
    rw [Set.range_id]
    exact ((orderPerm fun k => σ k).trans σ).surjective.range_eq)) r
  exact (Equiv.eq_symm_apply σ).mpr h

end Sorting

/-! ## The gates -/

/-- `k` is ahead of `e`: more probable, or equally probable and earlier. -/
def Ahead (q : Fin 8 → EReal) (k e : Fin 8) : Prop := q e < q k ∨ (q k = q e ∧ k < e)

instance (q : Fin 8 → EReal) (k e : Fin 8) : Decidable (Ahead q k e) := by unfold Ahead; infer_instance

/-- The probability ahead of an expert. -/
def ahead (q : Fin 8 → EReal) (e : Fin 8) : EReal := ∑ k, if Ahead q k e then q k else 0

/-- The number of experts ahead of one. -/
def rank (q : Fin 8 → EReal) (e : Fin 8) : Nat := ∑ k, if Ahead q k e then 1 else 0

/-- Whether an expert is kept. -/
def Kept (q : Fin 8 → EReal) (e : Fin 8) : Prop := ahead q e ≤ ((1 / 2 : ℝ) : EReal)

instance (q : Fin 8 → EReal) (e : Fin 8) : Decidable (Kept q e) := Classical.dec _

/-- An expert's gate. -/
def gate (q : Fin 8 → EReal) (e : Fin 8) : EReal := if Kept q e then 1 else 0

/-- The probability kept at one place. -/
def keptAt (q : Fin 8 → EReal) (r : Fin 8) : EReal := ∑ e, if rank q e = r.val then q e * gate q e else 0

/-- The experts in descending order. -/
def order (q : Fin 8 → EReal) : Equiv.Perm (Fin 8) := orderPerm fun k => -q k

theorem before_neg (q : Fin 8 → EReal) (k e : Fin 8) : Before (fun k => -q k) k e ↔ Ahead q k e := by
  unfold Before Ahead
  rw [EReal.neg_lt_neg_iff, neg_inj]

theorem ahead_order (q : Fin 8 → EReal) (r : Fin 8) :
    ahead q (order q r) = ∑ r', if r' < r then q (order q r') else 0 := by
  unfold ahead
  refine Eq.trans ?_ (sum_before (fun k => -q k) q r)
  exact Finset.sum_congr rfl fun k _ => if_congr (before_neg q k _).symm rfl rfl

theorem rank_order (q : Fin 8 → EReal) (r : Fin 8) : rank q (order q r) = r.val := by
  unfold rank
  have := sum_before (fun k => -q k) (fun _ => 1) r
  rw [show (∑ k, if Ahead q k (order q r) then 1 else 0) = _ from
    Finset.sum_congr rfl fun k _ => if_congr (before_neg q k _).symm rfl rfl]
  refine this.trans ?_
  rw [← Finset.card_filter]
  exact (congrArg Finset.card (by ext; simp)).trans (Fin.card_Iio r)

/-- What is kept at a place is the probability there, when its expert is kept. -/
theorem keptAt_eq (q : Fin 8 → EReal) (r : Fin 8) :
    keptAt q r = if Kept q (order q r) then q (order q r) else 0 := by
  unfold keptAt
  rw [← Equiv.sum_comp (order q), Finset.sum_eq_single r]
  · rw [if_pos (rank_order q r)]
    unfold gate
    split <;> simp
  · intro r' _ h
    rw [if_neg]
    rw [rank_order]
    exact fun h' => h (Fin.ext h')
  · exact fun h => absurd (Finset.mem_univ r) h

/-- The running sum of the sorted probabilities. -/
def cum (q : Fin 8 → EReal) (r : Fin 8) : EReal := ∑ r', if r' ≤ r then q (order q r') else 0

/-- Whether the running sum exceeds one half. -/
def Over (q : Fin 8 → EReal) (r : Fin 8) : Prop := ((1 / 2 : ℝ) : EReal) < cum q r

/-- The probabilities are all nonnegative, or none is positive (when the softmax has no value). -/
def Plain (q : Fin 8 → EReal) : Prop := (∀ e, 0 ≤ q e) ∨ (∀ e, q e ≤ 0)

theorem sum_nonpos' (g : Fin 8 → EReal) (h : ∀ e, g e ≤ 0) : ∑ e, g e ≤ 0 := Finset.sum_nonpos fun e _ => h e

theorem half_pos : (0 : EReal) ≤ ((1 / 2 : ℝ) : EReal) := by
  exact_mod_cast (by norm_num : (0 : ℝ) ≤ 1 / 2)

/-- The running sum drops a place exactly when it is over one half there and was already over it before. -/
theorem kept_iff (q : Fin 8 → EReal) (hq : Plain q) (r : Fin 8) :
    Kept q (order q r) ↔ ¬ (Over q r ∧ ∃ r' < r, Over q r') := by
  unfold Kept
  rw [ahead_order]
  rcases hq with hq | hq
  · have hstep : ∀ r' r : Fin 8, r' < r → cum q r' ≤ ∑ k, if k < r then q (order q k) else 0 := by
      intro r' r h
      refine Finset.sum_le_sum fun k _ => ?_
      by_cases hk : k ≤ r'
      · rw [if_pos hk, if_pos (lt_of_le_of_lt hk h)]
      · rw [if_neg hk]; split
        · exact hq _
        · exact le_rfl
    have hle : (∑ k, if k < r then q (order q k) else 0) ≤ cum q r := by
      refine Finset.sum_le_sum fun k _ => ?_
      by_cases hk : k < r
      · rw [if_pos hk, if_pos hk.le]
      · rw [if_neg hk]; split
        · exact hq _
        · exact le_rfl
    constructor
    · rintro h ⟨-, r', h', ho⟩
      exact absurd (lt_of_lt_of_le ho ((hstep r' r h').trans h)) (lt_irrefl _)
    · intro h
      by_cases hr : r = 0
      · subst hr
        refine le_trans (le_of_eq ?_) half_pos
        exact Finset.sum_eq_zero fun k _ => if_neg (Fin.not_lt_zero k)
      · by_contra hc
        have hc := not_le.mp hc
        refine h ⟨lt_of_lt_of_le hc hle, ⟨r.val - 1, by omega⟩, ?_, lt_of_lt_of_le hc (le_of_eq ?_)⟩
        · have : r.val ≠ 0 := fun h => hr (Fin.ext h)
          show r.val - 1 < r.val
          omega
        · refine Finset.sum_congr rfl fun k _ => if_congr ?_ rfl rfl
          have : r.val ≠ 0 := fun h => hr (Fin.ext h)
          show k.val < r.val ↔ k.val ≤ r.val - 1
          omega
  · refine iff_of_true ((sum_nonpos' _ fun k => ?_).trans half_pos) ?_
    · split
      · exact hq _
      · exact le_rfl
    · rintro ⟨h, -⟩
      exact absurd (lt_of_lt_of_le h ((sum_nonpos' _ fun k => by
        split
        · exact hq _
        · exact le_rfl).trans half_pos)) (lt_irrefl _)

end Cert.Value
-- ==== Proof.Value.Spec.lean ====
/-
  The two results as plain formulas over the extended reals: the softmax of one row's logits, the entropy term of a
  probability, the mass kept at each place, the loss, and the output. Also the constants both programs write as bit patterns.
-/
module

public import proofs.«01_k».proof.Proof.Value.Order
public import Idealize.ShloMosaic.PureOps.Ideal.Laws
public import Mathlib.Data.EReal.Inv

@[expose] public section

noncomputable section

namespace Cert.Value

open Idealize.ShloMosaic

/-! ## Constants -/

theorem bits_half : Ideal.ofBits .f32 0x3F000000#32 = ((1 / 2 : ℝ) : EReal) := by
  simp [Ideal.ofBits, Ideal.ieee]; rw [← EReal.coe_mul]; norm_num

theorem bits_8192 : Ideal.ofBits .f32 0x46000000#32 = ((8192 : ℝ) : EReal) := by
  simp [Ideal.ofBits, Ideal.ieee]; rw [← EReal.coe_mul]; norm_num

theorem bits_8191 : Ideal.ofBits .f32 0x45FFF800#32 = ((8191 : ℝ) : EReal) := by
  simp [Ideal.ofBits, Ideal.ieee]; rw [← EReal.coe_mul]; norm_num

theorem bits_256 : Ideal.ofBits .f32 0x43800000#32 = ((256 : ℝ) : EReal) := by
  simp [Ideal.ofBits, Ideal.ieee]; rw [← EReal.coe_mul]; norm_num

theorem bits_bot : Ideal.ofBits .f32 0xFF800000#32 = ⊥ := by
  simp [Ideal.ofBits, Ideal.ieee]

/-- The small number added under the logarithm and to the squared mean. -/
def eps : EReal := Ideal.ofBits .f32 0x2EDBE6FF#32

theorem eps_real : ∃ r : ℝ, 0 < r ∧ eps = (r : EReal) := by
  refine ⟨_, ?_, by simp [eps, Ideal.ofBits, Ideal.ieee]; rfl⟩
  positivity

/-! ## One row -/

/-- The logits of a row. -/
def logit (w : Fin 8 → Fin 1024 → EReal) (x : Fin 1024 → EReal) (e : Fin 8) : EReal := ∑ d, w e d * x d

/-- The greatest logit. -/
def top (l : Fin 8 → EReal) : EReal := Finset.univ.fold max ⊥ l

/-- The softmax. -/
def soft (l : Fin 8 → EReal) (e : Fin 8) : EReal :=
  Ideal.div (Ideal.exp (l e - top l)) (∑ k, Ideal.exp (l k - top l))

/-- One probability's share of the entropy, not yet negated. -/
def term (q : EReal) : EReal := q * Ideal.log (q + eps)

theorem le_top' (l : Fin 8 → EReal) (e : Fin 8) : l e ≤ top l :=
  Finset.le_fold_max _ |>.mpr (.inr ⟨e, Finset.mem_univ e, le_rfl⟩)

theorem exp_nonneg (x : EReal) : 0 ≤ Ideal.exp x := by
  induction x with
  | bot => exact le_rfl
  | top => exact le_top
  | coe r => exact EReal.coe_nonneg.mpr (Real.exp_pos r).le

/-- A softmax is of nonnegative reals, or has no value at all. -/
theorem soft_cases (l : Fin 8 → EReal) : (∀ e, ∃ r : ℝ, 0 ≤ r ∧ soft l e = (r : EReal)) ∨ (∀ e, soft l e = ⊥) := by
  by_cases h : ∃ r : ℝ, top l = (r : EReal)
  · left
    obtain ⟨t, ht⟩ := h
    have hx : ∀ e, ∃ r : ℝ, 0 ≤ r ∧ Ideal.exp (l e - top l) = (r : EReal) := by
      intro e
      have hle := le_top' l e
      rw [ht] at hle ⊢
      induction hl : l e with
      | bot => exact ⟨0, le_rfl, by rw [EReal.bot_sub]; rfl⟩
      | top => rw [hl] at hle; exact absurd hle (not_le.mpr (EReal.coe_lt_top t))
      | coe r => exact ⟨Real.exp (r - t), (Real.exp_pos _).le, by rw [← EReal.coe_sub]; rfl⟩
    choose g hg0 hg using hx
    intro e
    have hs : (∑ k, Ideal.exp (l k - top l)) = ((∑ k, g k : ℝ) : EReal) := by
      rw [Finset.sum_congr rfl fun k _ => hg k]
      exact (map_sum (⟨⟨((↑) : ℝ → EReal), EReal.coe_zero⟩, EReal.coe_add⟩ : ℝ →+ EReal) g Finset.univ).symm
    have hmax : ∃ e, l e = top l := by
      have hle : top l ≤ top l := le_rfl
      rcases (Finset.le_fold_max _).mp hle with hb | ⟨e, -, he⟩
      · rw [ht] at hb; exact absurd hb (not_le.mpr (EReal.bot_lt_coe t))
      · exact ⟨e, le_antisymm (le_top' l e) he⟩
    obtain ⟨m, hm⟩ := hmax
    have hgm : g m = 1 := by
      have := hg m
      rw [hm, ht, ← EReal.coe_sub, sub_self] at this
      have h1 : Ideal.exp ((0 : ℝ) : EReal) = ((Real.exp 0 : ℝ) : EReal) := rfl
      rw [h1, Real.exp_zero] at this
      exact (EReal.coe_injective this).symm
    have hpos : 0 < ∑ k, g k := Finset.sum_pos' (fun k _ => hg0 k) ⟨m, Finset.mem_univ m, by rw [hgm]; exact one_pos⟩
    refine ⟨g e * (∑ k, g k)⁻¹, mul_nonneg (hg0 e) (inv_nonneg.mpr hpos.le), ?_⟩
    unfold soft Ideal.div
    rw [hs, hg e, if_neg (by exact_mod_cast hpos.ne'), ← EReal.coe_inv, ← EReal.coe_mul]
  · right
    have hb : ∀ e, l e - top l = ⊥ := by
      intro e
      have hle := le_top' l e
      induction ht : top l with
      | bot => rw [ht] at hle; rw [le_bot_iff.mp hle]; rfl
      | top => rw [sub_eq_add_neg]; exact EReal.add_bot _
      | coe r => exact absurd ⟨r, ht⟩ h
    intro e
    have hz : ∀ e, Ideal.exp (l e - top l) = 0 := fun e => by rw [hb e]; rfl
    unfold soft Ideal.div
    rw [Finset.sum_congr rfl fun k _ => hz k, hz e]
    simp

theorem plain_soft (l : Fin 8 → EReal) : Plain (soft l) := by
  rcases soft_cases l with h | h
  · exact .inl fun e => by obtain ⟨r, hr, he⟩ := h e; rw [he]; exact EReal.coe_nonneg.mpr hr
  · exact .inr fun e => by rw [h e]; exact bot_le

/-- A probability's entropy term is never minus infinity. -/
theorem term_soft (l : Fin 8 → EReal) (e : Fin 8) : term (soft l e) ≠ ⊥ := by
  obtain ⟨p, hp, he⟩ := eps_real
  unfold term
  rw [he]
  rcases soft_cases l with h | h
  · obtain ⟨r, hr, h⟩ := h e
    rw [h, ← EReal.coe_add]
    have : Ideal.log ((r + p : ℝ) : EReal) = ((Real.log (r + p) : ℝ) : EReal) := by
      show (if r + p ≤ 0 then ⊥ else (Real.log (r + p) : EReal)) = _
      rw [if_neg (not_le.mpr (by positivity))]
    rw [this, ← EReal.coe_mul]
    exact EReal.coe_ne_bot _
  · rw [h e, EReal.bot_add]
    show (⊥ : EReal) * ⊥ ≠ ⊥
    simp

/-- The negation of a sum, none of whose terms is minus infinity, is the sum of the negations. -/
theorem neg_sum {ι : Type} (s : Finset ι) (g : ι → EReal) (h : ∀ i ∈ s, g i ≠ ⊥) : -(∑ i ∈ s, g i) = ∑ i ∈ s, -g i := by
  classical
  have key : ∀ s : Finset ι, (∀ i ∈ s, g i ≠ ⊥) → (∑ i ∈ s, g i) ≠ ⊥ ∧ -(∑ i ∈ s, g i) = ∑ i ∈ s, -g i := by
    intro s
    induction s using Finset.induction_on with
    | empty => intro _; simp
    | insert a s ha ih =>
      intro h
      obtain ⟨h1, h2⟩ := ih fun i hi => h i (Finset.mem_insert_of_mem hi)
      have h3 := h a (Finset.mem_insert_self a s)
      rw [Finset.sum_insert ha, Finset.sum_insert ha, ← h2]
      refine ⟨?_, ?_⟩
      · rw [Ne, EReal.add_eq_bot_iff]; exact fun hh => hh.elim h3 h1
      · rw [EReal.neg_add (.inl h3) (.inr h1), sub_eq_add_neg]
  exact (key s h).2

/-! ## The results -/

/-- The probabilities of head `n` at row `l`. -/
def probs (x : Fin 32 → Fin 1024 → Fin 1024 → EReal) (w : Fin 8 → Fin 1024 → EReal) (n : Fin 32) (l : Fin 1024) :
    Fin 8 → EReal := soft (logit w (x n l))

/-- The output at head `n`, row `l`, column `d`. -/
def outAt (q : Fin 32 → Fin 1024 → Fin 8 → EReal) (m : Fin 1024 → Fin 8 → Fin 1024 → EReal) (n : Fin 32) (l d : Fin 1024) : EReal :=
  (∑ e, gate (q n l) e * m l e d) + if l = d then 1 else 0

/-- The mass kept at place `r` of row `l`. -/
def mass (q : Fin 32 → Fin 1024 → Fin 8 → EReal) (l : Fin 1024) (r : Fin 8) : EReal := ∑ n, keptAt (q n l) r

/-- The mean of the mass. -/
def mean (v : Fin 1024 → Fin 8 → EReal) : EReal := Ideal.div (∑ l, ∑ r, v l r) (Ideal.ofBits .f32 0x46000000#32)

/-- The unbiased variance of the mass over its squared mean. -/
def spreadOf (v : Fin 1024 → Fin 8 → EReal) : EReal :=
  Ideal.div (Ideal.div (∑ l, ∑ r, (v l r - mean v) * (v l r - mean v)) (Ideal.ofBits .f32 0x45FFF800#32)) (mean v * mean v + eps)

/-- The sum of the entropy terms. -/
def terms (q : Fin 32 → Fin 1024 → Fin 8 → EReal) : EReal := ∑ n, ∑ l, ∑ e, term (q n l e)

/-- The loss. -/
def loss (q : Fin 32 → Fin 1024 → Fin 8 → EReal) : EReal :=
  spreadOf (mass q) + Ideal.ofBits .f32 0x3DCCCCCD#32 * Ideal.div (-terms q) (Ideal.ofBits .f32 0x43800000#32)

theorem div_neg_256 (x : EReal) : Ideal.div (-x) (Ideal.ofBits .f32 0x43800000#32) = -Ideal.div x (Ideal.ofBits .f32 0x43800000#32) := by
  unfold Ideal.div
  rw [bits_256, if_neg (by norm_num), if_neg (by norm_num), EReal.neg_mul]

/-! ## Sums -/

/-- A sum over the indices of a shape of three axes. -/
theorem sum_idx3 {M : Type} [AddCommMonoid M] {d : Fin 3 → Nat} (f : (⟨3, d⟩ : Shape).Idx → M) :
    ∑ i, f i = ∑ a : Fin (d 0), ∑ b : Fin (d 1), ∑ c : Fin (d 2), f (Fin.cons a (Fin.cons b (Fin.cons c finZeroElim))) := by
  refine ((Fin.consEquiv (fun a : Fin 3 => Fin (d a))).sum_comp f).symm.trans ?_
  rw [Fintype.sum_prod_type]
  refine Finset.sum_congr rfl fun a _ => ?_
  refine ((Fin.consEquiv (fun a : Fin 2 => Fin (d a.succ))).sum_comp (fun g => f (Fin.cons a g))).symm.trans ?_
  rw [Fintype.sum_prod_type]
  refine Finset.sum_congr rfl fun b _ => ?_
  refine ((Fin.consEquiv (fun a : Fin 1 => Fin (d a.succ.succ))).sum_comp (fun g => f (Fin.cons a (Fin.cons b g)))).symm.trans ?_
  rw [Fintype.sum_prod_type]
  refine Finset.sum_congr rfl fun c _ => ?_
  exact Fintype.sum_unique _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Value
-- ==== Proof.KernelIdeal.Point.lean ====
/-
  The functions of the main call's body read at an index, at the extended reals: the softmax, the
  probability and number ahead, the gates, the kept mass, the entropy and the output rows.
-/
module

public import proofs.«01_k».proof.Proof.KernelIdeal.Values
public import proofs.«01_k».proof.Proof.Value.Spec
public import Idealize.ShloMosaic.Lib.Pipeline.Value
public import Idealize.ShloMosaic.Lib.ValueIdx
public import Idealize.ShloMosaic.PureOps.Ideal.Laws

@[expose] public section

noncomputable section

namespace Cert.KernelIdeal.Hand

open Idealize.ShloMosaic Idealize.ShloMosaic.ValueIdx
open Cert.KernelIdeal.Gen

/-! ## Layout -/

theorem asRow_apply (x : S128.Idx → EReal) (l : Fin 128) :
    shapeCast S1x128 x shapeCasts_S128_S1x128 (ix2 0 l) = x (ix1 l) := by
  refine shapeCast_apply x _ (ix2 0 l) (ix1 l) ?_
  rw [Shape.rowMajor_val_one, Shape.rowMajor_val_two]
  show l.val = 0 * 128 + l.val
  omega

theorem overRows_apply (x : S1x128.Idx → EReal) (e : Fin 8) (l : Fin 128) :
    broadcastTo S8x128 x broadcasts_S1x128_S8x128 (ix2 e l) = x (ix2 0 l) :=
  broadcastTo_apply x _ (ix2 e l) (ix2 0 l) fun a => match a with
    | ⟨0, _⟩ => (if_pos rfl).symm
    | ⟨1, _⟩ => (if_neg (by decide : ¬(128 : Nat) = 1)).symm

theorem spread_apply (x : S128.Idx → EReal) (e : Fin 8) (l : Fin 128) : spread (F := Ideal) x (ix2 e l) = x (ix1 l) :=
  (overRows_apply _ e l).trans (asRow_apply x l)

theorem colSum_apply (x : S8x128.Idx → EReal) (l : Fin 128) : colSum (F := Ideal) x (ix1 l) = ∑ e : Fin 8, x (ix2 e l) := by
  unfold colSum
  refine (Ideal.multiReduction_add_single (φ := .f32) x _ _ _ _ (ix1 l)).trans (Finset.sum_congr rfl fun e _ => ?_)
  exact congrArg x (funext fun a => Fin.ext (by match a with | ⟨0, _⟩ => rfl | ⟨1, _⟩ => rfl))

theorem rowSum_apply (x : S8x128.Idx → EReal) (l : Fin 128) : rowSum (F := Ideal) x (ix2 0 l) = ∑ e : Fin 8, x (ix2 e l) :=
  (asRow_apply _ l).trans (colSum_apply x l)

theorem expertRow_apply (p : S8x128.Idx → EReal) (k : Fin 8) (h : S8x128.Slices ![k.val, 0] S1x128) (e : Fin 8) (l : Fin 128) :
    expertRow (F := Ideal) p ![k.val, 0] h (ix2 e l) = p (ix2 k l) := by
  refine (overRows_apply _ e l).trans ?_
  exact extractStridedSlice_apply ![k.val, 0] p h (ix2 0 l) (ix2 k l) fun a => match a with
    | ⟨0, _⟩ => rfl
    | ⟨1, _⟩ => (Nat.zero_add _).symm

theorem stack_apply (f : Fin 8 → (S1x128.Idx → EReal)) (e : Fin 8) (l : Fin 128) :
    stack (F := Ideal) (f 0) (f 1) (f 2) (f 3) (f 4) (f 5) (f 6) (f 7) (ix2 e l) = f e (ix2 0 l) := by
  refine concatenate_ofFn_unit_apply (t := S8x128) (s₁ := S1x128) 0 f _ rfl rfl (ix2 e l) e rfl (ix2 0 l) fun b hb => ?_
  match b with
  | ⟨0, _⟩ => exact absurd rfl hb
  | ⟨1, _⟩ => rfl

/-! ## Softmax -/

theorem logitsOf_apply (w : S8x1024.Idx → EReal) (xb : S1x128x1024.Idx → EReal) (e : Fin 8) (l : Fin 128) :
    logitsOf (F := Ideal) w xb (ix2 e l) = Value.logit (fun e d => w (ix2 e d)) (fun d => xb (ix3 0 l d)) e := by
  unfold logitsOf
  refine (Ideal.matmul_constant_zero_apply (φ₁ := .f32) (φ₂ := .f32) dot_S8x1024_S128x1024_S8x128_1_1_0_0_n_n none w _ (ix2 e l)).trans ?_
  rw [← Equiv.sum_comp (contrEquiv1 dot_S8x1024_S128x1024_S8x128_1_1_0_0_n_n 1024 rfl rfl).symm]
  refine Finset.sum_congr rfl fun d _ => ?_
  have hd := contrEquiv1_symm_val dot_S8x1024_S128x1024_S8x128_1_1_0_0_n_n 1024 rfl rfl d
  congr 1
  · refine congrArg w (funext fun a => Fin.ext ?_)
    match a with
    | ⟨0, _⟩ => rfl
    | ⟨1, _⟩ => exact hd
  · have hi : dot_S8x1024_S128x1024_S8x128_1_1_0_0_n_n.rhsIdx (ix2 e l)
        ((contrEquiv1 dot_S8x1024_S128x1024_S8x128_1_1_0_0_n_n 1024 rfl rfl).symm d) = (ix2 l d : S128x1024.Idx) :=
      funext fun a => Fin.ext (by match a with | ⟨0, _⟩ => rfl | ⟨1, _⟩ => exact hd)
    refine (congrArg _ hi).trans ?_
    refine shapeCast_apply xb _ (ix2 l d) (ix3 0 l d) ?_
    rw [Shape.rowMajor_val_two, Shape.rowMajor_val_three]
    show (0 * 128 + l.val) * 1024 + d.val = l.val * 1024 + d.val
    omega

theorem expsOf_apply (y : S8x128.Idx → EReal) (e : Fin 8) (l : Fin 128) :
    expsOf (F := Ideal) y (ix2 e l) = Ideal.exp (y (ix2 e l) - Value.top fun k => y (ix2 k l)) := by
  unfold expsOf
  refine congrArg (fun z => Ideal.exp (y (ix2 e l) - z)) ((spread_apply _ e l).trans ?_)
  refine (Ideal.multiReduction_maximumf_single (φ := .f32) y _ _ _ _ (ix1 l)).trans ?_
  show Finset.fold max (Ideal.ofBits .f32 0xFF800000#32) _ _ = _
  rw [Value.bits_bot]
  refine congrArg (Finset.fold max ⊥ · Finset.univ) (funext fun k => ?_)
  exact congrArg y (funext fun a => Fin.ext (by match a with | ⟨0, _⟩ => rfl | ⟨1, _⟩ => rfl))

theorem probsOf_apply (w : S8x1024.Idx → EReal) (xb : S1x128x1024.Idx → EReal) (e : Fin 8) (l : Fin 128) :
    probsOf (F := Ideal) w xb (ix2 e l)
      = Value.soft (Value.logit (fun e d => w (ix2 e d)) fun d => xb (ix3 0 l d)) e := by
  unfold probsOf Value.soft
  refine congrArg₂ Ideal.div ?_ ((spread_apply _ e l).trans ((colSum_apply _ l).trans (Finset.sum_congr rfl fun k _ => ?_)))
  · rw [expsOf_apply]; simp only [logitsOf_apply]
  · rw [expsOf_apply]; simp only [logitsOf_apply]

/-! ## The statistics of one column -/

section
variable (p : S8x128.Idx → EReal) (l : Fin 128)

/-- One column of the probabilities. -/
abbrev col : Fin 8 → EReal := fun e => p (ix2 e l)

theorem bit_one (b : Bool) : BitVec.ofBool b = 1#1 ↔ b = true := by revert b; decide

theorem lt_word (e k : Fin 8) : IntOp.cmpi .slt (BitVec.ofNat 32 e.val) (BitVec.ofNat 32 k.val) = BitVec.ofBool (decide (e < k)) := by
  revert e k; decide

theorem aheadFirst_apply (e : Fin 8) : aheadFirst (F := Ideal) p (ix2 e l) = 1#1 ↔ Value.Ahead (col p l) e 0 := by
  unfold aheadFirst
  show Ideal.cmp .ogt (p (ix2 e l)) (expertRow (F := Ideal) p ![(0 : Fin 8).val, 0] _ (ix2 e l)) = 1#1 ↔ _
  rw [expertRow_apply]
  show BitVec.ofBool (decide (_ < _)) = 1#1 ↔ _
  rw [bit_one, decide_eq_true_iff]
  exact ⟨.inl, fun h => h.elim id fun h => absurd h.2 (Nat.not_lt_zero _)⟩

theorem aheadOf_apply (k : Fin 8) (h : S8x128.Slices ![k.val, 0] S1x128) (e : Fin 8) :
    aheadOf (F := Ideal) p ![k.val, 0] h (BitVec.ofNat 32 k.val) (ix2 e l) = 1#1 ↔ Value.Ahead (col p l) e k := by
  unfold aheadOf
  show IntOp.ori (Ideal.cmp .ogt (p (ix2 e l)) (expertRow (F := Ideal) p ![k.val, 0] _ (ix2 e l)))
    (IntOp.andi (Ideal.cmp .oeq (p (ix2 e l)) (expertRow (F := Ideal) p ![k.val, 0] _ (ix2 e l)))
      (IntOp.cmpi .slt (iota .tc S8x128 32 [0] iota_S8x128_d0_w32 (ix2 e l)) (BitVec.ofNat 32 k.val))) = 1#1 ↔ _
  rw [expertRow_apply, iota_single_apply]
  rw [show IntOp.cmpi .slt (BitVec.ofNat 32 ((ix2 e l : S8x128.Idx) 0).val) (BitVec.ofNat 32 k.val) = _ from lt_word e k]
  show IntOp.ori (BitVec.ofBool (decide (_ < _))) (IntOp.andi (BitVec.ofBool (decide (_ = _))) _) = 1#1 ↔ _
  have hb : ∀ a b c : Bool, IntOp.ori (BitVec.ofBool a) (IntOp.andi (BitVec.ofBool b) (BitVec.ofBool c)) = 1#1 ↔ (a = true ∨ (b = true ∧ c = true)) := by
    decide
  rw [hb]
  simp only [decide_eq_true_eq]
  rfl

theorem massOf_apply (a : S8x128.Idx → BitVec 1) (k : Fin 8) (ha : ∀ e, a (ix2 e l) = 1#1 ↔ Value.Ahead (col p l) e k) :
    massOf (F := Ideal) p a (ix2 0 l) = Value.ahead (col p l) k := by
  unfold massOf Value.ahead
  refine (rowSum_apply _ l).trans (Finset.sum_congr rfl fun e _ => ?_)
  show (if a (ix2 e l) = 1#1 then p (ix2 e l) else Ideal.ofBits .f32 0x00000000#32) = _
  rw [Ideal.ofBits_zero_f32]
  exact if_congr (ha e) rfl rfl

theorem countOf_apply (a : S8x128.Idx → BitVec 1) (k : Fin 8) (ha : ∀ e, a (ix2 e l) = 1#1 ↔ Value.Ahead (col p l) e k) :
    countOf (F := Ideal) a (ix2 0 l) = ((Value.rank (col p l) k : ℝ) : EReal) := by
  unfold countOf Value.rank
  refine (rowSum_apply _ l).trans ?_
  rw [Nat.cast_sum, Value.coe_sum]
  refine Finset.sum_congr rfl fun e _ => ?_
  show ((((a (ix2 e l)).setWidth 32).toInt : ℝ) : EReal) = _
  have hw : ∀ b : BitVec 1, (b.setWidth 32).toInt = if b = 1#1 then 1 else 0 := by decide
  rw [hw, if_congr (ha e) rfl rfl]
  split <;> simp

theorem massAhead_apply (e : Fin 8) : massAhead (F := Ideal) p (ix2 e l) = Value.ahead (col p l) e := by
  unfold massAhead
  refine (stack_apply ![_, _, _, _, _, _, _, _] e l).trans ?_
  fin_cases e
  · exact massOf_apply p l _ 0 (aheadFirst_apply p l)
  · exact massOf_apply p l _ 1 (aheadOf_apply p l 1 _)
  · exact massOf_apply p l _ 2 (aheadOf_apply p l 2 _)
  · exact massOf_apply p l _ 3 (aheadOf_apply p l 3 _)
  · exact massOf_apply p l _ 4 (aheadOf_apply p l 4 _)
  · exact massOf_apply p l _ 5 (aheadOf_apply p l 5 _)
  · exact massOf_apply p l _ 6 (aheadOf_apply p l 6 _)
  · exact massOf_apply p l _ 7 (aheadOf_apply p l 7 _)

theorem rankOf_apply (e : Fin 8) : rankOf (F := Ideal) p (ix2 e l) = ((Value.rank (col p l) e : ℝ) : EReal) := by
  unfold rankOf
  refine (stack_apply ![_, _, _, _, _, _, _, _] e l).trans ?_
  fin_cases e
  · exact countOf_apply p l _ 0 (aheadFirst_apply p l)
  · exact countOf_apply p l _ 1 (aheadOf_apply p l 1 _)
  · exact countOf_apply p l _ 2 (aheadOf_apply p l 2 _)
  · exact countOf_apply p l _ 3 (aheadOf_apply p l 3 _)
  · exact countOf_apply p l _ 4 (aheadOf_apply p l 4 _)
  · exact countOf_apply p l _ 5 (aheadOf_apply p l 5 _)
  · exact countOf_apply p l _ 6 (aheadOf_apply p l 6 _)
  · exact countOf_apply p l _ 7 (aheadOf_apply p l 7 _)

theorem gatesOf_apply (e : Fin 8) : gatesOf (F := Ideal) p (ix2 e l) = Value.gate (col p l) e := by
  unfold gatesOf Value.gate
  show ((((Ideal.cmp .ole (massAhead (F := Ideal) p (ix2 e l)) (Ideal.ofBits .f32 0x3F000000#32)).setWidth 32).toInt : ℝ) : EReal) = _
  rw [massAhead_apply, Value.bits_half]
  have hw : ∀ b : BitVec 1, (b.setWidth 32).toInt = if b = 1#1 then 1 else 0 := by decide
  have hk : Ideal.cmp .ole (Value.ahead (col p l) e) ((1 / 2 : ℝ) : EReal) = 1#1 ↔ Value.Kept (col p l) e := by
    show BitVec.ofBool (decide (_ ≤ _)) = 1#1 ↔ _
    rw [bit_one, decide_eq_true_iff]
    rfl
  rw [hw, if_congr hk rfl rfl]
  split <;> simp

theorem keptAt_apply (k : BitVec 32) (r : Fin 8) (hk : Ideal.ofBits .f32 k = ((r.val : ℝ) : EReal)) :
    keptAt (F := Ideal) (rankOf (F := Ideal) p) (mulf (F := Ideal) (φ := .f32) p (gatesOf (F := Ideal) p)) k (ix2 0 l) = Value.keptAt (col p l) r := by
  unfold keptAt Value.keptAt
  refine (rowSum_apply _ l).trans (Finset.sum_congr rfl fun e _ => ?_)
  show (if Ideal.cmp .oeq (rankOf (F := Ideal) p (ix2 e l)) (Ideal.ofBits .f32 k) = 1#1
    then p (ix2 e l) * gatesOf (F := Ideal) p (ix2 e l) else Ideal.ofBits .f32 0x00000000#32) = _
  rw [rankOf_apply, gatesOf_apply, hk, Ideal.ofBits_zero_f32]
  refine if_congr ?_ rfl rfl
  show BitVec.ofBool (decide (_ = _)) = 1#1 ↔ _
  rw [bit_one, decide_eq_true_iff, EReal.coe_eq_coe_iff, Nat.cast_inj]

theorem vcOf_apply (r : Fin 8) : vcOf (F := Ideal) p (ix2 r l) = Value.keptAt (col p l) r := by
  unfold vcOf
  refine (stack_apply ![_, _, _, _, _, _, _, _] r l).trans ?_
  fin_cases r
  · exact keptAt_apply p l _ 0 (by simp [Ideal.ofBits_zero_f32])
  · exact keptAt_apply p l _ 1 (by simp [Ideal.ofBits, Ideal.ieee]; try (rw [← EReal.coe_mul]; norm_num))
  · exact keptAt_apply p l _ 2 (by simp [Ideal.ofBits, Ideal.ieee]; try (rw [← EReal.coe_mul]; norm_num))
  · exact keptAt_apply p l _ 3 (by simp [Ideal.ofBits, Ideal.ieee]; try (rw [← EReal.coe_mul]; norm_num))
  · exact keptAt_apply p l _ 4 (by simp [Ideal.ofBits, Ideal.ieee]; try (rw [← EReal.coe_mul]; norm_num))
  · exact keptAt_apply p l _ 5 (by simp [Ideal.ofBits, Ideal.ieee]; try (rw [← EReal.coe_mul]; norm_num))
  · exact keptAt_apply p l _ 6 (by simp [Ideal.ofBits, Ideal.ieee]; try (rw [← EReal.coe_mul]; norm_num))
  · exact keptAt_apply p l _ 7 (by simp [Ideal.ofBits, Ideal.ieee]; try (rw [← EReal.coe_mul]; norm_num))

end

/-! ## Entropy -/

/-- The one element of a reduction of a whole block. -/
theorem whole_sum (x : S1x8x128.Idx → EReal) :
    extractAt ![0, 0, 0] (shapeCast S1x1x1 (multiReduction (F := Ideal) (φ := .f32) .add [1, 2] S1 x 0x00000000#32 reduces_S1x8x128_S1 (.inl rfl) rfl)
      shapeCasts_S1_S1x1x1) inpos_S1x1x1_p0_0_0 = ∑ i, x i :=
  Ideal.multiReduction_add_total (φ := .f32) x 0x00000000#32 reduces_S1x8x128_S1 (by decide) (.inl rfl) rfl _

theorem entOf_apply (p : S8x128.Idx → EReal) :
    entOf (F := Ideal) p = -∑ l : Fin 128, ∑ e : Fin 8, Value.term (p (ix2 e l)) := by
  unfold entOf
  refine (congrArg₂ (· - ·) Ideal.ofBits_zero_f32 (whole_sum _)).trans ?_
  rw [zero_sub]
  refine congrArg Neg.neg ?_
  rw [Value.sum_idx3]
  refine (Fintype.sum_unique (ι := Fin 1) _).trans ?_
  rw [Finset.sum_comm]
  refine Finset.sum_congr rfl fun (l : Fin 128) _ => Finset.sum_congr rfl fun (e : Fin 8) _ => ?_
  refine shapeCast_apply _ _ _ (ix2 e l) ?_
  rw [Shape.rowMajor_val_two, Shape.rowMajor_val_three]
  show e.val * 128 + l.val = (0 * 8 + e.val) * 128 + l.val
  omega

/-! ## The output -/

theorem eyeOf_apply (b : Fin 8) (l : Fin 128) (d : Fin 1024) :
    eyeOf (F := Ideal) (BitVec.ofNat 32 b.val) (ix2 l d) = if b.val * 128 + l.val = d.val then 1 else 0 := by
  unfold eyeOf
  show ((((BitVec.ofBool (BitVec.ofNat 32 b.val * 128#32 + iota .tc S128x1024 32 [0] iota_S128x1024_d0_w32 (ix2 l d)
    == iota .tc S128x1024 32 [1] iota_S128x1024_d1_w32 (ix2 l d))).setWidth 32).toInt : ℝ) : EReal) = _
  rw [iota_single_apply, iota_single_apply]
  show ((((BitVec.ofBool (BitVec.ofNat 32 b.val * 128#32 + BitVec.ofNat 32 l.val == BitVec.ofNat 32 d.val)).setWidth 32).toInt : ℝ) : EReal) = _
  have he : (BitVec.ofNat 32 b.val * 128#32 + BitVec.ofNat 32 l.val == BitVec.ofNat 32 d.val) = decide (b.val * 128 + l.val = d.val) := by
    rw [Bool.eq_iff_iff, beq_iff_eq, decide_eq_true_iff, ← BitVec.toNat_inj]
    simp only [BitVec.toNat_add, BitVec.toNat_mul, BitVec.toNat_ofNat]
    omega
  rw [he]
  have hw : ∀ c : Bool, ((BitVec.ofBool c).setWidth 32).toInt = if c = true then 1 else 0 := by decide
  rw [hw]
  simp only [decide_eq_true_eq]
  split <;> simp

theorem gated_apply (p : S8x128.Idx → EReal) (k : Fin 8) (h : S128x8.Slices ![0, k.val] S128x1) (m : S128x1024.Idx → EReal) (l : Fin 128) (d : Fin 1024) :
    gated (F := Ideal) (transpose S128x8 [1, 0] (gatesOf (F := Ideal) p) transposes_S8x128_p1_0_S128x8) ![0, k.val] h m (ix2 l d)
      = Value.gate (col p l) k * m (ix2 l d) := by
  unfold gated
  refine congrArg (· * m (ix2 l d)) ?_
  refine (broadcastTo_apply _ _ (ix2 l d) (ix2 l 0 : S128x1.Idx) fun a => match a with
    | ⟨0, _⟩ => (if_neg (by decide : ¬(128 : Nat) = 1)).symm
    | ⟨1, _⟩ => (if_pos rfl).symm).trans ?_
  refine (extractStridedSlice_apply ![0, k.val] _ h (ix2 l 0) (ix2 l k) fun a => match a with
    | ⟨0, _⟩ => (Nat.zero_add _).symm
    | ⟨1, _⟩ => rfl).trans ?_
  refine (transpose_apply [1, 0] _ _ (ix2 l k) (ix2 k l) fun b => match b with
    | ⟨0, _⟩ => rfl
    | ⟨1, _⟩ => rfl).trans ?_
  exact gatesOf_apply p l k

theorem rowsOf_apply (b : Fin 8) (p : S8x128.Idx → EReal) (m : Fin 8 → (S128x1024.Idx → EReal)) (l : Fin 128) (d : Fin 1024) :
    rowsOf (F := Ideal) (BitVec.ofNat 32 b.val) p m (ix3 0 l d)
      = (∑ e, Value.gate (col p l) e * m e (ix2 l d)) + if b.val * 128 + l.val = d.val then 1 else 0 := by
  unfold rowsOf
  refine (shapeCast_apply _ _ (ix3 0 l d) (ix2 l d) ?_).trans ?_
  · rw [Shape.rowMajor_val_two, Shape.rowMajor_val_three]
    show l.val * 1024 + d.val = (0 * 128 + l.val) * 1024 + d.val
    omega
  refine congrArg₂ (· + ·) ?_ (eyeOf_apply b l d)
  unfold blend
  simp only [addf_apply]
  rw [Fin.sum_univ_eight]
  exact congrArg₂ (· + ·) (congrArg₂ (· + ·) (congrArg₂ (· + ·) (congrArg₂ (· + ·) (congrArg₂ (· + ·) (congrArg₂ (· + ·) (congrArg₂ (· + ·)
    (gated_apply p 0 _ _ l d) (gated_apply p 1 _ _ l d)) (gated_apply p 2 _ _ l d)) (gated_apply p 3 _ _ l d)) (gated_apply p 4 _ _ l d))
    (gated_apply p 5 _ _ l d)) (gated_apply p 6 _ _ l d)) (gated_apply p 7 _ _ l d)

end Cert.KernelIdeal.Hand
-- ==== Proof.KernelIdeal.Blocks.lean ====
/-
  The main call's blocks at the extended reals: which part of its array each window shows at a point, and
  so what the point's softmaxes, output rows, statistics and entropies are as functions of the arrays.
-/
module

public import proofs.«01_k».proof.Proof.KernelIdeal.Main
public import proofs.«01_k».proof.Proof.KernelIdeal.Point

@[expose] public section

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal.Gen

variable (E : Dev nD → Valuation τ sig (Elt Ideal)) (c : Dev nD)

/-- The probabilities of the arrays as the call finds them. -/
def qOf : Fin 32 → Fin 1024 → Fin 8 → EReal :=
  Value.probs (fun n l d => (E c (Proc.devRef .tc main_v0) : S32x1024x1024.Idx → EReal) (ix3 n l d))
    fun e d => (E c (Proc.devRef .tc main_arg2) : S8x1024.Idx → EReal) (ix2 e d)
/-- The masks by row and expert. -/
def mOf : Fin 1024 → Fin 8 → Fin 1024 → EReal :=
  fun l e d => (E c (Proc.devRef .tc main_arg1) : S1024x8x1024.Idx → EReal) (ix3 l e d)

/-- The head and the row of the arrays that a point's head and row are. -/
def headAt (t : Fin cfg0.N) (h : Fin 16) : Fin 32 := ⟨t.val % 2 * 16 + h.val, by have := h.isLt; omega⟩
def rowAt (t : Fin cfg0.N) (l : Fin 128) : Fin 1024 := ⟨t.val / 2 * 128 + l.val, by have h : t.val < 16 := t.isLt; have := l.isLt; omega⟩

theorem index0_0 : ∀ t : Fin cfg0.N, win0_0.index t (0 : Fin 3) = t.val % 2 ∧ win0_0.index t (1 : Fin 3) = t.val / 2 ∧ win0_0.index t (2 : Fin 3) = 0 :=
  (by decide +kernel : ∀ t : Fin grid0.N, _)
theorem index0_1 : ∀ t : Fin cfg0.N, win0_1.index t (0 : Fin 2) = 0 ∧ win0_1.index t (1 : Fin 2) = 0 := (by decide +kernel : ∀ t : Fin grid0.N, _)
theorem index0_2 : ∀ t : Fin cfg0.N, win0_2.index t (0 : Fin 3) = t.val % 2 ∧ win0_2.index t (1 : Fin 3) = t.val / 2 ∧ win0_2.index t (2 : Fin 3) = 0 :=
  (by decide +kernel : ∀ t : Fin grid0.N, _)
theorem index0_3 : ∀ t : Fin cfg0.N, win0_3.index t (0 : Fin 2) = 0 ∧ win0_3.index t (1 : Fin 2) = t.val / 2 := (by decide +kernel : ∀ t : Fin grid0.N, _)
theorem index0_4 : ∀ t : Fin cfg0.N, win0_4.index t (0 : Fin 3) = t.val / 2 ∧ win0_4.index t (1 : Fin 3) = 0 ∧ win0_4.index t (2 : Fin 3) = 0 :=
  (by decide +kernel : ∀ t : Fin grid0.N, _)
theorem coord0 : ∀ t : Fin cfg0.N, (grid0.coords t 0).val = t.val / 2 := (by decide +kernel : ∀ t : Fin grid0.N, _)

theorem place0 (t : Fin cfg0.N) (h : Fin 16) (l : Fin 128) (d : Fin 1024) :
    (win0_0.blk t).view.emb (ix3 h l d : S16x128x1024.Idx) = (ix3 (headAt t h) (rowAt t l) d : S32x1024x1024.Idx) := by
  obtain ⟨e0, e1, e2⟩ := index0_0 t
  funext a; apply Fin.ext
  match a with
  | ⟨0, _⟩ => show win0_0.index t (0 : Fin 3) * 16 + 1 * h.val = t.val % 2 * 16 + h.val; omega
  | ⟨1, _⟩ => show win0_0.index t (1 : Fin 3) * 128 + 1 * l.val = t.val / 2 * 128 + l.val; omega
  | ⟨2, _⟩ => show win0_0.index t (2 : Fin 3) * 1024 + 1 * d.val = d.val; omega

theorem place1 (t : Fin cfg0.N) (e : Fin 8) (d : Fin 1024) :
    (win0_1.blk t).view.emb (ix2 e d : S8x1024.Idx) = (ix2 e d : S8x1024.Idx) := by
  obtain ⟨e0, e1⟩ := index0_1 t
  funext a; apply Fin.ext
  match a with
  | ⟨0, _⟩ => show win0_1.index t (0 : Fin 2) * 8 + 1 * e.val = e.val; omega
  | ⟨1, _⟩ => show win0_1.index t (1 : Fin 2) * 1024 + 1 * d.val = d.val; omega

theorem place2 (t : Fin cfg0.N) (h : Fin 16) (l : Fin 128) (d : Fin 1024) :
    (win0_2.blk t).view.emb (ix3 h l d : S16x128x1024.Idx) = (ix3 (headAt t h) (rowAt t l) d : S32x1024x1024.Idx) := by
  obtain ⟨e0, e1, e2⟩ := index0_2 t
  funext a; apply Fin.ext
  match a with
  | ⟨0, _⟩ => show win0_2.index t (0 : Fin 3) * 16 + 1 * h.val = t.val % 2 * 16 + h.val; omega
  | ⟨1, _⟩ => show win0_2.index t (1 : Fin 3) * 128 + 1 * l.val = t.val / 2 * 128 + l.val; omega
  | ⟨2, _⟩ => show win0_2.index t (2 : Fin 3) * 1024 + 1 * d.val = d.val; omega

theorem place3 (t : Fin cfg0.N) (r : Fin 8) (l : Fin 128) :
    (win0_3.blk t).view.emb (ix2 r l : S8x128.Idx) = (ix2 r (rowAt t l) : S8x1024.Idx) := by
  obtain ⟨e0, e1⟩ := index0_3 t
  funext a; apply Fin.ext
  match a with
  | ⟨0, _⟩ => show win0_3.index t (0 : Fin 2) * 8 + 1 * r.val = r.val; omega
  | ⟨1, _⟩ => show win0_3.index t (1 : Fin 2) * 128 + 1 * l.val = t.val / 2 * 128 + l.val; omega

/-- The block of rows a point works on. -/
def stepOf (t : Fin cfg0.N) : Fin 8 := ⟨t.val / 2, by have h : t.val < 16 := t.isLt; omega⟩

theorem place4 (t : Fin cfg0.N) (a b d : Fin 1) :
    (win0_4.blk t).view.emb (ix3 a b d : S1x1x1.Idx) = (ix3 (stepOf t) 0 0 : S8x1x1.Idx) := by
  obtain ⟨e0, e1, e2⟩ := index0_4 t
  have := a.isLt; have := b.isLt; have := d.isLt
  funext k; apply Fin.ext
  match k with
  | ⟨0, _⟩ => show win0_4.index t (0 : Fin 3) * 1 + 1 * a.val = t.val / 2; omega
  | ⟨1, _⟩ => show win0_4.index t (1 : Fin 3) * 1 + 1 * b.val = 0; omega
  | ⟨2, _⟩ => show win0_4.index t (2 : Fin 3) * 1 + 1 * d.val = 0; omega

/-! ## What a point reads -/

theorem blk0_apply (t : Fin cfg0.N) (h : Fin 16) (l : Fin 128) (d : Fin 1024) :
    blkAt E c 0 t (ix3 h l d : S16x128x1024.Idx) = (E c (Proc.devRef .tc main_v0) : S32x1024x1024.Idx → EReal) (ix3 (headAt t h) (rowAt t l) d) :=
  congrArg (E c (Proc.devRef .tc main_v0) : S32x1024x1024.Idx → EReal) (place0 t h l d)
theorem blk1_apply (t : Fin cfg0.N) (e : Fin 8) (d : Fin 1024) :
    blkAt E c 1 t (ix2 e d : S8x1024.Idx) = (E c (Proc.devRef .tc main_arg2) : S8x1024.Idx → EReal) (ix2 e d) :=
  congrArg (E c (Proc.devRef .tc main_arg2) : S8x1024.Idx → EReal) (place1 t e d)

theorem headOf_apply (x0 : S16x128x1024.Idx → EReal) (h : Fin 16) (l : Fin 128) (d : Fin 1024) :
    headOf (F := Ideal) x0 h (ix3 0 l d) = x0 (ix3 h l d) := by
  unfold headOf
  refine congrArg x0 (funext fun a => Fin.ext ?_)
  match a with
  | ⟨0, _⟩ => show h.val + 1 * 0 = h.val; omega
  | ⟨1, _⟩ => show 0 + 1 * l.val = l.val; omega
  | ⟨2, _⟩ => show 0 + 1 * d.val = d.val; omega

theorem psAt_apply (t : Fin cfg0.N) (h : Fin 16) (e : Fin 8) (l : Fin 128) :
    psAt E c t h (ix2 e l) = qOf E c (headAt t h) (rowAt t l) e := by
  unfold psAt psOf
  refine (probsOf_apply (blkAt E c 1 t) (headOf (blkAt E c 0 t) h) e l).trans ?_
  unfold qOf Value.probs
  refine congrFun (congrArg Value.soft (congrArg₂ Value.logit (funext fun e => funext fun d => blk1_apply E c t e d) (funext fun d => ?_))) e
  exact (headOf_apply _ h l d).trans (blk0_apply E c t h l d)

theorem col_psAt (t : Fin cfg0.N) (h : Fin 16) (l : Fin 128) : col (psAt E c t h) l = qOf E c (headAt t h) (rowAt t l) :=
  funext fun e => psAt_apply E c t h e l

theorem mask_apply (t : Fin cfg0.N) (e : Fin 8) (l : Fin 128) (d : Fin 1024) :
    maskOf (F := Ideal) c (masks E c) (blkOf (t.val / 2)) e (ix2 l d) = mOf E c (rowAt t l) e d := by
  unfold maskOf mOf srcOf
  refine (congrFun (Memref.read_squeeze_slice mskM
    (Rect.unit (s := S1024x8x1024) ![128 * (blkOf (t.val / 2)).val, e.val, 0] S128x1x1024.size (src_inb (blkOf (t.val / 2)) e)) (fun _ => rfl)
    squeezes_S128x1x1024_S128x1024 (by decide : S128x1x1024.ShapeCasts S128x1024) (masks E c)) (ix2 l d)).trans ?_
  refine (shapeCast_apply _ _ (ix2 l d) (ix3 l 0 d : S128x1x1024.Idx) ?_).trans ?_
  · rw [Shape.rowMajor_val_two, Shape.rowMajor_val_three]
    show (l.val * 1 + 0) * 1024 + d.val = l.val * 1024 + d.val
    omega
  refine congrArg (E c (Proc.devRef .tc main_arg1) : S1024x8x1024.Idx → EReal) (funext fun a => Fin.ext ?_)
  have h : t.val < 16 := t.isLt
  match a with
  | ⟨0, _⟩ => show 128 * (t.val / 2 % 8) + 1 * l.val = t.val / 2 * 128 + l.val; omega
  | ⟨1, _⟩ => show e.val + 1 * 0 = e.val; omega
  | ⟨2, _⟩ => show 0 + 1 * d.val = d.val; omega

theorem out_point (t : Fin cfg0.N) (h : Fin 16) (l : Fin 128) (d : Fin 1024) :
    outAt E c t (ix3 h l d) = Value.outAt (qOf E c) (mOf E c) (headAt t h) (rowAt t l) d := by
  unfold outAt outBlk Value.outAt
  have hk : (BitVec.ofNat 32 (grid0.coords t 0)) = BitVec.ofNat 32 (stepOf t).val := congrArg (BitVec.ofNat 32) (coord0 t)
  rw [hk]
  refine (rowsOf_apply (stepOf t) (psAt E c t h) _ l d).trans ?_
  refine congrArg₂ (· + ·) (Finset.sum_congr rfl fun e _ => ?_) ?_
  · rw [col_psAt, mask_apply]
  · refine if_congr (Iff.intro (fun e => Fin.ext e) fun e => congrArg Fin.val e) rfl rfl

end Cert.KernelIdeal.Hand

end
-- ==== Proof.KernelIdeal.Loss.lean ====
/- The loss call: its body run, and the call as a pipeline. -/
module

public import proofs.«01_k».proof.Proof.KernelIdeal.Main

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

theorem entCell_inb (i : Fin 8) : ∀ a, (![i.val, 0, 0] : Fin 3 → Nat) a + S1x1x1.size a ≤ S8x1x1.size a := by
  have := i.isLt; intro a; fin_cases a <;> simp <;> omega
/-- One block row's entropy. -/
def entCell (e : Vec F S8x1x1 .f32) (i : Fin 8) : F .f32 :=
  View.ld (Val := Elt F) e (Rect.unit (s := S8x1x1) ![i.val, 0, 0] S1x1x1.size (entCell_inb i)) (Shape.Idx.first (s := S1x1x1) (by decide))
/-- The loss of the statistics and the entropies. -/
def lossOf (v : Vec F S8x1024 .f32) (e : Vec F S8x1x1 .f32) : F .f32 :=
  k1_pay1 (k1_pay2 v) (k1_pay3 (entCell e 0) (entCell e 1) (entCell e 2) (entCell e 3) (entCell e 4) (entCell e 5) (entCell e 6)) (entCell e 7)
/-- One block row's entropy as the body reads it. -/
def cellRead (c : Dev nD) (arg1 : Memref sig .tc .smem S8x1x1 .f32) (harg1 : arg1.IsWhole) (x1 : Vec F S8x1x1 .f32) (i : Fin 8) : F .f32 :=
  View.readAt (Elt F) arg1.view (Rect.unit (s := S8x1x1) ![i.val, 0, 0] S1x1x1.size (entCell_inb i)).toLoadRect (harg1.unread x1) (Shape.Idx.first (s := S1x1x1) (by decide))
def statRead (c : Dev nD) (arg0 : Memref sig .tc .vmem S8x1024 .f32) (harg0 : arg0.IsWhole) (x0 : Vec F S8x1024 .f32) : Vec F S8x1024 .f32 :=
  View.readAt (Elt F) arg0.view (Rect.unit (s := S8x1024) ![0, 0] S8x1024.size inb_S8x1024_S8x1024_0_0).toLoadRect (harg0.unread x0)
theorem cellRead_eq (c : Dev nD) (arg1 : Memref sig .tc .smem S8x1x1 .f32) (harg1 : arg1.IsWhole) (x1 : Vec F S8x1x1 .f32) (i : Fin 8) : cellRead c arg1 harg1 x1 i = entCell x1 i := by
  unfold cellRead entCell; rw [View.readAt_eq_ld, harg1.read_unread]
theorem statRead_eq (c : Dev nD) (arg0 : Memref sig .tc .vmem S8x1024 .f32) (harg0 : arg0.IsWhole) (x0 : Vec F S8x1024 .f32) : statRead c arg0 harg0 x0 = x0 := by
  unfold statRead; rw [View.readAt_full]; exact harg0.read_unread x0

set_option maxHeartbeats 4000000 in
/-- The loss body, run from the buffers it is given: what it leaves in its output. -/
def runL (c : Dev nD) (arg0 : Memref sig .tc .vmem S8x1024 .f32) (harg0 : arg0.IsWhole) (arg1 : Memref sig .tc .smem S8x1x1 .f32) (harg1 : arg1.IsWhole) (arg2 : Memref sig .tc .smem S1x1 .f32) (harg2 : arg2.IsWhole)
    (x0 : Vec F S8x1024 .f32) (x1 : Vec F S8x1x1 .f32) :
    { L2 : List (View.Piece (Elt F) S1x1 .f32) //
      ∀ (K : PUnit → sProp 𝕄),
        iprop(owns (c : Thread nD τ) arg0 fullShare x0 ∗ owns (c : Thread nD τ) arg1 fullShare x1 ∗ (∃ d, owns (c : Thread nD τ) arg2 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2)) -∗ K ⟨⟩))
          ⊢ wp frame (wpE (defs₀ (F := F)) Variants.none c none) Set.univ (cc1__loss_body arg0 harg0 arg1 harg1 arg2 harg2) K } := by
  refine ⟨?_, fun K => ?run⟩
  case run =>
    simp only [cc1__loss_body_eq_skeleton]; unfold cc1__loss_body_skel
    simp only [k1_part1_eq_skeleton]
    unfold owns
    iintro ⟨⟨%f0, %hf0, H0⟩, ⟨%f1, %hf1, H1⟩, ⟨%d2, %f2, -, H2⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    iexists _; iexact H2

/-- The loss as the body reads its inputs. -/
def lossRead (c : Dev nD) (arg0 : Memref sig .tc .vmem S8x1024 .f32) (harg0 : arg0.IsWhole) (arg1 : Memref sig .tc .smem S8x1x1 .f32) (harg1 : arg1.IsWhole) (x0 : Vec F S8x1024 .f32) (x1 : Vec F S8x1x1 .f32) : F .f32 :=
  k1_pay1 (k1_pay2 (statRead c arg0 harg0 x0)) (k1_pay3 (cellRead c arg1 harg1 x1 0) (cellRead c arg1 harg1 x1 1) (cellRead c arg1 harg1 x1 2) (cellRead c arg1 harg1 x1 3) (cellRead c arg1 harg1 x1 4) (cellRead c arg1 harg1 x1 5) (cellRead c arg1 harg1 x1 6)) (cellRead c arg1 harg1 x1 7)
theorem lossRead_eq (c : Dev nD) (arg0 : Memref sig .tc .vmem S8x1024 .f32) (harg0 : arg0.IsWhole) (arg1 : Memref sig .tc .smem S8x1x1 .f32) (harg1 : arg1.IsWhole) (x0 : Vec F S8x1024 .f32) (x1 : Vec F S8x1x1 .f32) :
    lossRead c arg0 harg0 arg1 harg1 x0 x1 = lossOf x0 x1 := by
  unfold lossRead lossOf; simp only [statRead_eq, cellRead_eq]

theorem runL_out (c : Dev nD) (arg0 : Memref sig .tc .vmem S8x1024 .f32) (harg0 : arg0.IsWhole) (arg1 : Memref sig .tc .smem S8x1x1 .f32) (harg1 : arg1.IsWhole) (arg2 : Memref sig .tc .smem S1x1 .f32) (harg2 : arg2.IsWhole)
    (x0 : Vec F S8x1024 .f32) (x1 : Vec F S8x1x1 .f32) :
    (runL c arg0 harg0 arg1 harg1 arg2 harg2 x0 x1).1 = [⟨Rect.unit (s := S1x1) ![0, 0] S1x1.size inb_S1x1_S1x1_0_0, fun _ => lossRead c arg0 harg0 arg1 harg1 x0 x1⟩] := by
  sl_kernel_rfl
theorem pieces_as1 {β : Type _} {P : β → Prop} (R : { b : β // P b }) {b : β} (h : R.1 = b) : P b := by
  subst h; exact R.2
theorem loss_read (v : View sig .tc .smem S1x1 .f32) (f) (x : Vec F S1x1 .f32) :
    v.read (Elt F) (v.writes (Elt F) f [⟨Rect.unit (s := S1x1) ![0, 0] S1x1.size inb_S1x1_S1x1_0_0, x⟩]) = x :=
  View.read_writes_full v f _ x []

theorem stepL (c : Dev nD) (arg0 : Memref sig .tc .vmem S8x1024 .f32) (harg0 : arg0.IsWhole) (arg1 : Memref sig .tc .smem S8x1x1 .f32) (harg1 : arg1.IsWhole) (arg2 : Memref sig .tc .smem S1x1 .f32) (harg2 : arg2.IsWhole)
    (x0 : Vec F S8x1024 .f32) (x1 : Vec F S8x1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (fun _ => lossOf x0 x1)) -∗ K ⟨⟩))
      ⊢ wp frame (wpE (defs₀ (F := F)) Variants.none c none) Set.univ (cc1__loss_body arg0 harg0 arg1 harg1 arg2 harg2) K := by
  have R := pieces_as1 (runL c arg0 harg0 arg1 harg1 arg2 harg2 x0 x1) (runL_out c arg0 harg0 arg1 harg1 arg2 harg2 x0 x1)
  iintro ⟨H0, H1, H2, Hk⟩
  iapply (R K)
  isplitl [H0]; · iexact H0
  isplitl [H1]; · iexact H1
  isplitl [H2]; · iexact H2
  iintro ⟨H0, H1, ⟨%f, H2⟩⟩
  iapply Hk
  isplitl [H0]; · iexact H0
  isplitl [H1]; · iexact H1
  unfold owns; iexists _; isplitr; swap; · iexact H2
  ipureintro; rw [loss_read]; funext _; exact lossRead_eq c arg0 harg0 arg1 harg1 x0 x1

/-! ## The loss call as a pipeline of one point -/

variable (E : Dev nD → Valuation τ sig (Elt F))

abbrev curL0 (t : Fin cfg1.N) := win1_0.stage (cfg1.slots t 0)
theorem liveL0 : ∀ t : Fin cfg1.N, cfg1.idle 0 (grid1.coords t) = false := by decide +kernel
abbrev curL1 (t : Fin cfg1.N) := win1_1.stage (cfg1.slots t 1)
theorem liveL1 : ∀ t : Fin cfg1.N, cfg1.idle 1 (grid1.coords t) = false := by decide +kernel
abbrev curL2 (t : Fin cfg1.N) := win1_2.stage (cfg1.slots t 2)
theorem liveL2 : ∀ t : Fin cfg1.N, cfg1.idle 2 (grid1.coords t) = false := by decide +kernel
/-- The block of a window at the point, read off its array as the call finds it. -/
def blkL (c : Dev nD) (w : Fin cfg1.W) (t : Fin cfg1.N) : ((cfg1.win w).xblock (cfg1.grid.coords t)).Idx → Elt F (cfg1.win w).elt :=
  ((cfg1.win w).blk t).view.read (Elt F) (E c (Proc.devRef .tc (Pipeline.arrRef spec1 w)))
def lossAt (c : Dev nD) (t : Fin cfg1.N) : Vec F S1x1 .f32 := fun _ => lossOf (blkL E c 0 t) (blkL E c 1 t)

def dats1 (c : Dev nD) : Dat τ (Elt F) Unit ℕ (Pipeline.UD sig nD τ) ℕ cfg1 c where
  A w := E c (Proc.devRef .tc (Pipeline.arrRef spec1 w))
  after w t := match w with
    | ⟨0, _⟩ => blkL E c 0 t
    | ⟨1, _⟩ => blkL E c 1 t
    | ⟨2, _⟩ => lossAt E c t
  Φ _ := iprop(Pipeline.scopedRest (Ix := Unit) (Name := ℕ) (U := Pipeline.UD sig nD τ) (Lvl := ℕ) (Val := Elt F) spec1 c ∗ (∃ r, prngReg c r))
  q _ := fullShare
  owed _ := 0

theorem A1_eq (c : Dev nD) (w : Fin cfg1.W) : (dats1 E c).A w = E c (Proc.devRef .tc (Pipeline.arrRef spec1 w)) := by dsimp only [dats1]
theorem after1_0 (c : Dev nD) (t : Fin cfg1.N) : (dats1 E c).after 0 t = blkL E c 0 t := by dsimp only [dats1]
theorem after1_1 (c : Dev nD) (t : Fin cfg1.N) : (dats1 E c).after 1 t = blkL E c 1 t := by dsimp only [dats1]
theorem after1_2 (c : Dev nD) (t : Fin cfg1.N) : (dats1 E c).after 2 t = lossAt E c t := by dsimp only [dats1]
theorem before1_0 (c : Dev nD) (t : Fin cfg1.N) (d) : (dats1 E c).before 0 t d = blkL E c 0 t :=
  ((dats1 E c).before_in_eq_fetched 0 rfl (fun _ => rfl) (fun _ _ _ => rfl)
    (fun t => by rw [after1_0]; unfold Dat.blockOf blkL; rw [A1_eq]; try rfl) t d).trans
    (by unfold Dat.fetched Dat.blockOf blkL; rw [A1_eq]; try rfl)
theorem before1_1 (c : Dev nD) (t : Fin cfg1.N) (d) : (dats1 E c).before 1 t d = blkL E c 1 t :=
  ((dats1 E c).before_in_eq_fetched 1 rfl (fun _ => rfl) (fun _ _ _ => rfl)
    (fun t => by rw [after1_1]; unfold Dat.blockOf blkL; rw [A1_eq]; try rfl) t d).trans
    (by unfold Dat.fetched Dat.blockOf blkL; rw [A1_eq]; try rfl)

def before1 (c : Dev nD) (t : Fin cfg1.N) : sProp 𝕄 :=
  iprop((dats1 E c).Φ t.castSucc ∗ (dats1 E c).owesAt () t.castSucc ∗ (∃ d, owns (c : Thread nD τ) (curL0 t) fullShare ((dats1 E c).before 0 t d)) ∗ (∃ d, owns (c : Thread nD τ) (curL1 t) fullShare ((dats1 E c).before 1 t d)) ∗ (∃ d, owns (c : Thread nD τ) (curL2 t) fullShare ((dats1 E c).before 2 t d)))
def after1 (c : Dev nD) (t : Fin cfg1.N) : sProp 𝕄 :=
  iprop((dats1 E c).Φ t.succ ∗ (dats1 E c).owesAt () t.succ ∗ (dats1 E c).leavesExact 0 t ∗ (dats1 E c).leavesExact 1 t ∗ (dats1 E c).leavesExact 2 t)

theorem sound1 (c : Dev nD) (t : Fin cfg1.N) :
    before1 E c t ⊢ wp frame (wpE (defs₀ (F := F)) Variants.none c none) Set.univ (bodyAt1 t) (fun _ => after1 E c t) := by
  unfold before1 after1 bodyAt1
  simp only [before1_0, before1_1]
  rw [show (dats1 E c).Φ t.succ = (dats1 E c).Φ t.castSucc from rfl,
    show (dats1 E c).owesAt () t.succ = (dats1 E c).owesAt () t.castSucc from rfl]
  rw [show (dats1 E c).leavesExact 0 t = owns (c : Thread nD τ) (curL0 t) fullShare ((dats1 E c).after 0 t) from by
    unfold Dat.leavesExact; rw [liveL0 t], after1_0]
  rw [show (dats1 E c).leavesExact 1 t = owns (c : Thread nD τ) (curL1 t) fullShare ((dats1 E c).after 1 t) from by
    unfold Dat.leavesExact; rw [liveL1 t], after1_1]
  rw [show (dats1 E c).leavesExact 2 t = owns (c : Thread nD τ) (curL2 t) fullShare ((dats1 E c).after 2 t) from by
    unfold Dat.leavesExact; rw [liveL2 t], after1_2]
  iintro ⟨HΦ, HW, ⟨%d0, H0⟩, ⟨%d1, H1⟩, ⟨%d2, H2⟩⟩
  iapply (stepL c (curL0 t) (hstage1_0 0) (curL1 t) (hstage1_1 0) (curL2 t) (hstage1_2 0) (blkL E c 0 t) (blkL E c 1 t) _)
  isplitl [H0]; · iexact H0
  isplitl [H1]; · iexact H1
  isplitl [H2]; · iexists _; iexact H2
  iintro ⟨H0, H1, H2⟩
  isplitl [HΦ]; · iexact HΦ
  isplitl [HW]; · iexact HW
  isplitl [H0]; · iexact H0
  isplitl [H1]; · iexact H1
  iexact H2

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dats1 (F := F) E c) (defs₀ (F := F)) Variants.none () Set.univ := fun t => by
  rw [bigSep_W1, bigSep_W1, row1]
  exact triple_restated (sound1 E c t) rfl .rfl fun _ => .rfl

end Cert.KernelIdeal.Hand

end
-- ==== Proof.KernelIdeal.LossValue.lean ====
/- The loss call's function at the extended reals: the spread of the statistics, and the entropies added. -/
module

public import proofs.«01_k».proof.Proof.KernelIdeal.Loss
public import proofs.«01_k».proof.Proof.Value.Spec
public import Idealize.ShloMosaic.Lib.Pipeline.Value
public import Idealize.ShloMosaic.Lib.ValueIdx
public import Idealize.ShloMosaic.PureOps.Ideal.Laws

@[expose] public section

noncomputable section

namespace Cert.KernelIdeal.Hand

open Idealize.ShloMosaic Idealize.ShloMosaic.ValueIdx
open Cert.KernelIdeal.Gen

/-- The sum of all statistics. -/
def grand (x : S8x1024.Idx → EReal) : EReal :=
  extractAt ![0, 0, 0] (shapeCast S1x1x1 (multiReduction (F := Ideal) (φ := .f32) .add [1, 2] S1
    (shapeCast S1x8x1024 x shapeCasts_S8x1024_S1x8x1024) 0x00000000#32 reduces_S1x8x1024_S1 (.inl rfl) rfl)
    shapeCasts_S1_S1x1x1) inpos_S1x1x1_p0_0_0

theorem grand_eq (x : S8x1024.Idx → EReal) : grand x = ∑ l : Fin 1024, ∑ r : Fin 8, x (ix2 r l) := by
  refine (Ideal.multiReduction_add_total (φ := .f32) (shapeCast S1x8x1024 x shapeCasts_S8x1024_S1x8x1024) 0x00000000#32
    reduces_S1x8x1024_S1 (by decide) (.inl rfl) rfl _).trans ?_
  rw [Value.sum_idx3]
  refine (Fintype.sum_unique (ι := Fin 1) _).trans ?_
  rw [Finset.sum_comm]
  refine Finset.sum_congr rfl fun (l : Fin 1024) _ => Finset.sum_congr rfl fun (r : Fin 8) _ => ?_
  refine shapeCast_apply _ _ _ (ix2 r l) ?_
  rw [Shape.rowMajor_val_two, Shape.rowMajor_val_three]
  show r.val * 1024 + l.val = (0 * 8 + r.val) * 1024 + l.val
  omega

/-- The mean of the statistics, and their spread about it, over the sums. -/
def middle (x : S8x1024.Idx → EReal) : EReal := Ideal.div (grand x) (Ideal.ofBits .f32 0x46000000#32)
def around (x : S8x1024.Idx → EReal) : EReal :=
  Ideal.div (Ideal.div (grand fun i => (x i - middle x) * (x i - middle x)) (Ideal.ofBits .f32 0x45FFF800#32))
    (middle x * middle x + Value.eps)

theorem spread_sums (v : S8x1024.Idx → EReal) :
    k1_pay2 (F := Ideal) v = around (shapeCast S8x1024 v shapeCasts_S8x1024_S8x1024) := rfl

theorem spread_value (v : S8x1024.Idx → EReal) :
    k1_pay2 (F := Ideal) v = Value.spreadOf fun (l : Fin 1024) (r : Fin 8) => v (ix2 r l) := by
  rw [spread_sums, shapeCast_self]
  unfold around middle
  simp only [grand_eq]
  rfl

theorem entCell_apply (e : S8x1x1.Idx → EReal) (i : Fin 8) : entCell (F := Ideal) e i = e (ix3 i 0 0) := by
  unfold entCell
  exact congrArg e (funext fun a => Fin.ext (by
    match a with
    | ⟨0, _⟩ => rfl
    | ⟨1, _⟩ => rfl
    | ⟨2, _⟩ => rfl))

theorem lossOf_apply (v : S8x1024.Idx → EReal) (e : S8x1x1.Idx → EReal) :
    lossOf (F := Ideal) v e = Value.spreadOf (fun (l : Fin 1024) (r : Fin 8) => v (ix2 r l))
      + Ideal.ofBits .f32 0x3DCCCCCD#32 * Ideal.div (∑ i : Fin 8, e (ix3 i 0 0)) (Ideal.ofBits .f32 0x43800000#32) := by
  unfold lossOf
  rw [spread_value]
  simp only [entCell_apply, Fin.sum_univ_eight]
  rfl

end Cert.KernelIdeal.Hand

end
-- ==== Proof.KernelIdeal.Arrays.lean ====
/- The arrays the main call leaves, at the extended reals: the output, the statistics and the entropies. -/
module

public import proofs.«01_k».proof.Proof.KernelIdeal.Blocks
public import proofs.«01_k».proof.Proof.KernelIdeal.LossValue

@[expose] public section

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal.Gen

/-! ## Sums over the sixteen heads of a point, and over both points of a step -/

theorem sixteen (f : Fin 16 → EReal) :
    f 0 + f 1 + f 2 + f 3 + f 4 + f 5 + f 6 + f 7 + f 8 + f 9 + f 10 + f 11 + f 12 + f 13 + f 14 + f 15 = ∑ h, f h := by
  simp only [Fin.sum_univ_castSucc, Fin.sum_univ_zero, zero_add]
  rfl

theorem vcSum_apply (p : Fin 16 → S8x128.Idx → EReal) (r : Fin 8) (l : Fin 128) :
    vcSum (F := Ideal) p (ix2 r l) = ∑ h : Fin 16, Value.keptAt (col (p h) l) r :=
  (sixteen fun h => vcOf (F := Ideal) (p h) (ix2 r l)).trans (Finset.sum_congr rfl fun h _ => vcOf_apply (p h) l r)

theorem entSum_apply (p : Fin 16 → S8x128.Idx → EReal) :
    entSum (F := Ideal) p = ∑ h : Fin 16, -∑ l : Fin 128, ∑ e : Fin 8, Value.term (col (p h) l e) :=
  (sixteen fun h => entOf (F := Ideal) (p h)).trans (Finset.sum_congr rfl fun h _ => entOf_apply (p h))

variable (E : Dev nD → Valuation τ sig (Elt Ideal)) (c : Dev nD)

theorem both (f : Fin 32 → EReal) (t : Fin cfg0.N) (h : t.val % 2 = 1) :
    (∑ k : Fin 16, f (headAt (prev t) k)) + ∑ k : Fin 16, f (headAt t k) = ∑ n, f n := by
  refine Eq.trans ?_ (Fin.sum_univ_add (a := 16) (b := 16) f).symm
  refine congrArg₂ (· + ·) (Finset.sum_congr rfl fun k _ => congrArg f (Fin.ext ?_)) (Finset.sum_congr rfl fun k _ => congrArg f (Fin.ext ?_))
  · show (t.val - 1) % 2 * 16 + k.val = k.val; omega
  · show t.val % 2 * 16 + k.val = 16 + k.val; omega

theorem rowAt_prev (t : Fin cfg0.N) (h : t.val % 2 = 1) (l : Fin 128) : rowAt (prev t) l = rowAt t l :=
  Fin.ext (by show (t.val - 1) / 2 * 128 + l.val = t.val / 2 * 128 + l.val; omega)

theorem stat_point (t : Fin cfg0.N) (h : t.val % 2 = 1) (r : Fin 8) (l : Fin 128) :
    statAt E c t (ix2 r l) = Value.mass (qOf E c) (rowAt t l) r := by
  unfold statAt statNext
  rw [if_neg (by omega), shapeCast_self]
  refine (congrArg₂ (· + ·) (vcSum_apply (psAt E c (prev t)) r l) (vcSum_apply (psAt E c t) r l)).trans ?_
  simp only [col_psAt, rowAt_prev t h]
  exact both (fun n => Value.keptAt (qOf E c n (rowAt t l)) r) t h

/-- The entropy of a block of rows. -/
def rowsEnt (q : Fin 32 → Fin 1024 → Fin 8 → EReal) (row : Fin 128 → Fin 1024) : EReal :=
  ∑ n : Fin 32, -∑ l : Fin 128, ∑ e : Fin 8, Value.term (q n (row l) e)

theorem entSum_point (t : Fin cfg0.N) : entSum (F := Ideal) (psAt E c t)
    = ∑ h : Fin 16, -∑ l : Fin 128, ∑ e : Fin 8, Value.term (qOf E c (headAt t h) (rowAt t l) e) := by
  exact (entSum_apply (psAt E c t)).trans (Finset.sum_congr rfl fun h _ => congrArg Neg.neg <| Finset.sum_congr rfl fun l _ =>
    Finset.sum_congr rfl fun e _ => congrArg Value.term (congrFun (col_psAt E c t h l) e))

theorem ent_point (t : Fin cfg0.N) (h : t.val % 2 = 1) (i : S1x1x1.Idx) :
    entAt E c t i = rowsEnt (qOf E c) (rowAt t) := by
  unfold entAt entNext
  rw [if_neg (by omega)]
  refine (congrArg₂ (· + ·) (entSum_point E c (prev t)) (entSum_point E c t)).trans ?_
  simp only [rowAt_prev t h]
  exact both (fun n => -∑ l : Fin 128, ∑ e : Fin 8, Value.term (qOf E c n (rowAt t l) e)) t h

/-! ## The arrays -/

theorem flush3 : ∀ t : Fin cfg0.N, (cfg0.win 3).flush t = true → t.val % 2 = 1 := (by decide +kernel : ∀ t : Fin grid0.N, _)
theorem flush4 : ∀ t : Fin cfg0.N, (cfg0.win 4).flush t = true → t.val % 2 = 1 := (by decide +kernel : ∀ t : Fin grid0.N, _)
theorem flushes2 : ∀ t : Fin cfg0.N, (cfg0.win 2).flush t = true := (by decide +kernel : ∀ t : Fin grid0.N, _)
theorem flushes3 : ∀ t : Fin cfg0.N, t.val % 2 = 1 → (cfg0.win 3).flush t = true := (by decide +kernel : ∀ t : Fin grid0.N, _)
theorem flushes4 : ∀ t : Fin cfg0.N, t.val % 2 = 1 → (cfg0.win 4).flush t = true := (by decide +kernel : ∀ t : Fin grid0.N, _)

/-- The output by head, row and column. -/
def outArr : S32x1024x1024.Idx → EReal := fun i => Value.outAt (qOf E c) (mOf E c) (i 0) (i 1) (i 2)
def statArr : S8x1024.Idx → EReal := fun i => Value.mass (qOf E c) (i 1) (i 0)
def entArr : S8x1x1.Idx → EReal := fun i => rowsEnt (qOf E c) fun l => ⟨(i 0).val * 128 + l.val, by
  have h : (i 0).val < 8 := (i 0).isLt
  have := l.isLt
  omega⟩

theorem idx3 {a b d : ℕ} (i : (⟨3, ![a, b, d]⟩ : Shape).Idx) : ∃ (x : Fin a) (y : Fin b) (z : Fin d), i = ix3 x y z :=
  ⟨i 0, i 1, i 2, funext fun k => match k with | ⟨0, _⟩ => rfl | ⟨1, _⟩ => rfl | ⟨2, _⟩ => rfl⟩
theorem idx2 {a b : ℕ} (i : (⟨2, ![a, b]⟩ : Shape).Idx) : ∃ (x : Fin a) (y : Fin b), i = ix2 x y :=
  ⟨i 0, i 1, funext fun k => match k with | ⟨0, _⟩ => rfl | ⟨1, _⟩ => rfl⟩

/-- Every head and row is some point's. -/
theorem somePoint (n : Fin 32) (l : Fin 1024) : ∃ (t : Fin cfg0.N) (h : Fin 16) (k : Fin 128), headAt t h = n ∧ rowAt t k = l := by
  have := n.isLt
  have := l.isLt
  refine ⟨(⟨l.val / 128 * 2 + n.val / 16, by omega⟩ : Fin 16), ⟨n.val % 16, by omega⟩, ⟨l.val % 128, by omega⟩, Fin.ext ?_, Fin.ext ?_⟩
  · show (l.val / 128 * 2 + n.val / 16) % 2 * 16 + n.val % 16 = n.val; omega
  · show (l.val / 128 * 2 + n.val / 16) / 2 * 128 + l.val % 128 = l.val; omega
/-- Every row is the second point's of its step. -/
theorem someOdd (l : Fin 1024) : ∃ (t : Fin cfg0.N) (k : Fin 128), t.val % 2 = 1 ∧ rowAt t k = l := by
  have := l.isLt
  refine ⟨(⟨l.val / 128 * 2 + 1, by omega⟩ : Fin 16), ⟨l.val % 128, by omega⟩, ?_, Fin.ext ?_⟩
  · show (l.val / 128 * 2 + 1) % 2 = 1; omega
  · show (l.val / 128 * 2 + 1) / 2 * 128 + l.val % 128 = l.val; omega
theorem someStep (b : Fin 8) : ∃ t : Fin cfg0.N, t.val % 2 = 1 ∧ stepOf t = b := by
  have := b.isLt
  refine ⟨(⟨b.val * 2 + 1, by omega⟩ : Fin 16), ?_, Fin.ext ?_⟩
  · show (b.val * 2 + 1) % 2 = 1; omega
  · show (b.val * 2 + 1) / 2 = b.val; omega

theorem cover2 (i : S32x1024x1024.Idx) : ∃ t : Fin cfg0.N, (cfg0.win 2).flush t = true ∧ i ∈ ((cfg0.win 2).blk t).view.set := by
  obtain ⟨n, l, d, rfl⟩ := idx3 i
  obtain ⟨t, h, k, rfl, rfl⟩ := somePoint n l
  refine ⟨t, flushes2 t, ?_⟩
  have hm := (win0_2.blk t).view.emb_mem_set (ix3 h k d : S16x128x1024.Idx)
  rw [place2] at hm
  exact hm

theorem cover3 (i : S8x1024.Idx) : ∃ t : Fin cfg0.N, (cfg0.win 3).flush t = true ∧ i ∈ ((cfg0.win 3).blk t).view.set := by
  obtain ⟨r, l, rfl⟩ := idx2 i
  obtain ⟨t, k, ht, rfl⟩ := someOdd l
  refine ⟨t, flushes3 t ht, ?_⟩
  have hm := (win0_3.blk t).view.emb_mem_set (ix2 r k : S8x128.Idx)
  rw [place3] at hm
  exact hm

theorem cover4 (i : S8x1x1.Idx) : ∃ t : Fin cfg0.N, (cfg0.win 4).flush t = true ∧ i ∈ ((cfg0.win 4).blk t).view.set := by
  obtain ⟨b, y, z, rfl⟩ := idx3 i
  obtain rfl : y = 0 := Subsingleton.elim _ _
  obtain rfl : z = 0 := Subsingleton.elim _ _
  obtain ⟨t, ht, rfl⟩ := someStep b
  refine ⟨t, flushes4 t ht, ?_⟩
  have hm := (win0_4.blk t).view.emb_mem_set (ix3 0 0 0 : S1x1x1.Idx)
  rw [place4] at hm
  exact hm

theorem final2 : (dats0 E c).arrAt 2 cfg0.N = outArr E c := by
  refine (dats0 E c).arrAt_eq_of_cover 2 (outArr E c) (fun t _ => ?_) cover2
  funext (y : S16x128x1024.Idx)
  refine Eq.trans (b := outArr E c ((win0_2.blk t).view.emb y)) ?_ rfl
  refine Eq.trans (b := outAt E c t y) (congrFun (after0_2 E c t) y) ?_
  obtain ⟨h, k, d, rfl⟩ := idx3 y
  rw [place2]
  exact out_point E c t h k d

theorem final3 : (dats0 E c).arrAt 3 cfg0.N = statArr E c := by
  refine (dats0 E c).arrAt_eq_of_cover 3 (statArr E c) (fun t ht => ?_) cover3
  funext (y : S8x128.Idx)
  refine Eq.trans (b := statArr E c ((win0_3.blk t).view.emb y)) ?_ rfl
  refine Eq.trans (b := statAt E c t y) (congrFun (after0_3 E c t) y) ?_
  obtain ⟨r, k, rfl⟩ := idx2 y
  rw [place3]
  exact stat_point E c t (flush3 t ht) r k

theorem final4 : (dats0 E c).arrAt 4 cfg0.N = entArr E c := by
  refine (dats0 E c).arrAt_eq_of_cover 4 (entArr E c) (fun t ht => ?_) cover4
  funext (y : S1x1x1.Idx)
  refine Eq.trans (b := entArr E c ((win0_4.blk t).view.emb y)) ?_ rfl
  refine Eq.trans (b := entAt E c t y) (congrFun (after0_4 E c t) y) ?_
  obtain ⟨a, b, d, rfl⟩ := idx3 y
  rw [place4]
  exact ent_point E c t (flush4 t ht) _

/-! ## The entropies of all blocks of rows -/

theorem neg_all (q : Fin 32 → Fin 1024 → Fin 8 → EReal) (hq : ∀ n l e, Value.term (q n l e) ≠ ⊥) :
    (∑ b : Fin 8, rowsEnt q fun l => ⟨b.val * 128 + l.val, by have := b.isLt; have := l.isLt; omega⟩) = -Value.terms q := by
  have h2 : ∀ {a b : ℕ} (g : Fin a → Fin b → EReal), (∀ i j, g i j ≠ ⊥) → -(∑ i, ∑ j, g i j) = ∑ i, ∑ j, -g i j := fun g hg => by
    rw [← Fintype.sum_prod_type', ← Fintype.sum_prod_type']
    exact Value.neg_sum _ _ fun i _ => hg i.1 i.2
  have h3 : ∀ {a b d : ℕ} (g : Fin a → Fin b → Fin d → EReal), (∀ i j k, g i j k ≠ ⊥) →
      -(∑ i, ∑ j, ∑ k, g i j k) = ∑ i, ∑ j, ∑ k, -g i j k := fun g hg => by
    rw [← Fintype.sum_prod_type' fun i j => ∑ k, g i j k, ← Fintype.sum_prod_type', ← Fintype.sum_prod_type' fun i j => ∑ k, -g i j k, ← Fintype.sum_prod_type']
    exact Value.neg_sum _ _ fun i _ => hg i.1.1 i.1.2 i.2
  unfold rowsEnt Value.terms
  rw [h3 _ hq, Finset.sum_comm]
  refine Finset.sum_congr rfl fun n _ => ?_
  refine (Finset.sum_congr rfl fun b _ => h2 _ fun i j => hq _ _ _).trans ?_
  rw [← Fintype.sum_prod_type' fun (b : Fin 8) (l : Fin 128) => ∑ e : Fin 8, -Value.term (q n ⟨b.val * 128 + l.val, by have := b.isLt; have := l.isLt; omega⟩ e)]
  refine Fintype.sum_equiv (finProdFinEquiv (m := 8) (n := 128)) _ (fun l : Fin 1024 => ∑ e : Fin 8, -Value.term (q n l e)) fun x => ?_
  refine Finset.sum_congr rfl fun e _ => congrArg (fun l => -Value.term (q n l e)) (Fin.ext ?_)
  show x.1.val * 128 + x.2.val = x.2.val + 128 * x.1.val
  omega

theorem qOf_term (n : Fin 32) (l : Fin 1024) (e : Fin 8) : Value.term (qOf E c n l e) ≠ ⊥ := Value.term_soft _ e

/-- The loss of the arrays the main call leaves. -/
theorem loss_arrays : lossOf (F := Ideal) (statArr E c) (entArr E c) = Value.loss (qOf E c) := by
  rw [lossOf_apply]
  unfold Value.loss
  rw [← neg_all (qOf E c) (qOf_term E c)]
  rfl

end Cert.KernelIdeal.Hand

end
-- ==== Proof.KernelIdeal.Whole.lean ====
/- The whole program: its items as segments, and its run from any launch memory. -/
module

public import proofs.«01_k».proof.Proof.KernelIdeal.Loss
public import Idealize.ShloMosaic.Lib.Pipeline.RegionArraysS
public import Idealize.ShloMosaic.Lib.Pipeline.Regions

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

/-! ## The buffers between the items of the program -/

abbrev at0 (c : Dev nD) : Valuation τ sig (Elt F) := fun b => m (c, b)
/-- After the first reshape, as the main call finds them. -/
def at1 (c : Dev nD) : Valuation τ sig (Elt F) := StableHlo.after hostOps0 (at0 m c)
/-- After the main call, as the loss call finds them. -/
def at2 (c : Dev nD) : Valuation τ sig (Elt F) := Pipeline.afterRegion (dats0 (at1 m) c) (at1 m c)
/-- After the loss call. -/
def at3 (c : Dev nD) : Valuation τ sig (Elt F) := Pipeline.afterRegion (dats1 (at2 m) c) (at2 m c)
/-- At the end. -/
def at4 (c : Dev nD) : Valuation τ sig (Elt F) := StableHlo.after hostOps2 (at3 m c)

theorem keep1 (c : Dev nD) (r : Ref sig .tc) (h : r ∉ hostOps0_W) : at1 m c r = m ((c : Thread nD τ).loc r) :=
  StableHlo.after_of_writes_sub hostOps0 _ hostOps0_writes h
theorem keep2 (c : Dev nD) (r : Ref sig .tc) (h : ∀ w, Pipeline.arrRef spec0 w = r → (cfg0.win w).isOut = false) : at2 m c r = at1 m c r :=
  Pipeline.afterRegion_keeps (dats0 (at1 m) c) (at1 m c) launch0.win.arr_inj (A0_eq (at1 m) c) r h
theorem keep3 (c : Dev nD) (r : Ref sig .tc) (h : ∀ w, Pipeline.arrRef spec1 w = r → (cfg1.win w).isOut = false) : at3 m c r = at2 m c r :=
  Pipeline.afterRegion_keeps (dats1 (at2 m) c) (at2 m c) launch1.win.arr_inj (A1_eq (at2 m) c) r h
theorem keep4 (c : Dev nD) (r : Ref sig .tc) (h : r ∉ hostOps2_W) : at4 m c r = at3 m c r :=
  StableHlo.after_of_writes_sub hostOps2 _ hostOps2_writes h
theorem end_arg0 (c : Dev nD) : at4 m c main_arg0 = m ((c : Thread nD τ).loc main_arg0) :=
  (keep4 m c main_arg0 (by decide)).trans <| (keep3 m c main_arg0 (by decide)).trans <| (keep2 m c main_arg0 (by decide)).trans (keep1 m c main_arg0 (by decide))
theorem end_arg1 (c : Dev nD) : at4 m c main_arg1 = m ((c : Thread nD τ).loc main_arg1) :=
  (keep4 m c main_arg1 (by decide)).trans <| (keep3 m c main_arg1 (by decide)).trans <| (keep2 m c main_arg1 (by decide)).trans (keep1 m c main_arg1 (by decide))
theorem end_arg2 (c : Dev nD) : at4 m c main_arg2 = m ((c : Thread nD τ).loc main_arg2) :=
  (keep4 m c main_arg2 (by decide)).trans <| (keep3 m c main_arg2 (by decide)).trans <| (keep2 m c main_arg2 (by decide)).trans (keep1 m c main_arg2 (by decide))
theorem end_arg3 (c : Dev nD) : at4 m c main_arg3 = m ((c : Thread nD τ).loc main_arg3) :=
  (keep4 m c main_arg3 (by decide)).trans <| (keep3 m c main_arg3 (by decide)).trans <| (keep2 m c main_arg3 (by decide)).trans (keep1 m c main_arg3 (by decide))

/-! ## The items as segments -/

abbrev L : GSem nD τ sig → Finset Unit := fun g => if g.1.2 = .tc then {()} else ∅
abbrev lv : GSem nD τ sig → Unit → ℕ := fun _ _ => 0

def pdats : (p : Fin 2) → (c : Dev nD) → Dat τ (Elt F) Unit ℕ (Pipeline.UD sig nD τ) ℕ (cfgs p) c
  | ⟨0, _⟩ => dats0 (at1 m)
  | ⟨1, _⟩ => dats1 (at2 m)
theorem pdats_0 (c : Dev nD) : pdats m 0 c = dats0 (at1 m) c := rfl
theorem pdats_1 (c : Dev nD) : pdats m 1 c = dats1 (at2 m) c := rfl

theorem cut (p : Fin 2) : Pipeline.LevelCut (pcfgs (F := F)) adm () L lv p (fun _ : Dev nD => (0 : CellTallies nD τ sig Unit)) fun _ => 0 where
  hι c w s := by show () ∈ (if _ then _ else _); rw [if_pos rfl]; exact Finset.mem_singleton_self _
  hιb _ _ _ := le_refl _
  hD _ _ _ h := absurd h (Nat.lt_irrefl _)

/-- What goes along with the buffers between items: what the core owes, and the generator's register. -/
abbrev ride (c : Dev nD) : sProp 𝕄 := iprop((∃ W, owes (c : Thread nD τ) (0 : CellTallies nD τ sig Unit) W) ∗ ((∃ r, prngReg c r) ∗ emp))

def first : HostSeg (Ix := Unit) (Name := ℕ) (U := Pipeline.UD sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (at0 m) ride
def last : HostSeg (Ix := Unit) (Name := ℕ) (U := Pipeline.UD sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (at3 m) ride

theorem arrs0_sub : Pipeline.arrRefs (τ := τ) spec0 ⊆ Pipeline.ucRefs τ sig := Pipeline.arrRefs_sub_ucRefs spec0 launch0.win.arr_unscoped
theorem arrs1_sub : Pipeline.arrRefs (τ := τ) spec1 ⊆ Pipeline.ucRefs τ sig := Pipeline.arrRefs_sub_ucRefs spec1 launch1.win.arr_unscoped
theorem read_sub : Pipeline.hbmRefs (τ := τ) readRefs ⊆ Pipeline.ucRefs τ sig \ Pipeline.arrRefs (τ := τ) spec0 := by decide

def main0 : RegionSeg (pcfgs (F := F)) adm (pdats m) () defs₀ Variants.none L lv 0 :=
  RegionSeg.ofHeldDH _ _ _ _ _ _ _ _ 0 (fun _ => 0) () ownCells ownCells_ok readRefs (Pipeline.ucRefs τ sig \ Pipeline.arrRefs (τ := τ) spec0) read_sub
    launch0.toP rfl (fun c => (obligation0 (at1 m) c).loose) (fun _ _ => rfl) (fun _ => rfl) (fun c => (dats0 (at1 m) c).share_full fun _ => rfl)
    (fun c => by iintro -; iapply (Transfers.MayWaits.zero (c : Thread nD τ) ()); iempintro) (at1 m) (at2 m) (enter0 (at1 m)) (leave0 (at1 m)) (fun _ => 0) (cut 0) (fun _ => iprop(emp))
    (fun c w => by rw [pdats_0]; exact A0_eq (at1 m) c w)
    (fun c w => (Pipeline.afterRegion_arr (dats0 (at1 m) c) (at1 m c) launch0.win.arr_inj w).symm)

def main1 : RegionSeg (pcfgs (F := F)) adm (pdats m) () defs₀ Variants.none L lv 1 :=
  RegionSeg.ofHeldIn _ _ _ _ _ _ _ _ 1 (fun _ => 0) (Pipeline.ucRefs τ sig) (fun c => iprop(∃ r, prngReg c r)) (fun c => iprop(∃ r, prngReg c r))
    launch1.toP rfl (fun c => (obligation1 (at2 m) c).loose) (fun _ _ => rfl) (fun _ => rfl) (fun c => (dats1 (at2 m) c).share_full fun _ => rfl)
    (fun _ => .rfl) (fun _ => .rfl) (fun _ => 0) (cut 1) (fun _ => iprop(emp)) (at2 m)
    (fun c w => by rw [pdats_1]; exact A1_eq (at2 m) c w)

theorem enterMain (c : Dev nD) : iprop(StableHlo.held (c : Thread nD τ) (Pipeline.ucRefs τ sig) (at1 m c) ∗ ride c) ⊢ (main0 m).pre c := by
  show _ ⊢ iprop(StableHlo.held (c : Thread nD τ) (Pipeline.arrRefs (τ := τ) spec0) (at1 m c) ∗ (∃ r, prngReg c r)
    ∗ (StableHlo.held (c : Thread nD τ) (Pipeline.ucRefs τ sig \ Pipeline.arrRefs (τ := τ) spec0) (at1 m c) ∗ emp) ∗ ∃ Wd, owes (c : Thread nD τ) 0 Wd)
  rw [StableHlo.held_sub_split (c : Thread nD τ) arrs0_sub (at1 m c)]
  iintro ⟨⟨Ha, Hu⟩, HO, Hg, He⟩
  isplitl [Ha]; · iexact Ha
  isplitl [Hg]; · iexact Hg
  isplitl [Hu He]
  · isplitl [Hu]; · iexact Hu
    iexact He
  iexact HO
theorem leaveMain (c : Dev nD) : (main0 m).post c ⊢ iprop(StableHlo.held (c : Thread nD τ) (Pipeline.ucRefs τ sig) (at2 m c) ∗ ride c) := by
  show iprop(StableHlo.held (c : Thread nD τ) (Pipeline.arrRefs (τ := τ) spec0) (at2 m c) ∗ (∃ r, prngReg c r)
    ∗ (StableHlo.held (c : Thread nD τ) (Pipeline.ucRefs τ sig \ Pipeline.arrRefs (τ := τ) spec0) (at1 m c) ∗ emp) ∗ ∃ Wd, owes (c : Thread nD τ) 0 Wd) ⊢ _
  rw [StableHlo.held_sub_split (c : Thread nD τ) arrs0_sub (at2 m c),
    StableHlo.held_congr (c : Thread nD τ) (S := Pipeline.ucRefs τ sig \ Pipeline.arrRefs (τ := τ) spec0) (V := at2 m c) (V' := at1 m c)
      (Pipeline.afterRegion_off (dats0 (at1 m) c) (at1 m c) (Pipeline.ucRefs τ sig))]
  iintro ⟨Ha, Hg, ⟨Hu, He⟩, HO⟩
  isplitl [Ha Hu]
  · isplitl [Ha]; · iexact Ha
    iexact Hu
  isplitl [HO]; · iexact HO
  isplitl [Hg]; · iexact Hg
  iexact He

theorem enterLoss (c : Dev nD) : iprop(StableHlo.held (c : Thread nD τ) (Pipeline.ucRefs τ sig) (at2 m c) ∗ ride c) ⊢ (main1 m).pre c := by
  show _ ⊢ iprop(StableHlo.held (c : Thread nD τ) (Pipeline.arrRefs (τ := τ) spec1) (at2 m c) ∗ (∃ r, prngReg c r)
    ∗ (StableHlo.held (c : Thread nD τ) (Pipeline.ucRefs τ sig \ Pipeline.arrRefs (τ := τ) spec1) (at2 m c) ∗ emp) ∗ ∃ Wd, owes (c : Thread nD τ) 0 Wd)
  rw [StableHlo.held_sub_split (c : Thread nD τ) arrs1_sub (at2 m c)]
  iintro ⟨⟨Ha, Hu⟩, HO, Hg, He⟩
  isplitl [Ha]; · iexact Ha
  isplitl [Hg]; · iexact Hg
  isplitl [Hu He]
  · isplitl [Hu]; · iexact Hu
    iexact He
  iexact HO
theorem leaveLoss (c : Dev nD) : (main1 m).post c ⊢ iprop(StableHlo.held (c : Thread nD τ) (Pipeline.ucRefs τ sig) (at3 m c) ∗ ride c) := by
  show iprop(StableHlo.held (c : Thread nD τ) (Pipeline.arrRefs (τ := τ) spec1) (at3 m c) ∗ (∃ r, prngReg c r)
    ∗ (StableHlo.held (c : Thread nD τ) (Pipeline.ucRefs τ sig \ Pipeline.arrRefs (τ := τ) spec1) (at2 m c) ∗ emp) ∗ ∃ Wd, owes (c : Thread nD τ) 0 Wd) ⊢ _
  rw [StableHlo.held_sub_split (c : Thread nD τ) arrs1_sub (at3 m c),
    StableHlo.held_congr (c : Thread nD τ) (S := Pipeline.ucRefs τ sig \ Pipeline.arrRefs (τ := τ) spec1) (V := at3 m c) (V' := at2 m c)
      (Pipeline.afterRegion_off (dats1 (at2 m) c) (at2 m c) (Pipeline.ucRefs τ sig))]
  iintro ⟨Ha, Hg, ⟨Hu, He⟩, HO⟩
  isplitl [Ha Hu]
  · isplitl [Ha]; · iexact Ha
    iexact Hu
  isplitl [HO]; · iexact HO
  isplitl [Hg]; · iexact Hg
  iexact He

abbrev items : List (Seg (pcfgs (F := F)) adm (pdats m) () defs₀ Variants.none L lv) :=
  [.host (first m), .region (main0 m), .region (main1 m), .host (last m)]

theorem owed_last (c : Dev nD) : (ride c : sProp 𝕄) ⊢ iprop(∃ W, owes (c : Thread nD τ) (0 : CellTallies nD τ sig Unit) W) := by
  iintro ⟨HO, -⟩; iexact HO

/-! ## The run -/

/-- The arrays at the end of a run. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.mem ((c.tc : Thread nD τ).loc main_v3) = at4 m c main_v3
  ∧ s.mem ((c.tc : Thread nD τ).loc main_v4) = at4 m c main_v4

set_option backward.isDefEq.respectTransparency.types false in
/-- The whole program runs to its end, the arguments as launched, the results as computed and every counter at zero. -/
theorem run : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj embL defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0) (fun g h => if_neg h) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ ride c))
    (Tₙ := fun c => StableHlo.held (c : Thread nD τ) (Pipeline.ucRefs τ sig) (at4 m c))
    (hch := fun c => ⟨.rfl, enterMain m c, (leaveMain m c).trans (enterLoss m c), leaveLoss m c, sep_mono .rfl (owed_last c)⟩)
    (hinit := ?_) (QY := Ends m)
    (hfin := fun c s' => ?_) (hQ := fun _ h hz => ⟨h, funext fun g => hz g (.inr (regions_no_unscoped g.2))⟩)
  · refine Pipeline.initEach L lv fun c => ?_
    rw [Pipeline.unscopedBufs_held (Ix := Unit) (Name := ℕ) (U := Pipeline.UD sig nD τ) (Lvl := ℕ) c (at0 m c)]
    iintro ⟨⟨Hh, -, HO, -, Hg, -⟩, -⟩
    imodintro
    isplitl [Hh]; · iexact Hh
    isplitl [HO]; · iexists ∅; iexact HO
    isplitl [Hg]; · iexists _; iexact Hg
    iempintro
  · unfold StableHlo.held
    iintro ⟨Hh, HSI⟩
    ihave Hr := (pointsTo_read_all (Pipeline.ucRefs τ sig) (fun b => ((c : Thread nD τ).1, b)) (at4 m c) s') $$ [Hh HSI]
    · isplitl [Hh] <;> iassumption
    icases Hr with ⟨%h, HSI⟩
    imodintro
    isplitr
    · ipureintro
      have rd : ∀ r : Ref sig .tc, (Proc.devRef .tc r : DevRef τ sig).isScoped = false → s'.mem.mem ((c.tc : Thread nD τ).loc r) = at4 m c r := fun r hr =>
        h (Proc.devRef .tc r) (Finset.mem_filter.mpr ⟨StableHlo.devRef_mem_tcRefs r, by rw [hr]; exact Bool.false_ne_true⟩)
      exact ⟨⟨(rd main_arg0 (by decide)).trans (end_arg0 m c), (rd main_arg1 (by decide)).trans (end_arg1 m c),
        (rd main_arg2 (by decide)).trans (end_arg2 m c), (rd main_arg3 (by decide)).trans (end_arg3 m c)⟩, rd main_v3 (by decide), rd main_v4 (by decide)⟩
    · iexact HSI

/-- The arguments end as launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ)

end Cert.KernelIdeal.Hand

end
-- ==== Proof.KernelIdeal.Result.lean ====
/- The kernel's two results in closed form, at the extended reals, over the arguments as launched. -/
module

public import proofs.«01_k».proof.Proof.KernelIdeal.Arrays
public import proofs.«01_k».proof.Proof.KernelIdeal.Whole

@[expose] public section

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal.Gen

variable (m : (ℓ : Loc nD τ sig) → Buf (Elt Ideal) ℓ) (c : Dev nD)

/-- The input, the masks and the weights as launched. -/
abbrev argX : S2x16x1024x1024.Idx → EReal := m ((c : Thread nD τ).loc main_arg0)
abbrev argM : S1024x8x1024.Idx → EReal := m ((c : Thread nD τ).loc main_arg1)
abbrev argW : S8x1024.Idx → EReal := m ((c : Thread nD τ).loc main_arg2)

/-- A head's batch and place in it. -/
abbrev batchOf (n : Fin 32) : Fin 2 := ⟨n.val / 16, by have := n.isLt; omega⟩
abbrev within (n : Fin 32) : Fin 16 := ⟨n.val % 16, by omega⟩

/-- The probabilities of the arguments as launched. -/
def qArgs : Fin 32 → Fin 1024 → Fin 8 → EReal :=
  Value.probs (fun n l d => argX m c (ix4 (batchOf n) (within n) l d)) fun e d => argW m c (ix2 e d)

/-! ## Before the calls -/

theorem heads_apply (n : Fin 32) (l d : Fin 1024) :
    (at1 m c (Proc.devRef .tc main_v0) : S32x1024x1024.Idx → EReal) (ix3 n l d) = argX m c (ix4 (batchOf n) (within n) l d) := by
  have h : (at1 m c (Proc.devRef .tc main_v0) : S32x1024x1024.Idx → EReal)
      = shapeCast S32x1024x1024 (argX m c) shapeCasts_S2x16x1024x1024_S32x1024x1024 := by
    unfold at1
    rw [StableHlo.after_cons, StableHlo.after_nil]
    exact StableHlo.reshape_result main_arg0 main_v0 rfl shapeCasts_S2x16x1024x1024_S32x1024x1024 _ _ (at0 m c)
  rw [h]
  refine shapeCast_apply _ _ _ _ ?_
  rw [Shape.rowMajor_val_four, Shape.rowMajor_val_three]
  show ((n.val / 16 * 16 + n.val % 16) * 1024 + l.val) * 1024 + d.val = (n.val * 1024 + l.val) * 1024 + d.val
  omega

theorem qOf_args : qOf (at1 m) c = qArgs m c := by
  unfold qOf qArgs
  refine congrArg₂ Value.probs (funext fun n => funext fun l => funext fun d => heads_apply m c n l d) ?_
  rw [keep1 m c main_arg2 (by decide)]

theorem mOf_args : mOf (at1 m) c = fun l e d => argM m c (ix3 l e d) := by
  unfold mOf
  rw [keep1 m c main_arg1 (by decide)]

/-! ## After the main call -/

theorem at2_out : at2 m c (Proc.devRef .tc main_v1_0) = outArr (at1 m) c :=
  (Pipeline.afterRegion_arr (dats0 (at1 m) c) (at1 m c) launch0.win.arr_inj 2).trans (final2 (at1 m) c)
theorem at2_stat : at2 m c (Proc.devRef .tc main_v1_1) = statArr (at1 m) c :=
  (Pipeline.afterRegion_arr (dats0 (at1 m) c) (at1 m c) launch0.win.arr_inj 3).trans (final3 (at1 m) c)
theorem at2_ent : at2 m c (Proc.devRef .tc main_v1_2) = entArr (at1 m) c :=
  (Pipeline.afterRegion_arr (dats0 (at1 m) c) (at1 m c) launch0.win.arr_inj 4).trans (final4 (at1 m) c)

/-! ## After the loss call -/

section
variable (E : Dev nD → Valuation τ sig (Elt Ideal))

theorem placeL0 (t : Fin cfg1.N) (y : S8x1024.Idx) : (win1_0.blk t).view.emb y = y := by
  funext a; apply Fin.ext
  match a with
  | ⟨0, _⟩ => show 0 * 8 + 1 * (y 0).val = (y 0).val; omega
  | ⟨1, _⟩ => show 0 * 1024 + 1 * (y 1).val = (y 1).val; omega
theorem placeL1 (t : Fin cfg1.N) (y : S8x1x1.Idx) : (win1_1.blk t).view.emb y = y := by
  funext a; apply Fin.ext
  match a with
  | ⟨0, _⟩ => show 0 * 8 + 1 * (y 0).val = (y 0).val; omega
  | ⟨1, _⟩ => show 0 * 1 + 1 * (y 1).val = (y 1).val; omega
  | ⟨2, _⟩ => show 0 * 1 + 1 * (y 2).val = (y 2).val; omega
theorem placeL2 (t : Fin cfg1.N) (y : S1x1.Idx) : (win1_2.blk t).view.emb y = y := by
  funext a; apply Fin.ext
  match a with
  | ⟨0, _⟩ => show 0 * 1 + 1 * (y 0).val = (y 0).val; omega
  | ⟨1, _⟩ => show 0 * 1 + 1 * (y 1).val = (y 1).val; omega

theorem blkL0 (t : Fin cfg1.N) : (blkL E c 0 t : S8x1024.Idx → EReal) = E c (Proc.devRef .tc main_v1_1) :=
  funext fun y => congrArg (E c (Proc.devRef .tc main_v1_1) : S8x1024.Idx → EReal) (placeL0 t y)
theorem blkL1 (t : Fin cfg1.N) : (blkL E c 1 t : S8x1x1.Idx → EReal) = E c (Proc.devRef .tc main_v1_2) :=
  funext fun y => congrArg (E c (Proc.devRef .tc main_v1_2) : S8x1x1.Idx → EReal) (placeL1 t y)

def lossArr : S1x1.Idx → EReal := fun _ => lossOf (F := Ideal) (E c (Proc.devRef .tc main_v1_1)) (E c (Proc.devRef .tc main_v1_2))

theorem flushesL : ∀ t : Fin cfg1.N, (cfg1.win 2).flush t = true := (by decide +kernel : ∀ t : Fin grid1.N, _)

theorem finalL : (dats1 E c).arrAt 2 cfg1.N = lossArr c E := by
  refine (dats1 E c).arrAt_eq_of_cover 2 (lossArr c E) (fun t _ => ?_) fun (i : S1x1.Idx) => ?_
  · funext (y : S1x1.Idx)
    refine Eq.trans (b := lossArr c E ((win1_2.blk t).view.emb y)) ?_ rfl
    refine Eq.trans (b := lossAt E c t y) (congrFun (after1_2 E c t) y) ?_
    unfold lossAt lossArr
    exact congrArg₂ (lossOf (F := Ideal)) (blkL0 c E t) (blkL1 c E t)
  · have t : Fin cfg1.N := (⟨0, by decide⟩ : Fin grid1.N)
    refine ⟨t, flushesL t, ?_⟩
    have hm := (win1_2.blk t).view.emb_mem_set i
    rw [placeL2] at hm
    exact hm
end

theorem at3_out : at3 m c (Proc.devRef .tc main_v1_0) = outArr (at1 m) c :=
  (keep3 m c main_v1_0 (by decide)).trans (at2_out m c)
theorem at3_loss : at3 m c (Proc.devRef .tc main_v2) = lossArr c (at2 m) :=
  (Pipeline.afterRegion_arr (dats1 (at2 m) c) (at2 m c) launch1.win.arr_inj 2).trans (finalL c (at2 m))

/-! ## The results -/

theorem end_out : (at4 m c (Proc.devRef .tc main_v3) : S2x16x1024x1024.Idx → EReal)
    = shapeCast S2x16x1024x1024 (at3 m c (Proc.devRef .tc main_v1_0) : S32x1024x1024.Idx → EReal) shapeCasts_S32x1024x1024_S2x16x1024x1024 := by
  unfold at4
  rw [StableHlo.after_cons, StableHlo.after_cons, StableHlo.after_nil, StableHlo.reshape_result_ne' _ _ _ _ _ (by decide)]
  exact StableHlo.reshape_result main_v1_0 main_v3 rfl shapeCasts_S32x1024x1024_S2x16x1024x1024 _ _ (at3 m c)
theorem end_loss : (at4 m c (Proc.devRef .tc main_v4) : S_.Idx → EReal)
    = shapeCast S_ (at3 m c (Proc.devRef .tc main_v2) : S1x1.Idx → EReal) shapeCasts_S1x1_S_ := by
  unfold at4
  rw [StableHlo.after_cons, StableHlo.after_cons, StableHlo.after_nil]
  refine (StableHlo.reshape_result main_v2 main_v4 rfl shapeCasts_S1x1_S_ _ _ _).trans ?_
  rw [StableHlo.reshape_result_ne' _ _ _ _ _ (by decide)]
  rfl

/-- The first result: head `n`, row `l`, column `d`. -/
theorem out_value (n : Fin 32) (l d : Fin 1024) :
    (at4 m c (Proc.devRef .tc main_v3) : S2x16x1024x1024.Idx → EReal) (ix4 (batchOf n) (within n) l d)
      = Value.outAt (qArgs m c) (fun l e d => argM m c (ix3 l e d)) n l d := by
  rw [end_out, at3_out]
  refine (shapeCast_apply _ _ _ (ix3 n l d) ?_).trans ?_
  · rw [Shape.rowMajor_val_four, Shape.rowMajor_val_three]
    show (n.val * 1024 + l.val) * 1024 + d.val = ((n.val / 16 * 16 + n.val % 16) * 1024 + l.val) * 1024 + d.val
    omega
  · unfold outArr
    rw [qOf_args, mOf_args]

/-- The second result. -/
theorem loss_value (j : S_.Idx) : (at4 m c (Proc.devRef .tc main_v4) : S_.Idx → EReal) j = Value.loss (qArgs m c) := by
  rw [end_loss, at3_loss]
  refine Eq.trans (b := lossOf (F := Ideal) (at2 m c (Proc.devRef .tc main_v1_1)) (at2 m c (Proc.devRef .tc main_v1_2))) rfl ?_
  rw [at2_stat, at2_ent, loss_arrays, qOf_args]

end Cert.KernelIdeal.Hand

end
-- ==== Proof.Reference.Run.lean ====
/-
  The reference's operations, cut into the steps that its text names (softmax, order, running sum, threshold, gates, loss, output),
  and each step's value as a function of the values that it reads. `run` says that every execution ends with the two results
  at the composition of these functions.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An array of shape `s` whose elements are of type `e`. -/
abbrev Arr (F : FTy → Type) (s : Shape) (e : EltTy) : Type := (⟨s, e⟩ : BufTy).Contents (Elt F)

/-! ## What each step computes -/

/-- The identity matrix, as one head. -/
def eyeOf : Arr F S1x1x1024x1024 .f32 :=
  let v0 : Arr F S1024x1024 .i32 := (iotaInDim S1024x1024 32 0)
  let v1 : Arr F S1024x1024 .i32 := (iotaInDim S1024x1024 32 1)
  let c : Arr F S_ .i32 := (constantI S_ 32 0#32)
  let v2 : Arr F S1024x1024 .i32 := (broadcastInDim S1024x1024 ![] bcast_S_S1024x1024) c
  let v3 : Arr F S1024x1024 .i32 := addi v0 v2
  let v4 : Arr F S1024x1024 .i1 := (cmpi .eq) v3 v1
  let v5 : Arr F S1024x1024 .f32 := (uitofp .f32) v4
  let v6 : Arr F S1x1x1024x1024 .f32 := (broadcastInDim S1x1x1024x1024 ![2, 3] bcast_S1024x1024_S1x1x1024x1024_2_3) v5
  v6

/-- The softmax over the experts of the logits of x (x) against the gate weights (w). -/
def softmaxOf (x : Arr F S2x16x1024x1024 .f32) (w : Arr F S8x1024 .f32) : Arr F S32x1024x8 .f32 :=
  let v7 : Arr F S32x1024x1024 .f32 := (fun x => shapeCast _ x shapeCasts_S2x16x1024x1024_S32x1024x1024) x
  let v8 : Arr F S1024x8 .f32 := (transpose S1024x8 [1, 0] · transposes_S8x1024_S1024x8_1_0) w
  let v9 : Arr F S32x1024x8 .f32 := (fun l r => Host.dotGeneral dot_S32x1024x1024_S1024x8_S32x1024x8_2_0_01_1_n_n none l r) v7 v8
  let cst : Arr F S_ .f32 := (constant S_ .f32 0xFF800000#32)
  let v10 : Arr F S32x1024 .f32 := (fun x v => Host.reduce FloatOps.maximumf x v reducesTo_S32x1024x8_S32x1024_d2 h_S_) v9 cst
  let cst_0 : Arr F S_ .f32 := (constant S_ .f32 0xFF800000#32)
  let v11 : Arr F S32x1024 .f32 := (broadcastInDim S32x1024 ![] bcast_S_S32x1024) cst_0
  let v12 : Arr F S32x1024 .f32 := maximumf v11 v10
  let v13 : Arr F S32x1024x1 .f32 := (broadcastInDim S32x1024x1 ![0, 1] bcast_S32x1024_S32x1024x1_0_1) v12
  let v14 : Arr F S32x1024x8 .f32 := (broadcastInDim S32x1024x8 ![0, 1, 2] bcast_S32x1024x1_S32x1024x8_0_1_2) v13
  let v15 : Arr F S32x1024x8 .f32 := subf v9 v14
  let v16 : Arr F S32x1024x8 .f32 := Host.exp v15
  let cst_1 : Arr F S_ .f32 := (constant S_ .f32 0x00000000#32)
  let v17 : Arr F S32x1024 .f32 := (fun x v => Host.reduceAdd x v reducesTo_S32x1024x8_S32x1024_d2 h_S_) v16 cst_1
  let v18 : Arr F S32x1024x1 .f32 := (broadcastInDim S32x1024x1 ![0, 1] bcast_S32x1024_S32x1024x1_0_1) v17
  let v19 : Arr F S32x1024x8 .f32 := (broadcastInDim S32x1024x8 ![0, 1, 2] bcast_S32x1024x1_S32x1024x8_0_1_2) v18
  let v20 : Arr F S32x1024x8 .f32 := Host.divf v16 v19
  v20

/-- The mean entropy of the probabilities. -/
def dynamicOf (v20 : Arr F S32x1024x8 .f32) : Arr F S_ .f32 :=
  let cst_2 : Arr F S_ .f32 := (constant S_ .f32 0x2EDBE6FF#32)
  let v21 : Arr F S32x1024x8 .f32 := (broadcastInDim S32x1024x8 ![] bcast_S_S32x1024x8) cst_2
  let v22 : Arr F S32x1024x8 .f32 := addf v20 v21
  let v23 : Arr F S32x1024x8 .f32 := Host.log v22
  let v24 : Arr F S32x1024x8 .f32 := mulf v20 v23
  let cst_3 : Arr F S_ .f32 := (constant S_ .f32 0x00000000#32)
  let v25 : Arr F S32x8 .f32 := (fun x v => Host.reduceAdd x v reducesTo_S32x1024x8_S32x8_d1 h_S_) v24 cst_3
  let cst_4 : Arr F S_ .f32 := (constant S_ .f32 0x00000000#32)
  let v26 : Arr F S_ .f32 := (fun x v => Host.reduceAdd x v reducesTo_S32x8_S_d0_1 h_S_) v25 cst_4
  let cst_5 : Arr F S_ .f32 := (constant S_ .f32 0x43800000#32)
  let v27 : Arr F S_ .f32 := Host.divf v26 cst_5
  let v28 : Arr F S_ .f32 := Host.negf v27
  v28

/-- The experts in descending order of probability. -/
def orderOf (v20 : Arr F S32x1024x8 .f32) : Arr F S32x1024x8 .i32 :=
  let v29 : Arr F S32x1024x8 .f32 := Host.negf v20
  let call0_v0 : Arr F S32x1024x8 .i32 := (iotaInDim S32x1024x8 32 2)
  let v30 : Arr F S32x1024x8 .i32 := (fun x y => (Host.sort2 S32x1024x8 2 comparator_f32_i32_d2 x y).2) v29 call0_v0
  v30

/-- The positions to read, as a column, negative ones counted from the end. -/
def columnOf (v30 : Arr F S32x1024x8 .i32) : Arr F S32x1024x8x1 .i32 :=
  let call1_c : Arr F S_ .i32 := (constantI S_ 32 0#32)
  let call1_v0 : Arr F S32x1024x8 .i32 := (broadcastInDim S32x1024x8 ![] bcast_S_S32x1024x8) call1_c
  let call1_v1 : Arr F S32x1024x8 .i1 := (cmpi .slt) v30 call1_v0
  let call1_c_0 : Arr F S_ .i32 := (constantI S_ 32 8#32)
  let call1_v2 : Arr F S32x1024x8 .i32 := (broadcastInDim S32x1024x8 ![] bcast_S_S32x1024x8) call1_c_0
  let call1_v3 : Arr F S32x1024x8 .i32 := addi v30 call1_v2
  let call1_v4 : Arr F S32x1024x8 .i32 := select call1_v1 call1_v3 v30
  let call1_v5 : Arr F S32x1024x8x1 .i32 := (fun x => shapeCast _ x shapeCasts_S32x1024x8_S32x1024x8x1) call1_v4
  call1_v5

/-- Which positions lie in range. -/
def insideOf (call1_v5 : Arr F S32x1024x8x1 .i32) : Arr F S32x1024x8 .i1 :=
  let call1_c_1 : Arr F S1 .i32 := (constantI S1 32 7#32)
  let call1_c_2 : Arr F S_ .i32 := (constantI S_ 32 0#32)
  let call1_v6 : Arr F S32x1024x8x1 .i32 := (broadcastInDim S32x1024x8x1 ![] bcast_S_S32x1024x8x1) call1_c_2
  let call1_v7 : Arr F S32x1024x8x1 .i1 := (cmpi .sge) call1_v5 call1_v6
  let call1_v8 : Arr F S1x1x1x1 .i32 := (broadcastInDim S1x1x1x1 ![3] bcast_S1_S1x1x1x1_3) call1_c_1
  let call1_v9 : Arr F S32x1024x8x1 .i32 := (broadcastInDim S32x1024x8x1 ![0, 1, 2, 3] bcast_S1x1x1x1_S32x1024x8x1_0_1_2_3) call1_v8
  let call1_v10 : Arr F S32x1024x8x1 .i1 := (cmpi .sle) call1_v5 call1_v9
  let call1_v11 : Arr F S32x1024x8x1 .i1 := andi call1_v7 call1_v10
  let call1_c_3 : Arr F S_ .i1 := (constantI S_ 1 1#1)
  let call1_v12 : Arr F S32x1024x8 .i1 := (fun x v => Host.reduce IntOp.andi x v reducesTo_S32x1024x8x1_S32x1024x8_d3 h_S_) call1_v11 call1_c_3
  call1_v12

/-- The probabilities, read at the positions. -/
def sortedOf (v20 : Arr F S32x1024x8 .f32) (call1_v5 : Arr F S32x1024x8x1 .i32) (call1_v12 : Arr F S32x1024x8 .i1) : Arr F S32x1024x8 .f32 :=
  let call1_v13 : Arr F S32x1024x8 .f32 := (fun x i => Host.gather gather_S32x1024x8_S32x1024x8x1_S32x1024x8_n_2_01_01_2_3_111 x i) v20 call1_v5
  let call1_cst : Arr F S_ .f32 := (constant S_ .f32 0x7FC00000#32)
  let call1_v14 : Arr F S32x1024x8 .f32 := (broadcastInDim S32x1024x8 ![] bcast_S_S32x1024x8) call1_cst
  let v31 : Arr F S32x1024x8 .f32 := select call1_v12 call1_v13 call1_v14
  v31

/-- Where the running sum exceeds one half. -/
def overOf (v31 : Arr F S32x1024x8 .f32) : Arr F S32x1024x8 .i1 :=
  let call2_call0_cst : Arr F S_ .f32 := (constant S_ .f32 0x00000000#32)
  let call2_call0_v0 : Arr F S_ .f32 := (broadcastInDim S_ ![] bcast_S_S_) call2_call0_cst
  let v32 : Arr F S32x1024x8 .f32 := (fun x v => Host.reduceWindowAdd ![1, 1, 8] ![1, 1, 1] ![0, 0, 7] ![0, 0, 0] x v reduceWindows_S32x1024x8_S32x1024x8_w1s1p0_0_w1s1p0_0_w8s1p7_0 h_S_) v31 call2_call0_v0
  let cst_6 : Arr F S_ .f32 := (constant S_ .f32 0x3F000000#32)
  let v33 : Arr F S32x1024x8 .f32 := (broadcastInDim S32x1024x8 ![] bcast_S_S32x1024x8) cst_6
  let v34 : Arr F S32x1024x8 .i1 := (cmpf .ogt) v32 v33
  v34

/-- The first place where the sum exceeds one half. -/
def firstOf (v34 : Arr F S32x1024x8 .i1) : Arr F S32x1024 .i32 :=
  let v35 : Arr F S32x1024x8 .i32 := (extui 32 · natLt_1_32) v34
  let call3_v0 : Arr F S32x1024x8 .i32 := (iotaInDim S32x1024x8 32 2)
  let call3_c : Arr F S_ .i32 := (constantI S_ 32 2147483648#32)
  let call3_c_0 : Arr F S_ .i32 := (constantI S_ 32 0#32)
  let v36 : Arr F S32x1024 .i32 := (fun x y u v j => (Host.reduce2 reducer_argmax_i32_i32 x y u v reducesTo_S32x1024x8_S32x1024_d2 h_S_ j).2) v35 call3_v0 call3_c call3_c_0
  v36

/-- What is over the threshold and not the first such place. -/
def droppedOf (v34 : Arr F S32x1024x8 .i1) (v36 : Arr F S32x1024 .i32) : Arr F S32x1024x8 .i1 :=
  let call4_v0 : Arr F S32x1024x1 .i32 := (broadcastInDim S32x1024x1 ![0, 1] bcast_S32x1024_S32x1024x1_0_1) v36
  let call4_v1 : Arr F S1x1x8 .i32 := (iotaInDim S1x1x8 32 2)
  let call4_v2 : Arr F S32x1024x8 .i32 := (broadcastInDim S32x1024x8 ![0, 1, 2] bcast_S32x1024x1_S32x1024x8_0_1_2) call4_v0
  let call4_v3 : Arr F S32x1024x8 .i32 := (broadcastInDim S32x1024x8 ![0, 1, 2] bcast_S1x1x8_S32x1024x8_0_1_2) call4_v1
  let v37 : Arr F S32x1024x8 .i1 := (cmpi .eq) call4_v2 call4_v3
  let v38 : Arr F S32x1024x8 .i1 := noti v37
  let v39 : Arr F S32x1024x8 .i1 := andi v34 v38
  v39

/-- What is not dropped. -/
def keptOf (v39 : Arr F S32x1024x8 .i1) : Arr F S32x1024x8 .i1 :=
  let v40 : Arr F S32x1024x8 .i1 := noti v39
  v40

/-- The place of each expert in the order. -/
def inverseOf (v30 : Arr F S32x1024x8 .i32) : Arr F S32x1024x8 .i32 :=
  let call5_v0 : Arr F S32x1024x8 .i32 := (iotaInDim S32x1024x8 32 2)
  let v41 : Arr F S32x1024x8 .i32 := (fun x y => (Host.sort2 S32x1024x8 2 comparator_i32_i32_d2 x y).2) v30 call5_v0
  v41

/-- The positions to read, as a column, negative ones counted from the end. -/
def backOf (v41 : Arr F S32x1024x8 .i32) : Arr F S32x1024x8x1 .i32 :=
  let call6_c : Arr F S_ .i32 := (constantI S_ 32 0#32)
  let call6_v0 : Arr F S32x1024x8 .i32 := (broadcastInDim S32x1024x8 ![] bcast_S_S32x1024x8) call6_c
  let call6_v1 : Arr F S32x1024x8 .i1 := (cmpi .slt) v41 call6_v0
  let call6_c_0 : Arr F S_ .i32 := (constantI S_ 32 8#32)
  let call6_v2 : Arr F S32x1024x8 .i32 := (broadcastInDim S32x1024x8 ![] bcast_S_S32x1024x8) call6_c_0
  let call6_v3 : Arr F S32x1024x8 .i32 := addi v41 call6_v2
  let call6_v4 : Arr F S32x1024x8 .i32 := select call6_v1 call6_v3 v41
  let call6_v5 : Arr F S32x1024x8x1 .i32 := (fun x => shapeCast _ x shapeCasts_S32x1024x8_S32x1024x8x1) call6_v4
  call6_v5

/-- Which positions lie in range. -/
def backInOf (call6_v5 : Arr F S32x1024x8x1 .i32) : Arr F S32x1024x8 .i1 :=
  let call6_c_1 : Arr F S1 .i32 := (constantI S1 32 7#32)
  let call6_c_2 : Arr F S_ .i32 := (constantI S_ 32 0#32)
  let call6_v6 : Arr F S32x1024x8x1 .i32 := (broadcastInDim S32x1024x8x1 ![] bcast_S_S32x1024x8x1) call6_c_2
  let call6_v7 : Arr F S32x1024x8x1 .i1 := (cmpi .sge) call6_v5 call6_v6
  let call6_v8 : Arr F S1x1x1x1 .i32 := (broadcastInDim S1x1x1x1 ![3] bcast_S1_S1x1x1x1_3) call6_c_1
  let call6_v9 : Arr F S32x1024x8x1 .i32 := (broadcastInDim S32x1024x8x1 ![0, 1, 2, 3] bcast_S1x1x1x1_S32x1024x8x1_0_1_2_3) call6_v8
  let call6_v10 : Arr F S32x1024x8x1 .i1 := (cmpi .sle) call6_v5 call6_v9
  let call6_v11 : Arr F S32x1024x8x1 .i1 := andi call6_v7 call6_v10
  let call6_c_3 : Arr F S_ .i1 := (constantI S_ 1 1#1)
  let call6_v12 : Arr F S32x1024x8 .i1 := (fun x v => Host.reduce IntOp.andi x v reducesTo_S32x1024x8x1_S32x1024x8_d3 h_S_) call6_v11 call6_c_3
  call6_v12

/-- The gates, put back in the order of the experts. -/
def gatesOf (v40 : Arr F S32x1024x8 .i1) (call6_v5 : Arr F S32x1024x8x1 .i32) (call6_v12 : Arr F S32x1024x8 .i1) : Arr F S32x1024x8 .i1 :=
  let call6_v13 : Arr F S32x1024x8 .i1 := (fun x i => Host.gather gather_S32x1024x8_S32x1024x8x1_S32x1024x8_n_2_01_01_2_3_111 x i) v40 call6_v5
  let call6_c_4 : Arr F S_ .i1 := (constantI S_ 1 1#1)
  let call6_v14 : Arr F S32x1024x8 .i1 := (broadcastInDim S32x1024x8 ![] bcast_S_S32x1024x8) call6_c_4
  let v42 : Arr F S32x1024x8 .i1 := select call6_v12 call6_v13 call6_v14
  v42

/-- The kept sorted probabilities, summed over the heads. -/
def massOf (v39 : Arr F S32x1024x8 .i1) (v31 : Arr F S32x1024x8 .f32) : Arr F S1024x8 .f32 :=
  let cst_7 : Arr F S_ .f32 := (constant S_ .f32 0x00000000#32)
  let call7_v0 : Arr F S_ .f32 := id cst_7
  let call7_v1 : Arr F S32x1024x8 .f32 := (broadcastInDim S32x1024x8 ![] bcast_S_S32x1024x8) call7_v0
  let v43 : Arr F S32x1024x8 .f32 := select v39 call7_v1 v31
  let cst_8 : Arr F S_ .f32 := (constant S_ .f32 0x00000000#32)
  let v44 : Arr F S1024x8 .f32 := (fun x v => Host.reduceAdd x v reducesTo_S32x1024x8_S1024x8_d0 h_S_) v43 cst_8
  v44

/-- The unbiased variance. -/
def varianceOf (v44 : Arr F S1024x8 .f32) : Arr F S_ .f32 :=
  let c_9 : Arr F S_ .i32 := (constantI S_ 32 1#32)
  let call8_cst : Arr F S_ .f32 := (constant S_ .f32 0x00000000#32)
  let call8_v0 : Arr F S_ .f32 := (fun x v => Host.reduceAdd x v reducesTo_S1024x8_S_d0_1 h_S_) v44 call8_cst
  let call8_v1 : Arr F S1x1 .f32 := (broadcastInDim S1x1 ![] bcast_S_S1x1) call8_v0
  let call8_cst_0 : Arr F S_ .f32 := (constant S_ .f32 0x46000000#32)
  let call8_v2 : Arr F S1x1 .f32 := (broadcastInDim S1x1 ![] bcast_S_S1x1) call8_cst_0
  let call8_v3 : Arr F S1x1 .f32 := Host.divf call8_v1 call8_v2
  let call8_v4 : Arr F S1024x8 .f32 := (broadcastInDim S1024x8 ![0, 1] bcast_S1x1_S1024x8_0_1) call8_v3
  let call8_v5 : Arr F S1024x8 .f32 := subf v44 call8_v4
  let call8_v6 : Arr F S1024x8 .f32 := mulf call8_v5 call8_v5
  let call8_v7 : Arr F S_ .f32 := (sitofp .f32) c_9
  let call8_cst_1 : Arr F S_ .f32 := (constant S_ .f32 0x46000000#32)
  let call8_v8 : Arr F S_ .f32 := subf call8_cst_1 call8_v7
  let call8_cst_2 : Arr F S_ .f32 := (constant S_ .f32 0x00000000#32)
  let call8_v9 : Arr F S_ .f32 := (fun x v => Host.reduceAdd x v reducesTo_S1024x8_S_d0_1 h_S_) call8_v6 call8_cst_2
  let call8_v10 : Arr F S_ .f32 := Host.divf call8_v9 call8_v8
  let call8_cst_3 : Arr F S_ .f32 := (constant S_ .f32 0x00000000#32)
  let call8_v11 : Arr F S_ .i1 := (cmpf .ogt) call8_v8 call8_cst_3
  let call8_cst_4 : Arr F S_ .f32 := (constant S_ .f32 0x7FC00000#32)
  let call8_call0_v0 : Arr F S_ .f32 := id call8_cst_4
  let v45 : Arr F S_ .f32 := select call8_v11 call8_v10 call8_call0_v0
  v45

/-- The sum. -/
def totalOf (v44 : Arr F S1024x8 .f32) : Arr F S_ .f32 :=
  let cst_10 : Arr F S_ .f32 := (constant S_ .f32 0x00000000#32)
  let v46 : Arr F S_ .f32 := (fun x v => Host.reduceAdd x v reducesTo_S1024x8_S_d0_1 h_S_) v44 cst_10
  v46

/-- The loss, from the variance, the sum and the mean entropy. -/
def lossOf (v45 : Arr F S_ .f32) (v46 : Arr F S_ .f32) (v28 : Arr F S_ .f32) : Arr F S_ .f32 :=
  let cst_11 : Arr F S_ .f32 := (constant S_ .f32 0x46000000#32)
  let v47 : Arr F S_ .f32 := Host.divf v46 cst_11
  let v48 : Arr F S_ .f32 := mulf v47 v47
  let cst_12 : Arr F S_ .f32 := (constant S_ .f32 0x2EDBE6FF#32)
  let v49 : Arr F S_ .f32 := addf v48 cst_12
  let v50 : Arr F S_ .f32 := Host.divf v45 v49
  let cst_13 : Arr F S_ .f32 := (constant S_ .f32 0x3DCCCCCD#32)
  let v51 : Arr F S_ .f32 := mulf cst_13 v28
  let v52 : Arr F S_ .f32 := addf v50 v51
  v52

/-- The gated masks added up, plus the identity. -/
def blendedOf (masks : Arr F S1024x8x1024 .f32) (v42 : Arr F S32x1024x8 .i1) (v6 : Arr F S1x1x1024x1024 .f32) : Arr F S2x16x1024x1024 .f32 :=
  let v53 : Arr F S2x16x1024x8 .i1 := (fun x => shapeCast _ x shapeCasts_S32x1024x8_S2x16x1024x8) v42
  let v54 : Arr F S2x16x1024x8 .f32 := (uitofp .f32) v53
  let v55 : Arr F S1024x1024x2x16 .f32 := (fun l r => Host.dotGeneral dot_S1024x8x1024_S2x16x1024x8_S1024x1024x2x16_1_3_2_01_0_2 none l r) masks v54
  let v56 : Arr F S2x16x1024x1024 .f32 := (transpose S2x16x1024x1024 [2, 3, 0, 1] · transposes_S1024x1024x2x16_S2x16x1024x1024_2_3_0_1) v55
  let v57 : Arr F S2x16x1024x1024 .f32 := (broadcastInDim S2x16x1024x1024 ![0, 1, 2, 3] bcast_S1x1x1024x1024_S2x16x1024x1024_0_1_2_3) v6
  let v58 : Arr F S2x16x1024x1024 .f32 := addf v56 v57
  v58

/-! ## The operations -/

/-- The operations of this step. -/
def opsEye : List (HloOp τ sig (Elt F)) :=
  [ nullary main_v0 (iotaInDim S1024x1024 32 0),
    nullary main_v1 (iotaInDim S1024x1024 32 1),
    nullary main_c (constantI S_ 32 0#32),
    unary main_c main_v2 (broadcastInDim S1024x1024 ![] bcast_S_S1024x1024 : (⟨S_, .i32⟩ : BufTy).Contents (Elt F) → (⟨S1024x1024, .i32⟩ : BufTy).Contents (Elt F)),
    binary main_v0 main_v2 main_v3 (addi : (⟨S1024x1024, .i32⟩ : BufTy).Contents (Elt F) → (⟨S1024x1024, .i32⟩ : BufTy).Contents (Elt F) → (⟨S1024x1024, .i32⟩ : BufTy).Contents (Elt F)),
    binary main_v3 main_v1 main_v4 (cmpi .eq : (⟨S1024x1024, .i32⟩ : BufTy).Contents (Elt F) → (⟨S1024x1024, .i32⟩ : BufTy).Contents (Elt F) → (⟨S1024x1024, .i1⟩ : BufTy).Contents (Elt F)),
    unary main_v4 main_v5 (uitofp .f32 : (⟨S1024x1024, .i1⟩ : BufTy).Contents (Elt F) → (⟨S1024x1024, .f32⟩ : BufTy).Contents (Elt F)),
    unary main_v5 main_v6 (broadcastInDim S1x1x1024x1024 ![2, 3] bcast_S1024x1024_S1x1x1024x1024_2_3 : (⟨S1024x1024, .f32⟩ : BufTy).Contents (Elt F) → (⟨S1x1x1024x1024, .f32⟩ : BufTy).Contents (Elt F)) ]

/-- The operations of this step. -/
def opsSoftmax : List (HloOp τ sig (Elt F)) :=
  [ reshape main_arg0 main_v7 (rfl : (.f32 : EltTy) = .f32) shapeCasts_S2x16x1024x1024_S32x1024x1024,
    unary main_arg2 main_v8 ((transpose S1024x8 [1, 0] · transposes_S8x1024_S1024x8_1_0) : (⟨S8x1024, .f32⟩ : BufTy).Contents (Elt F) → (⟨S1024x8, .f32⟩ : BufTy).Contents (Elt F)),
    binary main_v7 main_v8 main_v9 ((fun l r => Host.dotGeneral dot_S32x1024x1024_S1024x8_S32x1024x8_2_0_01_1_n_n none l r) : (⟨S32x1024x1024, .f32⟩ : BufTy).Contents (Elt F) → (⟨S1024x8, .f32⟩ : BufTy).Contents (Elt F) → (⟨S32x1024x8, .f32⟩ : BufTy).Contents (Elt F)),
    nullary main_cst (constant S_ .f32 0xFF800000#32),
    binary main_v9 main_cst main_v10 ((fun x v => Host.reduce FloatOps.maximumf x v reducesTo_S32x1024x8_S32x1024_d2 h_S_) : (⟨S32x1024x8, .f32⟩ : BufTy).Contents (Elt F) → (⟨S_, .f32⟩ : BufTy).Contents (Elt F) → (⟨S32x1024, .f32⟩ : BufTy).Contents (Elt F)),
    nullary main_cst_0 (constant S_ .f32 0xFF800000#32),
    unary main_cst_0 main_v11 (broadcastInDim S32x1024 ![] bcast_S_S32x1024 : (⟨S_, .f32⟩ : BufTy).Contents (Elt F) → (⟨S32x1024, .f32⟩ : BufTy).Contents (Elt F)),
    binary main_v11 main_v10 main_v12 (maximumf : (⟨S32x1024, .f32⟩ : BufTy).Contents (Elt F) → (⟨S32x1024, .f32⟩ : BufTy).Contents (Elt F) → (⟨S32x1024, .f32⟩ : BufTy).Contents (Elt F)),
    unary main_v12 main_v13 (broadcastInDim S32x1024x1 ![0, 1] bcast_S32x1024_S32x1024x1_0_1 : (⟨S32x1024, .f32⟩ : BufTy).Contents (Elt F) → (⟨S32x1024x1, .f32⟩ : BufTy).Contents (Elt F)),
    unary main_v13 main_v14 (broadcastInDim S32x1024x8 ![0, 1, 2] bcast_S32x1024x1_S32x1024x8_0_1_2 : (⟨S32x1024x1, .f32⟩ : BufTy).Contents (Elt F) → (⟨S32x1024x8, .f32⟩ : BufTy).Contents (Elt F)),
    binary main_v9 main_v14 main_v15 (subf : (⟨S32x1024x8, .f32⟩ : BufTy).Contents (Elt F) → (⟨S32x1024x8, .f32⟩ : BufTy).Contents (Elt F) → (⟨S32x1024x8, .f32⟩ : BufTy).Contents (Elt F)),
    unary main_v15 main_v16 (Host.exp : (⟨S32x1024x8, .f32⟩ : BufTy).Contents (Elt F) → (⟨S32x1024x8, .f32⟩ : BufTy).Contents (Elt F)),
    nullary main_cst_1 (constant S_ .f32 0x00000000#32),
    binary main_v16 main_cst_1 main_v17 ((fun x v => Host.reduceAdd x v reducesTo_S32x1024x8_S32x1024_d2 h_S_) : (⟨S32x1024x8, .f32⟩ : BufTy).Contents (Elt F) → (⟨S_, .f32⟩ : BufTy).Contents (Elt F) → (⟨S32x1024, .f32⟩ : BufTy).Contents (Elt F)),
    unary main_v17 main_v18 (broadcastInDim S32x1024x1 ![0, 1] bcast_S32x1024_S32x1024x1_0_1 : (⟨S32x1024, .f32⟩ : BufTy).Contents (Elt F) → (⟨S32x1024x1, .f32⟩ : BufTy).Contents (Elt F)),
    unary main_v18 main_v19 (broadcastInDim S32x1024x8 ![0, 1, 2] bcast_S32x1024x1_S32x1024x8_0_1_2 : (⟨S32x1024x1, .f32⟩ : BufTy).Contents (Elt F) → (⟨S32x1024x8, .f32⟩ : BufTy).Contents (Elt F)),
    binary main_v16 main_v19 main_v20 (Host.divf : (⟨S32x1024x8, .f32⟩ : BufTy).Contents (Elt F) → (⟨S32x1024x8, .f32⟩ : BufTy).Contents (Elt F) → (⟨S32x1024x8, .f32⟩ : BufTy).Contents (Elt F)) ]

/-- The operations of this step. -/
def opsDynamic : List (HloOp τ sig (Elt F)) :=
  [ nullary main_cst_2 (constant S_ .f32 0x2EDBE6FF#32),
    unary main_cst_2 main_v21 (broadcastInDim S32x1024x8 ![] bcast_S_S32x1024x8 : (⟨S_, .f32⟩ : BufTy).Contents (Elt F) → (⟨S32x1024x8, .f32⟩ : BufTy).Contents (Elt F)),
    binary main_v20 main_v21 main_v22 (addf : (⟨S32x1024x8, .f32⟩ : BufTy).Contents (Elt F) → (⟨S32x1024x8, .f32⟩ : BufTy).Contents (Elt F) → (⟨S32x1024x8, .f32⟩ : BufTy).Contents (Elt F)),
    unary main_v22 main_v23 (Host.log : (⟨S32x1024x8, .f32⟩ : BufTy).Contents (Elt F) → (⟨S32x1024x8, .f32⟩ : BufTy).Contents (Elt F)),
    binary main_v20 main_v23 main_v24 (mulf : (⟨S32x1024x8, .f32⟩ : BufTy).Contents (Elt F) → (⟨S32x1024x8, .f32⟩ : BufTy).Contents (Elt F) → (⟨S32x1024x8, .f32⟩ : BufTy).Contents (Elt F)),
    nullary main_cst_3 (constant S_ .f32 0x00000000#32),
    binary main_v24 main_cst_3 main_v25 ((fun x v => Host.reduceAdd x v reducesTo_S32x1024x8_S32x8_d1 h_S_) : (⟨S32x1024x8, .f32⟩ : BufTy).Contents (Elt F) → (⟨S_, .f32⟩ : BufTy).Contents (Elt F) → (⟨S32x8, .f32⟩ : BufTy).Contents (Elt F)),
    nullary main_cst_4 (constant S_ .f32 0x00000000#32),
    binary main_v25 main_cst_4 main_v26 ((fun x v => Host.reduceAdd x v reducesTo_S32x8_S_d0_1 h_S_) : (⟨S32x8, .f32⟩ : BufTy).Contents (Elt F) → (⟨S_, .f32⟩ : BufTy).Contents (Elt F) → (⟨S_, .f32⟩ : BufTy).Contents (Elt F)),
    nullary main_cst_5 (constant S_ .f32 0x43800000#32),
    binary main_v26 main_cst_5 main_v27 (Host.divf : (⟨S_, .f32⟩ : BufTy).Contents (Elt F) → (⟨S_, .f32⟩ : BufTy).Contents (Elt F) → (⟨S_, .f32⟩ : BufTy).Contents (Elt F)),
    unary main_v27 main_v28 (Host.negf : (⟨S_, .f32⟩ : BufTy).Contents (Elt F) → (⟨S_, .f32⟩ : BufTy).Contents (Elt F)) ]

/-- The operations of this step. -/
def opsOrder : List (HloOp τ sig (Elt F)) :=
  [ unary main_v20 main_v29 (Host.negf : (⟨S32x1024x8, .f32⟩ : BufTy).Contents (Elt F) → (⟨S32x1024x8, .f32⟩ : BufTy).Contents (Elt F)),
    TRef.nullary (TRef.of (T := ⟨S32x1024x8, .i32⟩) main_call0_v0) (iotaInDim S32x1024x8 32 2),
    TRef.binary (TRef.of (T := ⟨S32x1024x8, .f32⟩) main_v29) (TRef.of (T := ⟨S32x1024x8, .i32⟩) main_call0_v0) (TRef.of (T := ⟨S32x1024x8, .f32⟩) main_call0_v1_0) (fun x y => (Host.sort2 S32x1024x8 2 comparator_f32_i32_d2 x y).1),
    TRef.binary (TRef.of (T := ⟨S32x1024x8, .f32⟩) main_v29) (TRef.of (T := ⟨S32x1024x8, .i32⟩) main_call0_v0) (TRef.of (T := ⟨S32x1024x8, .i32⟩) main_v30) (fun x y => (Host.sort2 S32x1024x8 2 comparator_f32_i32_d2 x y).2) ]

/-- The operations of this step. -/
def opsColumn : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32x1024x8, .i32⟩) main_call1_v0) (broadcastInDim S32x1024x8 ![] bcast_S_S32x1024x8),
    TRef.binary (TRef.of (T := ⟨S32x1024x8, .i32⟩) main_v30) (TRef.of (T := ⟨S32x1024x8, .i32⟩) main_call1_v0) (TRef.of (T := ⟨S32x1024x8, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S32x1024x8, .i32⟩) main_call1_v2) (broadcastInDim S32x1024x8 ![] bcast_S_S32x1024x8),
    TRef.binary (TRef.of (T := ⟨S32x1024x8, .i32⟩) main_v30) (TRef.of (T := ⟨S32x1024x8, .i32⟩) main_call1_v2) (TRef.of (T := ⟨S32x1024x8, .i32⟩) main_call1_v3) addi,
    TRef.ternary (TRef.of (T := ⟨S32x1024x8, .i1⟩) main_call1_v1) (TRef.of (T := ⟨S32x1024x8, .i32⟩) main_call1_v3) (TRef.of (T := ⟨S32x1024x8, .i32⟩) main_v30) (TRef.of (T := ⟨S32x1024x8, .i32⟩) main_call1_v4) select,
    TRef.reshape (TRef.of (T := ⟨S32x1024x8, .i32⟩) main_call1_v4) (TRef.of (T := ⟨S32x1024x8x1, .i32⟩) main_call1_v5) (rfl : (.i32 : EltTy) = .i32) shapeCasts_S32x1024x8_S32x1024x8x1 ]

/-- The operations of this step. -/
def opsInside : List (HloOp τ sig (Elt F)) :=
  [ TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S32x1024x8x1, .i32⟩) main_call1_v6) (broadcastInDim S32x1024x8x1 ![] bcast_S_S32x1024x8x1),
    TRef.binary (TRef.of (T := ⟨S32x1024x8x1, .i32⟩) main_call1_v5) (TRef.of (T := ⟨S32x1024x8x1, .i32⟩) main_call1_v6) (TRef.of (T := ⟨S32x1024x8x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S32x1024x8x1, .i32⟩) main_call1_v9) (broadcastInDim S32x1024x8x1 ![0, 1, 2, 3] bcast_S1x1x1x1_S32x1024x8x1_0_1_2_3),
    TRef.binary (TRef.of (T := ⟨S32x1024x8x1, .i32⟩) main_call1_v5) (TRef.of (T := ⟨S32x1024x8x1, .i32⟩) main_call1_v9) (TRef.of (T := ⟨S32x1024x8x1, .i1⟩) main_call1_v10) (cmpi .sle),
    TRef.binary (TRef.of (T := ⟨S32x1024x8x1, .i1⟩) main_call1_v7) (TRef.of (T := ⟨S32x1024x8x1, .i1⟩) main_call1_v10) (TRef.of (T := ⟨S32x1024x8x1, .i1⟩) main_call1_v11) andi,
    TRef.nullary (TRef.of (T := ⟨S_, .i1⟩) main_call1_c_3) (constantI S_ 1 1#1),
    TRef.binary (TRef.of (T := ⟨S32x1024x8x1, .i1⟩) main_call1_v11) (TRef.of (T := ⟨S_, .i1⟩) main_call1_c_3) (TRef.of (T := ⟨S32x1024x8, .i1⟩) main_call1_v12) (fun x v => Host.reduce IntOp.andi x v reducesTo_S32x1024x8x1_S32x1024x8_d3 h_S_) ]

/-- The operations of this step. -/
def opsSorted : List (HloOp τ sig (Elt F)) :=
  [ TRef.binary (TRef.of (T := ⟨S32x1024x8, .f32⟩) main_v20) (TRef.of (T := ⟨S32x1024x8x1, .i32⟩) main_call1_v5) (TRef.of (T := ⟨S32x1024x8, .f32⟩) main_call1_v13) (fun x i => Host.gather gather_S32x1024x8_S32x1024x8x1_S32x1024x8_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S32x1024x8, .f32⟩) main_call1_v14) (broadcastInDim S32x1024x8 ![] bcast_S_S32x1024x8),
    TRef.ternary (TRef.of (T := ⟨S32x1024x8, .i1⟩) main_call1_v12) (TRef.of (T := ⟨S32x1024x8, .f32⟩) main_call1_v13) (TRef.of (T := ⟨S32x1024x8, .f32⟩) main_call1_v14) (TRef.of (T := ⟨S32x1024x8, .f32⟩) main_v31) select ]

/-- The operations of this step. -/
def opsOver : List (HloOp τ sig (Elt F)) :=
  [ TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S32x1024x8, .f32⟩) main_v31) (TRef.of (T := ⟨S_, .f32⟩) main_call2_call0_v0) (TRef.of (T := ⟨S32x1024x8, .f32⟩) main_v32) (fun x v => Host.reduceWindowAdd ![1, 1, 8] ![1, 1, 1] ![0, 0, 7] ![0, 0, 0] x v reduceWindows_S32x1024x8_S32x1024x8_w1s1p0_0_w1s1p0_0_w8s1p7_0 h_S_),
    nullary main_cst_6 (constant S_ .f32 0x3F000000#32),
    unary main_cst_6 main_v33 (broadcastInDim S32x1024x8 ![] bcast_S_S32x1024x8 : (⟨S_, .f32⟩ : BufTy).Contents (Elt F) → (⟨S32x1024x8, .f32⟩ : BufTy).Contents (Elt F)),
    binary main_v32 main_v33 main_v34 (cmpf .ogt : (⟨S32x1024x8, .f32⟩ : BufTy).Contents (Elt F) → (⟨S32x1024x8, .f32⟩ : BufTy).Contents (Elt F) → (⟨S32x1024x8, .i1⟩ : BufTy).Contents (Elt F)) ]

/-- The operations of this step. -/
def opsFirst : List (HloOp τ sig (Elt F)) :=
  [ unary main_v34 main_v35 ((extui 32 · natLt_1_32) : (⟨S32x1024x8, .i1⟩ : BufTy).Contents (Elt F) → (⟨S32x1024x8, .i32⟩ : BufTy).Contents (Elt F)),
    TRef.nullary (TRef.of (T := ⟨S32x1024x8, .i32⟩) main_call3_v0) (iotaInDim S32x1024x8 32 2),
    TRef.nullary (TRef.of (T := ⟨S_, .i32⟩) main_call3_c) (constantI S_ 32 2147483648#32),
    TRef.nullary (TRef.of (T := ⟨S_, .i32⟩) main_call3_c_0) (constantI S_ 32 0#32),
    TRef.quaternary (TRef.of (T := ⟨S32x1024x8, .i32⟩) main_v35) (TRef.of (T := ⟨S32x1024x8, .i32⟩) main_call3_v0) (TRef.of (T := ⟨S_, .i32⟩) main_call3_c) (TRef.of (T := ⟨S_, .i32⟩) main_call3_c_0) (TRef.of (T := ⟨S32x1024, .i32⟩) main_call3_v1_0) (fun x y u v j => (Host.reduce2 reducer_argmax_i32_i32 x y u v reducesTo_S32x1024x8_S32x1024_d2 h_S_ j).1),
    TRef.quaternary (TRef.of (T := ⟨S32x1024x8, .i32⟩) main_v35) (TRef.of (T := ⟨S32x1024x8, .i32⟩) main_call3_v0) (TRef.of (T := ⟨S_, .i32⟩) main_call3_c) (TRef.of (T := ⟨S_, .i32⟩) main_call3_c_0) (TRef.of (T := ⟨S32x1024, .i32⟩) main_v36) (fun x y u v j => (Host.reduce2 reducer_argmax_i32_i32 x y u v reducesTo_S32x1024x8_S32x1024_d2 h_S_ j).2) ]

/-- The operations of this step. -/
def opsDropped : List (HloOp τ sig (Elt F)) :=
  [ TRef.unary (TRef.of (T := ⟨S32x1024, .i32⟩) main_v36) (TRef.of (T := ⟨S32x1024x1, .i32⟩) main_call4_v0) (broadcastInDim S32x1024x1 ![0, 1] bcast_S32x1024_S32x1024x1_0_1),
    TRef.nullary (TRef.of (T := ⟨S1x1x8, .i32⟩) main_call4_v1) (iotaInDim S1x1x8 32 2),
    TRef.unary (TRef.of (T := ⟨S32x1024x1, .i32⟩) main_call4_v0) (TRef.of (T := ⟨S32x1024x8, .i32⟩) main_call4_v2) (broadcastInDim S32x1024x8 ![0, 1, 2] bcast_S32x1024x1_S32x1024x8_0_1_2),
    TRef.unary (TRef.of (T := ⟨S1x1x8, .i32⟩) main_call4_v1) (TRef.of (T := ⟨S32x1024x8, .i32⟩) main_call4_v3) (broadcastInDim S32x1024x8 ![0, 1, 2] bcast_S1x1x8_S32x1024x8_0_1_2),
    TRef.binary (TRef.of (T := ⟨S32x1024x8, .i32⟩) main_call4_v2) (TRef.of (T := ⟨S32x1024x8, .i32⟩) main_call4_v3) (TRef.of (T := ⟨S32x1024x8, .i1⟩) main_v37) (cmpi .eq),
    unary main_v37 main_v38 (noti : (⟨S32x1024x8, .i1⟩ : BufTy).Contents (Elt F) → (⟨S32x1024x8, .i1⟩ : BufTy).Contents (Elt F)),
    binary main_v34 main_v38 main_v39 (andi : (⟨S32x1024x8, .i1⟩ : BufTy).Contents (Elt F) → (⟨S32x1024x8, .i1⟩ : BufTy).Contents (Elt F) → (⟨S32x1024x8, .i1⟩ : BufTy).Contents (Elt F)) ]

/-- The operations of this step. -/
def opsKept : List (HloOp τ sig (Elt F)) :=
  [ unary main_v39 main_v40 (noti : (⟨S32x1024x8, .i1⟩ : BufTy).Contents (Elt F) → (⟨S32x1024x8, .i1⟩ : BufTy).Contents (Elt F)),
    TRef.nullary (TRef.of (T := ⟨S32x1024x8, .i32⟩) main_call5_v0) (iotaInDim S32x1024x8 32 2),
    TRef.binary (TRef.of (T := ⟨S32x1024x8, .i32⟩) main_v30) (TRef.of (T := ⟨S32x1024x8, .i32⟩) main_call5_v0) (TRef.of (T := ⟨S32x1024x8, .i32⟩) main_call5_v1_0) (fun x y => (Host.sort2 S32x1024x8 2 comparator_i32_i32_d2 x y).1),
    TRef.binary (TRef.of (T := ⟨S32x1024x8, .i32⟩) main_v30) (TRef.of (T := ⟨S32x1024x8, .i32⟩) main_call5_v0) (TRef.of (T := ⟨S32x1024x8, .i32⟩) main_v41) (fun x y => (Host.sort2 S32x1024x8 2 comparator_i32_i32_d2 x y).2) ]

/-- The operations of this step. -/
def opsBack : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S32x1024x8, .i32⟩) main_call6_v0) (broadcastInDim S32x1024x8 ![] bcast_S_S32x1024x8),
    TRef.binary (TRef.of (T := ⟨S32x1024x8, .i32⟩) main_v41) (TRef.of (T := ⟨S32x1024x8, .i32⟩) main_call6_v0) (TRef.of (T := ⟨S32x1024x8, .i1⟩) main_call6_v1) (cmpi .slt),
    TRef.nullary (TRef.of (T := ⟨S_, .i32⟩) main_call6_c_0) (constantI S_ 32 8#32),
    TRef.unary (TRef.of (T := ⟨S_, .i32⟩) main_call6_c_0) (TRef.of (T := ⟨S32x1024x8, .i32⟩) main_call6_v2) (broadcastInDim S32x1024x8 ![] bcast_S_S32x1024x8),
    TRef.binary (TRef.of (T := ⟨S32x1024x8, .i32⟩) main_v41) (TRef.of (T := ⟨S32x1024x8, .i32⟩) main_call6_v2) (TRef.of (T := ⟨S32x1024x8, .i32⟩) main_call6_v3) addi,
    TRef.ternary (TRef.of (T := ⟨S32x1024x8, .i1⟩) main_call6_v1) (TRef.of (T := ⟨S32x1024x8, .i32⟩) main_call6_v3) (TRef.of (T := ⟨S32x1024x8, .i32⟩) main_v41) (TRef.of (T := ⟨S32x1024x8, .i32⟩) main_call6_v4) select,
    TRef.reshape (TRef.of (T := ⟨S32x1024x8, .i32⟩) main_call6_v4) (TRef.of (T := ⟨S32x1024x8x1, .i32⟩) main_call6_v5) (rfl : (.i32 : EltTy) = .i32) shapeCasts_S32x1024x8_S32x1024x8x1 ]

/-- The operations of this step. -/
def opsBackIn : List (HloOp τ sig (Elt F)) :=
  [ TRef.nullary (TRef.of (T := ⟨S1, .i32⟩) main_call6_c_1) (constantI S1 32 7#32),
    TRef.nullary (TRef.of (T := ⟨S_, .i32⟩) main_call6_c_2) (constantI S_ 32 0#32),
    TRef.unary (TRef.of (T := ⟨S_, .i32⟩) main_call6_c_2) (TRef.of (T := ⟨S32x1024x8x1, .i32⟩) main_call6_v6) (broadcastInDim S32x1024x8x1 ![] bcast_S_S32x1024x8x1),
    TRef.binary (TRef.of (T := ⟨S32x1024x8x1, .i32⟩) main_call6_v5) (TRef.of (T := ⟨S32x1024x8x1, .i32⟩) main_call6_v6) (TRef.of (T := ⟨S32x1024x8x1, .i1⟩) main_call6_v7) (cmpi .sge),
    TRef.unary (TRef.of (T := ⟨S1, .i32⟩) main_call6_c_1) (TRef.of (T := ⟨S1x1x1x1, .i32⟩) main_call6_v8) (broadcastInDim S1x1x1x1 ![3] bcast_S1_S1x1x1x1_3),
    TRef.unary (TRef.of (T := ⟨S1x1x1x1, .i32⟩) main_call6_v8) (TRef.of (T := ⟨S32x1024x8x1, .i32⟩) main_call6_v9) (broadcastInDim S32x1024x8x1 ![0, 1, 2, 3] bcast_S1x1x1x1_S32x1024x8x1_0_1_2_3),
    TRef.binary (TRef.of (T := ⟨S32x1024x8x1, .i32⟩) main_call6_v5) (TRef.of (T := ⟨S32x1024x8x1, .i32⟩) main_call6_v9) (TRef.of (T := ⟨S32x1024x8x1, .i1⟩) main_call6_v10) (cmpi .sle),
    TRef.binary (TRef.of (T := ⟨S32x1024x8x1, .i1⟩) main_call6_v7) (TRef.of (T := ⟨S32x1024x8x1, .i1⟩) main_call6_v10) (TRef.of (T := ⟨S32x1024x8x1, .i1⟩) main_call6_v11) andi,
    TRef.nullary (TRef.of (T := ⟨S_, .i1⟩) main_call6_c_3) (constantI S_ 1 1#1),
    TRef.binary (TRef.of (T := ⟨S32x1024x8x1, .i1⟩) main_call6_v11) (TRef.of (T := ⟨S_, .i1⟩) main_call6_c_3) (TRef.of (T := ⟨S32x1024x8, .i1⟩) main_call6_v12) (fun x v => Host.reduce IntOp.andi x v reducesTo_S32x1024x8x1_S32x1024x8_d3 h_S_) ]

/-- The operations of this step. -/
def opsGates : List (HloOp τ sig (Elt F)) :=
  [ TRef.binary (TRef.of (T := ⟨S32x1024x8, .i1⟩) main_v40) (TRef.of (T := ⟨S32x1024x8x1, .i32⟩) main_call6_v5) (TRef.of (T := ⟨S32x1024x8, .i1⟩) main_call6_v13) (fun x i => Host.gather gather_S32x1024x8_S32x1024x8x1_S32x1024x8_n_2_01_01_2_3_111 x i),
    TRef.nullary (TRef.of (T := ⟨S_, .i1⟩) main_call6_c_4) (constantI S_ 1 1#1),
    TRef.unary (TRef.of (T := ⟨S_, .i1⟩) main_call6_c_4) (TRef.of (T := ⟨S32x1024x8, .i1⟩) main_call6_v14) (broadcastInDim S32x1024x8 ![] bcast_S_S32x1024x8),
    TRef.ternary (TRef.of (T := ⟨S32x1024x8, .i1⟩) main_call6_v12) (TRef.of (T := ⟨S32x1024x8, .i1⟩) main_call6_v13) (TRef.of (T := ⟨S32x1024x8, .i1⟩) main_call6_v14) (TRef.of (T := ⟨S32x1024x8, .i1⟩) main_v42) select ]

/-- The operations of this step. -/
def opsMass : List (HloOp τ sig (Elt F)) :=
  [ nullary main_cst_7 (constant S_ .f32 0x00000000#32),
    TRef.unary (TRef.of (T := ⟨S_, .f32⟩) main_cst_7) (TRef.of (T := ⟨S_, .f32⟩) main_call7_v0) id,
    TRef.unary (TRef.of (T := ⟨S_, .f32⟩) main_call7_v0) (TRef.of (T := ⟨S32x1024x8, .f32⟩) main_call7_v1) (broadcastInDim S32x1024x8 ![] bcast_S_S32x1024x8),
    TRef.ternary (TRef.of (T := ⟨S32x1024x8, .i1⟩) main_v39) (TRef.of (T := ⟨S32x1024x8, .f32⟩) main_call7_v1) (TRef.of (T := ⟨S32x1024x8, .f32⟩) main_v31) (TRef.of (T := ⟨S32x1024x8, .f32⟩) main_v43) select,
    nullary main_cst_8 (constant S_ .f32 0x00000000#32),
    binary main_v43 main_cst_8 main_v44 ((fun x v => Host.reduceAdd x v reducesTo_S32x1024x8_S1024x8_d0 h_S_) : (⟨S32x1024x8, .f32⟩ : BufTy).Contents (Elt F) → (⟨S_, .f32⟩ : BufTy).Contents (Elt F) → (⟨S1024x8, .f32⟩ : BufTy).Contents (Elt F)) ]

/-- The operations of this step. -/
def opsVariance : List (HloOp τ sig (Elt F)) :=
  [ nullary main_c_9 (constantI S_ 32 1#32),
    TRef.nullary (TRef.of (T := ⟨S_, .f32⟩) main_call8_cst) (constant S_ .f32 0x00000000#32),
    TRef.binary (TRef.of (T := ⟨S1024x8, .f32⟩) main_v44) (TRef.of (T := ⟨S_, .f32⟩) main_call8_cst) (TRef.of (T := ⟨S_, .f32⟩) main_call8_v0) (fun x v => Host.reduceAdd x v reducesTo_S1024x8_S_d0_1 h_S_),
    TRef.unary (TRef.of (T := ⟨S_, .f32⟩) main_call8_v0) (TRef.of (T := ⟨S1x1, .f32⟩) main_call8_v1) (broadcastInDim S1x1 ![] bcast_S_S1x1),
    TRef.nullary (TRef.of (T := ⟨S_, .f32⟩) main_call8_cst_0) (constant S_ .f32 0x46000000#32),
    TRef.unary (TRef.of (T := ⟨S_, .f32⟩) main_call8_cst_0) (TRef.of (T := ⟨S1x1, .f32⟩) main_call8_v2) (broadcastInDim S1x1 ![] bcast_S_S1x1),
    TRef.binary (TRef.of (T := ⟨S1x1, .f32⟩) main_call8_v1) (TRef.of (T := ⟨S1x1, .f32⟩) main_call8_v2) (TRef.of (T := ⟨S1x1, .f32⟩) main_call8_v3) Host.divf,
    TRef.unary (TRef.of (T := ⟨S1x1, .f32⟩) main_call8_v3) (TRef.of (T := ⟨S1024x8, .f32⟩) main_call8_v4) (broadcastInDim S1024x8 ![0, 1] bcast_S1x1_S1024x8_0_1),
    TRef.binary (TRef.of (T := ⟨S1024x8, .f32⟩) main_v44) (TRef.of (T := ⟨S1024x8, .f32⟩) main_call8_v4) (TRef.of (T := ⟨S1024x8, .f32⟩) main_call8_v5) subf,
    TRef.binary (TRef.of (T := ⟨S1024x8, .f32⟩) main_call8_v5) (TRef.of (T := ⟨S1024x8, .f32⟩) main_call8_v5) (TRef.of (T := ⟨S1024x8, .f32⟩) main_call8_v6) mulf,
    TRef.unary (TRef.of (T := ⟨S_, .i32⟩) main_c_9) (TRef.of (T := ⟨S_, .f32⟩) main_call8_v7) (sitofp .f32),
    TRef.nullary (TRef.of (T := ⟨S_, .f32⟩) main_call8_cst_1) (constant S_ .f32 0x46000000#32),
    TRef.binary (TRef.of (T := ⟨S_, .f32⟩) main_call8_cst_1) (TRef.of (T := ⟨S_, .f32⟩) main_call8_v7) (TRef.of (T := ⟨S_, .f32⟩) main_call8_v8) subf,
    TRef.nullary (TRef.of (T := ⟨S_, .f32⟩) main_call8_cst_2) (constant S_ .f32 0x00000000#32),
    TRef.binary (TRef.of (T := ⟨S1024x8, .f32⟩) main_call8_v6) (TRef.of (T := ⟨S_, .f32⟩) main_call8_cst_2) (TRef.of (T := ⟨S_, .f32⟩) main_call8_v9) (fun x v => Host.reduceAdd x v reducesTo_S1024x8_S_d0_1 h_S_),
    TRef.binary (TRef.of (T := ⟨S_, .f32⟩) main_call8_v9) (TRef.of (T := ⟨S_, .f32⟩) main_call8_v8) (TRef.of (T := ⟨S_, .f32⟩) main_call8_v10) Host.divf,
    TRef.nullary (TRef.of (T := ⟨S_, .f32⟩) main_call8_cst_3) (constant S_ .f32 0x00000000#32),
    TRef.binary (TRef.of (T := ⟨S_, .f32⟩) main_call8_v8) (TRef.of (T := ⟨S_, .f32⟩) main_call8_cst_3) (TRef.of (T := ⟨S_, .i1⟩) main_call8_v11) (cmpf .ogt),
    TRef.nullary (TRef.of (T := ⟨S_, .f32⟩) main_call8_cst_4) (constant S_ .f32 0x7FC00000#32),
    TRef.unary (TRef.of (T := ⟨S_, .f32⟩) main_call8_cst_4) (TRef.of (T := ⟨S_, .f32⟩) main_call8_call0_v0) id,
    TRef.ternary (TRef.of (T := ⟨S_, .i1⟩) main_call8_v11) (TRef.of (T := ⟨S_, .f32⟩) main_call8_v10) (TRef.of (T := ⟨S_, .f32⟩) main_call8_call0_v0) (TRef.of (T := ⟨S_, .f32⟩) main_v45) select ]

/-- The operations of this step. -/
def opsTotal : List (HloOp τ sig (Elt F)) :=
  [ nullary main_cst_10 (constant S_ .f32 0x00000000#32),
    binary main_v44 main_cst_10 main_v46 ((fun x v => Host.reduceAdd x v reducesTo_S1024x8_S_d0_1 h_S_) : (⟨S1024x8, .f32⟩ : BufTy).Contents (Elt F) → (⟨S_, .f32⟩ : BufTy).Contents (Elt F) → (⟨S_, .f32⟩ : BufTy).Contents (Elt F)) ]

/-- The operations of this step. -/
def opsLoss : List (HloOp τ sig (Elt F)) :=
  [ nullary main_cst_11 (constant S_ .f32 0x46000000#32),
    binary main_v46 main_cst_11 main_v47 (Host.divf : (⟨S_, .f32⟩ : BufTy).Contents (Elt F) → (⟨S_, .f32⟩ : BufTy).Contents (Elt F) → (⟨S_, .f32⟩ : BufTy).Contents (Elt F)),
    binary main_v47 main_v47 main_v48 (mulf : (⟨S_, .f32⟩ : BufTy).Contents (Elt F) → (⟨S_, .f32⟩ : BufTy).Contents (Elt F) → (⟨S_, .f32⟩ : BufTy).Contents (Elt F)),
    nullary main_cst_12 (constant S_ .f32 0x2EDBE6FF#32),
    binary main_v48 main_cst_12 main_v49 (addf : (⟨S_, .f32⟩ : BufTy).Contents (Elt F) → (⟨S_, .f32⟩ : BufTy).Contents (Elt F) → (⟨S_, .f32⟩ : BufTy).Contents (Elt F)),
    binary main_v45 main_v49 main_v50 (Host.divf : (⟨S_, .f32⟩ : BufTy).Contents (Elt F) → (⟨S_, .f32⟩ : BufTy).Contents (Elt F) → (⟨S_, .f32⟩ : BufTy).Contents (Elt F)),
    nullary main_cst_13 (constant S_ .f32 0x3DCCCCCD#32),
    binary main_cst_13 main_v28 main_v51 (mulf : (⟨S_, .f32⟩ : BufTy).Contents (Elt F) → (⟨S_, .f32⟩ : BufTy).Contents (Elt F) → (⟨S_, .f32⟩ : BufTy).Contents (Elt F)),
    binary main_v50 main_v51 main_v52 (addf : (⟨S_, .f32⟩ : BufTy).Contents (Elt F) → (⟨S_, .f32⟩ : BufTy).Contents (Elt F) → (⟨S_, .f32⟩ : BufTy).Contents (Elt F)) ]

/-- The operations of this step. -/
def opsOut : List (HloOp τ sig (Elt F)) :=
  [ reshape main_v42 main_v53 (rfl : (.i1 : EltTy) = .i1) shapeCasts_S32x1024x8_S2x16x1024x8,
    unary main_v53 main_v54 (uitofp .f32 : (⟨S2x16x1024x8, .i1⟩ : BufTy).Contents (Elt F) → (⟨S2x16x1024x8, .f32⟩ : BufTy).Contents (Elt F)),
    binary main_arg1 main_v54 main_v55 ((fun l r => Host.dotGeneral dot_S1024x8x1024_S2x16x1024x8_S1024x1024x2x16_1_3_2_01_0_2 none l r) : (⟨S1024x8x1024, .f32⟩ : BufTy).Contents (Elt F) → (⟨S2x16x1024x8, .f32⟩ : BufTy).Contents (Elt F) → (⟨S1024x1024x2x16, .f32⟩ : BufTy).Contents (Elt F)),
    unary main_v55 main_v56 ((transpose S2x16x1024x1024 [2, 3, 0, 1] · transposes_S1024x1024x2x16_S2x16x1024x1024_2_3_0_1) : (⟨S1024x1024x2x16, .f32⟩ : BufTy).Contents (Elt F) → (⟨S2x16x1024x1024, .f32⟩ : BufTy).Contents (Elt F)),
    unary main_v6 main_v57 (broadcastInDim S2x16x1024x1024 ![0, 1, 2, 3] bcast_S1x1x1024x1024_S2x16x1024x1024_0_1_2_3 : (⟨S1x1x1024x1024, .f32⟩ : BufTy).Contents (Elt F) → (⟨S2x16x1024x1024, .f32⟩ : BufTy).Contents (Elt F)),
    binary main_v56 main_v57 main_v58 (addf : (⟨S2x16x1024x1024, .f32⟩ : BufTy).Contents (Elt F) → (⟨S2x16x1024x1024, .f32⟩ : BufTy).Contents (Elt F) → (⟨S2x16x1024x1024, .f32⟩ : BufTy).Contents (Elt F)) ]

/-- The first stretch of the program. -/
def opsA : List (HloOp τ sig (Elt F)) :=
  opsEye ++ (opsSoftmax ++ (opsDynamic ++ (opsOrder ++ (opsColumn ++ (opsInside ++ (opsSorted ++ (opsOver ++ (opsFirst ++ (opsDropped ++ (opsKept ++ (opsBack ++ (opsBackIn ++ (opsGates ++ (opsMass ++ (opsVariance ++ (opsTotal))))))))))))))))

/-- The second stretch of the program. -/
def opsB : List (HloOp τ sig (Elt F)) :=
  opsLoss ++ (opsOut)

set_option maxRecDepth 8192 in
set_option maxHeartbeats 4000000 in
theorem partA_eq (c : Dev nD) : main_part0 (F := F) c = seq opsA := rfl

set_option maxRecDepth 8192 in
theorem partB_eq (c : Dev nD) : main_part1 (F := F) c = seq opsB := rfl

set_option maxRecDepth 8192 in
theorem main_eq (c : Dev nD) : main (F := F) c = seq (opsA ++ opsB) := by
  rw [seq_append, ← partA_eq c, ← partB_eq c]
  rfl

theorem no_scoped_ref : (Finset.univ.filter fun b : Ref sig .tc => b.isScoped) = ∅ := by decide
theorem no_scoped_sem : (Finset.univ.filter fun sm : SemLoc sig => sm.isScoped .tc) = ∅ := by decide

set_option maxRecDepth 8192 in
theorem opsEye_sub : (opsEye : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub ..⟩
set_option maxRecDepth 8192 in
theorem opsEye_fresh : (opsEye : List (HloOp τ sig (Elt F))).Forall fun op => op.fresh = ∅ :=
  forall_fresh_of_map rfl

/-- The buffers that the step writes. -/
abbrev opsEyeW : List (Ref sig .tc) := [main_v0, main_v1, main_c, main_v2, main_v3, main_v4, main_v5, main_v6]
theorem opsEye_keep (V : Valuation τ sig (Elt F)) (r : Ref sig .tc) (h : r ∉ opsEyeW) :
    after opsEye V (Proc.devRef .tc r) = V (Proc.devRef .tc r) :=
  after_of_writes_sub opsEye V (forall_writes_sub_of_map rfl) h

set_option maxRecDepth 8192 in
set_option maxHeartbeats 2000000 in
theorem eye_at (V : Valuation τ sig (Elt F)) :
    after opsEye V (Proc.devRef .tc main_v6) = eyeOf  := by
  simp only [opsEye]
  after_results_simp
  unfold eyeOf
  all_goals try simp -implicitDefEqProofs only [TRef.ofBuf, TRef.toBuf, cast_cast, cast_eq]
  all_goals rfl

set_option maxRecDepth 8192 in
theorem opsSoftmax_sub : (opsSoftmax : List (HloOp τ sig (Elt F))).Forall fun op => op.bufs ⊆ tcRefs τ sig :=
  ⟨reshape_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem opsSoftmax_fresh : (opsSoftmax : List (HloOp τ sig (Elt F))).Forall fun op => op.fresh = ∅ :=
  forall_fresh_of_map rfl

/-- The buffers that the step writes. -/
abbrev opsSoftmaxW : List (Ref sig .tc) := [main_v7, main_v8, main_v9, main_cst, main_v10, main_cst_0, main_v11, main_v12, main_v13, main_v14, main_v15, main_v16, main_cst_1, main_v17, main_v18, main_v19, main_v20]
theorem opsSoftmax_keep (V : Valuation τ sig (Elt F)) (r : Ref sig .tc) (h : r ∉ opsSoftmaxW) :
    after opsSoftmax V (Proc.devRef .tc r) = V (Proc.devRef .tc r) :=
  after_of_writes_sub opsSoftmax V (forall_writes_sub_of_map rfl) h

set_option maxRecDepth 8192 in
set_option maxHeartbeats 2000000 in
theorem softmax_at (V : Valuation τ sig (Elt F)) :
    after opsSoftmax V (Proc.devRef .tc main_v20) = softmaxOf (V (Proc.devRef .tc main_arg0)) (V (Proc.devRef .tc main_arg2)) := by
  simp only [opsSoftmax]
  after_results_simp
  generalize V (Proc.devRef .tc main_arg0) = x
  generalize V (Proc.devRef .tc main_arg2) = w
  unfold softmaxOf
  all_goals try simp -implicitDefEqProofs only [TRef.ofBuf, TRef.toBuf, cast_cast, cast_eq]
  all_goals rfl

set_option maxRecDepth 8192 in
theorem opsDynamic_sub : (opsDynamic : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., unary_bufs_sub ..⟩
set_option maxRecDepth 8192 in
theorem opsDynamic_fresh : (opsDynamic : List (HloOp τ sig (Elt F))).Forall fun op => op.fresh = ∅ :=
  forall_fresh_of_map rfl

/-- The buffers that the step writes. -/
abbrev opsDynamicW : List (Ref sig .tc) := [main_cst_2, main_v21, main_v22, main_v23, main_v24, main_cst_3, main_v25, main_cst_4, main_v26, main_cst_5, main_v27, main_v28]
theorem opsDynamic_keep (V : Valuation τ sig (Elt F)) (r : Ref sig .tc) (h : r ∉ opsDynamicW) :
    after opsDynamic V (Proc.devRef .tc r) = V (Proc.devRef .tc r) :=
  after_of_writes_sub opsDynamic V (forall_writes_sub_of_map rfl) h

set_option maxRecDepth 8192 in
set_option maxHeartbeats 2000000 in
theorem dynamic_at (V : Valuation τ sig (Elt F)) :
    after opsDynamic V (Proc.devRef .tc main_v28) = dynamicOf (V (Proc.devRef .tc main_v20)) := by
  simp only [opsDynamic]
  after_results_simp
  generalize V (Proc.devRef .tc main_v20) = v20
  unfold dynamicOf
  all_goals try simp -implicitDefEqProofs only [TRef.ofBuf, TRef.toBuf, cast_cast, cast_eq]
  all_goals rfl

set_option maxRecDepth 8192 in
theorem opsOrder_sub : (opsOrder : List (HloOp τ sig (Elt F))).Forall fun op => op.bufs ⊆ tcRefs τ sig :=
  ⟨unary_bufs_sub .., nullary_bufs_sub .., binary_bufs_sub .., binary_bufs_sub ..⟩
set_option maxRecDepth 8192 in
theorem opsOrder_fresh : (opsOrder : List (HloOp τ sig (Elt F))).Forall fun op => op.fresh = ∅ :=
  forall_fresh_of_map rfl

/-- The buffers that the step writes. -/
abbrev opsOrderW : List (Ref sig .tc) := [main_v29, main_call0_v0, main_call0_v1_0, main_v30]
theorem opsOrder_keep (V : Valuation τ sig (Elt F)) (r : Ref sig .tc) (h : r ∉ opsOrderW) :
    after opsOrder V (Proc.devRef .tc r) = V (Proc.devRef .tc r) :=
  after_of_writes_sub opsOrder V (forall_writes_sub_of_map rfl) h

set_option maxRecDepth 8192 in
set_option maxHeartbeats 2000000 in
theorem order_at (V : Valuation τ sig (Elt F)) :
    after opsOrder V (Proc.devRef .tc main_v30) = orderOf (V (Proc.devRef .tc main_v20)) := by
  simp only [opsOrder]
  after_results_simp
  generalize V (Proc.devRef .tc main_v20) = v20
  unfold orderOf
  all_goals try simp -implicitDefEqProofs only [TRef.ofBuf, TRef.toBuf, cast_cast, cast_eq]
  all_goals rfl

set_option maxRecDepth 8192 in
theorem opsColumn_sub : (opsColumn : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub ..⟩
set_option maxRecDepth 8192 in
theorem opsColumn_fresh : (opsColumn : List (HloOp τ sig (Elt F))).Forall fun op => op.fresh = ∅ :=
  forall_fresh_of_map rfl

/-- The buffers that the step writes. -/
abbrev opsColumnW : List (Ref sig .tc) := [main_call1_c, main_call1_v0, main_call1_v1, main_call1_c_0, main_call1_v2, main_call1_v3, main_call1_v4, main_call1_v5]
theorem opsColumn_keep (V : Valuation τ sig (Elt F)) (r : Ref sig .tc) (h : r ∉ opsColumnW) :
    after opsColumn V (Proc.devRef .tc r) = V (Proc.devRef .tc r) :=
  after_of_writes_sub opsColumn V (forall_writes_sub_of_map rfl) h

set_option maxRecDepth 8192 in
set_option maxHeartbeats 2000000 in
theorem column_at (V : Valuation τ sig (Elt F)) :
    after opsColumn V (Proc.devRef .tc main_call1_v5) = columnOf (V (Proc.devRef .tc main_v30)) := by
  simp only [opsColumn]
  after_results_simp
  generalize V (Proc.devRef .tc main_v30) = v30
  unfold columnOf
  all_goals try simp -implicitDefEqProofs only [TRef.ofBuf, TRef.toBuf, cast_cast, cast_eq]
  all_goals rfl

set_option maxRecDepth 8192 in
theorem opsInside_sub : (opsInside : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩
set_option maxRecDepth 8192 in
theorem opsInside_fresh : (opsInside : List (HloOp τ sig (Elt F))).Forall fun op => op.fresh = ∅ :=
  forall_fresh_of_map rfl

/-- The buffers that the step writes. -/
abbrev opsInsideW : List (Ref sig .tc) := [main_call1_c_1, main_call1_c_2, main_call1_v6, main_call1_v7, main_call1_v8, main_call1_v9, main_call1_v10, main_call1_v11, main_call1_c_3, main_call1_v12]
theorem opsInside_keep (V : Valuation τ sig (Elt F)) (r : Ref sig .tc) (h : r ∉ opsInsideW) :
    after opsInside V (Proc.devRef .tc r) = V (Proc.devRef .tc r) :=
  after_of_writes_sub opsInside V (forall_writes_sub_of_map rfl) h

set_option maxRecDepth 8192 in
set_option maxHeartbeats 2000000 in
theorem inside_at (V : Valuation τ sig (Elt F)) :
    after opsInside V (Proc.devRef .tc main_call1_v12) = insideOf (V (Proc.devRef .tc main_call1_v5)) := by
  simp only [opsInside]
  after_results_simp
  generalize V (Proc.devRef .tc main_call1_v5) = call1_v5
  unfold insideOf
  all_goals try simp -implicitDefEqProofs only [TRef.ofBuf, TRef.toBuf, cast_cast, cast_eq]
  all_goals rfl

set_option maxRecDepth 8192 in
theorem opsSorted_sub : (opsSorted : List (HloOp τ sig (Elt F))).Forall fun op => op.bufs ⊆ tcRefs τ sig :=
  ⟨binary_bufs_sub .., nullary_bufs_sub .., unary_bufs_sub .., ternary_bufs_sub ..⟩
set_option maxRecDepth 8192 in
theorem opsSorted_fresh : (opsSorted : List (HloOp τ sig (Elt F))).Forall fun op => op.fresh = ∅ :=
  forall_fresh_of_map rfl

/-- The buffers that the step writes. -/
abbrev opsSortedW : List (Ref sig .tc) := [main_call1_v13, main_call1_cst, main_call1_v14, main_v31]
theorem opsSorted_keep (V : Valuation τ sig (Elt F)) (r : Ref sig .tc) (h : r ∉ opsSortedW) :
    after opsSorted V (Proc.devRef .tc r) = V (Proc.devRef .tc r) :=
  after_of_writes_sub opsSorted V (forall_writes_sub_of_map rfl) h

set_option maxRecDepth 8192 in
set_option maxHeartbeats 2000000 in
theorem sorted_at (V : Valuation τ sig (Elt F)) :
    after opsSorted V (Proc.devRef .tc main_v31) = sortedOf (V (Proc.devRef .tc main_v20)) (V (Proc.devRef .tc main_call1_v5)) (V (Proc.devRef .tc main_call1_v12)) := by
  simp only [opsSorted]
  after_results_simp
  generalize V (Proc.devRef .tc main_v20) = v20
  generalize V (Proc.devRef .tc main_call1_v5) = call1_v5
  generalize V (Proc.devRef .tc main_call1_v12) = call1_v12
  unfold sortedOf
  all_goals try simp -implicitDefEqProofs only [TRef.ofBuf, TRef.toBuf, cast_cast, cast_eq]
  all_goals rfl

set_option maxRecDepth 8192 in
theorem opsOver_sub : (opsOver : List (HloOp τ sig (Elt F))).Forall fun op => op.bufs ⊆ tcRefs τ sig :=
  ⟨nullary_bufs_sub .., unary_bufs_sub .., binary_bufs_sub .., nullary_bufs_sub .., unary_bufs_sub .., binary_bufs_sub ..⟩
set_option maxRecDepth 8192 in
theorem opsOver_fresh : (opsOver : List (HloOp τ sig (Elt F))).Forall fun op => op.fresh = ∅ :=
  forall_fresh_of_map rfl

/-- The buffers that the step writes. -/
abbrev opsOverW : List (Ref sig .tc) := [main_call2_call0_cst, main_call2_call0_v0, main_v32, main_cst_6, main_v33, main_v34]
theorem opsOver_keep (V : Valuation τ sig (Elt F)) (r : Ref sig .tc) (h : r ∉ opsOverW) :
    after opsOver V (Proc.devRef .tc r) = V (Proc.devRef .tc r) :=
  after_of_writes_sub opsOver V (forall_writes_sub_of_map rfl) h

set_option maxRecDepth 8192 in
set_option maxHeartbeats 2000000 in
theorem over_at (V : Valuation τ sig (Elt F)) :
    after opsOver V (Proc.devRef .tc main_v34) = overOf (V (Proc.devRef .tc main_v31)) := by
  simp only [opsOver]
  after_results_simp
  generalize V (Proc.devRef .tc main_v31) = v31
  unfold overOf
  all_goals try simp -implicitDefEqProofs only [TRef.ofBuf, TRef.toBuf, cast_cast, cast_eq]
  all_goals rfl

set_option maxRecDepth 8192 in
theorem opsFirst_sub : (opsFirst : List (HloOp τ sig (Elt F))).Forall fun op => op.bufs ⊆ tcRefs τ sig :=
  ⟨unary_bufs_sub .., nullary_bufs_sub .., nullary_bufs_sub .., nullary_bufs_sub .., quaternary_bufs_sub .., quaternary_bufs_sub ..⟩
set_option maxRecDepth 8192 in
theorem opsFirst_fresh : (opsFirst : List (HloOp τ sig (Elt F))).Forall fun op => op.fresh = ∅ :=
  forall_fresh_of_map rfl

/-- The buffers that the step writes. -/
abbrev opsFirstW : List (Ref sig .tc) := [main_v35, main_call3_v0, main_call3_c, main_call3_c_0, main_call3_v1_0, main_v36]
theorem opsFirst_keep (V : Valuation τ sig (Elt F)) (r : Ref sig .tc) (h : r ∉ opsFirstW) :
    after opsFirst V (Proc.devRef .tc r) = V (Proc.devRef .tc r) :=
  after_of_writes_sub opsFirst V (forall_writes_sub_of_map rfl) h

set_option maxRecDepth 8192 in
set_option maxHeartbeats 2000000 in
theorem first_at (V : Valuation τ sig (Elt F)) :
    after opsFirst V (Proc.devRef .tc main_v36) = firstOf (V (Proc.devRef .tc main_v34)) := by
  simp only [opsFirst]
  after_results_simp
  generalize V (Proc.devRef .tc main_v34) = v34
  unfold firstOf
  all_goals try simp -implicitDefEqProofs only [TRef.ofBuf, TRef.toBuf, cast_cast, cast_eq]
  all_goals rfl

set_option maxRecDepth 8192 in
theorem opsDropped_sub : (opsDropped : List (HloOp τ sig (Elt F))).Forall fun op => op.bufs ⊆ tcRefs τ sig :=
  ⟨unary_bufs_sub .., nullary_bufs_sub .., unary_bufs_sub .., unary_bufs_sub .., binary_bufs_sub .., unary_bufs_sub .., binary_bufs_sub ..⟩
set_option maxRecDepth 8192 in
theorem opsDropped_fresh : (opsDropped : List (HloOp τ sig (Elt F))).Forall fun op => op.fresh = ∅ :=
  forall_fresh_of_map rfl

/-- The buffers that the step writes. -/
abbrev opsDroppedW : List (Ref sig .tc) := [main_call4_v0, main_call4_v1, main_call4_v2, main_call4_v3, main_v37, main_v38, main_v39]
theorem opsDropped_keep (V : Valuation τ sig (Elt F)) (r : Ref sig .tc) (h : r ∉ opsDroppedW) :
    after opsDropped V (Proc.devRef .tc r) = V (Proc.devRef .tc r) :=
  after_of_writes_sub opsDropped V (forall_writes_sub_of_map rfl) h

set_option maxRecDepth 8192 in
set_option maxHeartbeats 2000000 in
theorem dropped_at (V : Valuation τ sig (Elt F)) :
    after opsDropped V (Proc.devRef .tc main_v39) = droppedOf (V (Proc.devRef .tc main_v34)) (V (Proc.devRef .tc main_v36)) := by
  simp only [opsDropped]
  after_results_simp
  generalize V (Proc.devRef .tc main_v34) = v34
  generalize V (Proc.devRef .tc main_v36) = v36
  unfold droppedOf
  all_goals try simp -implicitDefEqProofs only [TRef.ofBuf, TRef.toBuf, cast_cast, cast_eq]
  all_goals rfl

set_option maxRecDepth 8192 in
theorem opsKept_sub : (opsKept : List (HloOp τ sig (Elt F))).Forall fun op => op.bufs ⊆ tcRefs τ sig :=
  ⟨unary_bufs_sub .., nullary_bufs_sub .., binary_bufs_sub .., binary_bufs_sub ..⟩
set_option maxRecDepth 8192 in
theorem opsKept_fresh : (opsKept : List (HloOp τ sig (Elt F))).Forall fun op => op.fresh = ∅ :=
  forall_fresh_of_map rfl

/-- The buffers that the step writes. -/
abbrev opsKeptW : List (Ref sig .tc) := [main_v40, main_call5_v0, main_call5_v1_0, main_v41]
theorem opsKept_keep (V : Valuation τ sig (Elt F)) (r : Ref sig .tc) (h : r ∉ opsKeptW) :
    after opsKept V (Proc.devRef .tc r) = V (Proc.devRef .tc r) :=
  after_of_writes_sub opsKept V (forall_writes_sub_of_map rfl) h

set_option maxRecDepth 8192 in
set_option maxHeartbeats 2000000 in
theorem kept_at (V : Valuation τ sig (Elt F)) :
    after opsKept V (Proc.devRef .tc main_v40) = keptOf (V (Proc.devRef .tc main_v39)) := by
  simp only [opsKept]
  after_results_simp
  generalize V (Proc.devRef .tc main_v39) = v39
  unfold keptOf
  all_goals try simp -implicitDefEqProofs only [TRef.ofBuf, TRef.toBuf, cast_cast, cast_eq]
  all_goals rfl

set_option maxRecDepth 8192 in
set_option maxHeartbeats 2000000 in
theorem inverse_at (V : Valuation τ sig (Elt F)) :
    after opsKept V (Proc.devRef .tc main_v41) = inverseOf (V (Proc.devRef .tc main_v30)) := by
  simp only [opsKept]
  after_results_simp
  generalize V (Proc.devRef .tc main_v30) = v30
  unfold inverseOf
  all_goals try simp -implicitDefEqProofs only [TRef.ofBuf, TRef.toBuf, cast_cast, cast_eq]
  all_goals rfl

set_option maxRecDepth 8192 in
theorem opsBack_sub : (opsBack : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub ..⟩
set_option maxRecDepth 8192 in
theorem opsBack_fresh : (opsBack : List (HloOp τ sig (Elt F))).Forall fun op => op.fresh = ∅ :=
  forall_fresh_of_map rfl

/-- The buffers that the step writes. -/
abbrev opsBackW : List (Ref sig .tc) := [main_call6_c, main_call6_v0, main_call6_v1, main_call6_c_0, main_call6_v2, main_call6_v3, main_call6_v4, main_call6_v5]
theorem opsBack_keep (V : Valuation τ sig (Elt F)) (r : Ref sig .tc) (h : r ∉ opsBackW) :
    after opsBack V (Proc.devRef .tc r) = V (Proc.devRef .tc r) :=
  after_of_writes_sub opsBack V (forall_writes_sub_of_map rfl) h

set_option maxRecDepth 8192 in
set_option maxHeartbeats 2000000 in
theorem back_at (V : Valuation τ sig (Elt F)) :
    after opsBack V (Proc.devRef .tc main_call6_v5) = backOf (V (Proc.devRef .tc main_v41)) := by
  simp only [opsBack]
  after_results_simp
  generalize V (Proc.devRef .tc main_v41) = v41
  unfold backOf
  all_goals try simp -implicitDefEqProofs only [TRef.ofBuf, TRef.toBuf, cast_cast, cast_eq]
  all_goals rfl

set_option maxRecDepth 8192 in
theorem opsBackIn_sub : (opsBackIn : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩
set_option maxRecDepth 8192 in
theorem opsBackIn_fresh : (opsBackIn : List (HloOp τ sig (Elt F))).Forall fun op => op.fresh = ∅ :=
  forall_fresh_of_map rfl

/-- The buffers that the step writes. -/
abbrev opsBackInW : List (Ref sig .tc) := [main_call6_c_1, main_call6_c_2, main_call6_v6, main_call6_v7, main_call6_v8, main_call6_v9, main_call6_v10, main_call6_v11, main_call6_c_3, main_call6_v12]
theorem opsBackIn_keep (V : Valuation τ sig (Elt F)) (r : Ref sig .tc) (h : r ∉ opsBackInW) :
    after opsBackIn V (Proc.devRef .tc r) = V (Proc.devRef .tc r) :=
  after_of_writes_sub opsBackIn V (forall_writes_sub_of_map rfl) h

set_option maxRecDepth 8192 in
set_option maxHeartbeats 2000000 in
theorem backIn_at (V : Valuation τ sig (Elt F)) :
    after opsBackIn V (Proc.devRef .tc main_call6_v12) = backInOf (V (Proc.devRef .tc main_call6_v5)) := by
  simp only [opsBackIn]
  after_results_simp
  generalize V (Proc.devRef .tc main_call6_v5) = call6_v5
  unfold backInOf
  all_goals try simp -implicitDefEqProofs only [TRef.ofBuf, TRef.toBuf, cast_cast, cast_eq]
  all_goals rfl

set_option maxRecDepth 8192 in
theorem opsGates_sub : (opsGates : List (HloOp τ sig (Elt F))).Forall fun op => op.bufs ⊆ tcRefs τ sig :=
  ⟨binary_bufs_sub .., nullary_bufs_sub .., unary_bufs_sub .., ternary_bufs_sub ..⟩
set_option maxRecDepth 8192 in
theorem opsGates_fresh : (opsGates : List (HloOp τ sig (Elt F))).Forall fun op => op.fresh = ∅ :=
  forall_fresh_of_map rfl

/-- The buffers that the step writes. -/
abbrev opsGatesW : List (Ref sig .tc) := [main_call6_v13, main_call6_c_4, main_call6_v14, main_v42]
theorem opsGates_keep (V : Valuation τ sig (Elt F)) (r : Ref sig .tc) (h : r ∉ opsGatesW) :
    after opsGates V (Proc.devRef .tc r) = V (Proc.devRef .tc r) :=
  after_of_writes_sub opsGates V (forall_writes_sub_of_map rfl) h

set_option maxRecDepth 8192 in
set_option maxHeartbeats 2000000 in
theorem gates_at (V : Valuation τ sig (Elt F)) :
    after opsGates V (Proc.devRef .tc main_v42) = gatesOf (V (Proc.devRef .tc main_v40)) (V (Proc.devRef .tc main_call6_v5)) (V (Proc.devRef .tc main_call6_v12)) := by
  simp only [opsGates]
  after_results_simp
  generalize V (Proc.devRef .tc main_v40) = v40
  generalize V (Proc.devRef .tc main_call6_v5) = call6_v5
  generalize V (Proc.devRef .tc main_call6_v12) = call6_v12
  unfold gatesOf
  all_goals try simp -implicitDefEqProofs only [TRef.ofBuf, TRef.toBuf, cast_cast, cast_eq]
  all_goals rfl

set_option maxRecDepth 8192 in
theorem opsMass_sub : (opsMass : List (HloOp τ sig (Elt F))).Forall fun op => op.bufs ⊆ tcRefs τ sig :=
  ⟨nullary_bufs_sub .., unary_bufs_sub .., unary_bufs_sub .., ternary_bufs_sub .., nullary_bufs_sub .., binary_bufs_sub ..⟩
set_option maxRecDepth 8192 in
theorem opsMass_fresh : (opsMass : List (HloOp τ sig (Elt F))).Forall fun op => op.fresh = ∅ :=
  forall_fresh_of_map rfl

/-- The buffers that the step writes. -/
abbrev opsMassW : List (Ref sig .tc) := [main_cst_7, main_call7_v0, main_call7_v1, main_v43, main_cst_8, main_v44]
theorem opsMass_keep (V : Valuation τ sig (Elt F)) (r : Ref sig .tc) (h : r ∉ opsMassW) :
    after opsMass V (Proc.devRef .tc r) = V (Proc.devRef .tc r) :=
  after_of_writes_sub opsMass V (forall_writes_sub_of_map rfl) h

set_option maxRecDepth 8192 in
set_option maxHeartbeats 2000000 in
theorem mass_at (V : Valuation τ sig (Elt F)) :
    after opsMass V (Proc.devRef .tc main_v44) = massOf (V (Proc.devRef .tc main_v39)) (V (Proc.devRef .tc main_v31)) := by
  simp only [opsMass]
  after_results_simp
  generalize V (Proc.devRef .tc main_v39) = v39
  generalize V (Proc.devRef .tc main_v31) = v31
  unfold massOf
  all_goals try simp -implicitDefEqProofs only [TRef.ofBuf, TRef.toBuf, cast_cast, cast_eq]
  all_goals rfl

set_option maxRecDepth 8192 in
theorem opsVariance_sub : (opsVariance : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub ..⟩
set_option maxRecDepth 8192 in
theorem opsVariance_fresh : (opsVariance : List (HloOp τ sig (Elt F))).Forall fun op => op.fresh = ∅ :=
  forall_fresh_of_map rfl

/-- The buffers that the step writes. -/
abbrev opsVarianceW : List (Ref sig .tc) := [main_c_9, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_cst_3, main_call8_v11, main_call8_cst_4, main_call8_call0_v0, main_v45]
theorem opsVariance_keep (V : Valuation τ sig (Elt F)) (r : Ref sig .tc) (h : r ∉ opsVarianceW) :
    after opsVariance V (Proc.devRef .tc r) = V (Proc.devRef .tc r) :=
  after_of_writes_sub opsVariance V (forall_writes_sub_of_map rfl) h

set_option maxRecDepth 8192 in
set_option maxHeartbeats 2000000 in
theorem variance_at (V : Valuation τ sig (Elt F)) :
    after opsVariance V (Proc.devRef .tc main_v45) = varianceOf (V (Proc.devRef .tc main_v44)) := by
  simp only [opsVariance]
  after_results_simp
  generalize V (Proc.devRef .tc main_v44) = v44
  unfold varianceOf
  all_goals try simp -implicitDefEqProofs only [TRef.ofBuf, TRef.toBuf, cast_cast, cast_eq]
  all_goals rfl

set_option maxRecDepth 8192 in
theorem opsTotal_sub : (opsTotal : List (HloOp τ sig (Elt F))).Forall fun op => op.bufs ⊆ tcRefs τ sig :=
  ⟨nullary_bufs_sub .., binary_bufs_sub ..⟩
set_option maxRecDepth 8192 in
theorem opsTotal_fresh : (opsTotal : List (HloOp τ sig (Elt F))).Forall fun op => op.fresh = ∅ :=
  forall_fresh_of_map rfl

/-- The buffers that the step writes. -/
abbrev opsTotalW : List (Ref sig .tc) := [main_cst_10, main_v46]
theorem opsTotal_keep (V : Valuation τ sig (Elt F)) (r : Ref sig .tc) (h : r ∉ opsTotalW) :
    after opsTotal V (Proc.devRef .tc r) = V (Proc.devRef .tc r) :=
  after_of_writes_sub opsTotal V (forall_writes_sub_of_map rfl) h

set_option maxRecDepth 8192 in
set_option maxHeartbeats 2000000 in
theorem total_at (V : Valuation τ sig (Elt F)) :
    after opsTotal V (Proc.devRef .tc main_v46) = totalOf (V (Proc.devRef .tc main_v44)) := by
  simp only [opsTotal]
  after_results_simp
  generalize V (Proc.devRef .tc main_v44) = v44
  unfold totalOf
  all_goals try simp -implicitDefEqProofs only [TRef.ofBuf, TRef.toBuf, cast_cast, cast_eq]
  all_goals rfl

set_option maxRecDepth 8192 in
theorem opsLoss_sub : (opsLoss : List (HloOp τ sig (Elt F))).Forall fun op => op.bufs ⊆ tcRefs τ sig :=
  ⟨nullary_bufs_sub .., binary_bufs_sub .., binary_bufs_sub .., nullary_bufs_sub .., binary_bufs_sub .., binary_bufs_sub .., nullary_bufs_sub .., binary_bufs_sub .., binary_bufs_sub ..⟩
set_option maxRecDepth 8192 in
theorem opsLoss_fresh : (opsLoss : List (HloOp τ sig (Elt F))).Forall fun op => op.fresh = ∅ :=
  forall_fresh_of_map rfl

/-- The buffers that the step writes. -/
abbrev opsLossW : List (Ref sig .tc) := [main_cst_11, main_v47, main_v48, main_cst_12, main_v49, main_v50, main_cst_13, main_v51, main_v52]
theorem opsLoss_keep (V : Valuation τ sig (Elt F)) (r : Ref sig .tc) (h : r ∉ opsLossW) :
    after opsLoss V (Proc.devRef .tc r) = V (Proc.devRef .tc r) :=
  after_of_writes_sub opsLoss V (forall_writes_sub_of_map rfl) h

set_option maxRecDepth 8192 in
set_option maxHeartbeats 2000000 in
theorem loss_at (V : Valuation τ sig (Elt F)) :
    after opsLoss V (Proc.devRef .tc main_v52) = lossOf (V (Proc.devRef .tc main_v45)) (V (Proc.devRef .tc main_v46)) (V (Proc.devRef .tc main_v28)) := by
  simp only [opsLoss]
  after_results_simp
  generalize V (Proc.devRef .tc main_v45) = v45
  generalize V (Proc.devRef .tc main_v46) = v46
  generalize V (Proc.devRef .tc main_v28) = v28
  unfold lossOf
  all_goals try simp -implicitDefEqProofs only [TRef.ofBuf, TRef.toBuf, cast_cast, cast_eq]
  all_goals rfl

set_option maxRecDepth 8192 in
theorem opsOut_sub : (opsOut : List (HloOp τ sig (Elt F))).Forall fun op => op.bufs ⊆ tcRefs τ sig :=
  ⟨reshape_bufs_sub .., unary_bufs_sub .., binary_bufs_sub .., unary_bufs_sub .., unary_bufs_sub .., binary_bufs_sub ..⟩
set_option maxRecDepth 8192 in
theorem opsOut_fresh : (opsOut : List (HloOp τ sig (Elt F))).Forall fun op => op.fresh = ∅ :=
  forall_fresh_of_map rfl

/-- The buffers that the step writes. -/
abbrev opsOutW : List (Ref sig .tc) := [main_v53, main_v54, main_v55, main_v56, main_v57, main_v58]
theorem opsOut_keep (V : Valuation τ sig (Elt F)) (r : Ref sig .tc) (h : r ∉ opsOutW) :
    after opsOut V (Proc.devRef .tc r) = V (Proc.devRef .tc r) :=
  after_of_writes_sub opsOut V (forall_writes_sub_of_map rfl) h

set_option maxRecDepth 8192 in
set_option maxHeartbeats 2000000 in
theorem blended_at (V : Valuation τ sig (Elt F)) :
    after opsOut V (Proc.devRef .tc main_v58) = blendedOf (V (Proc.devRef .tc main_arg1)) (V (Proc.devRef .tc main_v42)) (V (Proc.devRef .tc main_v6)) := by
  simp only [opsOut]
  after_results_simp
  generalize V (Proc.devRef .tc main_arg1) = masks
  generalize V (Proc.devRef .tc main_v42) = v42
  generalize V (Proc.devRef .tc main_v6) = v6
  unfold blendedOf
  all_goals try simp -implicitDefEqProofs only [TRef.ofBuf, TRef.toBuf, cast_cast, cast_eq]
  all_goals rfl

/-! ## The steps in order -/

/-- The contents after step 1. -/
def st1 (V : Valuation τ sig (Elt F)) : Valuation τ sig (Elt F) := after opsEye V
/-- The contents after step 2. -/
def st2 (V : Valuation τ sig (Elt F)) : Valuation τ sig (Elt F) := after opsSoftmax (st1 V)
/-- The contents after step 3. -/
def st3 (V : Valuation τ sig (Elt F)) : Valuation τ sig (Elt F) := after opsDynamic (st2 V)
/-- The contents after step 4. -/
def st4 (V : Valuation τ sig (Elt F)) : Valuation τ sig (Elt F) := after opsOrder (st3 V)
/-- The contents after step 5. -/
def st5 (V : Valuation τ sig (Elt F)) : Valuation τ sig (Elt F) := after opsColumn (st4 V)
/-- The contents after step 6. -/
def st6 (V : Valuation τ sig (Elt F)) : Valuation τ sig (Elt F) := after opsInside (st5 V)
/-- The contents after step 7. -/
def st7 (V : Valuation τ sig (Elt F)) : Valuation τ sig (Elt F) := after opsSorted (st6 V)
/-- The contents after step 8. -/
def st8 (V : Valuation τ sig (Elt F)) : Valuation τ sig (Elt F) := after opsOver (st7 V)
/-- The contents after step 9. -/
def st9 (V : Valuation τ sig (Elt F)) : Valuation τ sig (Elt F) := after opsFirst (st8 V)
/-- The contents after step 10. -/
def st10 (V : Valuation τ sig (Elt F)) : Valuation τ sig (Elt F) := after opsDropped (st9 V)
/-- The contents after step 11. -/
def st11 (V : Valuation τ sig (Elt F)) : Valuation τ sig (Elt F) := after opsKept (st10 V)
/-- The contents after step 12. -/
def st12 (V : Valuation τ sig (Elt F)) : Valuation τ sig (Elt F) := after opsBack (st11 V)
/-- The contents after step 13. -/
def st13 (V : Valuation τ sig (Elt F)) : Valuation τ sig (Elt F) := after opsBackIn (st12 V)
/-- The contents after step 14. -/
def st14 (V : Valuation τ sig (Elt F)) : Valuation τ sig (Elt F) := after opsGates (st13 V)
/-- The contents after step 15. -/
def st15 (V : Valuation τ sig (Elt F)) : Valuation τ sig (Elt F) := after opsMass (st14 V)
/-- The contents after step 16. -/
def st16 (V : Valuation τ sig (Elt F)) : Valuation τ sig (Elt F) := after opsVariance (st15 V)
/-- The contents after step 17. -/
def st17 (V : Valuation τ sig (Elt F)) : Valuation τ sig (Elt F) := after opsTotal (st16 V)
/-- The contents after step 18. -/
def st18 (V : Valuation τ sig (Elt F)) : Valuation τ sig (Elt F) := after opsLoss (st17 V)
/-- The contents after step 19. -/
def st19 (V : Valuation τ sig (Elt F)) : Valuation τ sig (Elt F) := after opsOut (st18 V)

theorem after_all (V : Valuation τ sig (Elt F)) : after (opsA ++ opsB) V = st19 V := by
  simp only [opsA, opsB, after_append]
  rfl

/-! ## The values of the steps, as functions of the arguments -/

/-- The identity matrix, as one head, of the contents at the start. -/
def v6V (V : Valuation τ sig (Elt F)) : Arr F S1x1x1024x1024 .f32 := eyeOf

/-- The softmax over the experts of the logits of x (x) against the gate weights (w), of the contents at the start. -/
def v20V (V : Valuation τ sig (Elt F)) : Arr F S32x1024x8 .f32 := softmaxOf (V (Proc.devRef .tc main_arg0)) (V (Proc.devRef .tc main_arg2))

/-- The mean entropy of the probabilities, of the contents at the start. -/
def v28V (V : Valuation τ sig (Elt F)) : Arr F S_ .f32 := dynamicOf (v20V V)

/-- The experts in descending order of probability, of the contents at the start. -/
def v30V (V : Valuation τ sig (Elt F)) : Arr F S32x1024x8 .i32 := orderOf (v20V V)

/-- The positions to read, as a column, negative ones counted from the end, of the contents at the start. -/
def call1_v5V (V : Valuation τ sig (Elt F)) : Arr F S32x1024x8x1 .i32 := columnOf (v30V V)

/-- Which positions lie in range, of the contents at the start. -/
def call1_v12V (V : Valuation τ sig (Elt F)) : Arr F S32x1024x8 .i1 := insideOf (call1_v5V V)

/-- The probabilities, read at the positions, of the contents at the start. -/
def v31V (V : Valuation τ sig (Elt F)) : Arr F S32x1024x8 .f32 := sortedOf (v20V V) (call1_v5V V) (call1_v12V V)

/-- Where the running sum exceeds one half, of the contents at the start. -/
def v34V (V : Valuation τ sig (Elt F)) : Arr F S32x1024x8 .i1 := overOf (v31V V)

/-- The first place where the sum exceeds one half, of the contents at the start. -/
def v36V (V : Valuation τ sig (Elt F)) : Arr F S32x1024 .i32 := firstOf (v34V V)

/-- What is over the threshold and not the first such place, of the contents at the start. -/
def v39V (V : Valuation τ sig (Elt F)) : Arr F S32x1024x8 .i1 := droppedOf (v34V V) (v36V V)

/-- What is not dropped, of the contents at the start. -/
def v40V (V : Valuation τ sig (Elt F)) : Arr F S32x1024x8 .i1 := keptOf (v39V V)

/-- The place of each expert in the order, of the contents at the start. -/
def v41V (V : Valuation τ sig (Elt F)) : Arr F S32x1024x8 .i32 := inverseOf (v30V V)

/-- The positions to read, as a column, negative ones counted from the end, of the contents at the start. -/
def call6_v5V (V : Valuation τ sig (Elt F)) : Arr F S32x1024x8x1 .i32 := backOf (v41V V)

/-- Which positions lie in range, of the contents at the start. -/
def call6_v12V (V : Valuation τ sig (Elt F)) : Arr F S32x1024x8 .i1 := backInOf (call6_v5V V)

/-- The gates, put back in the order of the experts, of the contents at the start. -/
def v42V (V : Valuation τ sig (Elt F)) : Arr F S32x1024x8 .i1 := gatesOf (v40V V) (call6_v5V V) (call6_v12V V)

/-- The kept sorted probabilities, summed over the heads, of the contents at the start. -/
def v44V (V : Valuation τ sig (Elt F)) : Arr F S1024x8 .f32 := massOf (v39V V) (v31V V)

/-- The unbiased variance, of the contents at the start. -/
def v45V (V : Valuation τ sig (Elt F)) : Arr F S_ .f32 := varianceOf (v44V V)

/-- The sum, of the contents at the start. -/
def v46V (V : Valuation τ sig (Elt F)) : Arr F S_ .f32 := totalOf (v44V V)

/-- The loss, from the variance, the sum and the mean entropy, of the contents at the start. -/
def v52V (V : Valuation τ sig (Elt F)) : Arr F S_ .f32 := lossOf (v45V V) (v46V V) (v28V V)

/-- The gated masks added up, plus the identity, of the contents at the start. -/
def v58V (V : Valuation τ sig (Elt F)) : Arr F S2x16x1024x1024 .f32 := blendedOf (V (Proc.devRef .tc main_arg1)) (v42V V) (v6V V)

theorem st1_x (V : Valuation τ sig (Elt F)) : st1 V (Proc.devRef .tc main_arg0) = (V (Proc.devRef .tc main_arg0)) :=
  (opsEye_keep (V) main_arg0 (by decide))
theorem st1_masks (V : Valuation τ sig (Elt F)) : st1 V (Proc.devRef .tc main_arg1) = (V (Proc.devRef .tc main_arg1)) :=
  (opsEye_keep (V) main_arg1 (by decide))
theorem st1_w (V : Valuation τ sig (Elt F)) : st1 V (Proc.devRef .tc main_arg2) = (V (Proc.devRef .tc main_arg2)) :=
  (opsEye_keep (V) main_arg2 (by decide))
theorem st1_arg3 (V : Valuation τ sig (Elt F)) : st1 V (Proc.devRef .tc main_arg3) = (V (Proc.devRef .tc main_arg3)) :=
  (opsEye_keep (V) main_arg3 (by decide))
theorem st1_v6 (V : Valuation τ sig (Elt F)) : st1 V (Proc.devRef .tc main_v6) = (v6V V) :=
  eye_at V
theorem st2_x (V : Valuation τ sig (Elt F)) : st2 V (Proc.devRef .tc main_arg0) = (V (Proc.devRef .tc main_arg0)) :=
  (opsSoftmax_keep (st1 V) main_arg0 (by decide)).trans (st1_x V)
theorem st2_masks (V : Valuation τ sig (Elt F)) : st2 V (Proc.devRef .tc main_arg1) = (V (Proc.devRef .tc main_arg1)) :=
  (opsSoftmax_keep (st1 V) main_arg1 (by decide)).trans (st1_masks V)
theorem st2_w (V : Valuation τ sig (Elt F)) : st2 V (Proc.devRef .tc main_arg2) = (V (Proc.devRef .tc main_arg2)) :=
  (opsSoftmax_keep (st1 V) main_arg2 (by decide)).trans (st1_w V)
theorem st2_arg3 (V : Valuation τ sig (Elt F)) : st2 V (Proc.devRef .tc main_arg3) = (V (Proc.devRef .tc main_arg3)) :=
  (opsSoftmax_keep (st1 V) main_arg3 (by decide)).trans (st1_arg3 V)
theorem st2_v6 (V : Valuation τ sig (Elt F)) : st2 V (Proc.devRef .tc main_v6) = (v6V V) :=
  (opsSoftmax_keep (st1 V) main_v6 (by decide)).trans (st1_v6 V)
theorem st2_v20 (V : Valuation τ sig (Elt F)) : st2 V (Proc.devRef .tc main_v20) = (v20V V) := by
  refine (softmax_at (st1 V)).trans ?_
  rw [st1_x, st1_w]
  rfl
theorem st3_x (V : Valuation τ sig (Elt F)) : st3 V (Proc.devRef .tc main_arg0) = (V (Proc.devRef .tc main_arg0)) :=
  (opsDynamic_keep (st2 V) main_arg0 (by decide)).trans (st2_x V)
theorem st3_masks (V : Valuation τ sig (Elt F)) : st3 V (Proc.devRef .tc main_arg1) = (V (Proc.devRef .tc main_arg1)) :=
  (opsDynamic_keep (st2 V) main_arg1 (by decide)).trans (st2_masks V)
theorem st3_w (V : Valuation τ sig (Elt F)) : st3 V (Proc.devRef .tc main_arg2) = (V (Proc.devRef .tc main_arg2)) :=
  (opsDynamic_keep (st2 V) main_arg2 (by decide)).trans (st2_w V)
theorem st3_arg3 (V : Valuation τ sig (Elt F)) : st3 V (Proc.devRef .tc main_arg3) = (V (Proc.devRef .tc main_arg3)) :=
  (opsDynamic_keep (st2 V) main_arg3 (by decide)).trans (st2_arg3 V)
theorem st3_v6 (V : Valuation τ sig (Elt F)) : st3 V (Proc.devRef .tc main_v6) = (v6V V) :=
  (opsDynamic_keep (st2 V) main_v6 (by decide)).trans (st2_v6 V)
theorem st3_v20 (V : Valuation τ sig (Elt F)) : st3 V (Proc.devRef .tc main_v20) = (v20V V) :=
  (opsDynamic_keep (st2 V) main_v20 (by decide)).trans (st2_v20 V)
theorem st3_v28 (V : Valuation τ sig (Elt F)) : st3 V (Proc.devRef .tc main_v28) = (v28V V) := by
  refine (dynamic_at (st2 V)).trans ?_
  rw [st2_v20]
  rfl
theorem st4_x (V : Valuation τ sig (Elt F)) : st4 V (Proc.devRef .tc main_arg0) = (V (Proc.devRef .tc main_arg0)) :=
  (opsOrder_keep (st3 V) main_arg0 (by decide)).trans (st3_x V)
theorem st4_masks (V : Valuation τ sig (Elt F)) : st4 V (Proc.devRef .tc main_arg1) = (V (Proc.devRef .tc main_arg1)) :=
  (opsOrder_keep (st3 V) main_arg1 (by decide)).trans (st3_masks V)
theorem st4_w (V : Valuation τ sig (Elt F)) : st4 V (Proc.devRef .tc main_arg2) = (V (Proc.devRef .tc main_arg2)) :=
  (opsOrder_keep (st3 V) main_arg2 (by decide)).trans (st3_w V)
theorem st4_arg3 (V : Valuation τ sig (Elt F)) : st4 V (Proc.devRef .tc main_arg3) = (V (Proc.devRef .tc main_arg3)) :=
  (opsOrder_keep (st3 V) main_arg3 (by decide)).trans (st3_arg3 V)
theorem st4_v6 (V : Valuation τ sig (Elt F)) : st4 V (Proc.devRef .tc main_v6) = (v6V V) :=
  (opsOrder_keep (st3 V) main_v6 (by decide)).trans (st3_v6 V)
theorem st4_v20 (V : Valuation τ sig (Elt F)) : st4 V (Proc.devRef .tc main_v20) = (v20V V) :=
  (opsOrder_keep (st3 V) main_v20 (by decide)).trans (st3_v20 V)
theorem st4_v28 (V : Valuation τ sig (Elt F)) : st4 V (Proc.devRef .tc main_v28) = (v28V V) :=
  (opsOrder_keep (st3 V) main_v28 (by decide)).trans (st3_v28 V)
theorem st4_v30 (V : Valuation τ sig (Elt F)) : st4 V (Proc.devRef .tc main_v30) = (v30V V) := by
  refine (order_at (st3 V)).trans ?_
  rw [st3_v20]
  rfl
theorem st5_x (V : Valuation τ sig (Elt F)) : st5 V (Proc.devRef .tc main_arg0) = (V (Proc.devRef .tc main_arg0)) :=
  (opsColumn_keep (st4 V) main_arg0 (by decide)).trans (st4_x V)
theorem st5_masks (V : Valuation τ sig (Elt F)) : st5 V (Proc.devRef .tc main_arg1) = (V (Proc.devRef .tc main_arg1)) :=
  (opsColumn_keep (st4 V) main_arg1 (by decide)).trans (st4_masks V)
theorem st5_w (V : Valuation τ sig (Elt F)) : st5 V (Proc.devRef .tc main_arg2) = (V (Proc.devRef .tc main_arg2)) :=
  (opsColumn_keep (st4 V) main_arg2 (by decide)).trans (st4_w V)
theorem st5_arg3 (V : Valuation τ sig (Elt F)) : st5 V (Proc.devRef .tc main_arg3) = (V (Proc.devRef .tc main_arg3)) :=
  (opsColumn_keep (st4 V) main_arg3 (by decide)).trans (st4_arg3 V)
theorem st5_v6 (V : Valuation τ sig (Elt F)) : st5 V (Proc.devRef .tc main_v6) = (v6V V) :=
  (opsColumn_keep (st4 V) main_v6 (by decide)).trans (st4_v6 V)
theorem st5_v20 (V : Valuation τ sig (Elt F)) : st5 V (Proc.devRef .tc main_v20) = (v20V V) :=
  (opsColumn_keep (st4 V) main_v20 (by decide)).trans (st4_v20 V)
theorem st5_v28 (V : Valuation τ sig (Elt F)) : st5 V (Proc.devRef .tc main_v28) = (v28V V) :=
  (opsColumn_keep (st4 V) main_v28 (by decide)).trans (st4_v28 V)
theorem st5_v30 (V : Valuation τ sig (Elt F)) : st5 V (Proc.devRef .tc main_v30) = (v30V V) :=
  (opsColumn_keep (st4 V) main_v30 (by decide)).trans (st4_v30 V)
theorem st5_call1_v5 (V : Valuation τ sig (Elt F)) : st5 V (Proc.devRef .tc main_call1_v5) = (call1_v5V V) := by
  refine (column_at (st4 V)).trans ?_
  rw [st4_v30]
  rfl
theorem st6_x (V : Valuation τ sig (Elt F)) : st6 V (Proc.devRef .tc main_arg0) = (V (Proc.devRef .tc main_arg0)) :=
  (opsInside_keep (st5 V) main_arg0 (by decide)).trans (st5_x V)
theorem st6_masks (V : Valuation τ sig (Elt F)) : st6 V (Proc.devRef .tc main_arg1) = (V (Proc.devRef .tc main_arg1)) :=
  (opsInside_keep (st5 V) main_arg1 (by decide)).trans (st5_masks V)
theorem st6_w (V : Valuation τ sig (Elt F)) : st6 V (Proc.devRef .tc main_arg2) = (V (Proc.devRef .tc main_arg2)) :=
  (opsInside_keep (st5 V) main_arg2 (by decide)).trans (st5_w V)
theorem st6_arg3 (V : Valuation τ sig (Elt F)) : st6 V (Proc.devRef .tc main_arg3) = (V (Proc.devRef .tc main_arg3)) :=
  (opsInside_keep (st5 V) main_arg3 (by decide)).trans (st5_arg3 V)
theorem st6_v6 (V : Valuation τ sig (Elt F)) : st6 V (Proc.devRef .tc main_v6) = (v6V V) :=
  (opsInside_keep (st5 V) main_v6 (by decide)).trans (st5_v6 V)
theorem st6_v20 (V : Valuation τ sig (Elt F)) : st6 V (Proc.devRef .tc main_v20) = (v20V V) :=
  (opsInside_keep (st5 V) main_v20 (by decide)).trans (st5_v20 V)
theorem st6_v28 (V : Valuation τ sig (Elt F)) : st6 V (Proc.devRef .tc main_v28) = (v28V V) :=
  (opsInside_keep (st5 V) main_v28 (by decide)).trans (st5_v28 V)
theorem st6_v30 (V : Valuation τ sig (Elt F)) : st6 V (Proc.devRef .tc main_v30) = (v30V V) :=
  (opsInside_keep (st5 V) main_v30 (by decide)).trans (st5_v30 V)
theorem st6_call1_v5 (V : Valuation τ sig (Elt F)) : st6 V (Proc.devRef .tc main_call1_v5) = (call1_v5V V) :=
  (opsInside_keep (st5 V) main_call1_v5 (by decide)).trans (st5_call1_v5 V)
theorem st6_call1_v12 (V : Valuation τ sig (Elt F)) : st6 V (Proc.devRef .tc main_call1_v12) = (call1_v12V V) := by
  refine (inside_at (st5 V)).trans ?_
  rw [st5_call1_v5]
  rfl
theorem st7_x (V : Valuation τ sig (Elt F)) : st7 V (Proc.devRef .tc main_arg0) = (V (Proc.devRef .tc main_arg0)) :=
  (opsSorted_keep (st6 V) main_arg0 (by decide)).trans (st6_x V)
theorem st7_masks (V : Valuation τ sig (Elt F)) : st7 V (Proc.devRef .tc main_arg1) = (V (Proc.devRef .tc main_arg1)) :=
  (opsSorted_keep (st6 V) main_arg1 (by decide)).trans (st6_masks V)
theorem st7_w (V : Valuation τ sig (Elt F)) : st7 V (Proc.devRef .tc main_arg2) = (V (Proc.devRef .tc main_arg2)) :=
  (opsSorted_keep (st6 V) main_arg2 (by decide)).trans (st6_w V)
theorem st7_arg3 (V : Valuation τ sig (Elt F)) : st7 V (Proc.devRef .tc main_arg3) = (V (Proc.devRef .tc main_arg3)) :=
  (opsSorted_keep (st6 V) main_arg3 (by decide)).trans (st6_arg3 V)
theorem st7_v6 (V : Valuation τ sig (Elt F)) : st7 V (Proc.devRef .tc main_v6) = (v6V V) :=
  (opsSorted_keep (st6 V) main_v6 (by decide)).trans (st6_v6 V)
theorem st7_v20 (V : Valuation τ sig (Elt F)) : st7 V (Proc.devRef .tc main_v20) = (v20V V) :=
  (opsSorted_keep (st6 V) main_v20 (by decide)).trans (st6_v20 V)
theorem st7_v28 (V : Valuation τ sig (Elt F)) : st7 V (Proc.devRef .tc main_v28) = (v28V V) :=
  (opsSorted_keep (st6 V) main_v28 (by decide)).trans (st6_v28 V)
theorem st7_v30 (V : Valuation τ sig (Elt F)) : st7 V (Proc.devRef .tc main_v30) = (v30V V) :=
  (opsSorted_keep (st6 V) main_v30 (by decide)).trans (st6_v30 V)
theorem st7_call1_v5 (V : Valuation τ sig (Elt F)) : st7 V (Proc.devRef .tc main_call1_v5) = (call1_v5V V) :=
  (opsSorted_keep (st6 V) main_call1_v5 (by decide)).trans (st6_call1_v5 V)
theorem st7_call1_v12 (V : Valuation τ sig (Elt F)) : st7 V (Proc.devRef .tc main_call1_v12) = (call1_v12V V) :=
  (opsSorted_keep (st6 V) main_call1_v12 (by decide)).trans (st6_call1_v12 V)
theorem st7_v31 (V : Valuation τ sig (Elt F)) : st7 V (Proc.devRef .tc main_v31) = (v31V V) := by
  refine (sorted_at (st6 V)).trans ?_
  rw [st6_v20, st6_call1_v5, st6_call1_v12]
  rfl
theorem st8_x (V : Valuation τ sig (Elt F)) : st8 V (Proc.devRef .tc main_arg0) = (V (Proc.devRef .tc main_arg0)) :=
  (opsOver_keep (st7 V) main_arg0 (by decide)).trans (st7_x V)
theorem st8_masks (V : Valuation τ sig (Elt F)) : st8 V (Proc.devRef .tc main_arg1) = (V (Proc.devRef .tc main_arg1)) :=
  (opsOver_keep (st7 V) main_arg1 (by decide)).trans (st7_masks V)
theorem st8_w (V : Valuation τ sig (Elt F)) : st8 V (Proc.devRef .tc main_arg2) = (V (Proc.devRef .tc main_arg2)) :=
  (opsOver_keep (st7 V) main_arg2 (by decide)).trans (st7_w V)
theorem st8_arg3 (V : Valuation τ sig (Elt F)) : st8 V (Proc.devRef .tc main_arg3) = (V (Proc.devRef .tc main_arg3)) :=
  (opsOver_keep (st7 V) main_arg3 (by decide)).trans (st7_arg3 V)
theorem st8_v6 (V : Valuation τ sig (Elt F)) : st8 V (Proc.devRef .tc main_v6) = (v6V V) :=
  (opsOver_keep (st7 V) main_v6 (by decide)).trans (st7_v6 V)
theorem st8_v28 (V : Valuation τ sig (Elt F)) : st8 V (Proc.devRef .tc main_v28) = (v28V V) :=
  (opsOver_keep (st7 V) main_v28 (by decide)).trans (st7_v28 V)
theorem st8_v30 (V : Valuation τ sig (Elt F)) : st8 V (Proc.devRef .tc main_v30) = (v30V V) :=
  (opsOver_keep (st7 V) main_v30 (by decide)).trans (st7_v30 V)
theorem st8_v31 (V : Valuation τ sig (Elt F)) : st8 V (Proc.devRef .tc main_v31) = (v31V V) :=
  (opsOver_keep (st7 V) main_v31 (by decide)).trans (st7_v31 V)
theorem st8_v34 (V : Valuation τ sig (Elt F)) : st8 V (Proc.devRef .tc main_v34) = (v34V V) := by
  refine (over_at (st7 V)).trans ?_
  rw [st7_v31]
  rfl
theorem st9_x (V : Valuation τ sig (Elt F)) : st9 V (Proc.devRef .tc main_arg0) = (V (Proc.devRef .tc main_arg0)) :=
  (opsFirst_keep (st8 V) main_arg0 (by decide)).trans (st8_x V)
theorem st9_masks (V : Valuation τ sig (Elt F)) : st9 V (Proc.devRef .tc main_arg1) = (V (Proc.devRef .tc main_arg1)) :=
  (opsFirst_keep (st8 V) main_arg1 (by decide)).trans (st8_masks V)
theorem st9_w (V : Valuation τ sig (Elt F)) : st9 V (Proc.devRef .tc main_arg2) = (V (Proc.devRef .tc main_arg2)) :=
  (opsFirst_keep (st8 V) main_arg2 (by decide)).trans (st8_w V)
theorem st9_arg3 (V : Valuation τ sig (Elt F)) : st9 V (Proc.devRef .tc main_arg3) = (V (Proc.devRef .tc main_arg3)) :=
  (opsFirst_keep (st8 V) main_arg3 (by decide)).trans (st8_arg3 V)
theorem st9_v6 (V : Valuation τ sig (Elt F)) : st9 V (Proc.devRef .tc main_v6) = (v6V V) :=
  (opsFirst_keep (st8 V) main_v6 (by decide)).trans (st8_v6 V)
theorem st9_v28 (V : Valuation τ sig (Elt F)) : st9 V (Proc.devRef .tc main_v28) = (v28V V) :=
  (opsFirst_keep (st8 V) main_v28 (by decide)).trans (st8_v28 V)
theorem st9_v30 (V : Valuation τ sig (Elt F)) : st9 V (Proc.devRef .tc main_v30) = (v30V V) :=
  (opsFirst_keep (st8 V) main_v30 (by decide)).trans (st8_v30 V)
theorem st9_v31 (V : Valuation τ sig (Elt F)) : st9 V (Proc.devRef .tc main_v31) = (v31V V) :=
  (opsFirst_keep (st8 V) main_v31 (by decide)).trans (st8_v31 V)
theorem st9_v34 (V : Valuation τ sig (Elt F)) : st9 V (Proc.devRef .tc main_v34) = (v34V V) :=
  (opsFirst_keep (st8 V) main_v34 (by decide)).trans (st8_v34 V)
theorem st9_v36 (V : Valuation τ sig (Elt F)) : st9 V (Proc.devRef .tc main_v36) = (v36V V) := by
  refine (first_at (st8 V)).trans ?_
  rw [st8_v34]
  rfl
theorem st10_x (V : Valuation τ sig (Elt F)) : st10 V (Proc.devRef .tc main_arg0) = (V (Proc.devRef .tc main_arg0)) :=
  (opsDropped_keep (st9 V) main_arg0 (by decide)).trans (st9_x V)
theorem st10_masks (V : Valuation τ sig (Elt F)) : st10 V (Proc.devRef .tc main_arg1) = (V (Proc.devRef .tc main_arg1)) :=
  (opsDropped_keep (st9 V) main_arg1 (by decide)).trans (st9_masks V)
theorem st10_w (V : Valuation τ sig (Elt F)) : st10 V (Proc.devRef .tc main_arg2) = (V (Proc.devRef .tc main_arg2)) :=
  (opsDropped_keep (st9 V) main_arg2 (by decide)).trans (st9_w V)
theorem st10_arg3 (V : Valuation τ sig (Elt F)) : st10 V (Proc.devRef .tc main_arg3) = (V (Proc.devRef .tc main_arg3)) :=
  (opsDropped_keep (st9 V) main_arg3 (by decide)).trans (st9_arg3 V)
theorem st10_v6 (V : Valuation τ sig (Elt F)) : st10 V (Proc.devRef .tc main_v6) = (v6V V) :=
  (opsDropped_keep (st9 V) main_v6 (by decide)).trans (st9_v6 V)
theorem st10_v28 (V : Valuation τ sig (Elt F)) : st10 V (Proc.devRef .tc main_v28) = (v28V V) :=
  (opsDropped_keep (st9 V) main_v28 (by decide)).trans (st9_v28 V)
theorem st10_v30 (V : Valuation τ sig (Elt F)) : st10 V (Proc.devRef .tc main_v30) = (v30V V) :=
  (opsDropped_keep (st9 V) main_v30 (by decide)).trans (st9_v30 V)
theorem st10_v31 (V : Valuation τ sig (Elt F)) : st10 V (Proc.devRef .tc main_v31) = (v31V V) :=
  (opsDropped_keep (st9 V) main_v31 (by decide)).trans (st9_v31 V)
theorem st10_v34 (V : Valuation τ sig (Elt F)) : st10 V (Proc.devRef .tc main_v34) = (v34V V) :=
  (opsDropped_keep (st9 V) main_v34 (by decide)).trans (st9_v34 V)
theorem st10_v36 (V : Valuation τ sig (Elt F)) : st10 V (Proc.devRef .tc main_v36) = (v36V V) :=
  (opsDropped_keep (st9 V) main_v36 (by decide)).trans (st9_v36 V)
theorem st10_v39 (V : Valuation τ sig (Elt F)) : st10 V (Proc.devRef .tc main_v39) = (v39V V) := by
  refine (dropped_at (st9 V)).trans ?_
  rw [st9_v34, st9_v36]
  rfl
theorem st11_x (V : Valuation τ sig (Elt F)) : st11 V (Proc.devRef .tc main_arg0) = (V (Proc.devRef .tc main_arg0)) :=
  (opsKept_keep (st10 V) main_arg0 (by decide)).trans (st10_x V)
theorem st11_masks (V : Valuation τ sig (Elt F)) : st11 V (Proc.devRef .tc main_arg1) = (V (Proc.devRef .tc main_arg1)) :=
  (opsKept_keep (st10 V) main_arg1 (by decide)).trans (st10_masks V)
theorem st11_w (V : Valuation τ sig (Elt F)) : st11 V (Proc.devRef .tc main_arg2) = (V (Proc.devRef .tc main_arg2)) :=
  (opsKept_keep (st10 V) main_arg2 (by decide)).trans (st10_w V)
theorem st11_arg3 (V : Valuation τ sig (Elt F)) : st11 V (Proc.devRef .tc main_arg3) = (V (Proc.devRef .tc main_arg3)) :=
  (opsKept_keep (st10 V) main_arg3 (by decide)).trans (st10_arg3 V)
theorem st11_v6 (V : Valuation τ sig (Elt F)) : st11 V (Proc.devRef .tc main_v6) = (v6V V) :=
  (opsKept_keep (st10 V) main_v6 (by decide)).trans (st10_v6 V)
theorem st11_v28 (V : Valuation τ sig (Elt F)) : st11 V (Proc.devRef .tc main_v28) = (v28V V) :=
  (opsKept_keep (st10 V) main_v28 (by decide)).trans (st10_v28 V)
theorem st11_v30 (V : Valuation τ sig (Elt F)) : st11 V (Proc.devRef .tc main_v30) = (v30V V) :=
  (opsKept_keep (st10 V) main_v30 (by decide)).trans (st10_v30 V)
theorem st11_v31 (V : Valuation τ sig (Elt F)) : st11 V (Proc.devRef .tc main_v31) = (v31V V) :=
  (opsKept_keep (st10 V) main_v31 (by decide)).trans (st10_v31 V)
theorem st11_v39 (V : Valuation τ sig (Elt F)) : st11 V (Proc.devRef .tc main_v39) = (v39V V) :=
  (opsKept_keep (st10 V) main_v39 (by decide)).trans (st10_v39 V)
theorem st11_v40 (V : Valuation τ sig (Elt F)) : st11 V (Proc.devRef .tc main_v40) = (v40V V) := by
  refine (kept_at (st10 V)).trans ?_
  rw [st10_v39]
  rfl
theorem st11_v41 (V : Valuation τ sig (Elt F)) : st11 V (Proc.devRef .tc main_v41) = (v41V V) := by
  refine (inverse_at (st10 V)).trans ?_
  rw [st10_v30]
  rfl
theorem st12_x (V : Valuation τ sig (Elt F)) : st12 V (Proc.devRef .tc main_arg0) = (V (Proc.devRef .tc main_arg0)) :=
  (opsBack_keep (st11 V) main_arg0 (by decide)).trans (st11_x V)
theorem st12_masks (V : Valuation τ sig (Elt F)) : st12 V (Proc.devRef .tc main_arg1) = (V (Proc.devRef .tc main_arg1)) :=
  (opsBack_keep (st11 V) main_arg1 (by decide)).trans (st11_masks V)
theorem st12_w (V : Valuation τ sig (Elt F)) : st12 V (Proc.devRef .tc main_arg2) = (V (Proc.devRef .tc main_arg2)) :=
  (opsBack_keep (st11 V) main_arg2 (by decide)).trans (st11_w V)
theorem st12_arg3 (V : Valuation τ sig (Elt F)) : st12 V (Proc.devRef .tc main_arg3) = (V (Proc.devRef .tc main_arg3)) :=
  (opsBack_keep (st11 V) main_arg3 (by decide)).trans (st11_arg3 V)
theorem st12_v6 (V : Valuation τ sig (Elt F)) : st12 V (Proc.devRef .tc main_v6) = (v6V V) :=
  (opsBack_keep (st11 V) main_v6 (by decide)).trans (st11_v6 V)
theorem st12_v28 (V : Valuation τ sig (Elt F)) : st12 V (Proc.devRef .tc main_v28) = (v28V V) :=
  (opsBack_keep (st11 V) main_v28 (by decide)).trans (st11_v28 V)
theorem st12_v31 (V : Valuation τ sig (Elt F)) : st12 V (Proc.devRef .tc main_v31) = (v31V V) :=
  (opsBack_keep (st11 V) main_v31 (by decide)).trans (st11_v31 V)
theorem st12_v39 (V : Valuation τ sig (Elt F)) : st12 V (Proc.devRef .tc main_v39) = (v39V V) :=
  (opsBack_keep (st11 V) main_v39 (by decide)).trans (st11_v39 V)
theorem st12_v40 (V : Valuation τ sig (Elt F)) : st12 V (Proc.devRef .tc main_v40) = (v40V V) :=
  (opsBack_keep (st11 V) main_v40 (by decide)).trans (st11_v40 V)
theorem st12_v41 (V : Valuation τ sig (Elt F)) : st12 V (Proc.devRef .tc main_v41) = (v41V V) :=
  (opsBack_keep (st11 V) main_v41 (by decide)).trans (st11_v41 V)
theorem st12_call6_v5 (V : Valuation τ sig (Elt F)) : st12 V (Proc.devRef .tc main_call6_v5) = (call6_v5V V) := by
  refine (back_at (st11 V)).trans ?_
  rw [st11_v41]
  rfl
theorem st13_x (V : Valuation τ sig (Elt F)) : st13 V (Proc.devRef .tc main_arg0) = (V (Proc.devRef .tc main_arg0)) :=
  (opsBackIn_keep (st12 V) main_arg0 (by decide)).trans (st12_x V)
theorem st13_masks (V : Valuation τ sig (Elt F)) : st13 V (Proc.devRef .tc main_arg1) = (V (Proc.devRef .tc main_arg1)) :=
  (opsBackIn_keep (st12 V) main_arg1 (by decide)).trans (st12_masks V)
theorem st13_w (V : Valuation τ sig (Elt F)) : st13 V (Proc.devRef .tc main_arg2) = (V (Proc.devRef .tc main_arg2)) :=
  (opsBackIn_keep (st12 V) main_arg2 (by decide)).trans (st12_w V)
theorem st13_arg3 (V : Valuation τ sig (Elt F)) : st13 V (Proc.devRef .tc main_arg3) = (V (Proc.devRef .tc main_arg3)) :=
  (opsBackIn_keep (st12 V) main_arg3 (by decide)).trans (st12_arg3 V)
theorem st13_v6 (V : Valuation τ sig (Elt F)) : st13 V (Proc.devRef .tc main_v6) = (v6V V) :=
  (opsBackIn_keep (st12 V) main_v6 (by decide)).trans (st12_v6 V)
theorem st13_v28 (V : Valuation τ sig (Elt F)) : st13 V (Proc.devRef .tc main_v28) = (v28V V) :=
  (opsBackIn_keep (st12 V) main_v28 (by decide)).trans (st12_v28 V)
theorem st13_v31 (V : Valuation τ sig (Elt F)) : st13 V (Proc.devRef .tc main_v31) = (v31V V) :=
  (opsBackIn_keep (st12 V) main_v31 (by decide)).trans (st12_v31 V)
theorem st13_v39 (V : Valuation τ sig (Elt F)) : st13 V (Proc.devRef .tc main_v39) = (v39V V) :=
  (opsBackIn_keep (st12 V) main_v39 (by decide)).trans (st12_v39 V)
theorem st13_v40 (V : Valuation τ sig (Elt F)) : st13 V (Proc.devRef .tc main_v40) = (v40V V) :=
  (opsBackIn_keep (st12 V) main_v40 (by decide)).trans (st12_v40 V)
theorem st13_call6_v5 (V : Valuation τ sig (Elt F)) : st13 V (Proc.devRef .tc main_call6_v5) = (call6_v5V V) :=
  (opsBackIn_keep (st12 V) main_call6_v5 (by decide)).trans (st12_call6_v5 V)
theorem st13_call6_v12 (V : Valuation τ sig (Elt F)) : st13 V (Proc.devRef .tc main_call6_v12) = (call6_v12V V) := by
  refine (backIn_at (st12 V)).trans ?_
  rw [st12_call6_v5]
  rfl
theorem st14_x (V : Valuation τ sig (Elt F)) : st14 V (Proc.devRef .tc main_arg0) = (V (Proc.devRef .tc main_arg0)) :=
  (opsGates_keep (st13 V) main_arg0 (by decide)).trans (st13_x V)
theorem st14_masks (V : Valuation τ sig (Elt F)) : st14 V (Proc.devRef .tc main_arg1) = (V (Proc.devRef .tc main_arg1)) :=
  (opsGates_keep (st13 V) main_arg1 (by decide)).trans (st13_masks V)
theorem st14_w (V : Valuation τ sig (Elt F)) : st14 V (Proc.devRef .tc main_arg2) = (V (Proc.devRef .tc main_arg2)) :=
  (opsGates_keep (st13 V) main_arg2 (by decide)).trans (st13_w V)
theorem st14_arg3 (V : Valuation τ sig (Elt F)) : st14 V (Proc.devRef .tc main_arg3) = (V (Proc.devRef .tc main_arg3)) :=
  (opsGates_keep (st13 V) main_arg3 (by decide)).trans (st13_arg3 V)
theorem st14_v6 (V : Valuation τ sig (Elt F)) : st14 V (Proc.devRef .tc main_v6) = (v6V V) :=
  (opsGates_keep (st13 V) main_v6 (by decide)).trans (st13_v6 V)
theorem st14_v28 (V : Valuation τ sig (Elt F)) : st14 V (Proc.devRef .tc main_v28) = (v28V V) :=
  (opsGates_keep (st13 V) main_v28 (by decide)).trans (st13_v28 V)
theorem st14_v31 (V : Valuation τ sig (Elt F)) : st14 V (Proc.devRef .tc main_v31) = (v31V V) :=
  (opsGates_keep (st13 V) main_v31 (by decide)).trans (st13_v31 V)
theorem st14_v39 (V : Valuation τ sig (Elt F)) : st14 V (Proc.devRef .tc main_v39) = (v39V V) :=
  (opsGates_keep (st13 V) main_v39 (by decide)).trans (st13_v39 V)
theorem st14_v40 (V : Valuation τ sig (Elt F)) : st14 V (Proc.devRef .tc main_v40) = (v40V V) :=
  (opsGates_keep (st13 V) main_v40 (by decide)).trans (st13_v40 V)
theorem st14_call6_v5 (V : Valuation τ sig (Elt F)) : st14 V (Proc.devRef .tc main_call6_v5) = (call6_v5V V) :=
  (opsGates_keep (st13 V) main_call6_v5 (by decide)).trans (st13_call6_v5 V)
theorem st14_call6_v12 (V : Valuation τ sig (Elt F)) : st14 V (Proc.devRef .tc main_call6_v12) = (call6_v12V V) :=
  (opsGates_keep (st13 V) main_call6_v12 (by decide)).trans (st13_call6_v12 V)
theorem st14_v42 (V : Valuation τ sig (Elt F)) : st14 V (Proc.devRef .tc main_v42) = (v42V V) := by
  refine (gates_at (st13 V)).trans ?_
  rw [st13_v40, st13_call6_v5, st13_call6_v12]
  rfl
theorem st15_x (V : Valuation τ sig (Elt F)) : st15 V (Proc.devRef .tc main_arg0) = (V (Proc.devRef .tc main_arg0)) :=
  (opsMass_keep (st14 V) main_arg0 (by decide)).trans (st14_x V)
theorem st15_masks (V : Valuation τ sig (Elt F)) : st15 V (Proc.devRef .tc main_arg1) = (V (Proc.devRef .tc main_arg1)) :=
  (opsMass_keep (st14 V) main_arg1 (by decide)).trans (st14_masks V)
theorem st15_w (V : Valuation τ sig (Elt F)) : st15 V (Proc.devRef .tc main_arg2) = (V (Proc.devRef .tc main_arg2)) :=
  (opsMass_keep (st14 V) main_arg2 (by decide)).trans (st14_w V)
theorem st15_arg3 (V : Valuation τ sig (Elt F)) : st15 V (Proc.devRef .tc main_arg3) = (V (Proc.devRef .tc main_arg3)) :=
  (opsMass_keep (st14 V) main_arg3 (by decide)).trans (st14_arg3 V)
theorem st15_v6 (V : Valuation τ sig (Elt F)) : st15 V (Proc.devRef .tc main_v6) = (v6V V) :=
  (opsMass_keep (st14 V) main_v6 (by decide)).trans (st14_v6 V)
theorem st15_v28 (V : Valuation τ sig (Elt F)) : st15 V (Proc.devRef .tc main_v28) = (v28V V) :=
  (opsMass_keep (st14 V) main_v28 (by decide)).trans (st14_v28 V)
theorem st15_v31 (V : Valuation τ sig (Elt F)) : st15 V (Proc.devRef .tc main_v31) = (v31V V) :=
  (opsMass_keep (st14 V) main_v31 (by decide)).trans (st14_v31 V)
theorem st15_v39 (V : Valuation τ sig (Elt F)) : st15 V (Proc.devRef .tc main_v39) = (v39V V) :=
  (opsMass_keep (st14 V) main_v39 (by decide)).trans (st14_v39 V)
theorem st15_v42 (V : Valuation τ sig (Elt F)) : st15 V (Proc.devRef .tc main_v42) = (v42V V) :=
  (opsMass_keep (st14 V) main_v42 (by decide)).trans (st14_v42 V)
theorem st15_v44 (V : Valuation τ sig (Elt F)) : st15 V (Proc.devRef .tc main_v44) = (v44V V) := by
  refine (mass_at (st14 V)).trans ?_
  rw [st14_v39, st14_v31]
  rfl
theorem st16_x (V : Valuation τ sig (Elt F)) : st16 V (Proc.devRef .tc main_arg0) = (V (Proc.devRef .tc main_arg0)) :=
  (opsVariance_keep (st15 V) main_arg0 (by decide)).trans (st15_x V)
theorem st16_masks (V : Valuation τ sig (Elt F)) : st16 V (Proc.devRef .tc main_arg1) = (V (Proc.devRef .tc main_arg1)) :=
  (opsVariance_keep (st15 V) main_arg1 (by decide)).trans (st15_masks V)
theorem st16_w (V : Valuation τ sig (Elt F)) : st16 V (Proc.devRef .tc main_arg2) = (V (Proc.devRef .tc main_arg2)) :=
  (opsVariance_keep (st15 V) main_arg2 (by decide)).trans (st15_w V)
theorem st16_arg3 (V : Valuation τ sig (Elt F)) : st16 V (Proc.devRef .tc main_arg3) = (V (Proc.devRef .tc main_arg3)) :=
  (opsVariance_keep (st15 V) main_arg3 (by decide)).trans (st15_arg3 V)
theorem st16_v6 (V : Valuation τ sig (Elt F)) : st16 V (Proc.devRef .tc main_v6) = (v6V V) :=
  (opsVariance_keep (st15 V) main_v6 (by decide)).trans (st15_v6 V)
theorem st16_v28 (V : Valuation τ sig (Elt F)) : st16 V (Proc.devRef .tc main_v28) = (v28V V) :=
  (opsVariance_keep (st15 V) main_v28 (by decide)).trans (st15_v28 V)
theorem st16_v42 (V : Valuation τ sig (Elt F)) : st16 V (Proc.devRef .tc main_v42) = (v42V V) :=
  (opsVariance_keep (st15 V) main_v42 (by decide)).trans (st15_v42 V)
theorem st16_v44 (V : Valuation τ sig (Elt F)) : st16 V (Proc.devRef .tc main_v44) = (v44V V) :=
  (opsVariance_keep (st15 V) main_v44 (by decide)).trans (st15_v44 V)
theorem st16_v45 (V : Valuation τ sig (Elt F)) : st16 V (Proc.devRef .tc main_v45) = (v45V V) := by
  refine (variance_at (st15 V)).trans ?_
  rw [st15_v44]
  rfl
theorem st17_x (V : Valuation τ sig (Elt F)) : st17 V (Proc.devRef .tc main_arg0) = (V (Proc.devRef .tc main_arg0)) :=
  (opsTotal_keep (st16 V) main_arg0 (by decide)).trans (st16_x V)
theorem st17_masks (V : Valuation τ sig (Elt F)) : st17 V (Proc.devRef .tc main_arg1) = (V (Proc.devRef .tc main_arg1)) :=
  (opsTotal_keep (st16 V) main_arg1 (by decide)).trans (st16_masks V)
theorem st17_w (V : Valuation τ sig (Elt F)) : st17 V (Proc.devRef .tc main_arg2) = (V (Proc.devRef .tc main_arg2)) :=
  (opsTotal_keep (st16 V) main_arg2 (by decide)).trans (st16_w V)
theorem st17_arg3 (V : Valuation τ sig (Elt F)) : st17 V (Proc.devRef .tc main_arg3) = (V (Proc.devRef .tc main_arg3)) :=
  (opsTotal_keep (st16 V) main_arg3 (by decide)).trans (st16_arg3 V)
theorem st17_v6 (V : Valuation τ sig (Elt F)) : st17 V (Proc.devRef .tc main_v6) = (v6V V) :=
  (opsTotal_keep (st16 V) main_v6 (by decide)).trans (st16_v6 V)
theorem st17_v28 (V : Valuation τ sig (Elt F)) : st17 V (Proc.devRef .tc main_v28) = (v28V V) :=
  (opsTotal_keep (st16 V) main_v28 (by decide)).trans (st16_v28 V)
theorem st17_v42 (V : Valuation τ sig (Elt F)) : st17 V (Proc.devRef .tc main_v42) = (v42V V) :=
  (opsTotal_keep (st16 V) main_v42 (by decide)).trans (st16_v42 V)
theorem st17_v44 (V : Valuation τ sig (Elt F)) : st17 V (Proc.devRef .tc main_v44) = (v44V V) :=
  (opsTotal_keep (st16 V) main_v44 (by decide)).trans (st16_v44 V)
theorem st17_v45 (V : Valuation τ sig (Elt F)) : st17 V (Proc.devRef .tc main_v45) = (v45V V) :=
  (opsTotal_keep (st16 V) main_v45 (by decide)).trans (st16_v45 V)
theorem st17_v46 (V : Valuation τ sig (Elt F)) : st17 V (Proc.devRef .tc main_v46) = (v46V V) := by
  refine (total_at (st16 V)).trans ?_
  rw [st16_v44]
  rfl
theorem st18_x (V : Valuation τ sig (Elt F)) : st18 V (Proc.devRef .tc main_arg0) = (V (Proc.devRef .tc main_arg0)) :=
  (opsLoss_keep (st17 V) main_arg0 (by decide)).trans (st17_x V)
theorem st18_masks (V : Valuation τ sig (Elt F)) : st18 V (Proc.devRef .tc main_arg1) = (V (Proc.devRef .tc main_arg1)) :=
  (opsLoss_keep (st17 V) main_arg1 (by decide)).trans (st17_masks V)
theorem st18_w (V : Valuation τ sig (Elt F)) : st18 V (Proc.devRef .tc main_arg2) = (V (Proc.devRef .tc main_arg2)) :=
  (opsLoss_keep (st17 V) main_arg2 (by decide)).trans (st17_w V)
theorem st18_arg3 (V : Valuation τ sig (Elt F)) : st18 V (Proc.devRef .tc main_arg3) = (V (Proc.devRef .tc main_arg3)) :=
  (opsLoss_keep (st17 V) main_arg3 (by decide)).trans (st17_arg3 V)
theorem st18_v6 (V : Valuation τ sig (Elt F)) : st18 V (Proc.devRef .tc main_v6) = (v6V V) :=
  (opsLoss_keep (st17 V) main_v6 (by decide)).trans (st17_v6 V)
theorem st18_v28 (V : Valuation τ sig (Elt F)) : st18 V (Proc.devRef .tc main_v28) = (v28V V) :=
  (opsLoss_keep (st17 V) main_v28 (by decide)).trans (st17_v28 V)
theorem st18_v42 (V : Valuation τ sig (Elt F)) : st18 V (Proc.devRef .tc main_v42) = (v42V V) :=
  (opsLoss_keep (st17 V) main_v42 (by decide)).trans (st17_v42 V)
theorem st18_v45 (V : Valuation τ sig (Elt F)) : st18 V (Proc.devRef .tc main_v45) = (v45V V) :=
  (opsLoss_keep (st17 V) main_v45 (by decide)).trans (st17_v45 V)
theorem st18_v46 (V : Valuation τ sig (Elt F)) : st18 V (Proc.devRef .tc main_v46) = (v46V V) :=
  (opsLoss_keep (st17 V) main_v46 (by decide)).trans (st17_v46 V)
theorem st18_v52 (V : Valuation τ sig (Elt F)) : st18 V (Proc.devRef .tc main_v52) = (v52V V) := by
  refine (loss_at (st17 V)).trans ?_
  rw [st17_v45, st17_v46, st17_v28]
  rfl
theorem st19_x (V : Valuation τ sig (Elt F)) : st19 V (Proc.devRef .tc main_arg0) = (V (Proc.devRef .tc main_arg0)) :=
  (opsOut_keep (st18 V) main_arg0 (by decide)).trans (st18_x V)
theorem st19_masks (V : Valuation τ sig (Elt F)) : st19 V (Proc.devRef .tc main_arg1) = (V (Proc.devRef .tc main_arg1)) :=
  (opsOut_keep (st18 V) main_arg1 (by decide)).trans (st18_masks V)
theorem st19_w (V : Valuation τ sig (Elt F)) : st19 V (Proc.devRef .tc main_arg2) = (V (Proc.devRef .tc main_arg2)) :=
  (opsOut_keep (st18 V) main_arg2 (by decide)).trans (st18_w V)
theorem st19_arg3 (V : Valuation τ sig (Elt F)) : st19 V (Proc.devRef .tc main_arg3) = (V (Proc.devRef .tc main_arg3)) :=
  (opsOut_keep (st18 V) main_arg3 (by decide)).trans (st18_arg3 V)
theorem st19_v6 (V : Valuation τ sig (Elt F)) : st19 V (Proc.devRef .tc main_v6) = (v6V V) :=
  (opsOut_keep (st18 V) main_v6 (by decide)).trans (st18_v6 V)
theorem st19_v42 (V : Valuation τ sig (Elt F)) : st19 V (Proc.devRef .tc main_v42) = (v42V V) :=
  (opsOut_keep (st18 V) main_v42 (by decide)).trans (st18_v42 V)
theorem st19_v52 (V : Valuation τ sig (Elt F)) : st19 V (Proc.devRef .tc main_v52) = (v52V V) :=
  (opsOut_keep (st18 V) main_v52 (by decide)).trans (st18_v52 V)
theorem st19_v58 (V : Valuation τ sig (Elt F)) : st19 V (Proc.devRef .tc main_v58) = (v58V V) := by
  refine (blended_at (st18 V)).trans ?_
  rw [st18_masks, st18_v42, st18_v6]
  rfl

theorem all_sub : (opsA ++ opsB : List (HloOp τ sig (Elt F))).Forall fun op => op.bufs ⊆ tcRefs τ sig :=
  List.forall_iff_forall_mem.mpr fun op h => by
    simp only [opsA, opsB, List.mem_append, or_assoc] at h
    rcases h with h | h | h | h | h | h | h | h | h | h | h | h | h | h | h | h | h | h | h
    exacts [List.forall_iff_forall_mem.mp opsEye_sub op h, List.forall_iff_forall_mem.mp opsSoftmax_sub op h, List.forall_iff_forall_mem.mp opsDynamic_sub op h, List.forall_iff_forall_mem.mp opsOrder_sub op h, List.forall_iff_forall_mem.mp opsColumn_sub op h, List.forall_iff_forall_mem.mp opsInside_sub op h, List.forall_iff_forall_mem.mp opsSorted_sub op h, List.forall_iff_forall_mem.mp opsOver_sub op h, List.forall_iff_forall_mem.mp opsFirst_sub op h, List.forall_iff_forall_mem.mp opsDropped_sub op h, List.forall_iff_forall_mem.mp opsKept_sub op h, List.forall_iff_forall_mem.mp opsBack_sub op h, List.forall_iff_forall_mem.mp opsBackIn_sub op h, List.forall_iff_forall_mem.mp opsGates_sub op h, List.forall_iff_forall_mem.mp opsMass_sub op h, List.forall_iff_forall_mem.mp opsVariance_sub op h, List.forall_iff_forall_mem.mp opsTotal_sub op h, List.forall_iff_forall_mem.mp opsLoss_sub op h, List.forall_iff_forall_mem.mp opsOut_sub op h]

theorem all_fresh : ∀ op ∈ (opsA ++ opsB : List (HloOp τ sig (Elt F))), op.fresh = ∅ := fun op h => by
    simp only [opsA, opsB, List.mem_append, or_assoc] at h
    rcases h with h | h | h | h | h | h | h | h | h | h | h | h | h | h | h | h | h | h | h
    exacts [List.forall_iff_forall_mem.mp opsEye_fresh op h, List.forall_iff_forall_mem.mp opsSoftmax_fresh op h, List.forall_iff_forall_mem.mp opsDynamic_fresh op h, List.forall_iff_forall_mem.mp opsOrder_fresh op h, List.forall_iff_forall_mem.mp opsColumn_fresh op h, List.forall_iff_forall_mem.mp opsInside_fresh op h, List.forall_iff_forall_mem.mp opsSorted_fresh op h, List.forall_iff_forall_mem.mp opsOver_fresh op h, List.forall_iff_forall_mem.mp opsFirst_fresh op h, List.forall_iff_forall_mem.mp opsDropped_fresh op h, List.forall_iff_forall_mem.mp opsKept_fresh op h, List.forall_iff_forall_mem.mp opsBack_fresh op h, List.forall_iff_forall_mem.mp opsBackIn_fresh op h, List.forall_iff_forall_mem.mp opsGates_fresh op h, List.forall_iff_forall_mem.mp opsMass_fresh op h, List.forall_iff_forall_mem.mp opsVariance_fresh op h, List.forall_iff_forall_mem.mp opsTotal_fresh op h, List.forall_iff_forall_mem.mp opsLoss_fresh op h, List.forall_iff_forall_mem.mp opsOut_fresh op h]

/-- Every execution of the reference ends with the two results at the values above, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = v58V (launchContents m c)
      ∧ r.2.mem ((c.tc : Thread nD τ).loc main_v52) = v52V (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have e := congrFun (after_all (launchContents m c))
      ⟨(h c main_v58).trans ((e _).trans (st19_v58 _)), (h c main_v52).trans ((e _).trans (st19_v52 _)),
       (h c main_arg0).trans ((e _).trans (st19_x _)), (h c main_arg1).trans ((e _).trans (st19_masks _)),
       (h c main_arg2).trans ((e _).trans (st19_w _)), (h c main_arg3).trans ((e _).trans (st19_arg3 _))⟩)
    (run_seq no_scoped_ref no_scoped_sem defs main (fun _ => opsA ++ opsB) main_eq (fun _ => all_sub) m ρ fun _ => all_fresh)

end Cert.ReferenceIdeal.Hand

end
-- ==== Proof.Reference.Soft.lean ====
/-
  The reference's softmax, entropy and output read at an index, at the extended reals.
-/
module

public import proofs.«01_k».proof.Proof.Reference.Run
public import proofs.«01_k».proof.Proof.Value.Spec
public import Idealize.ShloMosaic.Lib.Pipeline.Value
public import Idealize.ShloMosaic.Lib.ValueIdx
public import Idealize.ShloMosaic.Lib.IdealHost

@[expose] public section

noncomputable section

namespace Cert.ReferenceIdeal.Hand

open Cert.ReferenceIdeal Cert.ReferenceIdeal.Gen Idealize.ShloMosaic Idealize.ShloMosaic.ValueIdx
open Cert.Value

/-! ## Layout -/

/-- One value per row, read at every expert of the row. -/
theorem perRow_apply {α : Type} (y : S32x1024.Idx → α) (n : Fin 32) (l : Fin 1024) (e : Fin 8) :
    broadcastInDim S32x1024x8 ![0, 1, 2] bcast_S32x1024x1_S32x1024x8_0_1_2
      (broadcastInDim S32x1024x1 ![0, 1] bcast_S32x1024_S32x1024x1_0_1 y) (ix3 n l e) = y (ix2 n l) := by
  rw [broadcastInDim_apply ![0, 1, 2] _ _ (ix3 n l e) (ix3 n l 0) (fun a => match a with
    | ⟨0, _⟩ => (if_neg (by decide : ¬(32 : Nat) = 1)).symm
    | ⟨1, _⟩ => (if_neg (by decide : ¬(1024 : Nat) = 1)).symm
    | ⟨2, _⟩ => (if_pos rfl).symm)]
  exact broadcastInDim_apply ![0, 1] _ _ (ix3 n l 0) (ix2 n l) (fun a => match a with
    | ⟨0, _⟩ => (if_neg (by decide : ¬(32 : Nat) = 1)).symm
    | ⟨1, _⟩ => (if_neg (by decide : ¬(1024 : Nat) = 1)).symm)

/-- The batch of a head. -/
abbrev batchOf (n : Fin 32) : Fin 2 := ⟨n.val / 16, by omega⟩

/-- The head within its batch. -/
abbrev within (n : Fin 32) : Fin 16 := ⟨n.val % 16, by omega⟩

/-- The rows of every head. -/
abbrev heads (x : S2x16x1024x1024.Idx → EReal) (n : Fin 32) (l d : Fin 1024) : EReal := x (ix4 (batchOf n) (within n) l d)

theorem merge_apply (x : S2x16x1024x1024.Idx → EReal) (n : Fin 32) (l d : Fin 1024) :
    shapeCast S32x1024x1024 x shapeCasts_S2x16x1024x1024_S32x1024x1024 (ix3 n l d) = heads x n l d := by
  refine shapeCast_apply x _ (ix3 n l d) (ix4 (batchOf n) (within n) l d) ?_
  rw [Shape.rowMajor_val_four, Shape.rowMajor_val_three]
  show ((n.val / 16 * 16 + n.val % 16) * 1024 + l.val) * 1024 + d.val = (n.val * 1024 + l.val) * 1024 + d.val
  omega

theorem split_apply {α : Type} (g : S32x1024x8.Idx → α) (n : Fin 32) (l : Fin 1024) (e : Fin 8) :
    shapeCast S2x16x1024x8 g shapeCasts_S32x1024x8_S2x16x1024x8 (ix4 (batchOf n) (within n) l e) = g (ix3 n l e) := by
  refine shapeCast_apply g _ (ix4 (batchOf n) (within n) l e) (ix3 n l e) ?_
  rw [Shape.rowMajor_val_four, Shape.rowMajor_val_three]
  show (n.val * 1024 + l.val) * 8 + e.val = ((n.val / 16 * 16 + n.val % 16) * 1024 + l.val) * 8 + e.val
  omega

/-! ## The contractions -/

theorem logits_apply (y : S32x1024x1024.Idx → EReal) (v : S1024x8.Idx → EReal) (n : Fin 32) (l : Fin 1024) (e : Fin 8) :
    Host.dotGeneral (F := Ideal) (φ₁ := .f32) (φ₂ := .f32) dot_S32x1024x1024_S1024x8_S32x1024x8_2_0_01_1_n_n none y v (ix3 n l e)
      = ∑ d : Fin 1024, y (ix3 n l d) * v (ix2 d e) := by
  simp only [Host.dotGeneral]
  rw [Ideal.dotGeneral_apply, ← Equiv.sum_comp (contrEquiv1 dot_S32x1024x1024_S1024x8_S32x1024x8_2_0_01_1_n_n 1024 rfl rfl).symm]
  refine Finset.sum_congr rfl fun d _ => ?_
  have hd := contrEquiv1_symm_val dot_S32x1024x1024_S1024x8_S32x1024x8_2_0_01_1_n_n 1024 rfl rfl d
  congr 1
  · refine congrArg y (funext fun a => Fin.ext ?_)
    match a with
    | ⟨0, _⟩ => rfl
    | ⟨1, _⟩ => rfl
    | ⟨2, _⟩ => exact hd
  · refine congrArg v (funext fun a => Fin.ext ?_)
    match a with
    | ⟨0, _⟩ => exact hd
    | ⟨1, _⟩ => rfl

theorem gatedMasks_apply (m : S1024x8x1024.Idx → EReal) (g : S2x16x1024x8.Idx → EReal) (b : Fin 2) (h : Fin 16) (l d : Fin 1024) :
    Host.dotGeneral (F := Ideal) (φ₁ := .f32) (φ₂ := .f32) dot_S1024x8x1024_S2x16x1024x8_S1024x1024x2x16_1_3_2_01_0_2 none m g (ix4 l d b h)
      = ∑ e : Fin 8, m (ix3 l e d) * g (ix4 b h l e) := by
  simp only [Host.dotGeneral]
  rw [Ideal.dotGeneral_apply, ← Equiv.sum_comp (contrEquiv1 dot_S1024x8x1024_S2x16x1024x8_S1024x1024x2x16_1_3_2_01_0_2 8 rfl rfl).symm]
  refine Finset.sum_congr rfl fun e _ => ?_
  have he := contrEquiv1_symm_val dot_S1024x8x1024_S2x16x1024x8_S1024x1024x2x16_1_3_2_01_0_2 8 rfl rfl e
  congr 1
  · refine congrArg m (funext fun a => Fin.ext ?_)
    match a with
    | ⟨0, _⟩ => rfl
    | ⟨1, _⟩ => exact he
    | ⟨2, _⟩ => rfl
  · refine congrArg g (funext fun a => Fin.ext ?_)
    match a with
    | ⟨0, _⟩ => rfl
    | ⟨1, _⟩ => rfl
    | ⟨2, _⟩ => rfl
    | ⟨3, _⟩ => exact he

/-! ## Softmax -/

theorem softmaxOf_apply (x : S2x16x1024x1024.Idx → EReal) (w : S8x1024.Idx → EReal) (n : Fin 32) (l : Fin 1024) (e : Fin 8) :
    softmaxOf (F := Ideal) x w (ix3 n l e) = probs (heads x) (fun e d => w (ix2 e d)) n l e := by
  have hl : ∀ e, Host.dotGeneral (F := Ideal) (φ₁ := .f32) (φ₂ := .f32) dot_S32x1024x1024_S1024x8_S32x1024x8_2_0_01_1_n_n none
      (shapeCast S32x1024x1024 x shapeCasts_S2x16x1024x1024_S32x1024x1024) (transpose S1024x8 [1, 0] w transposes_S8x1024_S1024x8_1_0) (ix3 n l e)
      = logit (fun e d => w (ix2 e d)) (heads x n l) e := by
    intro e
    rw [logits_apply]
    refine Finset.sum_congr rfl fun d _ => ?_
    rw [merge_apply, mul_comm]
    refine congrArg (· * _) (transpose_apply [1, 0] w _ (ix2 d e) (ix2 e d) fun b => ?_)
    match b with
    | ⟨0, _⟩ => rfl
    | ⟨1, _⟩ => rfl
  unfold softmaxOf
  dsimp only
  revert hl
  generalize Host.dotGeneral (F := Ideal) (φ₁ := .f32) (φ₂ := .f32) dot_S32x1024x1024_S1024x8_S32x1024x8_2_0_01_1_n_n none _ _ = y
  intro hl
  have hmax : maximumf (F := Ideal) (broadcastInDim S32x1024 ![] bcast_S_S32x1024 (constant (F := Ideal) S_ .f32 0xFF800000#32))
      (Host.reduce FloatOps.maximumf y (constant (F := Ideal) S_ .f32 0xFF800000#32) reducesTo_S32x1024x8_S32x1024_d2 h_S_) (ix2 n l)
      = top (logit (fun e d => w (ix2 e d)) (heads x n l)) := by
    rw [maximumf_apply, broadcastInDim_scalar_apply, constant_apply, bits_bot, bot_sup_eq]
    refine (Host.reduce_eq_fold_single (FloatOps.maximumf (F := Ideal) (φ := .f32)) y _ _ (by decide) _ _).trans ?_
    rw [constant_apply, bits_bot]
    refine congrArg (Finset.fold max ⊥ · Finset.univ) (funext fun k => ?_)
    refine Eq.trans ?_ (hl k)
    exact congrArg y (funext fun a => Fin.ext (by match a with | ⟨0, _⟩ => rfl | ⟨1, _⟩ => rfl | ⟨2, _⟩ => rfl))
  revert hmax
  generalize maximumf (F := Ideal) _ _ = t
  intro hmax
  have hexp : ∀ e, Host.exp (F := Ideal) (φ := .f32) (subf y (broadcastInDim S32x1024x8 ![0, 1, 2] bcast_S32x1024x1_S32x1024x8_0_1_2
      (broadcastInDim S32x1024x1 ![0, 1] bcast_S32x1024_S32x1024x1_0_1 t))) (ix3 n l e)
      = Ideal.exp (logit (fun e d => w (ix2 e d)) (heads x n l) e - top (logit (fun e d => w (ix2 e d)) (heads x n l))) := by
    intro e
    show Ideal.exp (subf (F := Ideal) (φ := .f32) y _ (ix3 n l e)) = _
    rw [subf_apply, perRow_apply, hl, hmax]
  rw [hostDivf_apply, perRow_apply, hostReduceAdd_apply, constant_apply, Ideal.ofBits_zero_f32,
    Ideal.hostReduceAdd_single reducesTo_S32x1024x8_S32x1024_d2 (by decide), zero_add, hexp]
  unfold probs soft
  refine congrArg (Ideal.div _) (Finset.sum_congr rfl fun k _ => ?_)
  refine Eq.trans ?_ (hexp k)
  exact congrArg _ (funext fun a => Fin.ext (by match a with | ⟨0, _⟩ => rfl | ⟨1, _⟩ => rfl | ⟨2, _⟩ => rfl))

/-! ## Entropy -/

theorem dynamicOf_apply (p : S32x1024x8.Idx → EReal) (j : S_.Idx) :
    dynamicOf (F := Ideal) p j = -Ideal.div (∑ n : Fin 32, ∑ l : Fin 1024, ∑ e : Fin 8, term (p (ix3 n l e))) (Ideal.ofBits .f32 0x43800000#32) := by
  unfold dynamicOf
  dsimp only
  show -(Ideal.div (Host.reduceAdd (F := Ideal) (φ := .f32) _ _ _ _ j) _) = _
  rw [hostReduceAdd_apply, Ideal.hostReduceAdd_total _ (fun b => b.elim0), constant_apply, Ideal.ofBits_zero_f32, zero_add, sum_idx2]
  refine congrArg (fun z => -Ideal.div z _) (Finset.sum_congr rfl fun n _ => ?_)
  rw [Finset.sum_comm]
  refine Finset.sum_congr rfl fun e _ => ?_
  rw [hostReduceAdd_apply, Ideal.hostReduceAdd_single _ (by decide), constant_apply, Ideal.ofBits_zero_f32, zero_add]
  refine Finset.sum_congr rfl fun l _ => ?_
  have hi : Shape.Reduces.lift (s := S32x1024x8) (a := 1) (t := S32x8) (by decide) (ix2 n e) l = ix3 n l e :=
    funext fun a => Fin.ext (by match a with | ⟨0, _⟩ => rfl | ⟨1, _⟩ => rfl | ⟨2, _⟩ => rfl)
  rw [hi]
  exact congrArg (fun z => p (ix3 n l e) * Ideal.log (p (ix3 n l e) + z))
    (broadcastInDim_scalar_apply bcast_S_S32x1024x8 (constant (F := Ideal) S_ .f32 0x2EDBE6FF#32) (ix3 n l e))

/-! ## The output -/

theorem eyeOf_apply (l d : Fin 1024) : eyeOf (F := Ideal) (ix4 0 0 l d) = if l = d then 1 else 0 := by
  unfold eyeOf
  dsimp only
  rw [broadcastInDim_apply ![2, 3] _ _ (ix4 0 0 l d) (ix2 l d) (fun a => match a with
    | ⟨0, _⟩ => (if_neg (by decide : ¬(1024 : Nat) = 1)).symm
    | ⟨1, _⟩ => (if_neg (by decide : ¬(1024 : Nat) = 1)).symm)]
  show ((((BitVec.ofBool (BitVec.ofNat 32 l.val + 0#32 == BitVec.ofNat 32 d.val)).toNat : ℝ)) : EReal) = _
  rw [BitVec.add_zero]
  by_cases h : l = d
  · subst h; simp
  · rw [if_neg h]
    have : ¬ BitVec.ofNat 32 l.val = BitVec.ofNat 32 d.val := by
      intro h'
      have := congrArg BitVec.toNat h'
      simp only [BitVec.toNat_ofNat] at this
      exact h (Fin.ext (by omega))
    simp [this]

theorem blendedOf_apply (m : S1024x8x1024.Idx → EReal) (g : S32x1024x8.Idx → BitVec 1) (n : Fin 32) (l d : Fin 1024) :
    blendedOf (F := Ideal) m g eyeOf (ix4 (batchOf n) (within n) l d)
      = (∑ e, (((g (ix3 n l e)).toNat : ℝ) : EReal) * m (ix3 l e d)) + if l = d then 1 else 0 := by
  unfold blendedOf
  dsimp only
  rw [addf_apply]
  congr 1
  · rw [transpose_apply [2, 3, 0, 1] _ _ (ix4 (batchOf n) (within n) l d) (ix4 l d (batchOf n) (within n)) (fun b => match b with
      | ⟨0, _⟩ => rfl
      | ⟨1, _⟩ => rfl
      | ⟨2, _⟩ => rfl
      | ⟨3, _⟩ => rfl), gatedMasks_apply]
    refine Finset.sum_congr rfl fun e _ => ?_
    rw [mul_comm]
    refine congrArg (· * _) ?_
    show (((shapeCast S2x16x1024x8 g shapeCasts_S32x1024x8_S2x16x1024x8 (ix4 (batchOf n) (within n) l e)).toNat : ℝ) : EReal) = _
    rw [split_apply]
  · rw [← eyeOf_apply]
    exact broadcastInDim_apply (t := S2x16x1024x1024) ![0, 1, 2, 3] _ _ (ix4 (batchOf n) (within n) l d) (ix4 0 0 l d) (fun a => match a with
      | ⟨0, _⟩ => (if_pos rfl).symm
      | ⟨1, _⟩ => (if_pos rfl).symm
      | ⟨2, _⟩ => (if_neg (by decide : ¬(1024 : Nat) = 1)).symm
      | ⟨3, _⟩ => (if_neg (by decide : ¬(1024 : Nat) = 1)).symm)

end Cert.ReferenceIdeal.Hand
-- ==== Proof.Reference.Gates.lean ====
/-
  The reference's gates and kept mass read at an index, at the extended reals: the stable descending
  sort, the running sum against one half, and the way back to the experts' own order.
-/
module

public import proofs.«01_k».proof.Proof.Reference.Soft

@[expose] public section

noncomputable section

namespace Cert.ReferenceIdeal.Hand

open Cert.ReferenceIdeal Cert.ReferenceIdeal.Gen Idealize.ShloMosaic Idealize.ShloMosaic.ValueIdx
open Cert.Value

/-! ## Sorting along the experts -/

theorem along_row (n : Fin 32) (l : Fin 1024) (r k : Fin 8) :
    Shape.Idx.along (s := S32x1024x8) (ix3 n l r) (2 : Fin 3) k = ix3 n l k := by
  funext a
  match a with
  | ⟨0, _⟩ => rfl
  | ⟨1, _⟩ => rfl
  | ⟨2, _⟩ => rfl

theorem sort2_apply {α β : Type} (cmp : α × β → α × β → BitVec 1) (x : S32x1024x8.Idx → α) (y : S32x1024x8.Idx → β)
    (n : Fin 32) (l : Fin 1024) (r : Fin 8) :
    (Host.sort2 S32x1024x8 2 cmp x y).2 (ix3 n l r)
      = y (ix3 n l (sortedFrom (fun k k' => cmp (x (ix3 n l k), y (ix3 n l k)) (x (ix3 n l k'), y (ix3 n l k')) == 1#1) r)) := by
  unfold Host.sort2
  rw [dif_pos (show 2 < S32x1024x8.rank by decide)]
  dsimp only
  refine (congrArg y (along_row n l r _)).trans ?_
  refine congrArg (fun k => y (ix3 n l k)) ?_
  refine congrArg (fun b => sortedFrom b r) (funext fun k => funext fun k' => ?_)
  have h1 := along_row n l r k
  have h2 := along_row n l r k'
  exact congrArg₂ (fun i j => cmp (x i, y i) (x j, y j) == 1#1) h1 h2

theorem bool_beq (b : Bool) : (BitVec.ofBool b == 1#1) = b := by revert b; decide

theorem comparator_float (a b : EReal) (i j : BitVec 32) :
    (comparator_f32_i32_d2 (F := Ideal) (a, i) (b, j) == 1#1) = decide (a < b) := by
  have hs : ∀ a : EReal, Scalar.select (Ideal.cmp .une a a) (Ideal.ofBits .f32 0x7FC00000#32)
      (Scalar.select (Ideal.cmp .oeq a (Ideal.ofBits .f32 0x00000000#32)) (Ideal.ofBits .f32 0x00000000#32) a) = a := by
    intro a
    have h1 : Ideal.cmp .une a a = 0#1 := by simp [Ideal.cmp]
    rw [h1, Ideal.ofBits_zero_f32]
    by_cases h : a = 0
    · subst h; simp [Scalar.select, Ideal.cmp]
    · simp [Scalar.select, Ideal.cmp, h]
  have : comparator_f32_i32_d2 (F := Ideal) (a, i) (b, j) = Ideal.cmp .olt a b := by
    unfold comparator_f32_i32_d2
    dsimp only
    exact congrArg₂ (Ideal.cmpTotal .lt) (hs a) (hs b)
  rw [this]
  exact bool_beq _

theorem comparator_int (a b : Fin 8) (i j : BitVec 32) :
    (comparator_i32_i32_d2 (BitVec.ofNat 32 a.val, i) (BitVec.ofNat 32 b.val, j) == 1#1) = decide (a < b) := by
  unfold comparator_i32_i32_d2
  dsimp only
  revert a b
  decide

theorem orderOf_apply (p : S32x1024x8.Idx → EReal) (n : Fin 32) (l : Fin 1024) (r : Fin 8) :
    orderOf (F := Ideal) p (ix3 n l r) = BitVec.ofNat 32 (order (fun e => p (ix3 n l e)) r).val := by
  unfold orderOf
  dsimp only
  refine (sort2_apply _ _ _ n l r).trans ?_
  refine (congrArg (fun k : Fin 8 => BitVec.ofNat 32 k.val) ?_)
  refine congrArg (fun b => sortedFrom b r) (funext fun k => funext fun k' => ?_)
  exact comparator_float _ _ _ _

theorem inverseOf_apply (o : S32x1024x8.Idx → BitVec 32) (n : Fin 32) (l : Fin 1024) (σ : Equiv.Perm (Fin 8))
    (ho : ∀ r, o (ix3 n l r) = BitVec.ofNat 32 (σ r).val) (e : Fin 8) :
    inverseOf (F := Ideal) o (ix3 n l e) = BitVec.ofNat 32 (σ.symm e).val := by
  unfold inverseOf
  dsimp only
  refine (sort2_apply _ _ _ n l e).trans ?_
  refine (congrArg (fun k : Fin 8 => BitVec.ofNat 32 k.val) ?_)
  rw [← sorted_perm]
  refine congrArg (fun b => sortedFrom b e) (funext fun k => funext fun k' => ?_)
  rw [ho, ho]
  exact comparator_int _ _ _ _

/-! ## Reading at sorted places -/

theorem column_word (k : Fin 8) : Scalar.select (IntOp.cmpi .slt (BitVec.ofNat 32 k.val) 0#32)
    (IntOp.addi (BitVec.ofNat 32 k.val) 8#32) (BitVec.ofNat 32 k.val) = BitVec.ofNat 32 k.val := by
  revert k; decide

theorem columnOf_apply (o : S32x1024x8.Idx → BitVec 32) (n : Fin 32) (l : Fin 1024) (r k : Fin 8)
    (ho : o (ix3 n l r) = BitVec.ofNat 32 k.val) :
    columnOf (F := Ideal) o (ix4 n l r 0) = BitVec.ofNat 32 k.val := by
  unfold columnOf
  dsimp only
  refine (shapeCast_apply _ _ (ix4 n l r 0) (ix3 n l r) ?_).trans ?_
  · rw [Shape.rowMajor_val_four, Shape.rowMajor_val_three]
    show (n.val * 1024 + l.val) * 8 + r.val = ((n.val * 1024 + l.val) * 8 + r.val) * 1 + 0
    omega
  · show Scalar.select (IntOp.cmpi .slt (o (ix3 n l r)) 0#32) (IntOp.addi (o (ix3 n l r)) 8#32) (o (ix3 n l r)) = _
    rw [ho]
    exact column_word k

theorem inside_word (k : Fin 8) : IntOp.andi (IntOp.andi (IntOp.cmpi .sge (BitVec.ofNat 32 k.val) 0#32)
    (IntOp.cmpi .sle (BitVec.ofNat 32 k.val) 7#32)) 1#1 = 1#1 := by
  revert k; decide

theorem fold_one (g : Fin 1 → BitVec 1) (b : BitVec 1) :
    Finset.fold IntOp.andi b g Finset.univ = IntOp.andi (g 0) b := by
  rw [Finset.univ_unique, Finset.fold_singleton]; rfl

theorem insideOf_apply (c : S32x1024x8x1.Idx → BitVec 32) (n : Fin 32) (l : Fin 1024) (r k : Fin 8)
    (hc : c (ix4 n l r 0) = BitVec.ofNat 32 k.val) : insideOf (F := Ideal) c (ix3 n l r) = 1#1 := by
  unfold insideOf
  dsimp only
  refine (Host.reduce_eq_fold_single IntOp.andi _ _ _ (by decide) _ _).trans ?_
  refine (fold_one _ _).trans ?_
  refine Eq.trans ?_ (inside_word k)
  rw [← hc]
  refine congrArg (fun i => IntOp.andi (IntOp.andi (IntOp.cmpi .sge (c i) 0#32) (IntOp.cmpi .sle (c i) 7#32)) 1#1) ?_
  exact funext fun a => Fin.ext (by match a with | ⟨0, _⟩ => rfl | ⟨1, _⟩ => rfl | ⟨2, _⟩ => rfl | ⟨3, _⟩ => rfl)

theorem start_word (k : Fin 8) : min (BitVec.ofNat 32 k.val).toInt.toNat (8 - 1) = k.val := by
  revert k; decide

abbrev reads := gather_S32x1024x8_S32x1024x8x1_S32x1024x8_n_2_01_01_2_3_111

theorem gather_apply {α : Type} (x : S32x1024x8.Idx → α) (c : S32x1024x8x1.Idx → BitVec 32) (n : Fin 32) (l : Fin 1024)
    (r k : Fin 8) (hc : c (ix4 n l r 0) = BitVec.ofNat 32 k.val) :
    Host.gather reads x c (ix3 n l r) = x (ix3 n l k) := by
  unfold Host.gather
  refine congrArg x (funext fun a => Fin.ext ?_)
  show reads.start (ix3 n l r) c a + reads.batchCoord (ix3 n l r) a + reads.offCoord (ix3 n l r) a = _
  have hk : ∀ a : Fin 3, a ∉ reads.sKept := fun a h => by
    have := (GatherDims.mem_sKept reads a).mp h
    match a, this with
    | ⟨0, _⟩, h => exact h.2 (show (0 : Fin 3) ∈ [0, 1] by decide)
    | ⟨1, _⟩, h => exact h.2 (show (1 : Fin 3) ∈ [0, 1] by decide)
    | ⟨2, _⟩, h => exact h.1 (show (2 : Fin 3) ∈ [2] by decide)
  rw [GatherDims.offCoord_eq_zero _ _ _ (hk a), Nat.add_zero]
  match a with
  | ⟨0, _⟩ =>
    have hm : (0 : Fin 3) ∈ reads.operandBatchingDims := show (0 : Fin 3) ∈ [0, 1] by decide
    refine (congrArg (· + _) (GatherDims.start_batching _ _ _ _ hm)).trans ?_
    rw [Nat.zero_add]
    unfold GatherDims.batchCoord
    refine (dif_pos hm).trans rfl
  | ⟨1, _⟩ =>
    have hm : (1 : Fin 3) ∈ reads.operandBatchingDims := show (1 : Fin 3) ∈ [0, 1] by decide
    refine (congrArg (· + _) (GatherDims.start_batching _ _ _ _ hm)).trans ?_
    rw [Nat.zero_add]
    unfold GatherDims.batchCoord
    refine (dif_pos hm).trans rfl
  | ⟨2, _⟩ =>
    have hm : (2 : Fin 3) ∉ reads.operandBatchingDims := show (2 : Fin 3) ∉ [0, 1] by decide
    refine (congrArg (_ + ·) (GatherDims.batchCoord_eq_zero _ _ _ hm)).trans ?_
    rw [Nat.add_zero]
    unfold GatherDims.start
    have hs : (2 : Fin 3) ∈ reads.startIndexMap := show (2 : Fin 3) ∈ [2] by decide
    refine (dif_pos hs).trans ?_
    refine Eq.trans ?_ (start_word k)
    rw [← hc]
    refine congrArg (fun i => min (c i).toInt.toNat (8 - 1)) (funext fun b => Fin.ext ?_)
    match b with
    | ⟨0, _⟩ => rfl
    | ⟨1, _⟩ => rfl
    | ⟨2, _⟩ => rfl
    | ⟨3, _⟩ => rfl

theorem sortedOf_apply (p : S32x1024x8.Idx → EReal) (c : S32x1024x8x1.Idx → BitVec 32) (n : Fin 32) (l : Fin 1024)
    (r k : Fin 8) (hc : c (ix4 n l r 0) = BitVec.ofNat 32 k.val) :
    sortedOf (F := Ideal) p c (insideOf (F := Ideal) c) (ix3 n l r) = p (ix3 n l k) := by
  unfold sortedOf
  dsimp only
  rw [select_apply, insideOf_apply c n l r k hc, select_one]
  exact gather_apply p c n l r k hc

theorem gatesOf_apply (g : S32x1024x8.Idx → BitVec 1) (c : S32x1024x8x1.Idx → BitVec 32) (n : Fin 32) (l : Fin 1024)
    (r k : Fin 8) (hc : c (ix4 n l r 0) = BitVec.ofNat 32 k.val) :
    gatesOf (F := Ideal) g c (backInOf (F := Ideal) c) (ix3 n l r) = g (ix3 n l k) := by
  unfold gatesOf
  dsimp only
  rw [select_apply, show backInOf (F := Ideal) c (ix3 n l r) = 1#1 from insideOf_apply c n l r k hc, select_one]
  exact gather_apply g c n l r k hc

/-! ## The running sum -/

theorem foldl_sum {M : Type} [AddCommMonoid M] {N : Nat} (f : Fin N → M) (v : M) :
    (List.finRange N).foldl (fun r n => r + f n) v = v + ∑ n, f n := by
  rw [← List.sum_ofFn, List.ofFn_eq_map]
  generalize List.finRange N = L
  induction L generalizing v with
  | nil => simp
  | cons a L ih => rw [List.foldl_cons, ih, List.map_cons, List.sum_cons, add_assoc]

theorem window_sum (s : Fin 8 → EReal) (r : Fin 8) :
    (∑ w : Fin 8, if h : 7 ≤ r.val + w.val then s ⟨r.val + w.val - 7, by omega⟩ else 0) = ∑ r', if r' ≤ r then s r' else 0 := by
  rw [Fin.sum_univ_eight, Fin.sum_univ_eight]
  fin_cases r <;> simp <;> rfl

theorem cumsum_apply (x : S32x1024x8.Idx → EReal) (i : S_.Idx → EReal) (hi : ∀ j, i j = 0) (n : Fin 32) (l : Fin 1024) (r : Fin 8) :
    Host.reduceWindowAdd (F := Ideal) (φ := .f32) ![1, 1, 8] ![1, 1, 1] ![0, 0, 7] ![0, 0, 0] x i
      reduceWindows_S32x1024x8_S32x1024x8_w1s1p0_0_w1s1p0_0_w8s1p7_0 h_S_ (ix3 n l r)
      = ∑ r', if r' ≤ r then x (ix3 n l r') else 0 := by
  refine Eq.trans ?_ (window_sum (fun r' => x (ix3 n l r')) r)
  show Ideal.hostReduceWindowAdd ![1, 1, 8] ![1, 1, 1] ![0, 0, 7] ![0, 0, 0]
    reduceWindows_S32x1024x8_S32x1024x8_w1s1p0_0_w1s1p0_0_w8s1p7_0 x (i (Shape.Idx.first h_S_)) (ix3 n l r) = _
  unfold Ideal.hostReduceWindowAdd Host.reduceWindow
  dsimp only
  rw [hi, foldl_sum, zero_add, ← Equiv.sum_comp (⟨3, ![1, 1, 8]⟩ : Shape).rowMajor]
  simp only [Equiv.symm_apply_apply]
  rw [sum_idx3]
  refine (Fintype.sum_unique (ι := Fin 1) _).trans ((Fintype.sum_unique (ι := Fin 1) _).trans ?_)
  refine Finset.sum_congr rfl fun w _ => ?_
  have hw : w.val < 8 := w.isLt
  by_cases h : 7 ≤ r.val + w.val
  · rw [dif_pos h]
    refine (dif_pos ?_).trans (congrArg x (funext fun a => Fin.ext ?_))
    · intro a
      match a with
      | ⟨0, _⟩ => exact ⟨Nat.zero_le _, show n.val * 1 + 0 - 0 < 32 by omega⟩
      | ⟨1, _⟩ => exact ⟨Nat.zero_le _, show l.val * 1 + 0 - 0 < 1024 by omega⟩
      | ⟨2, _⟩ => exact ⟨show 7 ≤ r.val * 1 + w.val by omega, show r.val * 1 + w.val - 7 < 8 by omega⟩
    · match a with
      | ⟨0, _⟩ => show n.val * 1 + 0 - 0 = n.val; omega
      | ⟨1, _⟩ => show l.val * 1 + 0 - 0 = l.val; omega
      | ⟨2, _⟩ => show r.val * 1 + w.val - 7 = r.val + w.val - 7; omega
  · rw [dif_neg h]
    refine dif_neg fun hc => h ?_
    have : 7 ≤ r.val * 1 + w.val := (hc (2 : Fin 3)).1
    omega

theorem overOf_apply (x : S32x1024x8.Idx → EReal) (n : Fin 32) (l : Fin 1024) (r : Fin 8) :
    overOf (F := Ideal) x (ix3 n l r) = 1#1 ↔ ((1 / 2 : ℝ) : EReal) < ∑ r', if r' ≤ r then x (ix3 n l r') else 0 := by
  unfold overOf
  dsimp only
  rw [cmpf_apply, broadcastInDim_scalar_apply, constant_apply, bits_half]
  rw [cumsum_apply x _ (fun j => by rw [broadcastInDim_scalar_apply, constant_apply, Ideal.ofBits_zero_f32])]
  show BitVec.ofBool (decide _) = 1#1 ↔ _
  rw [← beq_iff_eq, bool_beq, decide_eq_true_iff]

/-! ## The first place over one half -/

theorem argmax_word : ∀ (b0 b1 b2 b3 b4 b5 b6 b7 : Bool) (r : Fin 8),
    IntOp.andi (BitVec.ofBool (![b0, b1, b2, b3, b4, b5, b6, b7] r)) (~~~(IntOp.cmpi .eq
      (((List.finRange 8).map fun r => ((BitVec.ofBool (![b0, b1, b2, b3, b4, b5, b6, b7] r)).setWidth 32, BitVec.ofNat 32 r.val)).foldl
        reducer_argmax_i32_i32 (2147483648#32, 0#32)).2 (BitVec.ofNat 32 r.val)))
      = BitVec.ofBool (![b0, b1, b2, b3, b4, b5, b6, b7] r && decide (∃ r' < r, ![b0, b1, b2, b3, b4, b5, b6, b7] r' = true)) := by
  decide +kernel

end Cert.ReferenceIdeal.Hand
-- ==== Proof.Reference.Result.lean ====
/-
  The reference's two results in closed form, at the extended reals: the gated masks plus the
  identity, and the loss.
-/
module

public import proofs.«01_k».proof.Proof.Reference.Gates

@[expose] public section

noncomputable section

namespace Cert.ReferenceIdeal.Hand

open Cert.ReferenceIdeal Cert.ReferenceIdeal.Gen Idealize.ShloMosaic Idealize.ShloMosaic.ValueIdx
open Cert.Value

/-! ## What is dropped -/

theorem drop_row (i : S32x1024x8.Idx) (n : Fin 32) (l : Fin 1024) :
    reducesTo_S32x1024x8_S32x1024_d2.drop i = ix2 n l ↔ i = ix3 n l (i 2) := by
  constructor
  · intro h
    funext a
    match a with
    | ⟨0, _⟩ => exact congrFun h 0
    | ⟨1, _⟩ => exact congrFun h 1
    | ⟨2, _⟩ => rfl
  · intro h
    funext a
    match a with
    | ⟨0, _⟩ => exact congrFun h 0
    | ⟨1, _⟩ => exact congrFun h 1

theorem fiber_row (n : Fin 32) (l : Fin 1024) :
    ((List.finRange S32x1024x8.numel).filter fun k => reducesTo_S32x1024x8_S32x1024_d2.drop (S32x1024x8.rowMajor.symm k) = ix2 n l)
      = (List.finRange 8).map fun r => S32x1024x8.rowMajor (ix3 n l r) := by
  have h1 : ((List.finRange S32x1024x8.numel).filter fun k =>
      reducesTo_S32x1024x8_S32x1024_d2.drop (S32x1024x8.rowMajor.symm k) = ix2 n l).Pairwise (· < ·) :=
    (List.pairwise_lt_finRange _).filter _
  have h2 : ((List.finRange 8).map fun r : Fin 8 => S32x1024x8.rowMajor (ix3 n l r)).Pairwise (· < ·) := by
    refine List.pairwise_map.mpr ((List.pairwise_lt_finRange 8).imp fun {a b} h => ?_)
    rw [Fin.lt_def, Shape.rowMajor_val_three, Shape.rowMajor_val_three]
    show (n.val * 1024 + l.val) * 8 + a.val < (n.val * 1024 + l.val) * 8 + b.val
    omega
  refine List.Perm.eq_of_pairwise (fun a b _ _ h h' => absurd (h.trans h') (lt_irrefl _)) h1 h2 ?_
  refine (List.perm_ext_iff_of_nodup (h1.imp fun h => h.ne) (h2.imp fun h => h.ne)).mpr fun k => ?_
  simp only [List.mem_filter, List.mem_finRange, true_and, List.mem_map, decide_eq_true_eq]
  rw [drop_row]
  constructor
  · intro h
    exact ⟨_, (congrArg _ h.symm).trans (Equiv.apply_symm_apply _ _)⟩
  · rintro ⟨r, rfl⟩
    rw [Equiv.symm_apply_apply]
    rfl

theorem droppedOf_apply (v : S32x1024x8.Idx → BitVec 1) (n : Fin 32) (l : Fin 1024) (r : Fin 8) :
    droppedOf (F := Ideal) v (firstOf (F := Ideal) v) (ix3 n l r) = 1#1
      ↔ v (ix3 n l r) = 1#1 ∧ ∃ r' < r, v (ix3 n l r') = 1#1 := by
  have hb : ∀ b : BitVec 1, b = BitVec.ofBool (decide (b = 1#1)) := by decide
  have hf : firstOf (F := Ideal) v (ix2 n l) = (((List.finRange 8).map fun r : Fin 8 => ((v (ix3 n l r)).setWidth 32, BitVec.ofNat 32 r.val)).foldl
      reducer_argmax_i32_i32 (2147483648#32, 0#32)).2 := by
    unfold firstOf
    dsimp only
    rw [Host.reduce2_eq_foldl_fiber, Host.argReduceFiber, fiber_row, List.map_map]
    refine congrArg (fun L => (List.foldl reducer_argmax_i32_i32 (2147483648#32, 0#32) L).2) (List.map_congr_left fun r _ => ?_)
    show (_, _) = (_, _)
    simp only [Equiv.symm_apply_apply]
    rfl
  have hd : droppedOf (F := Ideal) v (firstOf (F := Ideal) v) (ix3 n l r)
      = IntOp.andi (v (ix3 n l r)) (~~~(IntOp.cmpi .eq (firstOf (F := Ideal) v (ix2 n l)) (BitVec.ofNat 32 r.val))) := by
    unfold droppedOf
    dsimp only
    refine congrArg (fun z => IntOp.andi (v (ix3 n l r)) (~~~z)) (congrArg₂ (IntOp.cmpi .eq) (perRow_apply _ n l r) ?_)
    exact broadcastInDim_apply ![0, 1, 2] _ _ (ix3 n l r) (ix3 0 0 r) (fun a => match a with
      | ⟨0, _⟩ => (if_pos rfl).symm
      | ⟨1, _⟩ => (if_pos rfl).symm
      | ⟨2, _⟩ => (if_neg (by decide : ¬(8 : Nat) = 1)).symm)
  rw [hd, hf]
  have hv : ∀ r : Fin 8, v (ix3 n l r) = BitVec.ofBool ((fun r : Fin 8 => decide (v (ix3 n l r) = 1#1)) r) := fun r => hb _
  revert hv
  generalize (fun r : Fin 8 => decide (v (ix3 n l r) = 1#1)) = b
  intro hv
  simp only [hv]
  have he : b = ![b 0, b 1, b 2, b 3, b 4, b 5, b 6, b 7] := by
    funext i
    fin_cases i <;> rfl
  have := argmax_word (b 0) (b 1) (b 2) (b 3) (b 4) (b 5) (b 6) (b 7) r
  rw [← he] at this
  rw [this]
  have h1 : ∀ c : Bool, BitVec.ofBool c = 1#1 ↔ c = true := by decide
  simp only [h1, Bool.and_eq_true, decide_eq_true_eq]

/-! ## The mass and the loss -/

theorem massOf_apply (d : S32x1024x8.Idx → BitVec 1) (s : S32x1024x8.Idx → EReal) (l : Fin 1024) (r : Fin 8) :
    massOf (F := Ideal) d s (ix2 l r) = ∑ n : Fin 32, if d (ix3 n l r) = 1#1 then 0 else s (ix3 n l r) := by
  unfold massOf
  dsimp only
  rw [hostReduceAdd_apply, Ideal.hostReduceAdd_single _ (by decide), constant_apply, Ideal.ofBits_zero_f32, zero_add]
  refine Finset.sum_congr rfl fun (n : Fin 32) _ => ?_
  have hi : Shape.Reduces.lift (s := S32x1024x8) (a := 0) (t := S1024x8) (by decide) (ix2 l r) n = ix3 n l r :=
    funext fun a => Fin.ext (by match a with | ⟨0, _⟩ => rfl | ⟨1, _⟩ => rfl | ⟨2, _⟩ => rfl)
  rw [hi]
  refine (congrArg (fun z => Scalar.select (d (ix3 n l r)) z (s (ix3 n l r)))
    ((broadcastInDim_scalar_apply bcast_S_S32x1024x8 (constant (F := Ideal) S_ .f32 0x00000000#32) (ix3 n l r)).trans Ideal.ofBits_zero_f32)).trans ?_
  rfl

theorem totalOf_apply (v : S1024x8.Idx → EReal) (j : S_.Idx) :
    totalOf (F := Ideal) v j = ∑ l : Fin 1024, ∑ r : Fin 8, v (ix2 l r) := by
  unfold totalOf
  dsimp only
  rw [hostReduceAdd_apply, Ideal.hostReduceAdd_total _ (fun b => b.elim0), constant_apply, Ideal.ofBits_zero_f32, zero_add, sum_idx2]

theorem less_one : Ideal.ofBits .f32 0x46000000#32 - ((((1#32 : BitVec 32).toInt : ℝ)) : EReal) = Ideal.ofBits .f32 0x45FFF800#32 := by
  rw [bits_8192, bits_8191, ← EReal.coe_sub]
  norm_num

theorem varianceOf_apply (v : S1024x8.Idx → EReal) (j : S_.Idx) :
    varianceOf (F := Ideal) v j = Ideal.div (∑ l : Fin 1024, ∑ r : Fin 8,
      (v (ix2 l r) - mean fun l r => v (ix2 l r)) * (v (ix2 l r) - mean fun l r => v (ix2 l r))) (Ideal.ofBits .f32 0x45FFF800#32) := by
  unfold varianceOf
  dsimp only
  have hn : subf (F := Ideal) (φ := .f32) (constant S_ .f32 0x46000000#32) (sitofp .f32 (constantI S_ 32 1#32)) j
      = Ideal.ofBits .f32 0x45FFF800#32 := less_one
  rw [select_apply, cmpf_apply, hn, constant_apply, Ideal.ofBits_zero_f32]
  have hp : Ideal.cmp .ogt (Ideal.ofBits .f32 0x45FFF800#32) 0 = 1#1 := by
    rw [bits_8191]
    simp [Ideal.cmp]
  refine (congrArg (fun c => Scalar.select c _ _) hp).trans ?_
  rw [select_one, hostDivf_apply, hn, hostReduceAdd_apply, Ideal.hostReduceAdd_total _ (fun b => b.elim0), constant_apply,
    Ideal.ofBits_zero_f32, zero_add, sum_idx2]
  have hm : ∀ (l : Fin 1024) (r : Fin 8), broadcastInDim S1024x8 ![0, 1] bcast_S1x1_S1024x8_0_1 (Host.divf (F := Ideal) (φ := .f32)
      (broadcastInDim S1x1 ![] bcast_S_S1x1 (Host.reduceAdd (F := Ideal) (φ := .f32) v (constant S_ .f32 0x00000000#32) reducesTo_S1024x8_S_d0_1 h_S_))
      (broadcastInDim S1x1 ![] bcast_S_S1x1 (constant S_ .f32 0x46000000#32))) (ix2 l r) = mean fun l r => v (ix2 l r) := by
    intro l r
    rw [broadcastInDim_apply ![0, 1] _ _ (ix2 l r) (ix2 0 0) (fun a => match a with
      | ⟨0, _⟩ => (if_pos rfl).symm
      | ⟨1, _⟩ => (if_pos rfl).symm), hostDivf_apply, broadcastInDim_scalar_apply, broadcastInDim_scalar_apply]
    unfold mean
    exact congrArg (Ideal.div · _) (totalOf_apply v _)
  refine congrArg (Ideal.div · _) (Finset.sum_congr rfl fun l _ => Finset.sum_congr rfl fun r _ => ?_)
  rw [mulf_apply, subf_apply, hm]

/-! ## The results -/

/-- The probabilities of the launch. -/
abbrev q (x : S2x16x1024x1024.Idx → EReal) (w : S8x1024.Idx → EReal) : Fin 32 → Fin 1024 → Fin 8 → EReal :=
  probs (heads x) fun e d => w (ix2 e d)

section
variable (V : Valuation τ sig (Elt Ideal))

/-- The input, the masks and the weights of a launch. -/
abbrev xin : S2x16x1024x1024.Idx → EReal := V (Proc.devRef .tc main_arg0)
abbrev masks : S1024x8x1024.Idx → EReal := V (Proc.devRef .tc main_arg1)
abbrev weights : S8x1024.Idx → EReal := V (Proc.devRef .tc main_arg2)
abbrev qV : Fin 32 → Fin 1024 → Fin 8 → EReal := q (xin V) (weights V)

theorem v20V_apply (n : Fin 32) (l : Fin 1024) (e : Fin 8) : v20V V (ix3 n l e) = qV V n l e := softmaxOf_apply _ _ n l e

theorem v20V_row (n : Fin 32) (l : Fin 1024) : (fun e => v20V V (ix3 n l e)) = qV V n l := funext fun e => v20V_apply V n l e

theorem v30V_apply (n : Fin 32) (l : Fin 1024) (r : Fin 8) : v30V V (ix3 n l r) = BitVec.ofNat 32 (order (qV V n l) r).val := by
  unfold v30V
  exact (orderOf_apply (v20V V) n l r).trans (by rw [v20V_row])

theorem v31V_apply (n : Fin 32) (l : Fin 1024) (r : Fin 8) : v31V V (ix3 n l r) = qV V n l (order (qV V n l) r) := by
  refine (sortedOf_apply (v20V V) _ n l r (order (qV V n l) r) ?_).trans (v20V_apply V n l _)
  exact columnOf_apply _ n l r _ (v30V_apply V n l r)

theorem v34V_apply (n : Fin 32) (l : Fin 1024) (r : Fin 8) : v34V V (ix3 n l r) = 1#1 ↔ Over (qV V n l) r := by
  refine (overOf_apply (v31V V) n l r).trans ?_
  simp only [v31V_apply]
  rfl

theorem v39V_apply (n : Fin 32) (l : Fin 1024) (r : Fin 8) : v39V V (ix3 n l r) = 1#1 ↔ ¬ Kept (qV V n l) (order (qV V n l) r) := by
  refine (droppedOf_apply (v34V V) n l r).trans ?_
  rw [kept_iff (qV V n l) (plain_soft _), not_not]
  exact and_congr (v34V_apply V n l r) (exists_congr fun r' => and_congr_right fun _ => v34V_apply V n l r')

theorem v42V_apply (n : Fin 32) (l : Fin 1024) (e : Fin 8) : (((v42V V (ix3 n l e)).toNat : ℝ) : EReal) = gate (qV V n l) e := by
  have h : v42V V (ix3 n l e) = ~~~(v39V V (ix3 n l ((order (qV V n l)).symm e))) := by
    refine gatesOf_apply (v40V V) _ n l e _ ?_
    refine columnOf_apply _ n l e _ ?_
    exact inverseOf_apply (v30V V) n l _ (v30V_apply V n l) e
  have hk := v39V_apply V n l ((order (qV V n l)).symm e)
  rw [Equiv.apply_symm_apply] at hk
  rw [h]
  unfold gate
  have hw : ∀ b : BitVec 1, b = 1#1 ∨ b = 0#1 := by decide
  rcases hw (v39V V (ix3 n l ((order (qV V n l)).symm e))) with hb | hb
  · rw [if_neg (hk.mp hb), hb]; simp
  · rw [if_pos (by by_contra hc; rw [hk.mpr hc] at hb; exact absurd hb (by decide)), hb]; simp

theorem v44V_apply (l : Fin 1024) (r : Fin 8) : v44V V (ix2 l r) = mass (qV V) l r := by
  refine (massOf_apply (v39V V) (v31V V) l r).trans (Finset.sum_congr rfl fun n _ => ?_)
  rw [keptAt_eq, v31V_apply]
  by_cases h : Kept (qV V n l) (order (qV V n l) r)
  · rw [if_pos h, if_neg (fun hc => (v39V_apply V n l r).mp hc h)]
  · rw [if_neg h, if_pos ((v39V_apply V n l r).mpr h)]

/-- The first result: head `n`, row `l`, column `d`. -/
theorem out_apply (n : Fin 32) (l d : Fin 1024) :
    v58V V (ix4 (batchOf n) (within n) l d) = outAt (qV V) (fun l e d => masks V (ix3 l e d)) n l d := by
  refine (blendedOf_apply (masks V) (v42V V) n l d).trans ?_
  unfold outAt
  simp only [v42V_apply]

/-- The second result. -/
theorem loss_apply (j : S_.Idx) : v52V V j = loss (qV V) := by
  have hm : (fun l r => v44V V (ix2 l r)) = mass (qV V) := funext fun l => funext fun r => v44V_apply V l r
  have h1 : v45V V j = _ := varianceOf_apply (v44V V) j
  have h2 : v46V V j = _ := totalOf_apply (v44V V) j
  have h3 : v28V V j = _ := dynamicOf_apply (v20V V) j
  unfold v52V lossOf
  dsimp only
  rw [addf_apply, mulf_apply, hostDivf_apply, addf_apply, mulf_apply, hostDivf_apply, h1, h2, h3]
  simp only [constant_apply, v20V_apply, hm]
  rw [← div_neg_256]
  unfold loss spreadOf
  simp only [v44V_apply]
  rfl

end

end Cert.ReferenceIdeal.Hand
-- ==== Proof.lean ====
module

public import proofs.«01_k».proof.Defs
public import proofs.«01_k».proof.Proof.Gen.Kernel.Launch
public import proofs.«01_k».proof.Proof.KernelIdeal.Result
public import proofs.«01_k».proof.Proof.Reference.Result
public import Idealize.ShloMosaic.Lib.Quiescent

@[expose] public section

namespace Cert.Proof

open Idealize.ShloMosaic Idealize.ShloMosaic.TcCoe Idealize.SL.Sem Idealize.ShloMosaic.ValueIdx Idealize.ShloMosaic.Tactic
open Idealize.ShloMosaic.StableHlo (launchContents)

/-- What `quiescent_Kernel` says, of the ideal kernel's text computed with words. -/
def quietText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- Kernel and ideal kernel are one text under two names, so one statement. -/
theorem sameText : Cert.quiescent_Kernel (hKernel := Cert.Kernel.Gen.facts) = quietText := by
  sl_kernel_rfl

theorem kernel_quiet : Cert.quiescent_Kernel (hKernel := Cert.Kernel.Gen.facts) :=
  sameText.mpr fun m g _ => Cert.KernelIdeal.Hand.quiet (F := Bits) m g

/-- The reference leaves its arguments, and has no semaphore. -/
theorem reference_quiet : Cert.quiescent_ReferenceIdeal := fun m g _ =>
  (θ_run Cert.ReferenceIdeal.defs _ _).mono
    (fun r h => ⟨fun c => (h c).2.2, sem_eq_zero_of_no_sems rfl r.2⟩)
    (Cert.ReferenceIdeal.Hand.run m g)

/-- Every batch and place in it are some head's. -/
theorem someHead (b : Fin 2) (h : Fin 16) : ∃ n : Fin 32,
    Cert.ReferenceIdeal.Hand.batchOf n = b ∧ Cert.ReferenceIdeal.Hand.within n = h :=
  ⟨⟨b.val * 16 + h.val, by have := b.isLt; have := h.isLt; omega⟩,
    Fin.ext (by have := h.isLt; show (b.val * 16 + h.val) / 16 = b.val; omega),
    Fin.ext (by have := h.isLt; show (b.val * 16 + h.val) % 16 = h.val; omega)⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include h0 h2 in
/-- From the same arguments both programs take the same probabilities. -/
theorem same_q : Cert.ReferenceIdeal.Hand.qV (launchContents m' c) = Cert.KernelIdeal.Hand.qArgs m c := by
  have e0 : Cert.ReferenceIdeal.Hand.xin (launchContents m' c) = Cert.KernelIdeal.Hand.argX m c := h0
  have e2 : Cert.ReferenceIdeal.Hand.weights (launchContents m' c) = Cert.KernelIdeal.Hand.argW m c := h2
  unfold Cert.ReferenceIdeal.Hand.qV
  rw [e0, e2]
  rfl

include h0 h1 h2 in
theorem same_out : Cert.ReferenceIdeal.Hand.v58V (launchContents m' c)
    = (Cert.KernelIdeal.Hand.at4 m c (Proc.devRef .tc Cert.KernelIdeal.main_v3) : Cert.KernelIdeal.S2x16x1024x1024.Idx → EReal) := by
  have e1 : Cert.ReferenceIdeal.Hand.masks (launchContents m' c) = Cert.KernelIdeal.Hand.argM m c := h1
  funext i
  obtain ⟨b, h, l, d, rfl⟩ : ∃ (b : Fin 2) (h : Fin 16) (l d : Fin 1024), i = ix4 b h l d :=
    ⟨i 0, i 1, i 2, i 3, funext fun k => match k with | ⟨0, _⟩ => rfl | ⟨1, _⟩ => rfl | ⟨2, _⟩ => rfl | ⟨3, _⟩ => rfl⟩
  obtain ⟨n, rfl, rfl⟩ := someHead b h
  refine (Cert.ReferenceIdeal.Hand.out_apply (launchContents m' c) n l d).trans ?_
  rw [same_q m m' c h0 h2, e1]
  exact (Cert.KernelIdeal.Hand.out_value m c n l d).symm

include h0 h2 in
theorem same_loss : Cert.ReferenceIdeal.Hand.v52V (launchContents m' c)
    = (Cert.KernelIdeal.Hand.at4 m c (Proc.devRef .tc Cert.KernelIdeal.main_v4) : Cert.KernelIdeal.S_.Idx → EReal) := by
  funext j
  refine (Cert.ReferenceIdeal.Hand.loss_apply (launchContents m' c) j).trans ?_
  rw [same_q m m' c h0 h2]
  exact (Cert.KernelIdeal.Hand.loss_value m c j).symm
end

/-- Both results of the kernel are the reference's, from the same arguments. -/
theorem same : Cert.algebraic_KernelIdeal_ReferenceIdeal := by
  intro m g m' g' _ hm
  refine ⟨fun c => Cert.KernelIdeal.Hand.at4 m c (Proc.devRef .tc Cert.KernelIdeal.main_v3),
    fun c => Cert.KernelIdeal.Hand.at4 m c (Proc.devRef .tc Cert.KernelIdeal.main_v4), ?_, ?_⟩
  · refine (θ_run Cert.KernelIdeal.defs _ _).mono (fun r h c => ?_) (Cert.KernelIdeal.Hand.run m g)
    have e := h.1 c
    exact ⟨e.2.1, e.2.2, e.1⟩
  · refine (θ_run Cert.ReferenceIdeal.defs _ _).mono (fun r h c => ?_) (Cert.ReferenceIdeal.Hand.run m' g')
    obtain ⟨a0, a1, a2, _⟩ := hm c
    exact ⟨(h c).1.trans (same_out m m' c a0 a1 a2), (h c).2.1.trans (same_loss m m' c a0 a2), (h c).2.2⟩

theorem claim : Cert.Claim :=
  ⟨Cert.Kernel.Gen.facts, Cert.KernelIdeal.Gen.facts, Cert.ReferenceIdeal.Gen.facts,
    kernel_quiet,
    fun m g _ => Cert.KernelIdeal.Hand.quiet m g,
    reference_quiet,
    trivial,
    same⟩

end Cert.Proof
